-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Opm (m : (ℓ : Loc Cert.Opm.nD Cert.Opm.τ Cert.Opm.sig) → Buf (Elt Bits) ℓ) : Prop :=
  True

def Pre_OpmIdeal (m : (ℓ : Loc Cert.OpmIdeal.nD Cert.OpmIdeal.τ Cert.OpmIdeal.sig) → Buf (Elt Ideal) ℓ) : Prop :=
  True

def Pre_OpmReferenceIdeal (m : (ℓ : Loc Cert.OpmReferenceIdeal.nD Cert.OpmReferenceIdeal.τ Cert.OpmReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Opm [hOpm : Cert.Opm.Facts] : Prop :=
  ∀ (m : (ℓ : Loc Cert.Opm.nD Cert.Opm.τ Cert.Opm.sig) → Buf (Elt Bits) ℓ) (g : Dev Cert.Opm.nD → PrngReg), Pre_Opm m →
    θ_run (Cert.Opm.defs (F := Bits)) (onTc (τ := Cert.Opm.τ) (Cert.Opm.main (F := Bits))) ⟨m, fun _ => 0, g⟩ (fun r => (∀ c : Dev Cert.Opm.nD,
      r.2.mem ((c.tc : Thread Cert.Opm.nD Cert.Opm.τ).loc Cert.Opm.main_arg0) = m ((c.tc : Thread Cert.Opm.nD Cert.Opm.τ).loc Cert.Opm.main_arg0)
      ∧ r.2.mem ((c.tc : Thread Cert.Opm.nD Cert.Opm.τ).loc Cert.Opm.main_arg1) = m ((c.tc : Thread Cert.Opm.nD Cert.Opm.τ).loc Cert.Opm.main_arg1)
      ∧ r.2.mem ((c.tc : Thread Cert.Opm.nD Cert.Opm.τ).loc Cert.Opm.main_arg2) = m ((c.tc : Thread Cert.Opm.nD Cert.Opm.τ).loc Cert.Opm.main_arg2)
      ∧ r.2.mem ((c.tc : Thread Cert.Opm.nD Cert.Opm.τ).loc Cert.Opm.main_arg3) = m ((c.tc : Thread Cert.Opm.nD Cert.Opm.τ).loc Cert.Opm.main_arg3)
      ∧ r.2.mem ((c.tc : Thread Cert.Opm.nD Cert.Opm.τ).loc Cert.Opm.main_arg4) = m ((c.tc : Thread Cert.Opm.nD Cert.Opm.τ).loc Cert.Opm.main_arg4)
      ∧ r.2.mem ((c.tc : Thread Cert.Opm.nD Cert.Opm.τ).loc Cert.Opm.main_arg5) = m ((c.tc : Thread Cert.Opm.nD Cert.Opm.τ).loc Cert.Opm.main_arg5)
      ∧ r.2.mem ((c.tc : Thread Cert.Opm.nD Cert.Opm.τ).loc Cert.Opm.main_arg6) = m ((c.tc : Thread Cert.Opm.nD Cert.Opm.τ).loc Cert.Opm.main_arg6)
      ∧ r.2.mem ((c.tc : Thread Cert.Opm.nD Cert.Opm.τ).loc Cert.Opm.main_arg7) = m ((c.tc : Thread Cert.Opm.nD Cert.Opm.τ).loc Cert.Opm.main_arg7)
      ∧ r.2.mem ((c.tc : Thread Cert.Opm.nD Cert.Opm.τ).loc Cert.Opm.main_arg8) = m ((c.tc : Thread Cert.Opm.nD Cert.Opm.τ).loc Cert.Opm.main_arg8)
      ∧ r.2.mem ((c.tc : Thread Cert.Opm.nD Cert.Opm.τ).loc Cert.Opm.main_arg9) = m ((c.tc : Thread Cert.Opm.nD Cert.Opm.τ).loc Cert.Opm.main_arg9)
      ∧ r.2.mem ((c.tc : Thread Cert.Opm.nD Cert.Opm.τ).loc Cert.Opm.main_arg10) = m ((c.tc : Thread Cert.Opm.nD Cert.Opm.τ).loc Cert.Opm.main_arg10)
      ∧ r.2.mem ((c.tc : Thread Cert.Opm.nD Cert.Opm.τ).loc Cert.Opm.main_arg11) = m ((c.tc : Thread Cert.Opm.nD Cert.Opm.τ).loc Cert.Opm.main_arg11))
      ∧ r.2.sem = fun _ => 0)

def quiescent_OpmIdeal [hOpmIdeal : Cert.OpmIdeal.Facts] : Prop :=
  ∀ (m : (ℓ : Loc Cert.OpmIdeal.nD Cert.OpmIdeal.τ Cert.OpmIdeal.sig) → Buf (Elt Ideal) ℓ) (g : Dev Cert.OpmIdeal.nD → PrngReg), Pre_OpmIdeal m →
    θ_run (Cert.OpmIdeal.defs (F := Ideal)) (onTc (τ := Cert.OpmIdeal.τ) (Cert.OpmIdeal.main (F := Ideal))) ⟨m, fun _ => 0, g⟩ (fun r => (∀ c : Dev Cert.OpmIdeal.nD,
      r.2.mem ((c.tc : Thread Cert.OpmIdeal.nD Cert.OpmIdeal.τ).loc Cert.OpmIdeal.main_arg0) = m ((c.tc : Thread Cert.OpmIdeal.nD Cert.OpmIdeal.τ).loc Cert.OpmIdeal.main_arg0)
      ∧ r.2.mem ((c.tc : Thread Cert.OpmIdeal.nD Cert.OpmIdeal.τ).loc Cert.OpmIdeal.main_arg1) = m ((c.tc : Thread Cert.OpmIdeal.nD Cert.OpmIdeal.τ).loc Cert.OpmIdeal.main_arg1)
      ∧ r.2.mem ((c.tc : Thread Cert.OpmIdeal.nD Cert.OpmIdeal.τ).loc Cert.OpmIdeal.main_arg2) = m ((c.tc : Thread Cert.OpmIdeal.nD Cert.OpmIdeal.τ).loc Cert.OpmIdeal.main_arg2)
      ∧ r.2.mem ((c.tc : Thread Cert.OpmIdeal.nD Cert.OpmIdeal.τ).loc Cert.OpmIdeal.main_arg3) = m ((c.tc : Thread Cert.OpmIdeal.nD Cert.OpmIdeal.τ).loc Cert.OpmIdeal.main_arg3)
      ∧ r.2.mem ((c.tc : Thread Cert.OpmIdeal.nD Cert.OpmIdeal.τ).loc Cert.OpmIdeal.main_arg4) = m ((c.tc : Thread Cert.OpmIdeal.nD Cert.OpmIdeal.τ).loc Cert.OpmIdeal.main_arg4)
      ∧ r.2.mem ((c.tc : Thread Cert.OpmIdeal.nD Cert.OpmIdeal.τ).loc Cert.OpmIdeal.main_arg5) = m ((c.tc : Thread Cert.OpmIdeal.nD Cert.OpmIdeal.τ).loc Cert.OpmIdeal.main_arg5)
      ∧ r.2.mem ((c.tc : Thread Cert.OpmIdeal.nD Cert.OpmIdeal.τ).loc Cert.OpmIdeal.main_arg6) = m ((c.tc : Thread Cert.OpmIdeal.nD Cert.OpmIdeal.τ).loc Cert.OpmIdeal.main_arg6)
      ∧ r.2.mem ((c.tc : Thread Cert.OpmIdeal.nD Cert.OpmIdeal.τ).loc Cert.OpmIdeal.main_arg7) = m ((c.tc : Thread Cert.OpmIdeal.nD Cert.OpmIdeal.τ).loc Cert.OpmIdeal.main_arg7)
      ∧ r.2.mem ((c.tc : Thread Cert.OpmIdeal.nD Cert.OpmIdeal.τ).loc Cert.OpmIdeal.main_arg8) = m ((c.tc : Thread Cert.OpmIdeal.nD Cert.OpmIdeal.τ).loc Cert.OpmIdeal.main_arg8)
      ∧ r.2.mem ((c.tc : Thread Cert.OpmIdeal.nD Cert.OpmIdeal.τ).loc Cert.OpmIdeal.main_arg9) = m ((c.tc : Thread Cert.OpmIdeal.nD Cert.OpmIdeal.τ).loc Cert.OpmIdeal.main_arg9)
      ∧ r.2.mem ((c.tc : Thread Cert.OpmIdeal.nD Cert.OpmIdeal.τ).loc Cert.OpmIdeal.main_arg10) = m ((c.tc : Thread Cert.OpmIdeal.nD Cert.OpmIdeal.τ).loc Cert.OpmIdeal.main_arg10)
      ∧ r.2.mem ((c.tc : Thread Cert.OpmIdeal.nD Cert.OpmIdeal.τ).loc Cert.OpmIdeal.main_arg11) = m ((c.tc : Thread Cert.OpmIdeal.nD Cert.OpmIdeal.τ).loc Cert.OpmIdeal.main_arg11))
      ∧ r.2.sem = fun _ => 0)

def quiescent_OpmReferenceIdeal [hOpmReferenceIdeal : Cert.OpmReferenceIdeal.Facts] : Prop :=
  ∀ (m : (ℓ : Loc Cert.OpmReferenceIdeal.nD Cert.OpmReferenceIdeal.τ Cert.OpmReferenceIdeal.sig) → Buf (Elt Ideal) ℓ) (g : Dev Cert.OpmReferenceIdeal.nD → PrngReg), Pre_OpmReferenceIdeal m →
    θ_run (Cert.OpmReferenceIdeal.defs (F := Ideal)) (onTc (τ := Cert.OpmReferenceIdeal.τ) (Cert.OpmReferenceIdeal.main (F := Ideal))) ⟨m, fun _ => 0, g⟩ (fun r => (∀ c : Dev Cert.OpmReferenceIdeal.nD,
      r.2.mem ((c.tc : Thread Cert.OpmReferenceIdeal.nD Cert.OpmReferenceIdeal.τ).loc Cert.OpmReferenceIdeal.main_arg0) = m ((c.tc : Thread Cert.OpmReferenceIdeal.nD Cert.OpmReferenceIdeal.τ).loc Cert.OpmReferenceIdeal.main_arg0)
      ∧ r.2.mem ((c.tc : Thread Cert.OpmReferenceIdeal.nD Cert.OpmReferenceIdeal.τ).loc Cert.OpmReferenceIdeal.main_arg1) = m ((c.tc : Thread Cert.OpmReferenceIdeal.nD Cert.OpmReferenceIdeal.τ).loc Cert.OpmReferenceIdeal.main_arg1)
      ∧ r.2.mem ((c.tc : Thread Cert.OpmReferenceIdeal.nD Cert.OpmReferenceIdeal.τ).loc Cert.OpmReferenceIdeal.main_arg2) = m ((c.tc : Thread Cert.OpmReferenceIdeal.nD Cert.OpmReferenceIdeal.τ).loc Cert.OpmReferenceIdeal.main_arg2)
      ∧ r.2.mem ((c.tc : Thread Cert.OpmReferenceIdeal.nD Cert.OpmReferenceIdeal.τ).loc Cert.OpmReferenceIdeal.main_arg3) = m ((c.tc : Thread Cert.OpmReferenceIdeal.nD Cert.OpmReferenceIdeal.τ).loc Cert.OpmReferenceIdeal.main_arg3)
      ∧ r.2.mem ((c.tc : Thread Cert.OpmReferenceIdeal.nD Cert.OpmReferenceIdeal.τ).loc Cert.OpmReferenceIdeal.main_arg4) = m ((c.tc : Thread Cert.OpmReferenceIdeal.nD Cert.OpmReferenceIdeal.τ).loc Cert.OpmReferenceIdeal.main_arg4)
      ∧ r.2.mem ((c.tc : Thread Cert.OpmReferenceIdeal.nD Cert.OpmReferenceIdeal.τ).loc Cert.OpmReferenceIdeal.main_arg5) = m ((c.tc : Thread Cert.OpmReferenceIdeal.nD Cert.OpmReferenceIdeal.τ).loc Cert.OpmReferenceIdeal.main_arg5)
      ∧ r.2.mem ((c.tc : Thread Cert.OpmReferenceIdeal.nD Cert.OpmReferenceIdeal.τ).loc Cert.OpmReferenceIdeal.main_arg6) = m ((c.tc : Thread Cert.OpmReferenceIdeal.nD Cert.OpmReferenceIdeal.τ).loc Cert.OpmReferenceIdeal.main_arg6)
      ∧ r.2.mem ((c.tc : Thread Cert.OpmReferenceIdeal.nD Cert.OpmReferenceIdeal.τ).loc Cert.OpmReferenceIdeal.main_arg7) = m ((c.tc : Thread Cert.OpmReferenceIdeal.nD Cert.OpmReferenceIdeal.τ).loc Cert.OpmReferenceIdeal.main_arg7)
      ∧ r.2.mem ((c.tc : Thread Cert.OpmReferenceIdeal.nD Cert.OpmReferenceIdeal.τ).loc Cert.OpmReferenceIdeal.main_arg8) = m ((c.tc : Thread Cert.OpmReferenceIdeal.nD Cert.OpmReferenceIdeal.τ).loc Cert.OpmReferenceIdeal.main_arg8)
      ∧ r.2.mem ((c.tc : Thread Cert.OpmReferenceIdeal.nD Cert.OpmReferenceIdeal.τ).loc Cert.OpmReferenceIdeal.main_arg9) = m ((c.tc : Thread Cert.OpmReferenceIdeal.nD Cert.OpmReferenceIdeal.τ).loc Cert.OpmReferenceIdeal.main_arg9)
      ∧ r.2.mem ((c.tc : Thread Cert.OpmReferenceIdeal.nD Cert.OpmReferenceIdeal.τ).loc Cert.OpmReferenceIdeal.main_arg10) = m ((c.tc : Thread Cert.OpmReferenceIdeal.nD Cert.OpmReferenceIdeal.τ).loc Cert.OpmReferenceIdeal.main_arg10)
      ∧ r.2.mem ((c.tc : Thread Cert.OpmReferenceIdeal.nD Cert.OpmReferenceIdeal.τ).loc Cert.OpmReferenceIdeal.main_arg11) = m ((c.tc : Thread Cert.OpmReferenceIdeal.nD Cert.OpmReferenceIdeal.τ).loc Cert.OpmReferenceIdeal.main_arg11))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v15)) (v1 : (c : Dev Cert.KernelIdeal.nD) → Buf (Elt Ideal) ((c.tc : Thread Cert.KernelIdeal.nD Cert.KernelIdeal.τ).loc Cert.KernelIdeal.main_v16)) (v2 : (c : Dev Cert.KernelIdeal.nD) → Buf (Elt Ideal) ((c.tc : Thread Cert.KernelIdeal.nD Cert.KernelIdeal.τ).loc Cert.KernelIdeal.main_v14_2)) (v3 : (c : Dev Cert.KernelIdeal.nD) → Buf (Elt Ideal) ((c.tc : Thread Cert.KernelIdeal.nD Cert.KernelIdeal.τ).loc Cert.KernelIdeal.main_v18)) (v4 : (c : Dev Cert.KernelIdeal.nD) → Buf (Elt Ideal) ((c.tc : Thread Cert.KernelIdeal.nD Cert.KernelIdeal.τ).loc Cert.KernelIdeal.main_v19)) (v5 : (c : Dev Cert.KernelIdeal.nD) → Buf (Elt Ideal) ((c.tc : Thread Cert.KernelIdeal.nD Cert.KernelIdeal.τ).loc Cert.KernelIdeal.main_v14_5)) (v6 : (c : Dev Cert.KernelIdeal.nD) → Buf (Elt Ideal) ((c.tc : Thread Cert.KernelIdeal.nD Cert.KernelIdeal.τ).loc Cert.KernelIdeal.main_v14_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_v16) = v1 c
          ∧ r.2.mem ((c.tc : Thread Cert.KernelIdeal.nD Cert.KernelIdeal.τ).loc Cert.KernelIdeal.main_v14_2) = v2 c
          ∧ r.2.mem ((c.tc : Thread Cert.KernelIdeal.nD Cert.KernelIdeal.τ).loc Cert.KernelIdeal.main_v18) = v3 c
          ∧ r.2.mem ((c.tc : Thread Cert.KernelIdeal.nD Cert.KernelIdeal.τ).loc Cert.KernelIdeal.main_v19) = v4 c
          ∧ r.2.mem ((c.tc : Thread Cert.KernelIdeal.nD Cert.KernelIdeal.τ).loc Cert.KernelIdeal.main_v14_5) = v5 c
          ∧ r.2.mem ((c.tc : Thread Cert.KernelIdeal.nD Cert.KernelIdeal.τ).loc Cert.KernelIdeal.main_v14_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_v2_3) = v3 c
          ∧ r.2.mem ((c.tc : Thread Cert.ReferenceIdeal.nD Cert.ReferenceIdeal.τ).loc Cert.ReferenceIdeal.main_v2_4) = v4 c
          ∧ r.2.mem ((c.tc : Thread Cert.ReferenceIdeal.nD Cert.ReferenceIdeal.τ).loc Cert.ReferenceIdeal.main_v2_5) = v5 c
          ∧ r.2.mem ((c.tc : Thread Cert.ReferenceIdeal.nD Cert.ReferenceIdeal.τ).loc Cert.ReferenceIdeal.main_v2_6) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Opm_OpmIdeal : Prop :=
  True

def algebraic_OpmIdeal_OpmReferenceIdeal [hOpmIdeal : Cert.OpmIdeal.Facts] [hOpmReferenceIdeal : Cert.OpmReferenceIdeal.Facts] : Prop :=
  ∀ (m : (ℓ : Loc Cert.OpmIdeal.nD Cert.OpmIdeal.τ Cert.OpmIdeal.sig) → Buf (Elt Ideal) ℓ) (g : Dev Cert.OpmIdeal.nD → PrngReg)
    (m' : (ℓ : Loc Cert.OpmReferenceIdeal.nD Cert.OpmReferenceIdeal.τ Cert.OpmReferenceIdeal.sig) → Buf (Elt Ideal) ℓ) (g' : Dev Cert.OpmReferenceIdeal.nD → PrngReg), Pre_OpmIdeal m →
    (∀ c : Dev Cert.OpmIdeal.nD,
      m' ((c.tc : Thread Cert.OpmReferenceIdeal.nD Cert.OpmReferenceIdeal.τ).loc Cert.OpmReferenceIdeal.main_arg0) = m ((c.tc : Thread Cert.OpmIdeal.nD Cert.OpmIdeal.τ).loc Cert.OpmIdeal.main_arg0)
      ∧ m' ((c.tc : Thread Cert.OpmReferenceIdeal.nD Cert.OpmReferenceIdeal.τ).loc Cert.OpmReferenceIdeal.main_arg1) = m ((c.tc : Thread Cert.OpmIdeal.nD Cert.OpmIdeal.τ).loc Cert.OpmIdeal.main_arg1)
      ∧ m' ((c.tc : Thread Cert.OpmReferenceIdeal.nD Cert.OpmReferenceIdeal.τ).loc Cert.OpmReferenceIdeal.main_arg2) = m ((c.tc : Thread Cert.OpmIdeal.nD Cert.OpmIdeal.τ).loc Cert.OpmIdeal.main_arg2)
      ∧ m' ((c.tc : Thread Cert.OpmReferenceIdeal.nD Cert.OpmReferenceIdeal.τ).loc Cert.OpmReferenceIdeal.main_arg3) = m ((c.tc : Thread Cert.OpmIdeal.nD Cert.OpmIdeal.τ).loc Cert.OpmIdeal.main_arg3)
      ∧ m' ((c.tc : Thread Cert.OpmReferenceIdeal.nD Cert.OpmReferenceIdeal.τ).loc Cert.OpmReferenceIdeal.main_arg4) = m ((c.tc : Thread Cert.OpmIdeal.nD Cert.OpmIdeal.τ).loc Cert.OpmIdeal.main_arg4)
      ∧ m' ((c.tc : Thread Cert.OpmReferenceIdeal.nD Cert.OpmReferenceIdeal.τ).loc Cert.OpmReferenceIdeal.main_arg5) = m ((c.tc : Thread Cert.OpmIdeal.nD Cert.OpmIdeal.τ).loc Cert.OpmIdeal.main_arg5)
      ∧ m' ((c.tc : Thread Cert.OpmReferenceIdeal.nD Cert.OpmReferenceIdeal.τ).loc Cert.OpmReferenceIdeal.main_arg6) = m ((c.tc : Thread Cert.OpmIdeal.nD Cert.OpmIdeal.τ).loc Cert.OpmIdeal.main_arg6)
      ∧ m' ((c.tc : Thread Cert.OpmReferenceIdeal.nD Cert.OpmReferenceIdeal.τ).loc Cert.OpmReferenceIdeal.main_arg7) = m ((c.tc : Thread Cert.OpmIdeal.nD Cert.OpmIdeal.τ).loc Cert.OpmIdeal.main_arg7)
      ∧ m' ((c.tc : Thread Cert.OpmReferenceIdeal.nD Cert.OpmReferenceIdeal.τ).loc Cert.OpmReferenceIdeal.main_arg8) = m ((c.tc : Thread Cert.OpmIdeal.nD Cert.OpmIdeal.τ).loc Cert.OpmIdeal.main_arg8)
      ∧ m' ((c.tc : Thread Cert.OpmReferenceIdeal.nD Cert.OpmReferenceIdeal.τ).loc Cert.OpmReferenceIdeal.main_arg9) = m ((c.tc : Thread Cert.OpmIdeal.nD Cert.OpmIdeal.τ).loc Cert.OpmIdeal.main_arg9)
      ∧ m' ((c.tc : Thread Cert.OpmReferenceIdeal.nD Cert.OpmReferenceIdeal.τ).loc Cert.OpmReferenceIdeal.main_arg10) = m ((c.tc : Thread Cert.OpmIdeal.nD Cert.OpmIdeal.τ).loc Cert.OpmIdeal.main_arg10)
      ∧ m' ((c.tc : Thread Cert.OpmReferenceIdeal.nD Cert.OpmReferenceIdeal.τ).loc Cert.OpmReferenceIdeal.main_arg11) = m ((c.tc : Thread Cert.OpmIdeal.nD Cert.OpmIdeal.τ).loc Cert.OpmIdeal.main_arg11)) →
    ∃ (v0 : (c : Dev Cert.OpmIdeal.nD) → Buf (Elt Ideal) ((c.tc : Thread Cert.OpmIdeal.nD Cert.OpmIdeal.τ).loc Cert.OpmIdeal.main_v10_0)) (v1 : (c : Dev Cert.OpmIdeal.nD) → Buf (Elt Ideal) ((c.tc : Thread Cert.OpmIdeal.nD Cert.OpmIdeal.τ).loc Cert.OpmIdeal.main_v11)) (v2 : (c : Dev Cert.OpmIdeal.nD) → Buf (Elt Ideal) ((c.tc : Thread Cert.OpmIdeal.nD Cert.OpmIdeal.τ).loc Cert.OpmIdeal.main_v10_2)),
      θ_run (Cert.OpmIdeal.defs (F := Ideal)) (onTc (τ := Cert.OpmIdeal.τ) (Cert.OpmIdeal.main (F := Ideal))) ⟨m, fun _ => 0, g⟩ (fun r => ∀ c : Dev Cert.OpmIdeal.nD,
          r.2.mem ((c.tc : Thread Cert.OpmIdeal.nD Cert.OpmIdeal.τ).loc Cert.OpmIdeal.main_v10_0) = v0 c
          ∧ r.2.mem ((c.tc : Thread Cert.OpmIdeal.nD Cert.OpmIdeal.τ).loc Cert.OpmIdeal.main_v11) = v1 c
          ∧ r.2.mem ((c.tc : Thread Cert.OpmIdeal.nD Cert.OpmIdeal.τ).loc Cert.OpmIdeal.main_v10_2) = v2 c
          ∧ r.2.mem ((c.tc : Thread Cert.OpmIdeal.nD Cert.OpmIdeal.τ).loc Cert.OpmIdeal.main_arg0) = m ((c.tc : Thread Cert.OpmIdeal.nD Cert.OpmIdeal.τ).loc Cert.OpmIdeal.main_arg0)
          ∧ r.2.mem ((c.tc : Thread Cert.OpmIdeal.nD Cert.OpmIdeal.τ).loc Cert.OpmIdeal.main_arg1) = m ((c.tc : Thread Cert.OpmIdeal.nD Cert.OpmIdeal.τ).loc Cert.OpmIdeal.main_arg1)
          ∧ r.2.mem ((c.tc : Thread Cert.OpmIdeal.nD Cert.OpmIdeal.τ).loc Cert.OpmIdeal.main_arg2) = m ((c.tc : Thread Cert.OpmIdeal.nD Cert.OpmIdeal.τ).loc Cert.OpmIdeal.main_arg2)
          ∧ r.2.mem ((c.tc : Thread Cert.OpmIdeal.nD Cert.OpmIdeal.τ).loc Cert.OpmIdeal.main_arg3) = m ((c.tc : Thread Cert.OpmIdeal.nD Cert.OpmIdeal.τ).loc Cert.OpmIdeal.main_arg3)
          ∧ r.2.mem ((c.tc : Thread Cert.OpmIdeal.nD Cert.OpmIdeal.τ).loc Cert.OpmIdeal.main_arg4) = m ((c.tc : Thread Cert.OpmIdeal.nD Cert.OpmIdeal.τ).loc Cert.OpmIdeal.main_arg4)
          ∧ r.2.mem ((c.tc : Thread Cert.OpmIdeal.nD Cert.OpmIdeal.τ).loc Cert.OpmIdeal.main_arg5) = m ((c.tc : Thread Cert.OpmIdeal.nD Cert.OpmIdeal.τ).loc Cert.OpmIdeal.main_arg5)
          ∧ r.2.mem ((c.tc : Thread Cert.OpmIdeal.nD Cert.OpmIdeal.τ).loc Cert.OpmIdeal.main_arg6) = m ((c.tc : Thread Cert.OpmIdeal.nD Cert.OpmIdeal.τ).loc Cert.OpmIdeal.main_arg6)
          ∧ r.2.mem ((c.tc : Thread Cert.OpmIdeal.nD Cert.OpmIdeal.τ).loc Cert.OpmIdeal.main_arg7) = m ((c.tc : Thread Cert.OpmIdeal.nD Cert.OpmIdeal.τ).loc Cert.OpmIdeal.main_arg7)
          ∧ r.2.mem ((c.tc : Thread Cert.OpmIdeal.nD Cert.OpmIdeal.τ).loc Cert.OpmIdeal.main_arg8) = m ((c.tc : Thread Cert.OpmIdeal.nD Cert.OpmIdeal.τ).loc Cert.OpmIdeal.main_arg8)
          ∧ r.2.mem ((c.tc : Thread Cert.OpmIdeal.nD Cert.OpmIdeal.τ).loc Cert.OpmIdeal.main_arg9) = m ((c.tc : Thread Cert.OpmIdeal.nD Cert.OpmIdeal.τ).loc Cert.OpmIdeal.main_arg9)
          ∧ r.2.mem ((c.tc : Thread Cert.OpmIdeal.nD Cert.OpmIdeal.τ).loc Cert.OpmIdeal.main_arg10) = m ((c.tc : Thread Cert.OpmIdeal.nD Cert.OpmIdeal.τ).loc Cert.OpmIdeal.main_arg10)
          ∧ r.2.mem ((c.tc : Thread Cert.OpmIdeal.nD Cert.OpmIdeal.τ).loc Cert.OpmIdeal.main_arg11) = m ((c.tc : Thread Cert.OpmIdeal.nD Cert.OpmIdeal.τ).loc Cert.OpmIdeal.main_arg11))
      ∧ θ_run (Cert.OpmReferenceIdeal.defs (F := Ideal)) (onTc (τ := Cert.OpmReferenceIdeal.τ) (Cert.OpmReferenceIdeal.main (F := Ideal))) ⟨m', fun _ => 0, g'⟩ (fun r => ∀ c : Dev Cert.OpmReferenceIdeal.nD,
          r.2.mem ((c.tc : Thread Cert.OpmReferenceIdeal.nD Cert.OpmReferenceIdeal.τ).loc Cert.OpmReferenceIdeal.main_v4_0) = v0 c
          ∧ r.2.mem ((c.tc : Thread Cert.OpmReferenceIdeal.nD Cert.OpmReferenceIdeal.τ).loc Cert.OpmReferenceIdeal.main_v4_1) = v1 c
          ∧ r.2.mem ((c.tc : Thread Cert.OpmReferenceIdeal.nD Cert.OpmReferenceIdeal.τ).loc Cert.OpmReferenceIdeal.main_v4_2) = v2 c
          ∧ r.2.mem ((c.tc : Thread Cert.OpmReferenceIdeal.nD Cert.OpmReferenceIdeal.τ).loc Cert.OpmReferenceIdeal.main_arg0) = m' ((c.tc : Thread Cert.OpmReferenceIdeal.nD Cert.OpmReferenceIdeal.τ).loc Cert.OpmReferenceIdeal.main_arg0)
          ∧ r.2.mem ((c.tc : Thread Cert.OpmReferenceIdeal.nD Cert.OpmReferenceIdeal.τ).loc Cert.OpmReferenceIdeal.main_arg1) = m' ((c.tc : Thread Cert.OpmReferenceIdeal.nD Cert.OpmReferenceIdeal.τ).loc Cert.OpmReferenceIdeal.main_arg1)
          ∧ r.2.mem ((c.tc : Thread Cert.OpmReferenceIdeal.nD Cert.OpmReferenceIdeal.τ).loc Cert.OpmReferenceIdeal.main_arg2) = m' ((c.tc : Thread Cert.OpmReferenceIdeal.nD Cert.OpmReferenceIdeal.τ).loc Cert.OpmReferenceIdeal.main_arg2)
          ∧ r.2.mem ((c.tc : Thread Cert.OpmReferenceIdeal.nD Cert.OpmReferenceIdeal.τ).loc Cert.OpmReferenceIdeal.main_arg3) = m' ((c.tc : Thread Cert.OpmReferenceIdeal.nD Cert.OpmReferenceIdeal.τ).loc Cert.OpmReferenceIdeal.main_arg3)
          ∧ r.2.mem ((c.tc : Thread Cert.OpmReferenceIdeal.nD Cert.OpmReferenceIdeal.τ).loc Cert.OpmReferenceIdeal.main_arg4) = m' ((c.tc : Thread Cert.OpmReferenceIdeal.nD Cert.OpmReferenceIdeal.τ).loc Cert.OpmReferenceIdeal.main_arg4)
          ∧ r.2.mem ((c.tc : Thread Cert.OpmReferenceIdeal.nD Cert.OpmReferenceIdeal.τ).loc Cert.OpmReferenceIdeal.main_arg5) = m' ((c.tc : Thread Cert.OpmReferenceIdeal.nD Cert.OpmReferenceIdeal.τ).loc Cert.OpmReferenceIdeal.main_arg5)
          ∧ r.2.mem ((c.tc : Thread Cert.OpmReferenceIdeal.nD Cert.OpmReferenceIdeal.τ).loc Cert.OpmReferenceIdeal.main_arg6) = m' ((c.tc : Thread Cert.OpmReferenceIdeal.nD Cert.OpmReferenceIdeal.τ).loc Cert.OpmReferenceIdeal.main_arg6)
          ∧ r.2.mem ((c.tc : Thread Cert.OpmReferenceIdeal.nD Cert.OpmReferenceIdeal.τ).loc Cert.OpmReferenceIdeal.main_arg7) = m' ((c.tc : Thread Cert.OpmReferenceIdeal.nD Cert.OpmReferenceIdeal.τ).loc Cert.OpmReferenceIdeal.main_arg7)
          ∧ r.2.mem ((c.tc : Thread Cert.OpmReferenceIdeal.nD Cert.OpmReferenceIdeal.τ).loc Cert.OpmReferenceIdeal.main_arg8) = m' ((c.tc : Thread Cert.OpmReferenceIdeal.nD Cert.OpmReferenceIdeal.τ).loc Cert.OpmReferenceIdeal.main_arg8)
          ∧ r.2.mem ((c.tc : Thread Cert.OpmReferenceIdeal.nD Cert.OpmReferenceIdeal.τ).loc Cert.OpmReferenceIdeal.main_arg9) = m' ((c.tc : Thread Cert.OpmReferenceIdeal.nD Cert.OpmReferenceIdeal.τ).loc Cert.OpmReferenceIdeal.main_arg9)
          ∧ r.2.mem ((c.tc : Thread Cert.OpmReferenceIdeal.nD Cert.OpmReferenceIdeal.τ).loc Cert.OpmReferenceIdeal.main_arg10) = m' ((c.tc : Thread Cert.OpmReferenceIdeal.nD Cert.OpmReferenceIdeal.τ).loc Cert.OpmReferenceIdeal.main_arg10)
          ∧ r.2.mem ((c.tc : Thread Cert.OpmReferenceIdeal.nD Cert.OpmReferenceIdeal.τ).loc Cert.OpmReferenceIdeal.main_arg11) = m' ((c.tc : Thread Cert.OpmReferenceIdeal.nD Cert.OpmReferenceIdeal.τ).loc Cert.OpmReferenceIdeal.main_arg11))

def Claim : Prop :=
  ∃ (hKernel : Cert.Kernel.Facts) (hKernelIdeal : Cert.KernelIdeal.Facts) (hReferenceIdeal : Cert.ReferenceIdeal.Facts) (hOpm : Cert.Opm.Facts) (hOpmIdeal : Cert.OpmIdeal.Facts) (hOpmReferenceIdeal : Cert.OpmReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Opm (hOpm := hOpm)
    ∧ quiescent_OpmIdeal (hOpmIdeal := hOpmIdeal)
    ∧ quiescent_OpmReferenceIdeal (hOpmReferenceIdeal := hOpmReferenceIdeal)
    ∧ preserves_Kernel_KernelIdeal
    ∧ algebraic_KernelIdeal_ReferenceIdeal (hKernelIdeal := hKernelIdeal) (hReferenceIdeal := hReferenceIdeal)
    ∧ preserves_Opm_OpmIdeal
    ∧ algebraic_OpmIdeal_OpmReferenceIdeal (hOpmIdeal := hOpmIdeal) (hOpmReferenceIdeal := hOpmReferenceIdeal)
-- ==== Kernel.lean ====
abbrev S896x512x64 : Shape := ⟨3, ![896, 512, 64]⟩
abbrev S64 : Shape := ⟨1, ![64]⟩
abbrev S64x256 : Shape := ⟨2, ![64, 256]⟩
abbrev S256 : Shape := ⟨1, ![256]⟩
abbrev S256x64 : Shape := ⟨2, ![256, 64]⟩
abbrev S8x512x512 : Shape := ⟨3, ![8, 512, 512]⟩
abbrev S8x1x512 : Shape := ⟨3, ![8, 1, 512]⟩
abbrev S896x64x512 : Shape := ⟨3, ![896, 64, 512]⟩
abbrev S64x1 : Shape := ⟨2, ![64, 1]⟩
abbrev S64x128 : Shape := ⟨2, ![64, 128]⟩
abbrev S256x1 : Shape := ⟨2, ![256, 1]⟩
abbrev S256x128 : Shape := ⟨2, ![256, 128]⟩
abbrev S896x512 : Shape := ⟨2, ![896, 512]⟩
abbrev S896x256x512 : Shape := ⟨3, ![896, 256, 512]⟩
abbrev S896x256 : Shape := ⟨2, ![896, 256]⟩
abbrev S896x512x256 : Shape := ⟨3, ![896, 512, 256]⟩
abbrev S8x64x512 : Shape := ⟨3, ![8, 64, 512]⟩
abbrev S8x512 : Shape := ⟨2, ![8, 512]⟩
abbrev S8x256x512 : Shape := ⟨3, ![8, 256, 512]⟩
abbrev S8x256 : Shape := ⟨2, ![8, 256]⟩
abbrev S8x512x256 : Shape := ⟨3, ![8, 512, 256]⟩
abbrev S2x8x64x512 : Shape := ⟨4, ![2, 8, 64, 512]⟩
abbrev S2x8x512 : Shape := ⟨3, ![2, 8, 512]⟩
abbrev S2x8x256x512 : Shape := ⟨4, ![2, 8, 256, 512]⟩
abbrev S2x8x256x128 : Shape := ⟨4, ![2, 8, 256, 128]⟩
abbrev S1x8x64x512 : Shape := ⟨4, ![1, 8, 64, 512]⟩
abbrev S1x8x512 : Shape := ⟨3, ![1, 8, 512]⟩
abbrev S1x8x256x512 : Shape := ⟨4, ![1, 8, 256, 512]⟩
abbrev S8x256x128 : Shape := ⟨3, ![8, 256, 128]⟩
abbrev S1x8x256x128 : Shape := ⟨4, ![1, 8, 256, 128]⟩
abbrev S64x512 : Shape := ⟨2, ![64, 512]⟩
abbrev S1x64x512 : Shape := ⟨3, ![1, 64, 512]⟩
abbrev S512 : Shape := ⟨1, ![512]⟩
abbrev S1x512 : Shape := ⟨2, ![1, 512]⟩
abbrev S1x1x64x512 : Shape := ⟨4, ![1, 1, 64, 512]⟩
abbrev S1x1x512 : Shape := ⟨3, ![1, 1, 512]⟩
abbrev S256x512 : Shape := ⟨2, ![256, 512]⟩
abbrev S1x1x256x128 : Shape := ⟨4, ![1, 1, 256, 128]⟩
abbrev S1x256x512 : Shape := ⟨3, ![1, 256, 512]⟩
abbrev S32x512 : Shape := ⟨2, ![32, 512]⟩
abbrev S1x1x32x512 : Shape := ⟨4, ![1, 1, 32, 512]⟩
abbrev S256x8 : Shape := ⟨2, ![256, 8]⟩
abbrev S1x1x256x512 : Shape := ⟨4, ![1, 1, 256, 512]⟩
abbrev S1x512x512 : Shape := ⟨3, ![1, 512, 512]⟩
abbrev S512x512 : Shape := ⟨2, ![512, 512]⟩
abbrev S1x32x512 : Shape := ⟨3, ![1, 32, 512]⟩
abbrev S512x256 : Shape := ⟨2, ![512, 256]⟩
abbrev S1x512x256 : Shape := ⟨3, ![1, 512, 256]⟩
abbrev S896x8x32x512 : Shape := ⟨4, ![896, 8, 32, 512]⟩
abbrev S896x512x8x32 : Shape := ⟨4, ![896, 512, 8, 32]⟩
abbrev S896x8x32 : Shape := ⟨3, ![896, 8, 32]⟩

abbrev nBuf : Space → Nat
  | .hbm => 37
  | .vmem => 33
  | .smem => 0
  | _ => 0

abbrev bufTy : (tb : Table) → Fin (tcTables nBuf tb) → BufTy
  | .hbm, ⟨0, _⟩ => ⟨S896x512x64, .bf16⟩
  | .hbm, ⟨1, _⟩ => ⟨S64, .f32⟩
  | .hbm, ⟨2, _⟩ => ⟨S64, .f32⟩
  | .hbm, ⟨3, _⟩ => ⟨S64x256, .bf16⟩
  | .hbm, ⟨4, _⟩ => ⟨S256, .f32⟩
  | .hbm, ⟨5, _⟩ => ⟨S64x256, .bf16⟩
  | .hbm, ⟨6, _⟩ => ⟨S256, .f32⟩
  | .hbm, ⟨7, _⟩ => ⟨S256x64, .bf16⟩
  | .hbm, ⟨8, _⟩ => ⟨S64, .f32⟩
  | .hbm, ⟨9, _⟩ => ⟨S8x512x512, .bf16⟩
  | .hbm, ⟨10, _⟩ => ⟨S8x1x512, .f32⟩
  | .hbm, ⟨11, _⟩ => ⟨S896x64x512, .bf16⟩
  | .hbm, ⟨12, _⟩ => ⟨S64x1, .f32⟩
  | .hbm, ⟨13, _⟩ => ⟨S64x128, .f32⟩
  | .hbm, ⟨14, _⟩ => ⟨S64x1, .f32⟩
  | .hbm, ⟨15, _⟩ => ⟨S64x128, .f32⟩
  | .hbm, ⟨16, _⟩ => ⟨S256x64, .bf16⟩
  | .hbm, ⟨17, _⟩ => ⟨S256x1, .f32⟩
  | .hbm, ⟨18, _⟩ => ⟨S256x128, .f32⟩
  | .hbm, ⟨19, _⟩ => ⟨S256x64, .bf16⟩
  | .hbm, ⟨20, _⟩ => ⟨S256x1, .f32⟩
  | .hbm, ⟨21, _⟩ => ⟨S256x128, .f32⟩
  | .hbm, ⟨22, _⟩ => ⟨S64x256, .bf16⟩
  | .hbm, ⟨23, _⟩ => ⟨S64x1, .f32⟩
  | .hbm, ⟨24, _⟩ => ⟨S64x128, .f32⟩
  | .hbm, ⟨25, _⟩ => ⟨S896x64x512, .bf16⟩
  | .hbm, ⟨26, _⟩ => ⟨S896x64x512, .i8⟩
  | .hbm, ⟨27, _⟩ => ⟨S896x512, .f32⟩
  | .hbm, ⟨28, _⟩ => ⟨S896x256x512, .i8⟩
  | .hbm, ⟨29, _⟩ => ⟨S896x256, .f32⟩
  | .hbm, ⟨30, _⟩ => ⟨S896x512x256, .i8⟩
  | .hbm, ⟨31, _⟩ => ⟨S896x512, .f32⟩
  | .hbm, ⟨32, _⟩ => ⟨S896x512x64, .bf16⟩
  | .hbm, ⟨33, _⟩ => ⟨S896x512x64, .i8⟩
  | .hbm, ⟨34, _⟩ => ⟨S896x8x32x512, .i8⟩
  | .hbm, ⟨35, _⟩ => ⟨S896x512x8x32, .i8⟩
  | .hbm, ⟨36, _⟩ => ⟨S896x8x32, .f32⟩
  | .local _ .vmem, ⟨0, _⟩ => ⟨S8x64x512, .bf16⟩
  | .local _ .vmem, ⟨1, _⟩ => ⟨S8x64x512, .bf16⟩
  | .local _ .vmem, ⟨2, _⟩ => ⟨S8x64x512, .bf16⟩
  | .local _ .vmem, ⟨3, _⟩ => ⟨S8x64x512, .bf16⟩
  | .local _ .vmem, ⟨4, _⟩ => ⟨S64x128, .f32⟩
  | .local _ .vmem, ⟨5, _⟩ => ⟨S64x128, .f32⟩
  | .local _ .vmem, ⟨6, _⟩ => ⟨S256x64, .bf16⟩
  | .local _ .vmem, ⟨7, _⟩ => ⟨S256x128, .f32⟩
  | .local _ .vmem, ⟨8, _⟩ => ⟨S256x64, .bf16⟩
  | .local _ .vmem, ⟨9, _⟩ => ⟨S256x128, .f32⟩
  | .local _ .vmem, ⟨10, _⟩ => ⟨S64x256, .bf16⟩
  | .local _ .vmem, ⟨11, _⟩ => ⟨S64x128, .f32⟩
  | .local _ .vmem, ⟨12, _⟩ => ⟨S8x512x512, .bf16⟩
  | .local _ .vmem, ⟨13, _⟩ => ⟨S8x1x512, .f32⟩
  | .local _ .vmem, ⟨14, _⟩ => ⟨S8x64x512, .bf16⟩
  | .local _ .vmem, ⟨15, _⟩ => ⟨S8x64x512, .bf16⟩
  | .local _ .vmem, ⟨16, _⟩ => ⟨S8x64x512, .i8⟩
  | .local _ .vmem, ⟨17, _⟩ => ⟨S8x64x512, .i8⟩
  | .local _ .vmem, ⟨18, _⟩ => ⟨S8x512, .f32⟩
  | .local _ .vmem, ⟨19, _⟩ => ⟨S8x512, .f32⟩
  | .local _ .vmem, ⟨20, _⟩ => ⟨S8x256x512, .i8⟩
  | .local _ .vmem, ⟨21, _⟩ => ⟨S8x256x512, .i8⟩
  | .local _ .vmem, ⟨22, _⟩ => ⟨S8x256, .f32⟩
  | .local _ .vmem, ⟨23, _⟩ => ⟨S8x256, .f32⟩
  | .local _ .vmem, ⟨24, _⟩ => ⟨S8x512x256, .i8⟩
  | .local _ .vmem, ⟨25, _⟩ => ⟨S8x512x256, .i8⟩
  | .local _ .vmem, ⟨26, _⟩ => ⟨S8x512, .f32⟩
  | .local _ .vmem, ⟨27, _⟩ => ⟨S8x512, .f32⟩
  | .local _ .vmem, ⟨28, _⟩ => ⟨S2x8x64x512, .bf16⟩
  | .local _ .vmem, ⟨29, _⟩ => ⟨S2x8x512, .f32⟩
  | .local _ .vmem, ⟨30, _⟩ => ⟨S2x8x256x512, .bf16⟩
  | .local _ .vmem, ⟨31, _⟩ => ⟨S2x8x256x128, .f32⟩
  | .local _ .vmem, ⟨32, _⟩ => ⟨S8x256x512, .f32⟩
  | _, _ => ⟨S896x512x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14_0 : Ref sig .tc := ⟨.hbm, 25, rfl⟩
abbrev main_v14_1 : Ref sig .tc := ⟨.hbm, 26, rfl⟩
abbrev main_v14_2 : Ref sig .tc := ⟨.hbm, 27, rfl⟩
abbrev main_v14_3 : Ref sig .tc := ⟨.hbm, 28, rfl⟩
abbrev main_v14_4 : Ref sig .tc := ⟨.hbm, 29, rfl⟩
abbrev main_v14_5 : Ref sig .tc := ⟨.hbm, 30, rfl⟩
abbrev main_v14_6 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_scratch3 : Ref sig .tc := ⟨.vmem, 31, rfl⟩
abbrev cc0_scratch4 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27

abbrev nD : Nat := 1
abbrev τ : Topo := Topo.v7x

variable {F : FTy → Type} [FloatOps F]

abbrev grid0 : Pipeline.Grid := ⟨1, ![113], ![false]⟩

def k0_cond1 (i : grid0.Coords) : BitVec 1 :=
  let arg0 : BitVec 32 := BitVec.ofNat 32 (i 0).val
  let c0_i32_4 : BitVec 32 := 0#32
  let v11 : BitVec 1 := Scalar.cmpi .eq arg0 c0_i32_4
  let v12 : BitVec 32 := Scalar.extui v11
  let c0_i32_5 : BitVec 32 := 0#32
  let v13 : BitVec 1 := Scalar.cmpi .ne v12 c0_i32_5
  v13

def k0_off1 (i : grid0.Coords) : Fin 4 → Nat :=
  let c1_i32_3 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v10 : BitVec 32 := Scalar.subi c1_i32_3 v9
  let v1952 : Index := Scalar.indexCast v10
  let c0_1117 : Index := 0#32
  let c0_1118 : Index := 0#32
  let c0_1119 : Index := 0#32
  ![v1952.toNat, 0, 0, 0]
def k0_off2 (i : grid0.Coords) : Fin 3 → Nat :=
  let c1_i32_3 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v10 : BitVec 32 := Scalar.subi c1_i32_3 v9
  let v1957 : Index := Scalar.indexCast v10
  let c0_1121 : Index := 0#32
  let c0_1122 : Index := 0#32
  ![v1957.toNat, 0, 0]
def k0_off3 (i : grid0.Coords) : Fin 4 → Nat :=
  let c1_i32_3 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v10 : BitVec 32 := Scalar.subi c1_i32_3 v9
  let v1962 : Index := Scalar.indexCast v10
  let c0_1124 : Index := 0#32
  let c0_1125 : Index := 0#32
  let c0_1126 : Index := 0#32
  ![v1962.toNat, 0, 0, 0]
def k0_off4 (i : grid0.Coords) : Fin 4 → Nat :=
  let c1_i32_3 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v10 : BitVec 32 := Scalar.subi c1_i32_3 v9
  let v1967 : Index := Scalar.indexCast v10
  let c0_1128 : Index := 0#32
  let c0_1129 : Index := 0#32
  let c0_1130 : Index := 0#32
  ![v1967.toNat, 0, 0, 0]
def k0_off5 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v67 : Index := Scalar.indexCast v9
  let c0_29 : Index := 0#32
  let c0_30 : Index := 0#32
  let c0_31 : Index := 0#32
  ![v67.toNat, 0, 0, 0]
def k0_off6 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v71 : Index := Scalar.indexCast v9
  let c0_32 : Index := 0#32
  let c0_33 : Index := 0#32
  ![v71.toNat, 0, 0]
def k0_off7 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v95 : Index := Scalar.indexCast v9
  let c0_43 : Index := 0#32
  let c0_44 : Index := 0#32
  let c0_45 : Index := 0#32
  ![v95.toNat, 0, 0, 0]
def k0_off8 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v113 : Index := Scalar.indexCast v9
  let c0_51 : Index := 0#32
  let c0_52 : Index := 0#32
  let c0_53 : Index := 0#32
  ![v113.toNat, 0, 0, 0]
def k0_off9 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v118 : Index := Scalar.indexCast v9
  let c1 : Index := 1#32
  let c0_54 : Index := 0#32
  let c0_55 : Index := 0#32
  ![v118.toNat, 1, 0, 0]
def k0_off10 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v123 : Index := Scalar.indexCast v9
  let c2 : Index := 2#32
  let c0_56 : Index := 0#32
  let c0_57 : Index := 0#32
  ![v123.toNat, 2, 0, 0]
def k0_off11 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v128 : Index := Scalar.indexCast v9
  let c3 : Index := 3#32
  let c0_58 : Index := 0#32
  let c0_59 : Index := 0#32
  ![v128.toNat, 3, 0, 0]
def k0_off12 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v133 : Index := Scalar.indexCast v9
  let c4 : Index := 4#32
  let c0_60 : Index := 0#32
  let c0_61 : Index := 0#32
  ![v133.toNat, 4, 0, 0]
def k0_off13 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v138 : Index := Scalar.indexCast v9
  let c5 : Index := 5#32
  let c0_62 : Index := 0#32
  let c0_63 : Index := 0#32
  ![v138.toNat, 5, 0, 0]
def k0_off14 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v143 : Index := Scalar.indexCast v9
  let c6 : Index := 6#32
  let c0_64 : Index := 0#32
  let c0_65 : Index := 0#32
  ![v143.toNat, 6, 0, 0]
def k0_off15 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v148 : Index := Scalar.indexCast v9
  let c7 : Index := 7#32
  let c0_66 : Index := 0#32
  let c0_67 : Index := 0#32
  ![v148.toNat, 7, 0, 0]
def k0_off16 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v199 : Index := Scalar.indexCast v9
  let c1_89 : Index := 1#32
  let c0_90 : Index := 0#32
  let c0_91 : Index := 0#32
  ![v199.toNat, 1, 0, 0]
def k0_off17 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v203 : Index := Scalar.indexCast v9
  let c1_92 : Index := 1#32
  let c0_93 : Index := 0#32
  ![v203.toNat, 1, 0]
def k0_off18 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v227 : Index := Scalar.indexCast v9
  let c1_103 : Index := 1#32
  let c0_104 : Index := 0#32
  let c0_105 : Index := 0#32
  ![v227.toNat, 1, 0, 0]
def k0_off19 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v245 : Index := Scalar.indexCast v9
  let c0_111 : Index := 0#32
  let c32 : Index := 32#32
  let c0_112 : Index := 0#32
  ![v245.toNat, 0, 32, 0]
def k0_off20 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v250 : Index := Scalar.indexCast v9
  let c1_113 : Index := 1#32
  let c32_114 : Index := 32#32
  let c0_115 : Index := 0#32
  ![v250.toNat, 1, 32, 0]
def k0_off21 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v255 : Index := Scalar.indexCast v9
  let c2_116 : Index := 2#32
  let c32_117 : Index := 32#32
  let c0_118 : Index := 0#32
  ![v255.toNat, 2, 32, 0]
def k0_off22 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v260 : Index := Scalar.indexCast v9
  let c3_119 : Index := 3#32
  let c32_120 : Index := 32#32
  let c0_121 : Index := 0#32
  ![v260.toNat, 3, 32, 0]
def k0_off23 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v265 : Index := Scalar.indexCast v9
  let c4_122 : Index := 4#32
  let c32_123 : Index := 32#32
  let c0_124 : Index := 0#32
  ![v265.toNat, 4, 32, 0]
def k0_off24 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v270 : Index := Scalar.indexCast v9
  let c5_125 : Index := 5#32
  let c32_126 : Index := 32#32
  let c0_127 : Index := 0#32
  ![v270.toNat, 5, 32, 0]
def k0_off25 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v275 : Index := Scalar.indexCast v9
  let c6_128 : Index := 6#32
  let c32_129 : Index := 32#32
  let c0_130 : Index := 0#32
  ![v275.toNat, 6, 32, 0]
def k0_off26 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v280 : Index := Scalar.indexCast v9
  let c7_131 : Index := 7#32
  let c32_132 : Index := 32#32
  let c0_133 : Index := 0#32
  ![v280.toNat, 7, 32, 0]
def k0_off27 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v331 : Index := Scalar.indexCast v9
  let c2_155 : Index := 2#32
  let c0_156 : Index := 0#32
  let c0_157 : Index := 0#32
  ![v331.toNat, 2, 0, 0]
def k0_off28 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v335 : Index := Scalar.indexCast v9
  let c2_158 : Index := 2#32
  let c0_159 : Index := 0#32
  ![v335.toNat, 2, 0]
def k0_off29 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v359 : Index := Scalar.indexCast v9
  let c2_169 : Index := 2#32
  let c0_170 : Index := 0#32
  let c0_171 : Index := 0#32
  ![v359.toNat, 2, 0, 0]
def k0_off30 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v377 : Index := Scalar.indexCast v9
  let c0_177 : Index := 0#32
  let c64 : Index := 64#32
  let c0_178 : Index := 0#32
  ![v377.toNat, 0, 64, 0]
def k0_off31 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v382 : Index := Scalar.indexCast v9
  let c1_179 : Index := 1#32
  let c64_180 : Index := 64#32
  let c0_181 : Index := 0#32
  ![v382.toNat, 1, 64, 0]
def k0_off32 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v387 : Index := Scalar.indexCast v9
  let c2_182 : Index := 2#32
  let c64_183 : Index := 64#32
  let c0_184 : Index := 0#32
  ![v387.toNat, 2, 64, 0]
def k0_off33 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v392 : Index := Scalar.indexCast v9
  let c3_185 : Index := 3#32
  let c64_186 : Index := 64#32
  let c0_187 : Index := 0#32
  ![v392.toNat, 3, 64, 0]
def k0_off34 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v397 : Index := Scalar.indexCast v9
  let c4_188 : Index := 4#32
  let c64_189 : Index := 64#32
  let c0_190 : Index := 0#32
  ![v397.toNat, 4, 64, 0]
def k0_off35 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v402 : Index := Scalar.indexCast v9
  let c5_191 : Index := 5#32
  let c64_192 : Index := 64#32
  let c0_193 : Index := 0#32
  ![v402.toNat, 5, 64, 0]
def k0_off36 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v407 : Index := Scalar.indexCast v9
  let c6_194 : Index := 6#32
  let c64_195 : Index := 64#32
  let c0_196 : Index := 0#32
  ![v407.toNat, 6, 64, 0]
def k0_off37 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v412 : Index := Scalar.indexCast v9
  let c7_197 : Index := 7#32
  let c64_198 : Index := 64#32
  let c0_199 : Index := 0#32
  ![v412.toNat, 7, 64, 0]
def k0_off38 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v463 : Index := Scalar.indexCast v9
  let c3_221 : Index := 3#32
  let c0_222 : Index := 0#32
  let c0_223 : Index := 0#32
  ![v463.toNat, 3, 0, 0]
def k0_off39 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v467 : Index := Scalar.indexCast v9
  let c3_224 : Index := 3#32
  let c0_225 : Index := 0#32
  ![v467.toNat, 3, 0]
def k0_off40 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v491 : Index := Scalar.indexCast v9
  let c3_235 : Index := 3#32
  let c0_236 : Index := 0#32
  let c0_237 : Index := 0#32
  ![v491.toNat, 3, 0, 0]
def k0_off41 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v509 : Index := Scalar.indexCast v9
  let c0_243 : Index := 0#32
  let c96 : Index := 96#32
  let c0_244 : Index := 0#32
  ![v509.toNat, 0, 96, 0]
def k0_off42 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v514 : Index := Scalar.indexCast v9
  let c1_245 : Index := 1#32
  let c96_246 : Index := 96#32
  let c0_247 : Index := 0#32
  ![v514.toNat, 1, 96, 0]
def k0_off43 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v519 : Index := Scalar.indexCast v9
  let c2_248 : Index := 2#32
  let c96_249 : Index := 96#32
  let c0_250 : Index := 0#32
  ![v519.toNat, 2, 96, 0]
def k0_off44 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v524 : Index := Scalar.indexCast v9
  let c3_251 : Index := 3#32
  let c96_252 : Index := 96#32
  let c0_253 : Index := 0#32
  ![v524.toNat, 3, 96, 0]
def k0_off45 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v529 : Index := Scalar.indexCast v9
  let c4_254 : Index := 4#32
  let c96_255 : Index := 96#32
  let c0_256 : Index := 0#32
  ![v529.toNat, 4, 96, 0]
def k0_off46 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v534 : Index := Scalar.indexCast v9
  let c5_257 : Index := 5#32
  let c96_258 : Index := 96#32
  let c0_259 : Index := 0#32
  ![v534.toNat, 5, 96, 0]
def k0_off47 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v539 : Index := Scalar.indexCast v9
  let c6_260 : Index := 6#32
  let c96_261 : Index := 96#32
  let c0_262 : Index := 0#32
  ![v539.toNat, 6, 96, 0]
def k0_off48 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v544 : Index := Scalar.indexCast v9
  let c7_263 : Index := 7#32
  let c96_264 : Index := 96#32
  let c0_265 : Index := 0#32
  ![v544.toNat, 7, 96, 0]
def k0_off49 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v595 : Index := Scalar.indexCast v9
  let c4_287 : Index := 4#32
  let c0_288 : Index := 0#32
  let c0_289 : Index := 0#32
  ![v595.toNat, 4, 0, 0]
def k0_off50 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v599 : Index := Scalar.indexCast v9
  let c4_290 : Index := 4#32
  let c0_291 : Index := 0#32
  ![v599.toNat, 4, 0]
def k0_off51 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v623 : Index := Scalar.indexCast v9
  let c4_301 : Index := 4#32
  let c0_302 : Index := 0#32
  let c0_303 : Index := 0#32
  ![v623.toNat, 4, 0, 0]
def k0_off52 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v641 : Index := Scalar.indexCast v9
  let c0_309 : Index := 0#32
  let c128 : Index := 128#32
  let c0_310 : Index := 0#32
  ![v641.toNat, 0, 128, 0]
def k0_off53 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v646 : Index := Scalar.indexCast v9
  let c1_311 : Index := 1#32
  let c128_312 : Index := 128#32
  let c0_313 : Index := 0#32
  ![v646.toNat, 1, 128, 0]
def k0_off54 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v651 : Index := Scalar.indexCast v9
  let c2_314 : Index := 2#32
  let c128_315 : Index := 128#32
  let c0_316 : Index := 0#32
  ![v651.toNat, 2, 128, 0]
def k0_off55 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v656 : Index := Scalar.indexCast v9
  let c3_317 : Index := 3#32
  let c128_318 : Index := 128#32
  let c0_319 : Index := 0#32
  ![v656.toNat, 3, 128, 0]
def k0_off56 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v661 : Index := Scalar.indexCast v9
  let c4_320 : Index := 4#32
  let c128_321 : Index := 128#32
  let c0_322 : Index := 0#32
  ![v661.toNat, 4, 128, 0]
def k0_off57 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v666 : Index := Scalar.indexCast v9
  let c5_323 : Index := 5#32
  let c128_324 : Index := 128#32
  let c0_325 : Index := 0#32
  ![v666.toNat, 5, 128, 0]
def k0_off58 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v671 : Index := Scalar.indexCast v9
  let c6_326 : Index := 6#32
  let c128_327 : Index := 128#32
  let c0_328 : Index := 0#32
  ![v671.toNat, 6, 128, 0]
def k0_off59 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v676 : Index := Scalar.indexCast v9
  let c7_329 : Index := 7#32
  let c128_330 : Index := 128#32
  let c0_331 : Index := 0#32
  ![v676.toNat, 7, 128, 0]
def k0_off60 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v727 : Index := Scalar.indexCast v9
  let c5_353 : Index := 5#32
  let c0_354 : Index := 0#32
  let c0_355 : Index := 0#32
  ![v727.toNat, 5, 0, 0]
def k0_off61 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v731 : Index := Scalar.indexCast v9
  let c5_356 : Index := 5#32
  let c0_357 : Index := 0#32
  ![v731.toNat, 5, 0]
def k0_off62 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v755 : Index := Scalar.indexCast v9
  let c5_367 : Index := 5#32
  let c0_368 : Index := 0#32
  let c0_369 : Index := 0#32
  ![v755.toNat, 5, 0, 0]
def k0_off63 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v773 : Index := Scalar.indexCast v9
  let c0_375 : Index := 0#32
  let c160 : Index := 160#32
  let c0_376 : Index := 0#32
  ![v773.toNat, 0, 160, 0]
def k0_off64 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v778 : Index := Scalar.indexCast v9
  let c1_377 : Index := 1#32
  let c160_378 : Index := 160#32
  let c0_379 : Index := 0#32
  ![v778.toNat, 1, 160, 0]
def k0_off65 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v783 : Index := Scalar.indexCast v9
  let c2_380 : Index := 2#32
  let c160_381 : Index := 160#32
  let c0_382 : Index := 0#32
  ![v783.toNat, 2, 160, 0]
def k0_off66 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v788 : Index := Scalar.indexCast v9
  let c3_383 : Index := 3#32
  let c160_384 : Index := 160#32
  let c0_385 : Index := 0#32
  ![v788.toNat, 3, 160, 0]
def k0_off67 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v793 : Index := Scalar.indexCast v9
  let c4_386 : Index := 4#32
  let c160_387 : Index := 160#32
  let c0_388 : Index := 0#32
  ![v793.toNat, 4, 160, 0]
def k0_off68 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v798 : Index := Scalar.indexCast v9
  let c5_389 : Index := 5#32
  let c160_390 : Index := 160#32
  let c0_391 : Index := 0#32
  ![v798.toNat, 5, 160, 0]
def k0_off69 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v803 : Index := Scalar.indexCast v9
  let c6_392 : Index := 6#32
  let c160_393 : Index := 160#32
  let c0_394 : Index := 0#32
  ![v803.toNat, 6, 160, 0]
def k0_off70 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v808 : Index := Scalar.indexCast v9
  let c7_395 : Index := 7#32
  let c160_396 : Index := 160#32
  let c0_397 : Index := 0#32
  ![v808.toNat, 7, 160, 0]
def k0_off71 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v859 : Index := Scalar.indexCast v9
  let c6_419 : Index := 6#32
  let c0_420 : Index := 0#32
  let c0_421 : Index := 0#32
  ![v859.toNat, 6, 0, 0]
def k0_off72 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v863 : Index := Scalar.indexCast v9
  let c6_422 : Index := 6#32
  let c0_423 : Index := 0#32
  ![v863.toNat, 6, 0]
def k0_off73 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v887 : Index := Scalar.indexCast v9
  let c6_433 : Index := 6#32
  let c0_434 : Index := 0#32
  let c0_435 : Index := 0#32
  ![v887.toNat, 6, 0, 0]
def k0_off74 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v905 : Index := Scalar.indexCast v9
  let c0_441 : Index := 0#32
  let c192 : Index := 192#32
  let c0_442 : Index := 0#32
  ![v905.toNat, 0, 192, 0]
def k0_off75 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v910 : Index := Scalar.indexCast v9
  let c1_443 : Index := 1#32
  let c192_444 : Index := 192#32
  let c0_445 : Index := 0#32
  ![v910.toNat, 1, 192, 0]
def k0_off76 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v915 : Index := Scalar.indexCast v9
  let c2_446 : Index := 2#32
  let c192_447 : Index := 192#32
  let c0_448 : Index := 0#32
  ![v915.toNat, 2, 192, 0]
def k0_off77 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v920 : Index := Scalar.indexCast v9
  let c3_449 : Index := 3#32
  let c192_450 : Index := 192#32
  let c0_451 : Index := 0#32
  ![v920.toNat, 3, 192, 0]
def k0_off78 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v925 : Index := Scalar.indexCast v9
  let c4_452 : Index := 4#32
  let c192_453 : Index := 192#32
  let c0_454 : Index := 0#32
  ![v925.toNat, 4, 192, 0]
def k0_off79 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v930 : Index := Scalar.indexCast v9
  let c5_455 : Index := 5#32
  let c192_456 : Index := 192#32
  let c0_457 : Index := 0#32
  ![v930.toNat, 5, 192, 0]
def k0_off80 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v935 : Index := Scalar.indexCast v9
  let c6_458 : Index := 6#32
  let c192_459 : Index := 192#32
  let c0_460 : Index := 0#32
  ![v935.toNat, 6, 192, 0]
def k0_off81 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v940 : Index := Scalar.indexCast v9
  let c7_461 : Index := 7#32
  let c192_462 : Index := 192#32
  let c0_463 : Index := 0#32
  ![v940.toNat, 7, 192, 0]
def k0_off82 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v991 : Index := Scalar.indexCast v9
  let c7_485 : Index := 7#32
  let c0_486 : Index := 0#32
  let c0_487 : Index := 0#32
  ![v991.toNat, 7, 0, 0]
def k0_off83 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v995 : Index := Scalar.indexCast v9
  let c7_488 : Index := 7#32
  let c0_489 : Index := 0#32
  ![v995.toNat, 7, 0]
def k0_off84 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1019 : Index := Scalar.indexCast v9
  let c7_499 : Index := 7#32
  let c0_500 : Index := 0#32
  let c0_501 : Index := 0#32
  ![v1019.toNat, 7, 0, 0]
def k0_off85 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1037 : Index := Scalar.indexCast v9
  let c0_507 : Index := 0#32
  let c224 : Index := 224#32
  let c0_508 : Index := 0#32
  ![v1037.toNat, 0, 224, 0]
def k0_off86 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1042 : Index := Scalar.indexCast v9
  let c1_509 : Index := 1#32
  let c224_510 : Index := 224#32
  let c0_511 : Index := 0#32
  ![v1042.toNat, 1, 224, 0]
def k0_off87 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1047 : Index := Scalar.indexCast v9
  let c2_512 : Index := 2#32
  let c224_513 : Index := 224#32
  let c0_514 : Index := 0#32
  ![v1047.toNat, 2, 224, 0]
def k0_off88 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1052 : Index := Scalar.indexCast v9
  let c3_515 : Index := 3#32
  let c224_516 : Index := 224#32
  let c0_517 : Index := 0#32
  ![v1052.toNat, 3, 224, 0]
def k0_off89 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1057 : Index := Scalar.indexCast v9
  let c4_518 : Index := 4#32
  let c224_519 : Index := 224#32
  let c0_520 : Index := 0#32
  ![v1057.toNat, 4, 224, 0]
def k0_off90 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1062 : Index := Scalar.indexCast v9
  let c5_521 : Index := 5#32
  let c224_522 : Index := 224#32
  let c0_523 : Index := 0#32
  ![v1062.toNat, 5, 224, 0]
def k0_off91 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1067 : Index := Scalar.indexCast v9
  let c6_524 : Index := 6#32
  let c224_525 : Index := 224#32
  let c0_526 : Index := 0#32
  ![v1067.toNat, 6, 224, 0]
def k0_off92 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1072 : Index := Scalar.indexCast v9
  let c7_527 : Index := 7#32
  let c224_528 : Index := 224#32
  let c0_529 : Index := 0#32
  ![v1072.toNat, 7, 224, 0]
def k0_off93 (i : grid0.Coords) : Fin 4 → Nat :=
  let c1_i32_3 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v10 : BitVec 32 := Scalar.subi c1_i32_3 v9
  let v1079 : Index := Scalar.indexCast v10
  let c0_532 : Index := 0#32
  let c0_533 : Index := 0#32
  let c0_534 : Index := 0#32
  ![v1079.toNat, 0, 0, 0]
def k0_off94 (i : grid0.Coords) : Fin 4 → Nat :=
  let c1_i32_3 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v10 : BitVec 32 := Scalar.subi c1_i32_3 v9
  let v1121 : Index := Scalar.indexCast v10
  let c1_566 : Index := 1#32
  let c0_567 : Index := 0#32
  let c0_568 : Index := 0#32
  ![v1121.toNat, 1, 0, 0]
def k0_off95 (i : grid0.Coords) : Fin 4 → Nat :=
  let c1_i32_3 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v10 : BitVec 32 := Scalar.subi c1_i32_3 v9
  let v1163 : Index := Scalar.indexCast v10
  let c2_600 : Index := 2#32
  let c0_601 : Index := 0#32
  let c0_602 : Index := 0#32
  ![v1163.toNat, 2, 0, 0]
def k0_off96 (i : grid0.Coords) : Fin 4 → Nat :=
  let c1_i32_3 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v10 : BitVec 32 := Scalar.subi c1_i32_3 v9
  let v1205 : Index := Scalar.indexCast v10
  let c3_634 : Index := 3#32
  let c0_635 : Index := 0#32
  let c0_636 : Index := 0#32
  ![v1205.toNat, 3, 0, 0]
def k0_off97 (i : grid0.Coords) : Fin 4 → Nat :=
  let c1_i32_3 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v10 : BitVec 32 := Scalar.subi c1_i32_3 v9
  let v1247 : Index := Scalar.indexCast v10
  let c4_668 : Index := 4#32
  let c0_669 : Index := 0#32
  let c0_670 : Index := 0#32
  ![v1247.toNat, 4, 0, 0]
def k0_off98 (i : grid0.Coords) : Fin 4 → Nat :=
  let c1_i32_3 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v10 : BitVec 32 := Scalar.subi c1_i32_3 v9
  let v1289 : Index := Scalar.indexCast v10
  let c5_702 : Index := 5#32
  let c0_703 : Index := 0#32
  let c0_704 : Index := 0#32
  ![v1289.toNat, 5, 0, 0]
def k0_off99 (i : grid0.Coords) : Fin 4 → Nat :=
  let c1_i32_3 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v10 : BitVec 32 := Scalar.subi c1_i32_3 v9
  let v1331 : Index := Scalar.indexCast v10
  let c6_736 : Index := 6#32
  let c0_737 : Index := 0#32
  let c0_738 : Index := 0#32
  ![v1331.toNat, 6, 0, 0]
def k0_off100 (i : grid0.Coords) : Fin 4 → Nat :=
  let c1_i32_3 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v10 : BitVec 32 := Scalar.subi c1_i32_3 v9
  let v1373 : Index := Scalar.indexCast v10
  let c7_770 : Index := 7#32
  let c0_771 : Index := 0#32
  let c0_772 : Index := 0#32
  ![v1373.toNat, 7, 0, 0]
def k0_off101 (i : grid0.Coords) : Fin 3 → Nat :=
  let c1_i32_3 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v10 : BitVec 32 := Scalar.subi c1_i32_3 v9
  let v1415 : Index := Scalar.indexCast v10
  let c0_804 : Index := 0#32
  let c0_805 : Index := 0#32
  ![v1415.toNat, 0, 0]
def k0_off102 (i : grid0.Coords) : Fin 4 → Nat :=
  let c1_i32_3 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v10 : BitVec 32 := Scalar.subi c1_i32_3 v9
  let v1420 : Index := Scalar.indexCast v10
  let c0_808 : Index := 0#32
  let c0_809 : Index := 0#32
  let c0_810 : Index := 0#32
  ![v1420.toNat, 0, 0, 0]
def k0_off103 (i : grid0.Coords) : Fin 4 → Nat :=
  let c1_i32_3 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v10 : BitVec 32 := Scalar.subi c1_i32_3 v9
  let v1433 : Index := Scalar.indexCast v10
  let c0_817 : Index := 0#32
  let c0_818 : Index := 0#32
  let c0_819 : Index := 0#32
  ![v1433.toNat, 0, 0, 0]
def k0_off104 (i : grid0.Coords) : Fin 3 → Nat :=
  let c1_i32_3 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v10 : BitVec 32 := Scalar.subi c1_i32_3 v9
  let v1482 : Index := Scalar.indexCast v10
  let c1_843 : Index := 1#32
  let c0_844 : Index := 0#32
  ![v1482.toNat, 1, 0]
def k0_off105 (i : grid0.Coords) : Fin 4 → Nat :=
  let c1_i32_3 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v10 : BitVec 32 := Scalar.subi c1_i32_3 v9
  let v1487 : Index := Scalar.indexCast v10
  let c1_847 : Index := 1#32
  let c0_848 : Index := 0#32
  let c0_849 : Index := 0#32
  ![v1487.toNat, 1, 0, 0]
def k0_off106 (i : grid0.Coords) : Fin 4 → Nat :=
  let c1_i32_3 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v10 : BitVec 32 := Scalar.subi c1_i32_3 v9
  let v1500 : Index := Scalar.indexCast v10
  let c1_856 : Index := 1#32
  let c0_857 : Index := 0#32
  let c0_858 : Index := 0#32
  ![v1500.toNat, 1, 0, 0]
def k0_off107 (i : grid0.Coords) : Fin 3 → Nat :=
  let c1_i32_3 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v10 : BitVec 32 := Scalar.subi c1_i32_3 v9
  let v1549 : Index := Scalar.indexCast v10
  let c2_882 : Index := 2#32
  let c0_883 : Index := 0#32
  ![v1549.toNat, 2, 0]
def k0_off108 (i : grid0.Coords) : Fin 4 → Nat :=
  let c1_i32_3 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v10 : BitVec 32 := Scalar.subi c1_i32_3 v9
  let v1554 : Index := Scalar.indexCast v10
  let c2_886 : Index := 2#32
  let c0_887 : Index := 0#32
  let c0_888 : Index := 0#32
  ![v1554.toNat, 2, 0, 0]
def k0_off109 (i : grid0.Coords) : Fin 4 → Nat :=
  let c1_i32_3 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v10 : BitVec 32 := Scalar.subi c1_i32_3 v9
  let v1567 : Index := Scalar.indexCast v10
  let c2_895 : Index := 2#32
  let c0_896 : Index := 0#32
  let c0_897 : Index := 0#32
  ![v1567.toNat, 2, 0, 0]
def k0_off110 (i : grid0.Coords) : Fin 3 → Nat :=
  let c1_i32_3 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v10 : BitVec 32 := Scalar.subi c1_i32_3 v9
  let v1616 : Index := Scalar.indexCast v10
  let c3_921 : Index := 3#32
  let c0_922 : Index := 0#32
  ![v1616.toNat, 3, 0]
def k0_off111 (i : grid0.Coords) : Fin 4 → Nat :=
  let c1_i32_3 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v10 : BitVec 32 := Scalar.subi c1_i32_3 v9
  let v1621 : Index := Scalar.indexCast v10
  let c3_925 : Index := 3#32
  let c0_926 : Index := 0#32
  let c0_927 : Index := 0#32
  ![v1621.toNat, 3, 0, 0]
def k0_off112 (i : grid0.Coords) : Fin 4 → Nat :=
  let c1_i32_3 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v10 : BitVec 32 := Scalar.subi c1_i32_3 v9
  let v1634 : Index := Scalar.indexCast v10
  let c3_934 : Index := 3#32
  let c0_935 : Index := 0#32
  let c0_936 : Index := 0#32
  ![v1634.toNat, 3, 0, 0]
def k0_off113 (i : grid0.Coords) : Fin 3 → Nat :=
  let c1_i32_3 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v10 : BitVec 32 := Scalar.subi c1_i32_3 v9
  let v1683 : Index := Scalar.indexCast v10
  let c4_960 : Index := 4#32
  let c0_961 : Index := 0#32
  ![v1683.toNat, 4, 0]
def k0_off114 (i : grid0.Coords) : Fin 4 → Nat :=
  let c1_i32_3 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v10 : BitVec 32 := Scalar.subi c1_i32_3 v9
  let v1688 : Index := Scalar.indexCast v10
  let c4_964 : Index := 4#32
  let c0_965 : Index := 0#32
  let c0_966 : Index := 0#32
  ![v1688.toNat, 4, 0, 0]
def k0_off115 (i : grid0.Coords) : Fin 4 → Nat :=
  let c1_i32_3 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v10 : BitVec 32 := Scalar.subi c1_i32_3 v9
  let v1701 : Index := Scalar.indexCast v10
  let c4_973 : Index := 4#32
  let c0_974 : Index := 0#32
  let c0_975 : Index := 0#32
  ![v1701.toNat, 4, 0, 0]
def k0_off116 (i : grid0.Coords) : Fin 3 → Nat :=
  let c1_i32_3 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v10 : BitVec 32 := Scalar.subi c1_i32_3 v9
  let v1750 : Index := Scalar.indexCast v10
  let c5_999 : Index := 5#32
  let c0_1000 : Index := 0#32
  ![v1750.toNat, 5, 0]
def k0_off117 (i : grid0.Coords) : Fin 4 → Nat :=
  let c1_i32_3 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v10 : BitVec 32 := Scalar.subi c1_i32_3 v9
  let v1755 : Index := Scalar.indexCast v10
  let c5_1003 : Index := 5#32
  let c0_1004 : Index := 0#32
  let c0_1005 : Index := 0#32
  ![v1755.toNat, 5, 0, 0]
def k0_off118 (i : grid0.Coords) : Fin 4 → Nat :=
  let c1_i32_3 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v10 : BitVec 32 := Scalar.subi c1_i32_3 v9
  let v1768 : Index := Scalar.indexCast v10
  let c5_1012 : Index := 5#32
  let c0_1013 : Index := 0#32
  let c0_1014 : Index := 0#32
  ![v1768.toNat, 5, 0, 0]
def k0_off119 (i : grid0.Coords) : Fin 3 → Nat :=
  let c1_i32_3 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v10 : BitVec 32 := Scalar.subi c1_i32_3 v9
  let v1817 : Index := Scalar.indexCast v10
  let c6_1038 : Index := 6#32
  let c0_1039 : Index := 0#32
  ![v1817.toNat, 6, 0]
def k0_off120 (i : grid0.Coords) : Fin 4 → Nat :=
  let c1_i32_3 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v10 : BitVec 32 := Scalar.subi c1_i32_3 v9
  let v1822 : Index := Scalar.indexCast v10
  let c6_1042 : Index := 6#32
  let c0_1043 : Index := 0#32
  let c0_1044 : Index := 0#32
  ![v1822.toNat, 6, 0, 0]
def k0_off121 (i : grid0.Coords) : Fin 4 → Nat :=
  let c1_i32_3 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v10 : BitVec 32 := Scalar.subi c1_i32_3 v9
  let v1835 : Index := Scalar.indexCast v10
  let c6_1051 : Index := 6#32
  let c0_1052 : Index := 0#32
  let c0_1053 : Index := 0#32
  ![v1835.toNat, 6, 0, 0]
def k0_off122 (i : grid0.Coords) : Fin 3 → Nat :=
  let c1_i32_3 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v10 : BitVec 32 := Scalar.subi c1_i32_3 v9
  let v1884 : Index := Scalar.indexCast v10
  let c7_1077 : Index := 7#32
  let c0_1078 : Index := 0#32
  ![v1884.toNat, 7, 0]
def k0_off123 (i : grid0.Coords) : Fin 4 → Nat :=
  let c1_i32_3 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v10 : BitVec 32 := Scalar.subi c1_i32_3 v9
  let v1889 : Index := Scalar.indexCast v10
  let c7_1081 : Index := 7#32
  let c0_1082 : Index := 0#32
  let c0_1083 : Index := 0#32
  ![v1889.toNat, 7, 0, 0]
def k0_off124 (i : grid0.Coords) : Fin 4 → Nat :=
  let c1_i32_3 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v10 : BitVec 32 := Scalar.subi c1_i32_3 v9
  let v1902 : Index := Scalar.indexCast v10
  let c7_1090 : Index := 7#32
  let c0_1091 : Index := 0#32
  let c0_1092 : Index := 0#32
  ![v1902.toNat, 7, 0, 0]
def cc0_transform_0 (i : grid0.Coords) : Fin 3 → Nat :=
  let arg0 : BitVec 32 := BitVec.ofNat 32 (i 0).val
  let c111_i32 : BitVec 32 := 111#32
  let v0 : BitVec 32 := Scalar.minsi arg0 c111_i32
  let c0_i32 : BitVec 32 := 0#32
  let c0_i32_0 : BitVec 32 := 0#32
  let c0_i32_1 : BitVec 32 := 0#32
  ![v0.toNat, c0_i32.toNat, c0_i32_0.toNat]

def cc0_transform_1 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_13 (i : grid0.Coords) : Fin 3 → Nat :=
  let arg0 : BitVec 32 := BitVec.ofNat 32 (i 0).val
  let c111_i32 : BitVec 32 := 111#32
  let v0 : BitVec 32 := Scalar.minsi arg0 c111_i32
  let c0_i32 : BitVec 32 := 0#32
  let c0_i32_0 : BitVec 32 := 0#32
  let c0_i32_1 : BitVec 32 := 0#32
  ![v0.toNat, c0_i32.toNat, c0_i32_0.toNat]

def cc0_transform_14 (i : grid0.Coords) : Fin 2 → Nat :=
  let arg0 : BitVec 32 := BitVec.ofNat 32 (i 0).val
  let c111_i32 : BitVec 32 := 111#32
  let v0 : BitVec 32 := Scalar.minsi arg0 c111_i32
  let c0_i32 : BitVec 32 := 0#32
  let c0_i32_0 : BitVec 32 := 0#32
  ![v0.toNat, c0_i32.toNat]

def cc0_transform_15 (i : grid0.Coords) : Fin 3 → Nat :=
  let arg0 : BitVec 32 := BitVec.ofNat 32 (i 0).val
  let c111_i32 : BitVec 32 := 111#32
  let v0 : BitVec 32 := Scalar.minsi arg0 c111_i32
  let c0_i32 : BitVec 32 := 0#32
  let c0_i32_0 : BitVec 32 := 0#32
  let c0_i32_1 : BitVec 32 := 0#32
  ![v0.toNat, c0_i32.toNat, c0_i32_0.toNat]

def cc0_transform_16 (i : grid0.Coords) : Fin 2 → Nat :=
  let arg0 : BitVec 32 := BitVec.ofNat 32 (i 0).val
  let c111_i32 : BitVec 32 := 111#32
  let v0 : BitVec 32 := Scalar.minsi arg0 c111_i32
  let c0_i32 : BitVec 32 := 0#32
  let c0_i32_0 : BitVec 32 := 0#32
  ![v0.toNat, c0_i32.toNat]

def cc0_transform_17 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_18 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S8x64x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x64x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x512x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S8x64x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S8x64x512 .i8 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S8x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S8x256x512 .i8 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S8x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S8x512x256 .i8 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S8x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== ReferenceIdeal.lean ====
abbrev S896x512x64 : Shape := ⟨3, ![896, 512, 64]⟩
abbrev S64 : Shape := ⟨1, ![64]⟩
abbrev S64x256 : Shape := ⟨2, ![64, 256]⟩
abbrev S256 : Shape := ⟨1, ![256]⟩
abbrev S256x64 : Shape := ⟨2, ![256, 64]⟩
abbrev S8x512x512 : Shape := ⟨3, ![8, 512, 512]⟩
abbrev S8x1x512 : Shape := ⟨3, ![8, 1, 512]⟩
abbrev S8x512 : Shape := ⟨2, ![8, 512]⟩
abbrev S896x512 : Shape := ⟨2, ![896, 512]⟩
abbrev S896x512x8x32 : Shape := ⟨4, ![896, 512, 8, 32]⟩
abbrev S896x8x32 : Shape := ⟨3, ![896, 8, 32]⟩
abbrev S896x512x256 : Shape := ⟨3, ![896, 512, 256]⟩
abbrev S896x512x1 : Shape := ⟨3, ![896, 512, 1]⟩
abbrev S1x1x64 : Shape := ⟨3, ![1, 1, 64]⟩
abbrev S1x1x256 : Shape := ⟨3, ![1, 1, 256]⟩
abbrev S896x1x8x32 : Shape := ⟨4, ![896, 1, 8, 32]⟩
abbrev S8x896x32x512 : Shape := ⟨4, ![8, 896, 32, 512]⟩
abbrev S512x8 : Shape := ⟨2, ![512, 8]⟩
abbrev S1x512x8x1 : Shape := ⟨4, ![1, 512, 8, 1]⟩

abbrev nBuf : Space → Nat
  | .hbm => 20
  | .vmem => 18
  | .smem => 0
  | _ => 0

abbrev bufTy : (tb : Table) → Fin (tcTables nBuf tb) → BufTy
  | .hbm, ⟨0, _⟩ => ⟨S896x512x64, .bf16⟩
  | .hbm, ⟨1, _⟩ => ⟨S64, .f32⟩
  | .hbm, ⟨2, _⟩ => ⟨S64, .f32⟩
  | .hbm, ⟨3, _⟩ => ⟨S64x256, .bf16⟩
  | .hbm, ⟨4, _⟩ => ⟨S256, .f32⟩
  | .hbm, ⟨5, _⟩ => ⟨S64x256, .bf16⟩
  | .hbm, ⟨6, _⟩ => ⟨S256, .f32⟩
  | .hbm, ⟨7, _⟩ => ⟨S256x64, .bf16⟩
  | .hbm, ⟨8, _⟩ => ⟨S64, .f32⟩
  | .hbm, ⟨9, _⟩ => ⟨S8x512x512, .bf16⟩
  | .hbm, ⟨10, _⟩ => ⟨S8x1x512, .f32⟩
  | .hbm, ⟨11, _⟩ => ⟨S8x512x512, .bf16⟩
  | .hbm, ⟨12, _⟩ => ⟨S8x512, .f32⟩
  | .hbm, ⟨13, _⟩ => ⟨S896x512x64, .bf16⟩
  | .hbm, ⟨14, _⟩ => ⟨S896x512x64, .i8⟩
  | .hbm, ⟨15, _⟩ => ⟨S896x512, .f32⟩
  | .hbm, ⟨16, _⟩ => ⟨S896x512x8x32, .i8⟩
  | .hbm, ⟨17, _⟩ => ⟨S896x8x32, .f32⟩
  | .hbm, ⟨18, _⟩ => ⟨S896x512x256, .i8⟩
  | .hbm, ⟨19, _⟩ => ⟨S896x512, .f32⟩
  | .local _ .vmem, ⟨0, _⟩ => ⟨S896x512x64, .bf16⟩
  | .local _ .vmem, ⟨1, _⟩ => ⟨S64, .f32⟩
  | .local _ .vmem, ⟨2, _⟩ => ⟨S64, .f32⟩
  | .local _ .vmem, ⟨3, _⟩ => ⟨S64x256, .bf16⟩
  | .local _ .vmem, ⟨4, _⟩ => ⟨S256, .f32⟩
  | .local _ .vmem, ⟨5, _⟩ => ⟨S64x256, .bf16⟩
  | .local _ .vmem, ⟨6, _⟩ => ⟨S256, .f32⟩
  | .local _ .vmem, ⟨7, _⟩ => ⟨S256x64, .bf16⟩
  | .local _ .vmem, ⟨8, _⟩ => ⟨S64, .f32⟩
  | .local _ .vmem, ⟨9, _⟩ => ⟨S8x512x512, .bf16⟩
  | .local _ .vmem, ⟨10, _⟩ => ⟨S8x512, .f32⟩
  | .local _ .vmem, ⟨11, _⟩ => ⟨S896x512x64, .bf16⟩
  | .local _ .vmem, ⟨12, _⟩ => ⟨S896x512x64, .i8⟩
  | .local _ .vmem, ⟨13, _⟩ => ⟨S896x512, .f32⟩
  | .local _ .vmem, ⟨14, _⟩ => ⟨S896x512x8x32, .i8⟩
  | .local _ .vmem, ⟨15, _⟩ => ⟨S896x8x32, .f32⟩
  | .local _ .vmem, ⟨16, _⟩ => ⟨S896x512x256, .i8⟩
  | .local _ .vmem, ⟨17, _⟩ => ⟨S896x512, .f32⟩
  | _, _ => ⟨S896x512x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2_0 : Ref sig .tc := ⟨.hbm, 13, rfl⟩
abbrev main_v2_1 : Ref sig .tc := ⟨.hbm, 14, rfl⟩
abbrev main_v2_2 : Ref sig .tc := ⟨.hbm, 15, rfl⟩
abbrev main_v2_3 : Ref sig .tc := ⟨.hbm, 16, rfl⟩
abbrev main_v2_4 : Ref sig .tc := ⟨.hbm, 17, rfl⟩
abbrev main_v2_5 : Ref sig .tc := ⟨.hbm, 18, rfl⟩
abbrev main_v2_6 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17

abbrev nD : Nat := 1
abbrev τ : Topo := Topo.v7x

variable {F : FTy → Type} [FloatOps F]

abbrev grid0 : Pipeline.Grid := .none

abbrev stage0_0 : Fin 1 → Memref sig .tc .vmem S896x512x64 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S256x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8x512x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S8x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S896x512x64 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S896x512x64 .i8 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S896x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S896x512x8x32 .i8 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S896x8x32 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S896x512x256 .i8 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S896x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
-- ==== Opm.lean ====
abbrev S32x512x896 : Shape := ⟨3, ![32, 512, 896]⟩
abbrev S32x896x512 : Shape := ⟨3, ![32, 896, 512]⟩
abbrev S32x512 : Shape := ⟨2, ![32, 512]⟩
abbrev S512x512 : Shape := ⟨2, ![512, 512]⟩
abbrev S512x512x128 : Shape := ⟨3, ![512, 512, 128]⟩
abbrev S1024x128 : Shape := ⟨2, ![1024, 128]⟩
abbrev S128 : Shape := ⟨1, ![128]⟩
abbrev S32x384 : Shape := ⟨2, ![32, 384]⟩
abbrev S512x32 : Shape := ⟨2, ![512, 32]⟩
abbrev S128x1024 : Shape := ⟨2, ![128, 1024]⟩
abbrev S128x1 : Shape := ⟨2, ![128, 1]⟩
abbrev S128x128 : Shape := ⟨2, ![128, 128]⟩
abbrev S512x512x1024 : Shape := ⟨3, ![512, 512, 1024]⟩
abbrev S512x32x512 : Shape := ⟨3, ![512, 32, 512]⟩
abbrev S8x512x512 : Shape := ⟨3, ![8, 512, 512]⟩
abbrev S32x16x896 : Shape := ⟨3, ![32, 16, 896]⟩
abbrev S32x896x128 : Shape := ⟨3, ![32, 896, 128]⟩
abbrev S32x128 : Shape := ⟨2, ![32, 128]⟩
abbrev S16x32 : Shape := ⟨2, ![16, 32]⟩
abbrev S16x128 : Shape := ⟨2, ![16, 128]⟩
abbrev S16x128x128 : Shape := ⟨3, ![16, 128, 128]⟩
abbrev S16x128x1024 : Shape := ⟨3, ![16, 128, 1024]⟩
abbrev S16x32x128 : Shape := ⟨3, ![16, 32, 128]⟩
abbrev S8x16x128 : Shape := ⟨3, ![8, 16, 128]⟩
abbrev S2x16448x128 : Shape := ⟨3, ![2, 16448, 128]⟩
abbrev S2x512x128 : Shape := ⟨3, ![2, 512, 128]⟩
abbrev S576x128 : Shape := ⟨2, ![576, 128]⟩
abbrev S16448x128 : Shape := ⟨2, ![16448, 128]⟩
abbrev S1x16448x128 : Shape := ⟨3, ![1, 16448, 128]⟩
abbrev S512x128 : Shape := ⟨2, ![512, 128]⟩
abbrev S1x512x128 : Shape := ⟨3, ![1, 512, 128]⟩
abbrev S512x896 : Shape := ⟨2, ![512, 896]⟩
abbrev S16x1 : Shape := ⟨2, ![16, 1]⟩
abbrev S1x896x128 : Shape := ⟨3, ![1, 896, 128]⟩
abbrev S896x128 : Shape := ⟨2, ![896, 128]⟩
abbrev S896x256 : Shape := ⟨2, ![896, 256]⟩
abbrev S512x256 : Shape := ⟨2, ![512, 256]⟩
abbrev S1x128 : Shape := ⟨2, ![1, 128]⟩
abbrev S1x32x128 : Shape := ⟨3, ![1, 32, 128]⟩
abbrev S1x128x128 : Shape := ⟨3, ![1, 128, 128]⟩
abbrev S1024x256 : Shape := ⟨2, ![1024, 256]⟩
abbrev S128x256 : Shape := ⟨2, ![128, 256]⟩
abbrev S384x128 : Shape := ⟨2, ![384, 128]⟩
abbrev S384x256 : Shape := ⟨2, ![384, 256]⟩
abbrev S32x256 : Shape := ⟨2, ![32, 256]⟩
abbrev S8x256 : Shape := ⟨2, ![8, 256]⟩
abbrev S8x128 : Shape := ⟨2, ![8, 128]⟩
abbrev S8x1x128 : Shape := ⟨3, ![8, 1, 128]⟩
abbrev S512x512x32 : Shape := ⟨3, ![512, 512, 32]⟩

abbrev nBuf : Space → Nat
  | .hbm => 27
  | .vmem => 30
  | .smem => 0
  | _ => 0

abbrev bufTy : (tb : Table) → Fin (tcTables nBuf tb) → BufTy
  | .hbm, ⟨0, _⟩ => ⟨S32x512x896, .bf16⟩
  | .hbm, ⟨1, _⟩ => ⟨S32x896x512, .bf16⟩
  | .hbm, ⟨2, _⟩ => ⟨S32x512, .f32⟩
  | .hbm, ⟨3, _⟩ => ⟨S32x512, .f32⟩
  | .hbm, ⟨4, _⟩ => ⟨S512x512, .f32⟩
  | .hbm, ⟨5, _⟩ => ⟨S512x512x128, .bf16⟩
  | .hbm, ⟨6, _⟩ => ⟨S1024x128, .bf16⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S32x384, .bf16⟩
  | .hbm, ⟨12, _⟩ => ⟨S512x32, .f32⟩
  | .hbm, ⟨13, _⟩ => ⟨S128x1024, .bf16⟩
  | .hbm, ⟨14, _⟩ => ⟨S128x1, .f32⟩
  | .hbm, ⟨15, _⟩ => ⟨S128x128, .f32⟩
  | .hbm, ⟨16, _⟩ => ⟨S128x1, .f32⟩
  | .hbm, ⟨17, _⟩ => ⟨S128x128, .f32⟩
  | .hbm, ⟨18, _⟩ => ⟨S128x1, .f32⟩
  | .hbm, ⟨19, _⟩ => ⟨S128x128, .f32⟩
  | .hbm, ⟨20, _⟩ => ⟨S128x1, .f32⟩
  | .hbm, ⟨21, _⟩ => ⟨S128x128, .f32⟩
  | .hbm, ⟨22, _⟩ => ⟨S512x512x1024, .fp8e4m3⟩
  | .hbm, ⟨23, _⟩ => ⟨S512x32x512, .f32⟩
  | .hbm, ⟨24, _⟩ => ⟨S512x512x128, .bf16⟩
  | .hbm, ⟨25, _⟩ => ⟨S8x512x512, .f32⟩
  | .hbm, ⟨26, _⟩ => ⟨S512x512x32, .f32⟩
  | .local _ .vmem, ⟨0, _⟩ => ⟨S32x16x896, .bf16⟩
  | .local _ .vmem, ⟨1, _⟩ => ⟨S32x16x896, .bf16⟩
  | .local _ .vmem, ⟨2, _⟩ => ⟨S32x896x128, .bf16⟩
  | .local _ .vmem, ⟨3, _⟩ => ⟨S32x896x128, .bf16⟩
  | .local _ .vmem, ⟨4, _⟩ => ⟨S32x128, .f32⟩
  | .local _ .vmem, ⟨5, _⟩ => ⟨S32x128, .f32⟩
  | .local _ .vmem, ⟨6, _⟩ => ⟨S16x32, .f32⟩
  | .local _ .vmem, ⟨7, _⟩ => ⟨S16x32, .f32⟩
  | .local _ .vmem, ⟨8, _⟩ => ⟨S16x128, .f32⟩
  | .local _ .vmem, ⟨9, _⟩ => ⟨S16x128, .f32⟩
  | .local _ .vmem, ⟨10, _⟩ => ⟨S16x128x128, .bf16⟩
  | .local _ .vmem, ⟨11, _⟩ => ⟨S16x128x128, .bf16⟩
  | .local _ .vmem, ⟨12, _⟩ => ⟨S128x1024, .bf16⟩
  | .local _ .vmem, ⟨13, _⟩ => ⟨S128x128, .f32⟩
  | .local _ .vmem, ⟨14, _⟩ => ⟨S128x128, .f32⟩
  | .local _ .vmem, ⟨15, _⟩ => ⟨S128x128, .f32⟩
  | .local _ .vmem, ⟨16, _⟩ => ⟨S128x128, .f32⟩
  | .local _ .vmem, ⟨17, _⟩ => ⟨S32x384, .bf16⟩
  | .local _ .vmem, ⟨18, _⟩ => ⟨S16x128x1024, .fp8e4m3⟩
  | .local _ .vmem, ⟨19, _⟩ => ⟨S16x128x1024, .fp8e4m3⟩
  | .local _ .vmem, ⟨20, _⟩ => ⟨S16x32x128, .f32⟩
  | .local _ .vmem, ⟨21, _⟩ => ⟨S16x32x128, .f32⟩
  | .local _ .vmem, ⟨22, _⟩ => ⟨S16x128x128, .bf16⟩
  | .local _ .vmem, ⟨23, _⟩ => ⟨S16x128x128, .bf16⟩
  | .local _ .vmem, ⟨24, _⟩ => ⟨S8x16x128, .f32⟩
  | .local _ .vmem, ⟨25, _⟩ => ⟨S8x16x128, .f32⟩
  | .local _ .vmem, ⟨26, _⟩ => ⟨S2x16448x128, .f32⟩
  | .local _ .vmem, ⟨27, _⟩ => ⟨S2x512x128, .f32⟩
  | .local _ .vmem, ⟨28, _⟩ => ⟨S576x128, .f32⟩
  | .local _ .vmem, ⟨29, _⟩ => ⟨S576x128, .f32⟩
  | _, _ => ⟨S32x512x896, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10_0 : Ref sig .tc := ⟨.hbm, 22, rfl⟩
abbrev main_v10_1 : Ref sig .tc := ⟨.hbm, 23, rfl⟩
abbrev main_v10_2 : Ref sig .tc := ⟨.hbm, 24, rfl⟩
abbrev main_v10_3 : Ref sig .tc := ⟨.hbm, 25, rfl⟩
abbrev main_v11 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25

abbrev nD : Nat := 1
abbrev τ : Topo := Topo.v7x

variable {F : FTy → Type} [FloatOps F]

abbrev grid0 : Pipeline.Grid := ⟨1, ![129], ![false]⟩

def k0_cond1 (i : grid0.Coords) : BitVec 1 :=
  let arg0 : BitVec 32 := BitVec.ofNat 32 (i 0).val
  let c0_i32_4 : BitVec 32 := 0#32
  let v11 : BitVec 1 := Scalar.cmpi .eq arg0 c0_i32_4
  let v12 : BitVec 32 := Scalar.extui v11
  let c0_i32_5 : BitVec 32 := 0#32
  let v13 : BitVec 1 := Scalar.cmpi .ne v12 c0_i32_5
  v13

def k0_off1 (i : grid0.Coords) : Fin 3 → Nat :=
  let c1_i32_3 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v10 : BitVec 32 := Scalar.subi c1_i32_3 v9
  let v17984 : Index := Scalar.indexCast v10
  let c0_9323 : Index := 0#32
  let c0_9324 : Index := 0#32
  ![v17984.toNat, 0, 0]
def k0_off2 (i : grid0.Coords) : Fin 3 → Nat :=
  let c1_i32_3 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v10 : BitVec 32 := Scalar.subi c1_i32_3 v9
  let v17989 : Index := Scalar.indexCast v10
  let c0_9326 : Index := 0#32
  let c0_9327 : Index := 0#32
  ![v17989.toNat, 0, 0]
def k0_off3 (i : grid0.Coords) : Fin 3 → Nat :=
  let c1_i32_3 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v10 : BitVec 32 := Scalar.subi c1_i32_3 v9
  let c0_i32_12 : BitVec 32 := 0#32
  let c0_i32_13 : BitVec 32 := 0#32
  ![v10.toNat, 0, 0]
def k0_off4 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1092 : Index := Scalar.indexCast v9
  let c0_441 : Index := 0#32
  let c0_442 : Index := 0#32
  ![v1092.toNat, 0, 0]
def k0_off5 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_443 : BitVec 32 := 0#32
  let c0_i32_444 : BitVec 32 := 0#32
  ![v9.toNat, 0, 0]
def k0_off6 (i : grid0.Coords) : Fin 3 → Nat :=
  let c1_i32_3 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v10 : BitVec 32 := Scalar.subi c1_i32_3 v9
  let c0_i32_866 : BitVec 32 := 0#32
  let c0_i32_867 : BitVec 32 := 0#32
  ![v10.toNat, 0, 0]
def cc0_transform_0 (i : grid0.Coords) : Fin 3 → Nat :=
  let arg0 : BitVec 32 := BitVec.ofNat 32 (i 0).val
  let c127_i32 : BitVec 32 := 127#32
  let v0 : BitVec 32 := Scalar.minsi arg0 c127_i32
  let c32_i32 : BitVec 32 := 32#32
  let c0_i32 : BitVec 32 := 0#32
  let v1 : BitVec 1 := Scalar.cmpi .eq c32_i32 c0_i32
  let c1_i32 : BitVec 32 := 1#32
  let v2 : BitVec 32 := Scalar.select v1 c1_i32 c32_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  let c0_i32_5 : BitVec 32 := 0#32
  ![c0_i32_3.toNat, v10.toNat, c0_i32_4.toNat]

def cc0_transform_1 (i : grid0.Coords) : Fin 3 → Nat :=
  let arg0 : BitVec 32 := BitVec.ofNat 32 (i 0).val
  let c127_i32 : BitVec 32 := 127#32
  let v0 : BitVec 32 := Scalar.minsi arg0 c127_i32
  let c32_i32 : BitVec 32 := 32#32
  let v1 : BitVec 32 := Scalar.divsi v0 c32_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi v0 c32_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![c0_i32_4.toNat, c0_i32_5.toNat, v17.toNat]

def cc0_transform_2 (i : grid0.Coords) : Fin 2 → Nat :=
  let arg0 : BitVec 32 := BitVec.ofNat 32 (i 0).val
  let c127_i32 : BitVec 32 := 127#32
  let v0 : BitVec 32 := Scalar.minsi arg0 c127_i32
  let c32_i32 : BitVec 32 := 32#32
  let v1 : BitVec 32 := Scalar.divsi v0 c32_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi v0 c32_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![c0_i32_4.toNat, v17.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c32_i32 : BitVec 32 := 32#32
  let c0_i32_0 : BitVec 32 := 0#32
  let v2 : BitVec 1 := Scalar.cmpi .eq c32_i32 c0_i32_0
  let c1_i32_1 : BitVec 32 := 1#32
  let v3 : BitVec 32 := Scalar.select v2 c1_i32_1 c32_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c0_i32_5 : BitVec 32 := 0#32
  let c0_i32_6 : BitVec 32 := 0#32
  ![v11.toNat, c0_i32_5.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c32_i32 : BitVec 32 := 32#32
  let c0_i32_0 : BitVec 32 := 0#32
  let v2 : BitVec 1 := Scalar.cmpi .eq c32_i32 c0_i32_0
  let c1_i32_1 : BitVec 32 := 1#32
  let v3 : BitVec 32 := Scalar.select v2 c1_i32_1 c32_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c1_i32_5 : BitVec 32 := 1#32
  let v12 : BitVec 32 := Scalar.subi arg0 c1_i32_5
  let c0_i32_6 : BitVec 32 := 0#32
  let v13 : BitVec 32 := Scalar.maxsi v12 c0_i32_6
  let c32_i32_7 : BitVec 32 := 32#32
  let v14 : BitVec 32 := Scalar.divsi v13 c32_i32_7
  let c0_i32_8 : BitVec 32 := 0#32
  let v15 : BitVec 1 := Scalar.cmpi .sgt v13 c0_i32_8
  let v16 : BitVec 32 := Scalar.extui v15
  let c0_i32_9 : BitVec 32 := 0#32
  let v17 : BitVec 1 := Scalar.cmpi .slt v13 c0_i32_9
  let v18 : BitVec 32 := Scalar.extui v17
  let v19 : BitVec 32 := Scalar.subi v16 v18
  let c0_i32_10 : BitVec 32 := 0#32
  let v20 : BitVec 1 := Scalar.cmpi .sgt c32_i32_7 c0_i32_10
  let v21 : BitVec 32 := Scalar.extui v20
  let c0_i32_11 : BitVec 32 := 0#32
  let v22 : BitVec 1 := Scalar.cmpi .slt c32_i32_7 c0_i32_11
  let v23 : BitVec 32 := Scalar.extui v22
  let v24 : BitVec 32 := Scalar.subi v21 v23
  let v25 : BitVec 1 := Scalar.cmpi .ne v19 v24
  let v26 : BitVec 32 := Scalar.remsi v13 c32_i32_7
  let c0_i32_12 : BitVec 32 := 0#32
  let v27 : BitVec 1 := Scalar.cmpi .ne v26 c0_i32_12
  let v28 : BitVec 1 := Scalar.andi v25 v27
  let c1_i32_13 : BitVec 32 := 1#32
  let v29 : BitVec 32 := Scalar.subi v14 c1_i32_13
  let v30 : BitVec 32 := Scalar.select v28 v29 v14
  let c0_i32_14 : BitVec 32 := 0#32
  ![v11.toNat, v30.toNat]

def cc0_transform_5 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c32_i32 : BitVec 32 := 32#32
  let c0_i32_0 : BitVec 32 := 0#32
  let v2 : BitVec 1 := Scalar.cmpi .eq c32_i32 c0_i32_0
  let c1_i32_1 : BitVec 32 := 1#32
  let v3 : BitVec 32 := Scalar.select v2 c1_i32_1 c32_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c1_i32_5 : BitVec 32 := 1#32
  let v12 : BitVec 32 := Scalar.subi arg0 c1_i32_5
  let c0_i32_6 : BitVec 32 := 0#32
  let v13 : BitVec 32 := Scalar.maxsi v12 c0_i32_6
  let c32_i32_7 : BitVec 32 := 32#32
  let v14 : BitVec 32 := Scalar.divsi v13 c32_i32_7
  let c0_i32_8 : BitVec 32 := 0#32
  let v15 : BitVec 1 := Scalar.cmpi .sgt v13 c0_i32_8
  let v16 : BitVec 32 := Scalar.extui v15
  let c0_i32_9 : BitVec 32 := 0#32
  let v17 : BitVec 1 := Scalar.cmpi .slt v13 c0_i32_9
  let v18 : BitVec 32 := Scalar.extui v17
  let v19 : BitVec 32 := Scalar.subi v16 v18
  let c0_i32_10 : BitVec 32 := 0#32
  let v20 : BitVec 1 := Scalar.cmpi .sgt c32_i32_7 c0_i32_10
  let v21 : BitVec 32 := Scalar.extui v20
  let c0_i32_11 : BitVec 32 := 0#32
  let v22 : BitVec 1 := Scalar.cmpi .slt c32_i32_7 c0_i32_11
  let v23 : BitVec 32 := Scalar.extui v22
  let v24 : BitVec 32 := Scalar.subi v21 v23
  let v25 : BitVec 1 := Scalar.cmpi .ne v19 v24
  let v26 : BitVec 32 := Scalar.remsi v13 c32_i32_7
  let c0_i32_12 : BitVec 32 := 0#32
  let v27 : BitVec 1 := Scalar.cmpi .ne v26 c0_i32_12
  let v28 : BitVec 1 := Scalar.andi v25 v27
  let c1_i32_13 : BitVec 32 := 1#32
  let v29 : BitVec 32 := Scalar.subi v14 c1_i32_13
  let v30 : BitVec 32 := Scalar.select v28 v29 v14
  let c0_i32_14 : BitVec 32 := 0#32
  let c0_i32_15 : BitVec 32 := 0#32
  ![v11.toNat, v30.toNat, c0_i32_14.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c32_i32 : BitVec 32 := 32#32
  let c0_i32_0 : BitVec 32 := 0#32
  let v2 : BitVec 1 := Scalar.cmpi .eq c32_i32 c0_i32_0
  let c1_i32_1 : BitVec 32 := 1#32
  let v3 : BitVec 32 := Scalar.select v2 c1_i32_1 c32_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c1_i32_5 : BitVec 32 := 1#32
  let v12 : BitVec 32 := Scalar.subi arg0 c1_i32_5
  let c0_i32_6 : BitVec 32 := 0#32
  let v13 : BitVec 32 := Scalar.maxsi v12 c0_i32_6
  let c32_i32_7 : BitVec 32 := 32#32
  let v14 : BitVec 32 := Scalar.divsi v13 c32_i32_7
  let c0_i32_8 : BitVec 32 := 0#32
  let v15 : BitVec 1 := Scalar.cmpi .sgt v13 c0_i32_8
  let v16 : BitVec 32 := Scalar.extui v15
  let c0_i32_9 : BitVec 32 := 0#32
  let v17 : BitVec 1 := Scalar.cmpi .slt v13 c0_i32_9
  let v18 : BitVec 32 := Scalar.extui v17
  let v19 : BitVec 32 := Scalar.subi v16 v18
  let c0_i32_10 : BitVec 32 := 0#32
  let v20 : BitVec 1 := Scalar.cmpi .sgt c32_i32_7 c0_i32_10
  let v21 : BitVec 32 := Scalar.extui v20
  let c0_i32_11 : BitVec 32 := 0#32
  let v22 : BitVec 1 := Scalar.cmpi .slt c32_i32_7 c0_i32_11
  let v23 : BitVec 32 := Scalar.extui v22
  let v24 : BitVec 32 := Scalar.subi v21 v23
  let v25 : BitVec 1 := Scalar.cmpi .ne v19 v24
  let v26 : BitVec 32 := Scalar.remsi v13 c32_i32_7
  let c0_i32_12 : BitVec 32 := 0#32
  let v27 : BitVec 1 := Scalar.cmpi .ne v26 c0_i32_12
  let v28 : BitVec 1 := Scalar.andi v25 v27
  let c1_i32_13 : BitVec 32 := 1#32
  let v29 : BitVec 32 := Scalar.subi v14 c1_i32_13
  let v30 : BitVec 32 := Scalar.select v28 v29 v14
  let c0_i32_14 : BitVec 32 := 0#32
  let c0_i32_15 : BitVec 32 := 0#32
  ![v11.toNat, v30.toNat, c0_i32_14.toNat]

def cc0_transform_13 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c32_i32 : BitVec 32 := 32#32
  let c0_i32_0 : BitVec 32 := 0#32
  let v2 : BitVec 1 := Scalar.cmpi .eq c32_i32 c0_i32_0
  let c1_i32_1 : BitVec 32 := 1#32
  let v3 : BitVec 32 := Scalar.select v2 c1_i32_1 c32_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c1_i32_5 : BitVec 32 := 1#32
  let v12 : BitVec 32 := Scalar.subi arg0 c1_i32_5
  let c0_i32_6 : BitVec 32 := 0#32
  let v13 : BitVec 32 := Scalar.maxsi v12 c0_i32_6
  let c32_i32_7 : BitVec 32 := 32#32
  let v14 : BitVec 32 := Scalar.divsi v13 c32_i32_7
  let c0_i32_8 : BitVec 32 := 0#32
  let v15 : BitVec 1 := Scalar.cmpi .sgt v13 c0_i32_8
  let v16 : BitVec 32 := Scalar.extui v15
  let c0_i32_9 : BitVec 32 := 0#32
  let v17 : BitVec 1 := Scalar.cmpi .slt v13 c0_i32_9
  let v18 : BitVec 32 := Scalar.extui v17
  let v19 : BitVec 32 := Scalar.subi v16 v18
  let c0_i32_10 : BitVec 32 := 0#32
  let v20 : BitVec 1 := Scalar.cmpi .sgt c32_i32_7 c0_i32_10
  let v21 : BitVec 32 := Scalar.extui v20
  let c0_i32_11 : BitVec 32 := 0#32
  let v22 : BitVec 1 := Scalar.cmpi .slt c32_i32_7 c0_i32_11
  let v23 : BitVec 32 := Scalar.extui v22
  let v24 : BitVec 32 := Scalar.subi v21 v23
  let v25 : BitVec 1 := Scalar.cmpi .ne v19 v24
  let v26 : BitVec 32 := Scalar.remsi v13 c32_i32_7
  let c0_i32_12 : BitVec 32 := 0#32
  let v27 : BitVec 1 := Scalar.cmpi .ne v26 c0_i32_12
  let v28 : BitVec 1 := Scalar.andi v25 v27
  let c1_i32_13 : BitVec 32 := 1#32
  let v29 : BitVec 32 := Scalar.subi v14 c1_i32_13
  let v30 : BitVec 32 := Scalar.select v28 v29 v14
  let c0_i32_14 : BitVec 32 := 0#32
  let c0_i32_15 : BitVec 32 := 0#32
  ![v11.toNat, c0_i32_14.toNat, v30.toNat]

def cc0_transform_14 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c32_i32 : BitVec 32 := 32#32
  let c0_i32_0 : BitVec 32 := 0#32
  let v2 : BitVec 1 := Scalar.cmpi .eq c32_i32 c0_i32_0
  let c1_i32_1 : BitVec 32 := 1#32
  let v3 : BitVec 32 := Scalar.select v2 c1_i32_1 c32_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c1_i32_5 : BitVec 32 := 1#32
  let v12 : BitVec 32 := Scalar.subi arg0 c1_i32_5
  let c0_i32_6 : BitVec 32 := 0#32
  let v13 : BitVec 32 := Scalar.maxsi v12 c0_i32_6
  let c32_i32_7 : BitVec 32 := 32#32
  let v14 : BitVec 32 := Scalar.divsi v13 c32_i32_7
  let c0_i32_8 : BitVec 32 := 0#32
  let v15 : BitVec 1 := Scalar.cmpi .sgt v13 c0_i32_8
  let v16 : BitVec 32 := Scalar.extui v15
  let c0_i32_9 : BitVec 32 := 0#32
  let v17 : BitVec 1 := Scalar.cmpi .slt v13 c0_i32_9
  let v18 : BitVec 32 := Scalar.extui v17
  let v19 : BitVec 32 := Scalar.subi v16 v18
  let c0_i32_10 : BitVec 32 := 0#32
  let v20 : BitVec 1 := Scalar.cmpi .sgt c32_i32_7 c0_i32_10
  let v21 : BitVec 32 := Scalar.extui v20
  let c0_i32_11 : BitVec 32 := 0#32
  let v22 : BitVec 1 := Scalar.cmpi .slt c32_i32_7 c0_i32_11
  let v23 : BitVec 32 := Scalar.extui v22
  let v24 : BitVec 32 := Scalar.subi v21 v23
  let v25 : BitVec 1 := Scalar.cmpi .ne v19 v24
  let v26 : BitVec 32 := Scalar.remsi v13 c32_i32_7
  let c0_i32_12 : BitVec 32 := 0#32
  let v27 : BitVec 1 := Scalar.cmpi .ne v26 c0_i32_12
  let v28 : BitVec 1 := Scalar.andi v25 v27
  let c1_i32_13 : BitVec 32 := 1#32
  let v29 : BitVec 32 := Scalar.subi v14 c1_i32_13
  let v30 : BitVec 32 := Scalar.select v28 v29 v14
  let c0_i32_14 : BitVec 32 := 0#32
  let c0_i32_15 : BitVec 32 := 0#32
  ![v11.toNat, v30.toNat, c0_i32_14.toNat]

def cc0_transform_15 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c32_i32 : BitVec 32 := 32#32
  let c0_i32_0 : BitVec 32 := 0#32
  let v2 : BitVec 1 := Scalar.cmpi .eq c32_i32 c0_i32_0
  let c1_i32_1 : BitVec 32 := 1#32
  let v3 : BitVec 32 := Scalar.select v2 c1_i32_1 c32_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c1_i32_5 : BitVec 32 := 1#32
  let v12 : BitVec 32 := Scalar.subi arg0 c1_i32_5
  let c0_i32_6 : BitVec 32 := 0#32
  let v13 : BitVec 32 := Scalar.maxsi v12 c0_i32_6
  let c32_i32_7 : BitVec 32 := 32#32
  let v14 : BitVec 32 := Scalar.divsi v13 c32_i32_7
  let c0_i32_8 : BitVec 32 := 0#32
  let v15 : BitVec 1 := Scalar.cmpi .sgt v13 c0_i32_8
  let v16 : BitVec 32 := Scalar.extui v15
  let c0_i32_9 : BitVec 32 := 0#32
  let v17 : BitVec 1 := Scalar.cmpi .slt v13 c0_i32_9
  let v18 : BitVec 32 := Scalar.extui v17
  let v19 : BitVec 32 := Scalar.subi v16 v18
  let c0_i32_10 : BitVec 32 := 0#32
  let v20 : BitVec 1 := Scalar.cmpi .sgt c32_i32_7 c0_i32_10
  let v21 : BitVec 32 := Scalar.extui v20
  let c0_i32_11 : BitVec 32 := 0#32
  let v22 : BitVec 1 := Scalar.cmpi .slt c32_i32_7 c0_i32_11
  let v23 : BitVec 32 := Scalar.extui v22
  let v24 : BitVec 32 := Scalar.subi v21 v23
  let v25 : BitVec 1 := Scalar.cmpi .ne v19 v24
  let v26 : BitVec 32 := Scalar.remsi v13 c32_i32_7
  let c0_i32_12 : BitVec 32 := 0#32
  let v27 : BitVec 1 := Scalar.cmpi .ne v26 c0_i32_12
  let v28 : BitVec 1 := Scalar.andi v25 v27
  let c1_i32_13 : BitVec 32 := 1#32
  let v29 : BitVec 32 := Scalar.subi v14 c1_i32_13
  let v30 : BitVec 32 := Scalar.select v28 v29 v14
  let c0_i32_14 : BitVec 32 := 0#32
  let c0_i32_15 : BitVec 32 := 0#32
  ![c0_i32_14.toNat, v11.toNat, v30.toNat]

abbrev stage0_0 : Fin 2 → Memref sig .tc .vmem S32x16x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x896x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S128x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S32x384 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S16x128x1024 .fp8e4m3 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S16x32x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S16x128x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S8x16x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== OpmReferenceIdeal.lean ====
abbrev S32x512x896 : Shape := ⟨3, ![32, 512, 896]⟩
abbrev S32x896x512 : Shape := ⟨3, ![32, 896, 512]⟩
abbrev S32x512 : Shape := ⟨2, ![32, 512]⟩
abbrev S512x512 : Shape := ⟨2, ![512, 512]⟩
abbrev S512x512x128 : Shape := ⟨3, ![512, 512, 128]⟩
abbrev S1024x128 : Shape := ⟨2, ![1024, 128]⟩
abbrev S128 : Shape := ⟨1, ![128]⟩
abbrev S32x384 : Shape := ⟨2, ![32, 384]⟩
abbrev S896x512x32 : Shape := ⟨3, ![896, 512, 32]⟩
abbrev S512x32 : Shape := ⟨2, ![512, 32]⟩
abbrev S512x512x1024 : Shape := ⟨3, ![512, 512, 1024]⟩
abbrev S512x512x32 : Shape := ⟨3, ![512, 512, 32]⟩
abbrev S512x32x512x32 : Shape := ⟨4, ![512, 32, 512, 32]⟩
abbrev S512x512x32x32 : Shape := ⟨4, ![512, 512, 32, 32]⟩
abbrev S512x1x32x1 : Shape := ⟨4, ![512, 1, 32, 1]⟩
abbrev S1x512x1x32 : Shape := ⟨4, ![1, 512, 1, 32]⟩
abbrev S512x512x1x1 : Shape := ⟨4, ![512, 512, 1, 1]⟩
abbrev S512x512x32x1 : Shape := ⟨4, ![512, 512, 32, 1]⟩
abbrev S1x1x128 : Shape := ⟨3, ![1, 1, 128]⟩

abbrev nBuf : Space → Nat
  | .hbm => 19
  | .vmem => 12
  | .smem => 0
  | _ => 0

abbrev bufTy : (tb : Table) → Fin (tcTables nBuf tb) → BufTy
  | .hbm, ⟨0, _⟩ => ⟨S32x512x896, .bf16⟩
  | .hbm, ⟨1, _⟩ => ⟨S32x896x512, .bf16⟩
  | .hbm, ⟨2, _⟩ => ⟨S32x512, .f32⟩
  | .hbm, ⟨3, _⟩ => ⟨S32x512, .f32⟩
  | .hbm, ⟨4, _⟩ => ⟨S512x512, .f32⟩
  | .hbm, ⟨5, _⟩ => ⟨S512x512x128, .bf16⟩
  | .hbm, ⟨6, _⟩ => ⟨S1024x128, .bf16⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S32x384, .bf16⟩
  | .hbm, ⟨12, _⟩ => ⟨S896x512x32, .bf16⟩
  | .hbm, ⟨13, _⟩ => ⟨S896x512x32, .bf16⟩
  | .hbm, ⟨14, _⟩ => ⟨S512x32, .f32⟩
  | .hbm, ⟨15, _⟩ => ⟨S512x32, .f32⟩
  | .hbm, ⟨16, _⟩ => ⟨S512x512x1024, .fp8e4m3⟩
  | .hbm, ⟨17, _⟩ => ⟨S512x512x32, .f32⟩
  | .hbm, ⟨18, _⟩ => ⟨S512x512x128, .bf16⟩
  | .local _ .vmem, ⟨0, _⟩ => ⟨S896x512x32, .bf16⟩
  | .local _ .vmem, ⟨1, _⟩ => ⟨S896x512x32, .bf16⟩
  | .local _ .vmem, ⟨2, _⟩ => ⟨S512x32, .f32⟩
  | .local _ .vmem, ⟨3, _⟩ => ⟨S512x32, .f32⟩
  | .local _ .vmem, ⟨4, _⟩ => ⟨S512x512, .f32⟩
  | .local _ .vmem, ⟨5, _⟩ => ⟨S512x512x128, .bf16⟩
  | .local _ .vmem, ⟨6, _⟩ => ⟨S1024x128, .bf16⟩
  | .local _ .vmem, ⟨7, _⟩ => ⟨S128, .f32⟩
  | .local _ .vmem, ⟨8, _⟩ => ⟨S128, .f32⟩
  | .local _ .vmem, ⟨9, _⟩ => ⟨S512x512x1024, .fp8e4m3⟩
  | .local _ .vmem, ⟨10, _⟩ => ⟨S512x512x32, .f32⟩
  | .local _ .vmem, ⟨11, _⟩ => ⟨S512x512x128, .bf16⟩
  | _, _ => ⟨S32x512x896, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4_0 : Ref sig .tc := ⟨.hbm, 16, rfl⟩
abbrev main_v4_1 : Ref sig .tc := ⟨.hbm, 17, rfl⟩
abbrev main_v4_2 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S896x512x32 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S896x512x32 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x512x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S512x512x1024 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S512x512x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S512x512x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.Scalars.lean ====
/-
  Facts about the numbers of the idealized programs, the extended reals: multiplying by a reciprocal is
  dividing, a rounded and clipped number survives the conversion to a byte and back, and the largest
  magnitude of scaled numbers is the scaled largest magnitude.
-/
module

public import Idealize.ShloMosaic.Lib.Pointwise

@[expose] public section

noncomputable section

namespace Cert.Pwa

open Idealize.ShloMosaic

/-- The number 127, as the programs' word for it. -/
abbrev c127 : EReal := Ideal.ofBits .f32 0x42FE0000#32
/-- The number -127. -/
abbrev cm127 : EReal := Ideal.ofBits .f32 0xC2FE0000#32

theorem c127_eq : c127 = ((127 : ℝ) : EReal) := by
  simp [c127, Ideal.ofBits, Ideal.ieee, -EReal.coe_mul]; norm_num

theorem cm127_eq : cm127 = ((-127 : ℝ) : EReal) := by
  simp [cm127, Ideal.ofBits, Ideal.ieee, -EReal.coe_mul, -EReal.coe_neg]; norm_num

theorem c64_eq : Ideal.ofBits .f32 0x42800000#32 = ((64 : ℝ) : EReal) := by
  simp [Ideal.ofBits, Ideal.ieee, -EReal.coe_mul]; norm_num

theorem ceps_pos : 0 < Ideal.ofBits .f32 0x3727C5AC#32 := by
  simp [Ideal.ofBits, Ideal.ieee, -EReal.coe_mul]

theorem minf_eq : Ideal.ofBits .f32 0xFF800000#32 = ⊥ := by
  simp [Ideal.ofBits, Ideal.ieee]

theorem sitofp_127 : (((127#32 : BitVec 32).toInt : ℝ) : EReal) = c127 := by
  rw [c127_eq]
  have : (127#32 : BitVec 32).toInt = 127 := by decide
  rw [this]; norm_num

theorem sitofp_m127 : (((4294967169#32 : BitVec 32).toInt : ℝ) : EReal) = cm127 := by
  rw [cm127_eq]
  have : (4294967169#32 : BitVec 32).toInt = -127 := by decide
  rw [this]; norm_num

theorem absf_eq {φ : FTy} (x : Ideal φ) : FloatOps.absf x = max (x : EReal) (-x) := rfl

theorem fptosi_eq {φ : FTy} (w : Nat) (x : Ideal φ) : FloatOps.fptosi w x = Ideal.fptosi w x := rfl

/-! ## Dividing -/

/-- Off zero, multiplying by the reciprocal is dividing. -/
theorem mul_recip {s : EReal} (hs : s ≠ 0) (x : EReal) : x * Ideal.div 1 s = Ideal.div x s := by
  simp [Ideal.div, hs]

/-- Off zero, a factor may be taken into the quotient. -/
theorem mul_div {s : EReal} (hs : s ≠ 0) (x y : EReal) : x * Ideal.div y s = Ideal.div (x * y) s := by
  simp [Ideal.div, hs, mul_assoc]

/-- The scale of numbers of largest magnitude `a`: `a / 127`, and one where `a` is not positive. -/
def scl (a : EReal) : EReal := Scalar.select (Ideal.cmp .ogt a 0) (Ideal.div a c127) 1

theorem scl_ne_zero (a : EReal) : scl a ≠ 0 := by
  unfold scl
  by_cases h : 0 < a
  · have : Ideal.cmp .ogt a 0 = 1#1 := by simp [Ideal.cmp, h]
    rw [this]
    show Ideal.div a c127 ≠ 0
    rw [c127_eq, Ideal.div_coe (by norm_num)]
    have h2 : (0 : EReal) < ((1 / 127 : ℝ) : EReal) := by exact_mod_cast (by norm_num : (0 : ℝ) < 1 / 127)
    exact ne_of_gt (EReal.mul_pos h h2)
  · have : Ideal.cmp .ogt a 0 = 0#1 := by simp [Ideal.cmp, h]
    rw [this]
    show (1 : EReal) ≠ 0
    exact one_ne_zero

/-! ## Rounding and clipping -/

/-- Round to the nearest integer and clip to `[-127, 127]`. -/
def rc (x : EReal) : EReal := min c127 (max cm127 (Ideal.liftRound Ideal.roundHalfEven x))

theorem rc_int (x : EReal) : ∃ n : ℤ, -127 ≤ n ∧ n ≤ 127 ∧ rc x = ((n : ℝ) : EReal) := by
  have key : ∀ n : ℤ, min c127 (max cm127 (((n : ℝ)) : EReal)) = (((min 127 (max (-127) n) : ℤ) : ℝ) : EReal) := by
    intro n
    rw [c127_eq, cm127_eq]
    push_cast
    rfl
  induction x with
  | bot => exact ⟨-127, by norm_num, by norm_num, by
      rw [rc, Ideal.liftRound_bot, max_eq_left bot_le, c127_eq, cm127_eq, min_eq_right (by exact_mod_cast (by norm_num : (-127 : ℝ) ≤ 127))]; norm_num⟩
  | top => exact ⟨127, by norm_num, by norm_num, by simp [rc, c127_eq]⟩
  | coe r => exact ⟨min 127 (max (-127) (Ideal.roundHalfEven r)), by omega, by omega, by rw [rc, Ideal.liftRound_coe, key]⟩

/-- A rounded and clipped number survives the conversion to a signed byte and back. -/
theorem sitofp_fptosi_rc (x : EReal) : (((Ideal.fptosi 8 (rc x)).toInt : ℝ) : EReal) = rc x := by
  obtain ⟨n, h1, h2, h⟩ := rc_int x
  have h3 : Ideal.fptosi 8 (rc x) = BitVec.ofInt 8 n := by
    rw [h, Ideal.fptosi, Ideal.toIntClamped_coe]
    congr 1
    have hf : (⌊(n : ℝ)⌋ : ℤ) = n := Int.floor_intCast n
    have hc : (⌈(n : ℝ)⌉ : ℤ) = n := Int.ceil_intCast n
    rw [hf, hc, ite_self]
    norm_num
    omega
  rw [h3, h]
  have : (BitVec.ofInt 8 n).toInt = n := by
    rw [BitVec.toInt_ofInt]
    rw [Int.bmod_eq_of_le] <;> norm_num <;> omega
  rw [this]

/-! ## Largest magnitudes -/

/-- The largest magnitude of a family. -/
def mag {n : Nat} (f : Fin n → EReal) : EReal := Finset.univ.fold max ⊥ fun i => max (f i) (-(f i))

theorem abs_mul (x y : EReal) : max (x * y) (-(x * y)) = max x (-x) * max y (-y) := by
  have h : ∀ a : EReal, max a (-a) = ((a.abs : ENNReal) : EReal) := by
    intro a
    induction a with
    | bot => simp
    | top => simp
    | coe r =>
      rw [EReal.coe_abs, ← EReal.coe_neg]
      exact (EReal.coe_strictMono.monotone.map_max (a := r) (b := -r)).symm
  rw [h, h, h, EReal.abs_mul, EReal.coe_ennreal_mul]

theorem abs_nonneg (y : EReal) : 0 ≤ max y (-y) := by
  rcases le_total 0 y with h | h
  · exact le_max_of_le_left h
  · exact le_max_of_le_right (by simpa using h)

theorem mag_mul {n : Nat} [NeZero n] (f : Fin n → EReal) (w : EReal) : mag (fun i => f i * w) = mag f * max w (-w) := by
  have hs : ∀ g : Fin n → EReal, Finset.univ.fold max ⊥ g = Finset.univ.sup' Finset.univ_nonempty g := by
    intro g
    exact (Finset.sup'_eq_sup Finset.univ_nonempty g).symm
  unfold mag
  rw [hs, hs]
  have hm : Monotone fun x : EReal => x * max w (-w) := fun a b hab => mul_le_mul_of_nonneg_right hab (abs_nonneg w)
  have := Finset.comp_sup'_eq_sup'_comp (s := (Finset.univ : Finset (Fin n))) Finset.univ_nonempty
    (f := fun i => max (f i) (-(f i))) (fun x : EReal => x * max w (-w)) (fun a b => hm.map_sup a b)
  rw [this]
  congr 1
  funext i
  exact abs_mul _ _

end Cert.Pwa
-- ==== Proof.Spec.lean ====
/-
  The mathematics of the block over the extended reals, for one sequence: layer norm, int8 coding, the
  value and gate projections, the weighted average over positions, the gate, the output projection.
-/
module

public import proofs.«01_k».proof.Proof.Scalars

@[expose] public section

noncomputable section

namespace Cert.Pwa

open Idealize.ShloMosaic

/-- The mean of the 64 channels. -/
def mean (x : Fin 64 → EReal) : EReal := Ideal.div (∑ c, x c) (Ideal.ofBits .f32 0x42800000#32)

/-- The standard deviation of the 64 channels. -/
def dev (x : Fin 64 → EReal) : EReal :=
  Ideal.sqrt (mean (fun c => (x c - mean x) * (x c - mean x)) + Ideal.ofBits .f32 0x3727C5AC#32)

/-- Layer norm. -/
def nrm (x g b : Fin 64 → EReal) (c : Fin 64) : EReal := Ideal.div (x c - mean x) (dev x) * g c + b c

/-- The scale of the normed channels. -/
def xsc (x g b : Fin 64 → EReal) : EReal := scl (mag (nrm x g b))

/-- The codes of the normed channels. -/
def xcd (x g b : Fin 64 → EReal) (c : Fin 64) : EReal := rc (Ideal.div (nrm x g b c) (xsc x g b))

/-- The layer norm's and the projections' parameters and the averaging weights. -/
structure Params where
  g : Fin 64 → EReal
  b : Fin 64 → EReal
  wv : Fin 64 → Fin 256 → EReal
  wvs : Fin 256 → EReal
  wg : Fin 64 → Fin 256 → EReal
  wgs : Fin 256 → EReal
  wo : Fin 256 → Fin 64 → EReal
  wos : Fin 64 → EReal
  wt : Fin 8 → Fin 512 → Fin 512 → EReal
  fac : Fin 8 → Fin 512 → EReal

/-- The head of a value channel. -/
def hd (k : Fin 256) : Fin 8 := ⟨k.val / 32, by omega⟩

variable (p : Params) (M : Fin 512 → Fin 64 → EReal)

/-- A projection of the codes of position `n`, before the weights' scale. -/
def prj (w : Fin 64 → Fin 256 → EReal) (n : Fin 512) (k : Fin 256) : EReal :=
  (∑ c, xcd (M n) p.g p.b c * w c k) * xsc (M n) p.g p.b

/-- The values. -/
def val (n : Fin 512) (k : Fin 256) : EReal := prj p M p.wv n k * p.wvs k

/-- The channel of a head's element. -/
abbrev joined (h : Fin 8) (c : Fin 32) : Fin 256 := ⟨32 * h.val + c.val, by omega⟩

/-- The scale of value channel `k` over the positions. -/
def vsc (k : Fin 256) : EReal := scl (mag fun n => val p M n k)

/-- The codes of the values. -/
def vcd (n : Fin 512) (k : Fin 256) : EReal := rc (Ideal.div (val p M n k) (vsc p M k))

/-- The gate. -/
def gat (n : Fin 512) (k : Fin 256) : EReal := Ideal.logistic (prj p M p.wg n k * p.wgs k)

/-- The gated average. -/
def avg (n : Fin 512) (k : Fin 256) : EReal :=
  gat p M n k * ((∑ j, vcd p M j k * p.wt (hd k) j n) * vsc p M k * p.fac (hd k) n)

/-- The scale of the gated average at position `n`. -/
def asc (n : Fin 512) : EReal := scl (mag (avg p M n))

/-- The codes of the gated average. -/
def acd (n : Fin 512) (k : Fin 256) : EReal := rc (Ideal.div (avg p M n k) (asc p M n))

/-- The updated `m`. -/
def upd (n : Fin 512) (c : Fin 64) : EReal := M n c + (∑ k, acd p M n k * p.wo k c) * asc p M n * p.wos c

/-! ## Two nonzero divisors -/

theorem dev_ne_zero (x : Fin 64 → EReal) : dev x ≠ 0 := by
  have hsq : ∀ y : EReal, 0 ≤ y * y := fun y => by
    rcases le_total 0 y with h | h
    · exact mul_nonneg h h
    · rw [← neg_mul_neg]; exact mul_nonneg (by simpa using h) (by simpa using h)
  have hm : 0 ≤ mean (fun c => (x c - mean x) * (x c - mean x)) := by
    unfold mean
    rw [c64_eq, Ideal.div_coe (by norm_num)]
    exact mul_nonneg (Finset.sum_nonneg fun c _ => hsq _) (by exact_mod_cast (by norm_num : (0 : ℝ) ≤ 1 / 64))
  have hp : 0 < mean (fun c => (x c - mean x) * (x c - mean x)) + Ideal.ofBits .f32 0x3727C5AC#32 :=
    lt_of_lt_of_le ceps_pos (le_add_of_nonneg_left hm)
  unfold dev
  generalize mean (fun c => (x c - mean x) * (x c - mean x)) + Ideal.ofBits .f32 0x3727C5AC#32 = y at hp
  induction y with
  | bot => simp at hp
  | top => simp
  | coe r =>
    have hr : 0 < r := by exact_mod_cast hp
    rw [Ideal.sqrt_coe, if_neg (not_lt.mpr hr.le)]
    exact_mod_cast (Real.sqrt_pos.mpr hr).ne'

end Cert.Pwa
-- ==== Proof.Tile.lean ====
/-
  What one step of the kernel computes from the arrays it loads, tile by tile: pure functions, in the
  kernel's own operations and order.
-/
module

public import proofs.«01_k».proof.Kernel

@[expose] public section

noncomputable section

namespace Cert.Pwa

open Idealize.ShloMosaic Idealize.SL.Sem
open Cert.Kernel
open Cert.Kernel.Facts₀ Cert.Kernel.Facts

variable {F : FTy → Type} [FloatOps F] [Cert.Kernel.Facts]

/-- The scale of rows whose largest magnitude is `a`: `a / 127`, and one for a row of zeros. -/
def scaleOf {s : Shape} (a : FVec F s .f32) : FVec F s .f32 :=
  select (cmpf .ogt a (broadcast s (Scalar.ofBits .f32 0x00000000#32))) (divf a (broadcast s (Scalar.ofBits .f32 0x42FE0000#32)))
    (broadcast s (Scalar.ofBits .f32 0x3F800000#32))

/-- Round to an integer and clip to `[-127, 127]`. -/
def roundClip {s : Shape} (x : FVec F s .f32) : FVec F s .f32 :=
  minimumf (broadcast s (Scalar.ofBits .f32 0x42FE0000#32)) (maximumf (broadcast s (Scalar.ofBits .f32 0xC2FE0000#32)) (roundeven x))

/-- One over an array. -/
def recip {s : Shape} (x : FVec F s .f32) : FVec F s .f32 := divf (broadcast s (Scalar.ofBits .f32 0x3F800000#32)) x

/-- A lane-broadcast column repeated to all columns. -/
def spread (w : FVec F S64x128 .f32) : FVec F S64x512 .f32 :=
  concatenate S64x512 1 [⟨S64x128, shapeCast S64x128 w shapeCasts_S64x128_S64x128⟩, ⟨S64x128, shapeCast S64x128 w shapeCasts_S64x128_S64x128⟩,
    ⟨S64x128, shapeCast S64x128 w shapeCasts_S64x128_S64x128⟩, ⟨S64x128, shapeCast S64x128 w shapeCasts_S64x128_S64x128⟩]
    concatenates_S64x128_S64x128_S64x128_S64x128_S64x512_d1

/-- The mean of each column. -/
def colMean (x : FVec F S64x512 .f32) : FVec F S1x512 .f32 :=
  divf (shapeCast S1x512 (multiReduction .add [0] S512 x 0x00000000#32 reduces_S64x512_S512 (.inl rfl) rfl) shapeCasts_S512_S1x512)
    (broadcast S1x512 (Scalar.ofBits .f32 0x42800000#32))

/-- A loaded block of `m`, in f32. -/
def widen (m : FVec F S1x64x512 .bf16) : FVec F S64x512 .f32 := extf .f32 (shapeCast S64x512 m shapeCasts_S1x64x512_S64x512) bitsLt_bf16_f32

/-- The columns with their means taken off. -/
def centred (m : FVec F S1x64x512 .bf16) : FVec F S64x512 .f32 :=
  subf (widen m) (broadcastTo S64x512 (colMean (widen m)) broadcasts_S1x512_S64x512)

/-- The standard deviation of each column. -/
def deviation (m : FVec F S1x64x512 .bf16) : FVec F S1x512 .f32 :=
  sqrt (addf (colMean (mulf (centred m) (centred m))) (broadcast S1x512 (Scalar.ofBits .f32 0x3727C5AC#32)))

/-- The layer norm of the columns. -/
def normed (g b : FVec F S64x512 .f32) (m : FVec F S1x64x512 .bf16) : FVec F S64x512 .f32 :=
  addf (mulf (mulf (centred m) (broadcastTo S64x512 (recip (deviation m)) broadcasts_S1x512_S64x512)) g) b

/-- The largest magnitude of each column, 64 rows. -/
def colMax64 (x : FVec F S64x512 .f32) : FVec F S1x512 .f32 :=
  shapeCast S1x512 (multiReduction .maximumf [0] S512 (absf x) 0xFF800000#32 reduces_S64x512_S512 (.inl rfl) rfl) shapeCasts_S512_S1x512

/-- The largest magnitude of each column, 256 rows. -/
def colMax256 (x : FVec F S256x512 .f32) : FVec F S1x512 .f32 :=
  shapeCast S1x512 (multiReduction .maximumf [0] S512 (absf x) 0xFF800000#32 reduces_S256x512_S512 (.inl rfl) rfl) shapeCasts_S512_S1x512

/-- The scales of the normed block. -/
def xScale (g b : FVec F S64x512 .f32) (m : FVec F S1x64x512 .bf16) : FVec F S1x512 .f32 := scaleOf (colMax64 (normed g b m))

/-- The codes of the normed block, as f32. -/
def xCode (g b : FVec F S64x512 .f32) (m : FVec F S1x64x512 .bf16) : FVec F S64x512 .f32 :=
  roundClip (mulf (normed g b m) (broadcastTo S64x512 (recip (xScale g b m)) broadcasts_S1x512_S64x512))

/-- The codes of the normed block, as bf16. -/
def xLow (g b : FVec F S64x512 .f32) (m : FVec F S1x64x512 .bf16) : FVec F S64x512 .bf16 := truncf .bf16 (xCode g b m) bitsLt_bf16_f32

/-- A projection of coded columns, scaled back by the columns' scales. -/
def project (w : FVec F S256x64 .bf16) (x : FVec F S64x512 .bf16) (xs : FVec F S1x512 .f32) : FVec F S256x512 .f32 :=
  mulf (matmul dot_S256x64_S64x512_S256x512_1_0_0_1_n_n none (shapeCast S256x64 w shapeCasts_S256x64_S256x64) x
    (constant S256x512 .f32 0x00000000#32)) (broadcastTo S256x512 xs broadcasts_S1x512_S256x512)

/-- The scales of the projected rows: the rows' largest magnitude times the weight scales' magnitude. -/
def vScale (u : FVec F S256x512 .f32) (ws : FVec F S256x1 .f32) : FVec F S256x1 .f32 :=
  scaleOf (mulf (shapeCast S256x1 (multiReduction .maximumf [1] S256 (absf u) 0xFF800000#32 reduces_S256x512_S256 (.inl rfl) rfl)
    shapeCasts_S256_S256x1) (absf (shapeCast S256x1 ws shapeCasts_S256x1_S256x1)))

/-- The codes of the projected rows, as f32. -/
def vCode (u : FVec F S256x512 .f32) (ws : FVec F S256x1 .f32) : FVec F S256x512 .f32 :=
  roundClip (mulf u (broadcastTo S256x512 (divf (shapeCast S256x1 ws shapeCasts_S256x1_S256x1) (vScale u ws)) broadcasts_S256x1_S256x512))

/-- The codes of the projected rows, as bf16. -/
def vLow (u : FVec F S256x512 .f32) (ws : FVec F S256x1 .f32) : FVec F S256x512 .bf16 := truncf .bf16 (vCode u ws) bitsLt_bf16_f32

/-- The scales broadcast along the lanes. -/
def lanes (s : FVec F S256x1 .f32) : FVec F S256x128 .f32 :=
  broadcastTo S256x128 (shapeCast S256x1 s shapeCasts_S256x1_S256x1) broadcasts_S256x1_S256x128

theorem slices32 (h : Fin 8) : S256x512.Slices ![32 * h.val, 0] S32x512 := by
  refine ⟨rfl, fun a => ?_⟩
  have := h.isLt
  fin_cases a
  · show 32 * h.val + 32 ≤ 256; omega
  · show 0 + 512 ≤ 512; omega

/-- Rows `32h … 32h+31`. -/
def rows32 {α : Type} (h : Fin 8) (x : S256x512.Idx → α) : S32x512.Idx → α := extractStridedSlice S32x512 ![32 * h.val, 0] x (slices32 h)

/-- One head's weighted average of eight sequences' codes, scaled by the head's factors. -/
def averaged (v : FVec F S1x1x256x512 .bf16) (wt : FVec F S1x512x512 .bf16) (fac : FVec F S1x1x512 .f32) : FVec F S256x512 .f32 :=
  mulf (matmul dot_S256x512_S512x512_S256x512_1_0_0_1_n_n none (shapeCast S256x512 v shapeCasts_S1x1x256x512_S256x512)
      (shapeCast S512x512 wt shapeCasts_S1x512x512_S512x512) (constant S256x512 .f32 0x00000000#32))
    (broadcastTo S256x512 (shapeCast S1x512 fac shapeCasts_S1x1x512_S1x512) broadcasts_S1x512_S256x512)

/-- The gate of one sequence. -/
def gate (xs : FVec F S1x1x512 .f32) (wg : FVec F S256x64 .bf16) (xb : FVec F S1x1x64x512 .bf16) (wgs : FVec F S256x1 .f32) : FVec F S256x512 .f32 :=
  logistic (mulf (project wg (shapeCast S64x512 xb shapeCasts_S1x1x64x512_S64x512) (shapeCast S1x512 xs shapeCasts_S1x1x512_S1x512))
    (broadcastTo S256x512 (shapeCast S256x1 wgs shapeCasts_S256x1_S256x1) broadcasts_S256x1_S256x512))

/-- The gated average of one sequence. -/
def gated (gt : FVec F S256x512 .f32) (og : FVec F S1x256x512 .f32) (vsc : FVec F S1x1x256x128 .f32) : FVec F S256x512 .f32 :=
  mulf gt (mulf (shapeCast S256x512 og shapeCasts_S1x256x512_S256x512)
    (broadcastTo S256x512 (extractStridedSlice S256x1 ![0, 0] (shapeCast S256x128 vsc shapeCasts_S1x1x256x128_S256x128) slices_S256x128_o0_0_S256x1)
      broadcasts_S256x1_S256x512))

/-- The scales of the gated average. -/
def ogScale (o : FVec F S256x512 .f32) : FVec F S1x512 .f32 := scaleOf (colMax256 o)

/-- The codes of the gated average, as f32. -/
def ogCode (o : FVec F S256x512 .f32) : FVec F S256x512 .f32 :=
  roundClip (mulf o (broadcastTo S256x512 (recip (ogScale o)) broadcasts_S1x512_S256x512))

/-- The codes of the gated average, with sequence positions as rows. -/
def ogRows (o : FVec F S256x512 .f32) : IVec S512x256 8 := transpose S512x256 [1, 0] (fptosi 8 (ogCode o)) transposes_S256x512_p1_0_S512x256

/-- The block of the updated `m`. -/
def updated (o : FVec F S256x512 .f32) (wo : FVec F S64x256 .bf16) (wos : FVec F S64x1 .f32) (mp : FVec F S1x64x512 .bf16) : FVec F S64x512 .bf16 :=
  truncf .bf16 (addf (widen mp) (mulf (mulf (matmul dot_S64x256_S256x512_S64x512_1_0_0_1_n_n none (shapeCast S64x256 wo shapeCasts_S64x256_S64x256)
      (truncf .bf16 (ogCode o) bitsLt_bf16_f32) (constant S64x512 .f32 0x00000000#32)) (broadcastTo S64x512 (ogScale o) broadcasts_S1x512_S64x512))
    (broadcastTo S64x512 (shapeCast S64x1 wos shapeCasts_S64x1_S64x1) broadcasts_S64x1_S64x512))) bitsLt_bf16_f32

/-- Eight columns of scales as eight rows. -/
def scaleRows (s : Fin 8 → FVec F S256x1 .f32) : FVec F S8x256 .f32 :=
  transpose S8x256 [1, 0] (concatenate S256x8 1 [⟨S256x1, s 0⟩, ⟨S256x1, s 1⟩, ⟨S256x1, s 2⟩, ⟨S256x1, s 3⟩, ⟨S256x1, s 4⟩, ⟨S256x1, s 5⟩, ⟨S256x1, s 6⟩,
    ⟨S256x1, s 7⟩] concatenates_S256x1_S256x1_S256x1_S256x1_S256x1_S256x1_S256x1_S256x1_S256x8_d1) transposes_S256x8_p1_0_S8x256

end Cert.Pwa
-- ==== Proof.TileRead.lean ====
/-
  The kernel's tile functions read element by element over the extended reals.
-/
module

public import proofs.«01_k».proof.Proof.Spec
public import proofs.«01_k».proof.Proof.Tile

@[expose] public section

noncomputable section

namespace Cert.Pwa

open Idealize.ShloMosaic Idealize.SL.Sem
open Cert.Kernel

variable [Cert.Kernel.Facts]

theorem scaleOf_apply {s : Shape} (a : FVec Ideal s .f32) (i : s.Idx) : scaleOf a i = scl (a i) := by
  pointwise [scaleOf, scl]

theorem roundClip_apply {s : Shape} (x : FVec Ideal s .f32) (i : s.Idx) : roundClip x i = rc (x i) := by
  pointwise [roundClip, rc]

theorem recip_apply {s : Shape} (x : FVec Ideal s .f32) (i : s.Idx) : recip x i = Ideal.div 1 (x i) := by
  pointwise [recip]

theorem spread_apply (w : FVec Ideal S64x128 .f32) (c : Fin 64) (n : Fin 512) : spread w (ix2 c n) = w (ix2 c ⟨n.val % 128, by omega⟩) := by
  pointwise [spread]
  have := n.isLt
  split_ifs <;> exact congrArg (fun i => w (ix2 c i)) (Fin.ext (by dsimp only; omega))

theorem widen_apply (m : FVec Ideal S1x64x512 .bf16) (c : Fin 64) (n : Fin 512) : widen m (ix2 c n) = m (ix3 0 c n) := by
  pointwise [widen]

theorem colMean_apply (x : FVec Ideal S64x512 .f32) (n : Fin 512) : colMean x (ix2 0 n) = mean fun c => x (ix2 c n) := by
  pointwise [colMean, mean]

theorem centred_apply (m : FVec Ideal S1x64x512 .bf16) (c : Fin 64) (n : Fin 512) :
    centred m (ix2 c n) = m (ix3 0 c n) - mean fun c => m (ix3 0 c n) := by
  pointwise [centred, colMean_apply, widen_apply]

theorem deviation_apply (m : FVec Ideal S1x64x512 .bf16) (n : Fin 512) : deviation m (ix2 0 n) = dev fun c => m (ix3 0 c n) := by
  pointwise [deviation, colMean_apply, centred_apply, dev]

theorem normed_apply (g b : FVec Ideal S64x512 .f32) (m : FVec Ideal S1x64x512 .bf16) (c : Fin 64) (n : Fin 512) :
    normed g b m (ix2 c n) = nrm (fun c => m (ix3 0 c n)) (fun c => g (ix2 c n)) (fun c => b (ix2 c n)) c := by
  pointwise [normed, centred_apply, deviation_apply, recip_apply, nrm]
  rw [mul_recip (dev_ne_zero _)]

theorem colMax64_apply (x : FVec Ideal S64x512 .f32) (n : Fin 512) : colMax64 x (ix2 0 n) = mag fun c => x (ix2 c n) := by
  pointwise [colMax64, mag, minf_eq, absf_eq]

theorem colMax256_apply (x : FVec Ideal S256x512 .f32) (n : Fin 512) : colMax256 x (ix2 0 n) = mag fun c => x (ix2 c n) := by
  pointwise [colMax256, mag, minf_eq, absf_eq]

theorem xScale_apply (g b : FVec Ideal S64x512 .f32) (m : FVec Ideal S1x64x512 .bf16) (n : Fin 512) :
    xScale g b m (ix2 0 n) = xsc (fun c => m (ix3 0 c n)) (fun c => g (ix2 c n)) (fun c => b (ix2 c n)) := by
  rw [xScale, scaleOf_apply, colMax64_apply, xsc]
  congr 2
  funext c
  exact normed_apply g b m c n

theorem xCode_apply (g b : FVec Ideal S64x512 .f32) (m : FVec Ideal S1x64x512 .bf16) (c : Fin 64) (n : Fin 512) :
    xCode g b m (ix2 c n) = xcd (fun c => m (ix3 0 c n)) (fun c => g (ix2 c n)) (fun c => b (ix2 c n)) c := by
  rw [xCode, roundClip_apply, xcd]
  pointwise [normed_apply, recip_apply, xScale_apply]
  rw [mul_recip (show xsc _ _ _ ≠ 0 from scl_ne_zero _)]

theorem project_apply (w : FVec Ideal S256x64 .bf16) (x : FVec Ideal S64x512 .bf16) (xs : FVec Ideal S1x512 .f32) (k : Fin 256) (n : Fin 512) :
    project w x xs (ix2 k n) = (∑ c, x (ix2 c n) * w (ix2 k c)) * xs (ix2 0 n) := by
  pointwise [project]
  congr 1
  exact Finset.sum_congr rfl fun c _ => mul_comm _ _

theorem vScale_apply (u : FVec Ideal S256x512 .f32) (ws : FVec Ideal S256x1 .f32) (k : Fin 256) :
    vScale u ws (ix2 k 0) = scl (mag fun n => u (ix2 k n) * ws (ix2 k 0)) := by
  rw [vScale, scaleOf_apply, mag_mul]
  apply congrArg scl
  pointwise [minf_eq, absf_eq]
  rfl

theorem vCode_apply (u : FVec Ideal S256x512 .f32) (ws : FVec Ideal S256x1 .f32) (k : Fin 256) (n : Fin 512) :
    vCode u ws (ix2 k n) = rc (Ideal.div (u (ix2 k n) * ws (ix2 k 0)) (scl (mag fun n => u (ix2 k n) * ws (ix2 k 0)))) := by
  rw [vCode, roundClip_apply]
  pointwise [vScale_apply]
  rw [mul_div (scl_ne_zero _)]

theorem lanes_apply (s : FVec Ideal S256x1 .f32) (k : Fin 256) (l : Fin 128) : lanes s (ix2 k l) = s (ix2 k 0) := by
  pointwise [lanes]

theorem rows32_apply {α : Type} (h : Fin 8) (x : S256x512.Idx → α) (r : Fin 32) (n : Fin 512) :
    rows32 h x (ix2 r n) = x (ix2 ⟨32 * h.val + r.val, by omega⟩ n) := by
  pointwise [rows32]

theorem averaged_apply (v : FVec Ideal S1x1x256x512 .bf16) (wt : FVec Ideal S1x512x512 .bf16) (fac : FVec Ideal S1x1x512 .f32) (r : Fin 256) (n : Fin 512) :
    averaged v wt fac (ix2 r n) = (∑ j, v (ix4 0 0 r j) * wt (ix3 0 j n)) * fac (ix3 0 0 n) := by
  pointwise [averaged]

theorem gate_apply (xs : FVec Ideal S1x1x512 .f32) (wg : FVec Ideal S256x64 .bf16) (xb : FVec Ideal S1x1x64x512 .bf16) (wgs : FVec Ideal S256x1 .f32)
    (k : Fin 256) (n : Fin 512) :
    gate xs wg xb wgs (ix2 k n) = Ideal.logistic ((∑ c, xb (ix4 0 0 c n) * wg (ix2 k c)) * xs (ix3 0 0 n) * wgs (ix2 k 0)) := by
  pointwise [gate, project_apply]

theorem gated_apply (gt : FVec Ideal S256x512 .f32) (og : FVec Ideal S1x256x512 .f32) (vsc : FVec Ideal S1x1x256x128 .f32) (k : Fin 256) (n : Fin 512) :
    gated gt og vsc (ix2 k n) = gt (ix2 k n) * (og (ix3 0 k n) * vsc (ix4 0 0 k 0)) := by
  pointwise [gated]

theorem ogScale_apply (o : FVec Ideal S256x512 .f32) (n : Fin 512) : ogScale o (ix2 0 n) = scl (mag fun k => o (ix2 k n)) := by
  rw [ogScale, scaleOf_apply, colMax256_apply]

theorem ogCode_apply (o : FVec Ideal S256x512 .f32) (k : Fin 256) (n : Fin 512) :
    ogCode o (ix2 k n) = rc (Ideal.div (o (ix2 k n)) (scl (mag fun k => o (ix2 k n)))) := by
  rw [ogCode, roundClip_apply]
  pointwise [recip_apply, ogScale_apply]
  rw [mul_recip (scl_ne_zero _)]

theorem ogRows_apply (o : FVec Ideal S256x512 .f32) (n : Fin 512) (k : Fin 256) : ogRows o (ix2 n k) = Ideal.fptosi 8 (ogCode o (ix2 k n)) := by
  pointwise [ogRows, fptosi_eq]

theorem updated_apply (o : FVec Ideal S256x512 .f32) (wo : FVec Ideal S64x256 .bf16) (wos : FVec Ideal S64x1 .f32) (mp : FVec Ideal S1x64x512 .bf16)
    (c : Fin 64) (n : Fin 512) :
    updated o wo wos mp (ix2 c n) = mp (ix3 0 c n) + (∑ k, ogCode o (ix2 k n) * wo (ix2 c k)) * ogScale o (ix2 0 n) * wos (ix2 c 0) := by
  pointwise [updated, widen_apply]
  congr 3
  exact Finset.sum_congr rfl fun c _ => mul_comm _ _

theorem scaleRows_apply (s : Fin 8 → FVec Ideal S256x1 .f32) (j : Fin 8) (k : Fin 256) : scaleRows s (ix2 j k) = s j (ix2 k 0) := by
  pointwise [scaleRows]
  fin_vals j with hj
  all_goals simp [hj]
  all_goals exact congrArg (fun i => s i (ix2 k 0)) (Fin.ext hj.symm)

end Cert.Pwa
-- ==== Proof.Held.lean ====
/-
  A program that only loads from and stores to a fixed family of memrefs is a function of what they
  hold. `held` owns a family whole at given contents; `Does σ p a σ'` says that `p`, started with the
  family at `σ`, ends with the result `a` and the family at `σ'`. One rule per step: a load, a store, a
  sequence, a result.
-/
module

public import Idealize.ShloMosaic.Lib.Memref
public import Idealize.ShloMosaic.Rules.Step

@[expose] public section

noncomputable section

namespace Cert.Pwa

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

/-! ## Arrays: reading a box and writing a box -/

section Arrays
variable {s : Shape} {A : Type}

/-- The array `X` with the box `r` overwritten by `w`. -/
def put (X : s.Idx → A) (r : Rect s) (w : r.shape.Idx → A) : s.Idx → A := fun y =>
  match preimage? r.emb y with
  | some x => w x
  | none => X y

/-- The box `r` of the array `X`. -/
def get (X : s.Idx → A) (r : Rect s) : r.shape.Idx → A := fun x => X (r.emb x)

theorem put_emb (X : s.Idx → A) (r : Rect s) (w : r.shape.Idx → A) (x : r.shape.Idx) : put X r w (r.emb x) = w x := by
  unfold put; rw [preimage?_emb]

theorem put_of_forall_ne (X : s.Idx → A) (r : Rect s) (w : r.shape.Idx → A) {y : s.Idx} (h : ∀ x, r.emb x ≠ y) :
    put X r w y = X y := by
  unfold put; rw [preimage?_eq_none h]

end Arrays

/-- What a view reads after a store through one of its boxes. -/
theorem read_write_put {sig : RefSig} {κ : Kind} {sp : Space} {s : Shape} {e : EltTy} {Val : EltTy → Type}
    (v : View sig κ sp s e) (r : Rect s) (f : v.ty.Contents Val) (w : r.shape.Idx → Val e) :
    v.read Val ((v.slice r).write Val f w Finset.univ) = put (v.read Val f) r w := by
  funext y
  by_cases h : ∃ x, r.emb x = y
  · obtain ⟨x, rfl⟩ := h
    rw [View.read_slice_write_emb r f w (Finset.mem_univ x), put_emb]
  · have h' : ∀ x, r.emb x ≠ y := fun x hx => h ⟨x, hx⟩
    rw [put_of_forall_ne _ _ _ h', View.read_slice_write_of_not_mem]
    rw [Finset.mem_map]; rintro ⟨x, -, hx⟩; exact h' x hx

/-! ## The family, and programs over it -/

section Held

variable {nD : Nat} {τ : Topo} {sig : RefSig} {Val : EltTy → Type}
variable {Ix : Type} [DecidableEq Ix] {Name : Type} [DecidableEq Name] {U : Type} [URA U] {Lvl : Type}

local notation "𝕄" => MT nD τ sig Ix Val Name U Lvl

variable {J : Type} [Fintype J] [DecidableEq J] {sh : J → Shape} {el : J → EltTy}

/-- What a family of arrays holds. -/
abbrev Store (Val : EltTy → Type) (sh : J → Shape) (el : J → EltTy) : Type := (j : J) → (sh j).Idx → Val (el j)

/-- A family of VMEM memrefs. -/
abbrev Bank (sig : RefSig) (sh : J → Shape) (el : J → EltTy) : Type := (j : J) → Memref sig .tc .vmem (sh j) (el j)

/-- The family `B` owned whole on core `c`, at contents `σ`. -/
def held (c : Dev nD) (B : Bank sig sh el) (σ : Store Val sh el) : sProp 𝕄 :=
  bigSep Finset.univ fun j => owns (c : Thread nD τ) (B j) fullShare (σ j)

/-- The family with one array replaced. -/
def setAt (σ : Store Val sh el) (j : J) (X : (sh j).Idx → Val (el j)) : Store Val sh el := Function.update σ j X

@[simp] theorem setAt_self (σ : Store Val sh el) (j : J) (X : (sh j).Idx → Val (el j)) : setAt σ j X j = X :=
  Function.update_self ..

theorem setAt_of_ne (σ : Store Val sh el) {j i : J} (h : i ≠ j) (X : (sh j).Idx → Val (el j)) : setAt σ j X i = σ i :=
  Function.update_of_ne h ..

theorem held_split (c : Dev nD) (B : Bank sig sh el) (σ : Store Val sh el) (j : J) :
    (held c B σ : sProp 𝕄) = iprop(owns (c : Thread nD τ) (B j) fullShare (σ j)
      ∗ bigSep (Finset.univ.erase j) fun i => owns (c : Thread nD τ) (B i) fullShare (σ i)) :=
  bigSep_univ_split j

theorem held_setAt (c : Dev nD) (B : Bank sig sh el) (σ : Store Val sh el) (j : J) (X : (sh j).Idx → Val (el j)) :
    (held c B (setAt σ j X) : sProp 𝕄) = iprop(owns (c : Thread nD τ) (B j) fullShare X
      ∗ bigSep (Finset.univ.erase j) fun i => owns (c : Thread nD τ) (B i) fullShare (σ i)) := by
  rw [held_split c B (setAt σ j X) j, setAt_self]
  congr 1
  exact bigSep_congr fun i hi => by rw [setAt_of_ne σ (Finset.ne_of_mem_erase hi)]

variable [Preorder Lvl] {Λ : Labels} (defs : Defs nD τ sig Val Λ) (𝒱 : Variants) (c : Dev nD)
  (bd : Option 𝒱.V) (Γ : PendingWaitsCtx sig Ix) (E : Set Name) (B : Bank sig sh el)

variable (Name U Lvl) in
/-- The program `p`, started with the family at `σ`, returns `a` with the family at `σ'`. -/
def Does {α : Type} (σ : Store Val sh el) (p : Prog (TpuEff nD τ sig Val Λ .tc) α) (a : α) (σ' : Store Val sh el) : Prop :=
  ∀ Q : α → sProp 𝕄, iprop(held c B σ ∗ (held c B σ' -∗ Q a)) ⊢ wp frame (wpE' defs 𝒱 (c : Thread nD τ) bd Γ) E p Q

variable {defs 𝒱 c bd Γ E B}

theorem Does.ret {α : Type} (σ : Store Val sh el) (a : α) : Does Name U Lvl defs 𝒱 c bd Γ E B σ (pure a) a σ := fun Q => by
  refine BIBase.Entails.trans ?_ (le_wp_ret _ _ _ a Q)
  iintro ⟨H, K⟩
  iapply K; iexact H

theorem Does.bind {α β : Type} {σ σ' σ'' : Store Val sh el} {p : Prog (TpuEff nD τ sig Val Λ .tc) α}
    {k : α → Prog (TpuEff nD τ sig Val Λ .tc) β} {a : α} {b : β}
    (hp : Does Name U Lvl defs 𝒱 c bd Γ E B σ p a σ') (hk : Does Name U Lvl defs 𝒱 c bd Γ E B σ' (k a) b σ'') :
    Does Name U Lvl defs 𝒱 c bd Γ E B σ (p >>= k) b σ'' := fun Q => by
  rw [wp_bind]
  refine BIBase.Entails.trans ?_ (hp _)
  iintro ⟨H, K⟩
  isplitl [H]; · iexact H
  iintro H
  iapply (hk Q)
  isplitl [H]; · iexact H
  iexact K

/-- A load of a box of one array of the family. -/
theorem Does.load (σ : Store Val sh el) (j : J) (r : Rect (sh j)) (hl : (B j).view.LoadsAt r.toLoadRect) :
    Does Name U Lvl defs 𝒱 c bd Γ E B σ (Prog.lift (.load (B j) r.toLoadRect hl)) (get (σ j) r) σ := fun Q => by
  rw [held_split c B σ j]
  unfold owns
  iintro ⟨⟨⟨%f, %hf, H⟩, R⟩, K⟩
  iapply (wp_load (S := (B j).view.set) (k := .ret) (f := f) 𝒱 (c : Thread nD τ) bd E (View.setOn_subset_set _ _)) $$ H
  iintro H
  have e : (B j).view.readAt Val r.toLoadRect f = get (σ j) r := by rw [← hf]; rfl
  rw [e]
  iapply (le_wp_ret frame (wpE' defs 𝒱 (c : Thread nD τ) bd Γ) E (get (σ j) r) Q)
  iapply K
  isplitl [H]
  · iexists f
    isplitr; · ipureintro; exact hf
    iexact H
  · iexact R

/-- A store to a box of one array of the family. -/
theorem Does.store (σ : Store Val sh el) (j : J) (r : Rect (sh j)) (w : r.shape.Idx → Val (el j))
    (hx : ((B j).access r).Stores Finset.univ) (hm : (Finset.univ : Finset r.shape.Idx) = Finset.univ ∨ ∀ a, r.stride a = 1) :
    Does Name U Lvl defs 𝒱 c bd Γ E B σ (Prog.lift (.store (B j) r w Finset.univ hx hm)) ⟨⟩ (setAt σ j (put (σ j) r w)) := fun Q => by
  rw [held_split c B σ j, held_setAt]
  unfold owns
  iintro ⟨⟨⟨%f, %hf, H⟩, R⟩, K⟩
  iapply (wp_store (m := B j) (r := r) (w := w) (Mk := Finset.univ) (hx := hx) (S := (B j).view.set) (k := .ret) (f := f) 𝒱 (c : Thread nD τ) bd E
    ((View.setOn_subset_set _ _).trans (View.set_slice_subset _ _))) $$ H
  iintro H
  iapply (le_wp_ret frame (wpE' defs 𝒱 (c : Thread nD τ) bd Γ) E PUnit.unit Q)
  iapply K
  isplitl [H]
  · iexists (((B j).access r).write Val f w Finset.univ)
    isplitr
    · ipureintro; rw [← hf]; exact read_write_put (B j).view r f w
    iexact H
  · iexact R

end Held

end Cert.Pwa
-- ==== Proof.Steps.lean ====
/-
  The kernel's body as a program over named arrays: eight blocks of values, eight heads' averages, eight
  blocks of output, in the kernel's order of loads and stores.
-/
module

public import proofs.«01_k».proof.Proof.Tile
public import proofs.«01_k».proof.Proof.Held
public import Idealize.ShloMosaic.Lib.Affine

@[expose] public section

noncomputable section

namespace Cert.Pwa

open Idealize.ShloMosaic Idealize.ShloMosaic.TcCoe Idealize.SL.Sem
open Cert.Kernel (S8x64x512 S64x128 S256x64 S256x128 S64x256 S8x512x512 S8x1x512 S8x512 S8x256x512 S8x256 S8x512x256 S2x8x64x512 S2x8x512
  S2x8x256x512 S2x8x256x128 S1x64x512 S1x512 S1x1x64x512 S1x1x512 S256x1 S64x1 S1x1x256x128 S1x256x512 S1x1x32x512 S32x512 S1x1x256x512 S1x512x512
  S1x32x512 S1x512x256 S1x8x64x512 S1x8x512 S1x8x256x512 S1x8x256x128 S64x512 S256x512 S8x256x128 S512x256)
open Cert.Kernel.Facts₀ Cert.Kernel.Facts

/-- The arrays of one step: the staged operands, the staged results, the scratch. -/
inductive Arr where
  | m | mp | g | b | wv | wvs | wg | wgs | wo | wos | wt | fac
  | mo | x2c | x2s | vc | vs | ogc | ogs
  | xb | xs | v | vsc | og
deriving DecidableEq

instance : Fintype Arr where
  elems := {.m, .mp, .g, .b, .wv, .wvs, .wg, .wgs, .wo, .wos, .wt, .fac, .mo, .x2c, .x2s, .vc, .vs, .ogc, .ogs, .xb, .xs, .v, .vsc, .og}
  complete := by intro x; cases x <;> decide

/-- Their shapes. -/
abbrev Arr.shape : Arr → Shape
  | .m => S8x64x512 | .mp => S8x64x512 | .g => S64x128 | .b => S64x128 | .wv => S256x64 | .wvs => S256x128 | .wg => S256x64 | .wgs => S256x128
  | .wo => S64x256 | .wos => S64x128 | .wt => S8x512x512 | .fac => S8x1x512
  | .mo => S8x64x512 | .x2c => S8x64x512 | .x2s => S8x512 | .vc => S8x256x512 | .vs => S8x256 | .ogc => S8x512x256 | .ogs => S8x512
  | .xb => S2x8x64x512 | .xs => S2x8x512 | .v => S2x8x256x512 | .vsc => S2x8x256x128 | .og => S8x256x512

/-- Their element types. -/
abbrev Arr.elt : Arr → EltTy
  | .m => .bf16 | .mp => .bf16 | .g => .f32 | .b => .f32 | .wv => .bf16 | .wvs => .f32 | .wg => .bf16 | .wgs => .f32
  | .wo => .bf16 | .wos => .f32 | .wt => .bf16 | .fac => .f32
  | .mo => .bf16 | .x2c => .i8 | .x2s => .f32 | .vc => .i8 | .vs => .f32 | .ogc => .i8 | .ogs => .f32
  | .xb => .bf16 | .xs => .f32 | .v => .bf16 | .vsc => .f32 | .og => .f32

/-! ## The boxes a step reads and writes -/

theorem inb2 {a b c d : Nat} {A B : Nat} (h1 : a + c ≤ A) (h2 : b + d ≤ B) :
    ∀ i : Fin 2, (![a, b] : Fin 2 → Nat) i + (![c, d] : Fin 2 → Nat) i ≤ (![A, B] : Fin 2 → Nat) i
  | 0 => h1 | 1 => h2

theorem inb3 {a b c a' b' c' A B C : Nat} (h1 : a + a' ≤ A) (h2 : b + b' ≤ B) (h3 : c + c' ≤ C) :
    ∀ i : Fin 3, (![a, b, c] : Fin 3 → Nat) i + (![a', b', c'] : Fin 3 → Nat) i ≤ (![A, B, C] : Fin 3 → Nat) i
  | 0 => h1 | 1 => h2 | 2 => h3

theorem inb4 {a b c d a' b' c' d' A B C D : Nat} (h1 : a + a' ≤ A) (h2 : b + b' ≤ B) (h3 : c + c' ≤ C) (h4 : d + d' ≤ D) :
    ∀ i : Fin 4, (![a, b, c, d] : Fin 4 → Nat) i + (![a', b', c', d'] : Fin 4 → Nat) i ≤ (![A, B, C, D] : Fin 4 → Nat) i
  | 0 => h1 | 1 => h2 | 2 => h3 | 3 => h4

/-- The first rows and columns of a matrix. -/
abbrev top (A B c d : Nat) (hc : c ≤ A := by decide) (hd : d ≤ B := by decide) : Rect ⟨2, ![A, B]⟩ :=
  Rect.unit (s := ⟨2, ![A, B]⟩) ![0, 0] (⟨2, ![c, d]⟩ : Shape).size (inb2 (by omega) (by omega))

/-- Row `k` of a matrix of eight rows. -/
abbrev row2 (B : Nat) (k : Fin 8) : Rect ⟨2, ![8, B]⟩ :=
  Rect.unit (s := ⟨2, ![8, B]⟩) ![k.val, 0] (⟨2, ![1, B]⟩ : Shape).size (inb2 (by omega) (by omega))

/-- Slab `k` of eight matrices. -/
abbrev slab (B C : Nat) (k : Fin 8) : Rect ⟨3, ![8, B, C]⟩ :=
  Rect.unit (s := ⟨3, ![8, B, C]⟩) ![k.val, 0, 0] (⟨3, ![1, B, C]⟩ : Shape).size (inb3 (by omega) (by omega) (by omega))

/-- Row `k` of slot `c`. -/
abbrev slotRow (B : Nat) (c : Fin 2) (k : Fin 8) : Rect ⟨3, ![2, 8, B]⟩ :=
  Rect.unit (s := ⟨3, ![2, 8, B]⟩) ![c.val, k.val, 0] (⟨3, ![1, 1, B]⟩ : Shape).size (inb3 (by omega) (by omega) (by omega))

/-- Slab `k` of slot `c`. -/
abbrev slotSlab (B C : Nat) (c : Fin 2) (k : Fin 8) : Rect ⟨4, ![2, 8, B, C]⟩ :=
  Rect.unit (s := ⟨4, ![2, 8, B, C]⟩) ![c.val, k.val, 0, 0] (⟨4, ![1, 1, B, C]⟩ : Shape).size (inb4 (by omega) (by omega) (by omega) (by omega))

/-- Slot `c` of the rows. -/
abbrev slot3 (B : Nat) (c : Fin 2) : Rect ⟨3, ![2, 8, B]⟩ :=
  Rect.unit (s := ⟨3, ![2, 8, B]⟩) ![c.val, 0, 0] (⟨3, ![1, 8, B]⟩ : Shape).size (inb3 (by omega) (by omega) (by omega))

/-- Slot `c` of the slabs. -/
abbrev slot4 (B C : Nat) (c : Fin 2) : Rect ⟨4, ![2, 8, B, C]⟩ :=
  Rect.unit (s := ⟨4, ![2, 8, B, C]⟩) ![c.val, 0, 0, 0] (⟨4, ![1, 8, B, C]⟩ : Shape).size (inb4 (by omega) (by omega) (by omega) (by omega))

/-- Head `h`, rows of sequence `k`, in slot `c` of the codes. -/
abbrev vCell (c : Fin 2) (h k : Fin 8) : Rect S2x8x256x512 :=
  Rect.unit (s := S2x8x256x512) ![c.val, h.val, 32 * k.val, 0] S1x1x32x512.size (inb4 (by omega) (by omega) (by omega) (by omega))

/-- Sequence `k`, rows of head `h`, of the averages. -/
abbrev ogCell (k h : Fin 8) : Rect S8x256x512 :=
  Rect.unit (s := S8x256x512) ![k.val, 32 * h.val, 0] S1x32x512.size (inb3 (by omega) (by omega) (by omega))

/-! ## The program -/

section Program

variable {nD : Nat} {τ : Topo} {sig : RefSig} {Λ : Labels} {F : FTy → Type} [FloatOps F] [Cert.Kernel.Facts]

variable (nD τ sig Λ F) in
/-- Programs of a core over arrays of `F`. -/
abbrev Step (α : Type) : Type 1 := Prog (TpuEff nD τ sig (Elt F) Λ .tc) α

variable (B : Bank sig Arr.shape Arr.elt)

/-- Load a box of the array `j`. -/
def ld (j : Arr) (r : Rect j.shape) (h : 0 < r.shape.numel) : Step nD τ sig Λ F (r.shape.Idx → Elt F j.elt) :=
  Prog.lift (.load (B j) r.toLoadRect (View.loadsAt_vmem h))

/-- Store to a box of the array `j`. -/
def st (j : Arr) (r : Rect j.shape) (w : r.shape.Idx → Elt F j.elt) (h : ((B j).access r).Stores Finset.univ) : Step nD τ sig Λ F PUnit :=
  Prog.lift (.store (B j) r w Finset.univ h (.inl rfl))

/-- Load a box nothing reads, then store to it. -/
def put' (j : Arr) (r : Rect j.shape) (w : r.shape.Idx → Elt F j.elt) (n : 0 < r.shape.numel) (h : ((B j).access r).Stores Finset.univ) :
    Step nD τ sig Λ F PUnit := do
  let _ ← ld B j r n
  st B j r w h

variable {B} (W : ∀ j, (B j).IsWhole)

theorem stores_low (hw : ∀ j, (B j).IsWhole) (j : Arr) (r : Rect j.shape) (n : 0 < r.shape.numel) (p : r.PackedRows j.elt.packing) :
    ((B j).access r).Stores Finset.univ :=
  View.stores_vmem n ((hw j).storeExact_slice rfl _ p) (fun _ => rfl)

/-- The values of sequence `k` of the block: its normed codes and scales, its projected codes and scales. -/
def values (c : Fin 2) (g b : FVec F S64x512 .f32) (k : Fin 8) : Step nD τ sig Λ F (FVec F S256x1 .f32) := do
  let m : FVec F S1x64x512 .bf16 ← ld B .m (slab 64 512 k) h_S1x64x512
  put' B .x2c (slab 64 512 k) (shapeCast S1x64x512 (fptosi 8 (xCode g b m)) shapeCasts_S64x512_S1x64x512) h_S1x64x512
    (stores_low W .x2c _ h_S1x64x512 (Affine.packed_rows (by decide) rfl rfl rfl rfl))
  put' B .x2s (row2 512 k) (xScale g b m) h_S1x512 (View.stores_vmem_bits_univ h_S1x512 rfl)
  put' B .xb (slotSlab 64 512 c k) (shapeCast S1x1x64x512 (xLow g b m) shapeCasts_S64x512_S1x1x64x512) h_S1x1x64x512
    (stores_low W .xb _ h_S1x1x64x512 (Affine.packed_rows (by decide) rfl rfl rfl rfl))
  put' B .xs (slotRow 512 c k) (shapeCast S1x1x512 (xScale g b m) shapeCasts_S1x512_S1x1x512) h_S1x1x512 (View.stores_vmem_bits_univ h_S1x1x512 rfl)
  let wv : FVec F S256x64 .bf16 ← ld B .wv (top 256 64 256 64) h_S256x64
  let ws : FVec F S256x1 .f32 ← ld B .wvs (top 256 128 256 1) h_S256x1
  put' B .vsc (slotSlab 256 128 c k) (shapeCast S1x1x256x128 (lanes (vScale (project wv (xLow g b m) (xScale g b m)) ws)) shapeCasts_S256x128_S1x1x256x128)
    h_S1x1x256x128 (View.stores_vmem_bits_univ h_S1x1x256x128 rfl)
  put' B .vc (slab 256 512 k) (shapeCast S1x256x512 (fptosi 8 (vCode (project wv (xLow g b m) (xScale g b m)) ws)) shapeCasts_S256x512_S1x256x512)
    h_S1x256x512 (stores_low W .vc _ h_S1x256x512 (Affine.packed_rows (by decide) rfl rfl rfl rfl))
  let cell (h : Fin 8) : Step nD τ sig Λ F PUnit :=
    put' B .v (vCell c h k) (shapeCast S1x1x32x512 (rows32 h (vLow (project wv (xLow g b m) (xScale g b m)) ws)) shapeCasts_S32x512_S1x1x32x512)
      h_S1x1x32x512 (stores_low W .v _ h_S1x1x32x512 (Affine.packed_dvd (by decide) ⟨16 * k.val, by show 32 * k.val = 2 * (16 * k.val); omega⟩ ⟨16, rfl⟩))
  cell 0; cell 1; cell 2; cell 3; cell 4; cell 5; cell 6; cell 7
  pure (vScale (project wv (xLow g b m) (xScale g b m)) ws)

/-- The weighted average of head `h`, all eight sequences of the block. -/
def average (p : Fin 2) (h : Fin 8) : Step nD τ sig Λ F PUnit := do
  let v : FVec F S1x1x256x512 .bf16 ← ld B .v (slotSlab 256 512 p h) h_S1x1x256x512
  let wt : FVec F S1x512x512 .bf16 ← ld B .wt (slab 512 512 h) h_S1x512x512
  let fac : FVec F S1x1x512 .f32 ← ld B .fac (slab 1 512 h) h_S1x1x512
  let cell (k : Fin 8) : Step nD τ sig Λ F PUnit :=
    put' B .og (ogCell k h) (shapeCast S1x32x512 (rows32 k (averaged v wt fac)) shapeCasts_S32x512_S1x32x512) h_S1x32x512
      (View.stores_vmem_bits_univ h_S1x32x512 rfl)
  cell 0; cell 1; cell 2; cell 3; cell 4; cell 5; cell 6; cell 7

/-- The output of sequence `k` of the block. -/
def output (p : Fin 2) (k : Fin 8) : Step nD τ sig Λ F PUnit := do
  let xs : FVec F S1x1x512 .f32 ← ld B .xs (slotRow 512 p k) h_S1x1x512
  let wg : FVec F S256x64 .bf16 ← ld B .wg (top 256 64 256 64) h_S256x64
  let xb : FVec F S1x1x64x512 .bf16 ← ld B .xb (slotSlab 64 512 p k) h_S1x1x64x512
  let wgs : FVec F S256x1 .f32 ← ld B .wgs (top 256 128 256 1) h_S256x1
  let og : FVec F S1x256x512 .f32 ← ld B .og (slab 256 512 k) h_S1x256x512
  let vsc : FVec F S1x1x256x128 .f32 ← ld B .vsc (slotSlab 256 128 p k) h_S1x1x256x128
  put' B .ogs (row2 512 k) (ogScale (gated (gate xs wg xb wgs) og vsc)) h_S1x512 (View.stores_vmem_bits_univ h_S1x512 rfl)
  put' B .ogc (slab 512 256 k) (shapeCast S1x512x256 (ogRows (gated (gate xs wg xb wgs) og vsc)) shapeCasts_S512x256_S1x512x256) h_S1x512x256
    (stores_low W .ogc _ h_S1x512x256 (Affine.packed_rows (by decide) rfl rfl rfl rfl))
  let wo : FVec F S64x256 .bf16 ← ld B .wo (top 64 256 64 256) h_S64x256
  let wos : FVec F S64x1 .f32 ← ld B .wos (top 64 128 64 1) h_S64x1
  let mp : FVec F S1x64x512 .bf16 ← ld B .mp (slab 64 512 k) h_S1x64x512
  put' B .mo (slab 64 512 k) (shapeCast S1x64x512 (updated (gated (gate xs wg xb wgs) og vsc) wo wos mp) shapeCasts_S64x512_S1x64x512) h_S1x64x512
    (stores_low W .mo _ h_S1x64x512 (Affine.packed_rows (by decide) rfl rfl rfl rfl))

/-- Zero the scratch slot the first step reads. -/
def zeros (p : Fin 2) : Step nD τ sig Λ F PUnit := do
  put' B .xb (slot4 64 512 p) (shapeCast S1x8x64x512 (broadcast S8x64x512 (Scalar.ofBits .bf16 0x0000#16)) shapeCasts_S8x64x512_S1x8x64x512) h_S1x8x64x512
    (stores_low W .xb _ h_S1x8x64x512 (Affine.packed_rows (by decide) rfl rfl rfl rfl))
  put' B .xs (slot3 512 p) (shapeCast S1x8x512 (broadcast S8x512 (Scalar.ofBits .f32 0x00000000#32)) shapeCasts_S8x512_S1x8x512) h_S1x8x512
    (View.stores_vmem_bits_univ h_S1x8x512 rfl)
  put' B .v (slot4 256 512 p) (shapeCast S1x8x256x512 (broadcast S8x256x512 (Scalar.ofBits .bf16 0x0000#16)) shapeCasts_S8x256x512_S1x8x256x512) h_S1x8x256x512
    (stores_low W .v _ h_S1x8x256x512 (Affine.packed_rows (by decide) rfl rfl rfl rfl))
  put' B .vsc (slot4 256 128 p) (shapeCast S1x8x256x128 (broadcast S8x256x128 (Scalar.ofBits .f32 0x00000000#32)) shapeCasts_S8x256x128_S1x8x256x128)
    h_S1x8x256x128 (View.stores_vmem_bits_univ h_S1x8x256x128 rfl)

/-- All blocks of one step, given the spread layer norm parameters. -/
def rest (c p : Fin 2) (g b : FVec F S64x512 .f32) : Step nD τ sig Λ F PUnit := do
  let s0 ← values W c g b 0
  let s1 ← values W c g b 1
  let s2 ← values W c g b 2
  let s3 ← values W c g b 3
  let s4 ← values W c g b 4
  let s5 ← values W c g b 5
  let s6 ← values W c g b 6
  let s7 ← values W c g b 7
  put' B .vs (top 8 256 8 256) (scaleRows ![s0, s1, s2, s3, s4, s5, s6, s7]) h_S8x256 (View.stores_vmem_bits_univ h_S8x256 rfl)
  average (B := B) p 0; average (B := B) p 1; average (B := B) p 2; average (B := B) p 3; average (B := B) p 4; average (B := B) p 5; average (B := B) p 6; average (B := B) p 7
  output W p 0; output W p 1; output W p 2; output W p 3; output W p 4; output W p 5; output W p 6; output W p 7

/-- Zero the slot where the step is the first. -/
def start (z : BitVec 1) (p : Fin 2) : Step nD τ sig Λ F PUnit := if h : z = 1#1 then zeros W p else pure ⟨⟩

theorem start_pos {z : BitVec 1} (h : z = 1#1) (p : Fin 2) : start (F := F) (nD := nD) (τ := τ) (Λ := Λ) W z p = zeros W p := dif_pos h

theorem start_neg {z : BitVec 1} (h : ¬ z = 1#1) (p : Fin 2) : start (F := F) (nD := nD) (τ := τ) (Λ := Λ) W z p = pure ⟨⟩ := dif_neg h

/-- One step of the kernel. -/
def body (z : BitVec 1) (c p : Fin 2) : Step nD τ sig Λ F PUnit := do
  start W z p
  let g : FVec F S64x128 .f32 ← ld B .g (top 64 128 64 128) h_S64x128
  let b : FVec F S64x128 .f32 ← ld B .b (top 64 128 64 128) h_S64x128
  rest W c p (spread g) (spread b)

end Program

end Cert.Pwa
-- ==== Proof.Boxes.lean ====
/-
  Boxes of an array overwritten one after another: what a position holds is what the last box over it
  put there.
-/
module

public import proofs.«01_k».proof.Proof.Steps
public import Idealize.ShloMosaic.Lib.ValueIdxCore

@[expose] public section

noncomputable section

namespace Cert.Pwa

open Idealize.ShloMosaic Idealize.ShloMosaic.ValueIdx

/-- Eight changes of an array, in order. -/
def eight {A : Type} (f : Fin 8 → A → A) (X : A) : A := f 7 (f 6 (f 5 (f 4 (f 3 (f 2 (f 1 (f 0 X)))))))

section Eight
variable {I A : Type} {f : Fin 8 → (I → A) → I → A} {y : I}

/-- A position no change reaches. -/
theorem eight_keep (h : ∀ l X, f l X y = X y) (X : I → A) : eight f X y = X y := by
  unfold eight; simp only [h]

/-- A position one change reaches. -/
theorem eight_at (k : Fin 8) {v : A} (hk : ∀ X, f k X y = v) (h : ∀ l, l ≠ k → ∀ X, f l X y = X y) (X : I → A) : eight f X y = v := by
  have e : ∀ l : Fin 8, k = l → ∀ X, f l X y = v := fun l hl X => hl ▸ hk X
  unfold eight
  by_cases h7 : k = 7; · exact e 7 h7 _
  rw [h 7 (Ne.symm h7)]
  by_cases h6 : k = 6; · exact e 6 h6 _
  rw [h 6 (Ne.symm h6)]
  by_cases h5 : k = 5; · exact e 5 h5 _
  rw [h 5 (Ne.symm h5)]
  by_cases h4 : k = 4; · exact e 4 h4 _
  rw [h 4 (Ne.symm h4)]
  by_cases h3 : k = 3; · exact e 3 h3 _
  rw [h 3 (Ne.symm h3)]
  by_cases h2 : k = 2; · exact e 2 h2 _
  rw [h 2 (Ne.symm h2)]
  by_cases h1 : k = 1; · exact e 1 h1 _
  rw [h 1 (Ne.symm h1)]
  have h0 : k = 0 := by omega
  exact e 0 h0 _

end Eight

section Put
variable {s : Shape} {A : Type}

/-- A box whose coordinates on one axis differ from the position's. -/
theorem put_off_axis (X : s.Idx → A) (r : Rect s) (w : r.shape.Idx → A) {y : s.Idx} (a : Fin s.rank)
    (h : ∀ x : r.shape.Idx, (r.emb x a : Nat) ≠ (y a : Nat)) : put X r w y = X y :=
  put_of_forall_ne X r w fun x e => h x (congrArg (fun i : s.Idx => (i a : Nat)) e)

/-- Boxes of one shape, separated on an axis. -/
theorem get_eight_put (r : Fin 8 → Rect s) (w : ∀ k, (r k).shape.Idx → A) (a : Fin s.rank)
    (h : ∀ k l, l ≠ k → ∀ (x : (r k).shape.Idx) (x' : (r l).shape.Idx), ((r l).emb x' a : Nat) ≠ ((r k).emb x a : Nat))
    (X : s.Idx → A) (k : Fin 8) : get (eight (fun k X => put X (r k) (w k)) X) (r k) = w k := by
  funext x
  exact eight_at k (fun X => put_emb X (r k) (w k) x) (fun l hl X => put_off_axis X (r l) (w l) a (h k l hl x)) X

end Put

/-! ## The boxes of a step, separated -/

theorem row2_sep (B : Nat) (k l : Fin 8) (h : l ≠ k) (x : (row2 B k).shape.Idx) (x' : (row2 B l).shape.Idx) :
    ((row2 B l).emb x' (0 : Fin 2) : Nat) ≠ ((row2 B k).emb x (0 : Fin 2) : Nat) := by
  have h1 : ((x (0 : Fin 2) : Fin _) : Nat) < 1 := (x (0 : Fin 2)).isLt
  have h2 : ((x' (0 : Fin 2) : Fin _) : Nat) < 1 := (x' (0 : Fin 2)).isLt
  show l.val + 1 * (x' (0 : Fin 2) : Nat) ≠ k.val + 1 * (x (0 : Fin 2) : Nat)
  omega

theorem slab_sep (B C : Nat) (k l : Fin 8) (h : l ≠ k) (x : (slab B C k).shape.Idx) (x' : (slab B C l).shape.Idx) :
    ((slab B C l).emb x' (0 : Fin 3) : Nat) ≠ ((slab B C k).emb x (0 : Fin 3) : Nat) := by
  have h1 : ((x (0 : Fin 3) : Fin _) : Nat) < 1 := (x (0 : Fin 3)).isLt
  have h2 : ((x' (0 : Fin 3) : Fin _) : Nat) < 1 := (x' (0 : Fin 3)).isLt
  show l.val + 1 * (x' (0 : Fin 3) : Nat) ≠ k.val + 1 * (x (0 : Fin 3) : Nat)
  omega

theorem slotRow_sep (B : Nat) (c : Fin 2) (k l : Fin 8) (h : l ≠ k) (x : (slotRow B c k).shape.Idx) (x' : (slotRow B c l).shape.Idx) :
    ((slotRow B c l).emb x' (1 : Fin 3) : Nat) ≠ ((slotRow B c k).emb x (1 : Fin 3) : Nat) := by
  have h1 : ((x (1 : Fin 3) : Fin _) : Nat) < 1 := (x (1 : Fin 3)).isLt
  have h2 : ((x' (1 : Fin 3) : Fin _) : Nat) < 1 := (x' (1 : Fin 3)).isLt
  show l.val + 1 * (x' (1 : Fin 3) : Nat) ≠ k.val + 1 * (x (1 : Fin 3) : Nat)
  omega

theorem slotSlab_sep (B C : Nat) (c : Fin 2) (k l : Fin 8) (h : l ≠ k) (x : (slotSlab B C c k).shape.Idx) (x' : (slotSlab B C c l).shape.Idx) :
    ((slotSlab B C c l).emb x' (1 : Fin 4) : Nat) ≠ ((slotSlab B C c k).emb x (1 : Fin 4) : Nat) := by
  have h1 : ((x (1 : Fin 4) : Fin _) : Nat) < 1 := (x (1 : Fin 4)).isLt
  have h2 : ((x' (1 : Fin 4) : Fin _) : Nat) < 1 := (x' (1 : Fin 4)).isLt
  show l.val + 1 * (x' (1 : Fin 4) : Nat) ≠ k.val + 1 * (x (1 : Fin 4) : Nat)
  omega

/-- Boxes of the other slot leave a slot's row alone. -/
theorem slotRow_other (B : Nat) {c p : Fin 2} (h : c ≠ p) (k l : Fin 8) (x : (slotRow B p k).shape.Idx) (x' : (slotRow B c l).shape.Idx) :
    ((slotRow B c l).emb x' (0 : Fin 3) : Nat) ≠ ((slotRow B p k).emb x (0 : Fin 3) : Nat) := by
  have h1 : ((x (0 : Fin 3) : Fin _) : Nat) < 1 := (x (0 : Fin 3)).isLt
  have h2 : ((x' (0 : Fin 3) : Fin _) : Nat) < 1 := (x' (0 : Fin 3)).isLt
  show c.val + 1 * (x' (0 : Fin 3) : Nat) ≠ p.val + 1 * (x (0 : Fin 3) : Nat)
  omega

/-- Boxes of the other slot leave a slot's slab alone. -/
theorem slotSlab_other (B C : Nat) {c p : Fin 2} (h : c ≠ p) (k l : Fin 8) (x : (slotSlab B C p k).shape.Idx) (x' : (slotSlab B C c l).shape.Idx) :
    ((slotSlab B C c l).emb x' (0 : Fin 4) : Nat) ≠ ((slotSlab B C p k).emb x (0 : Fin 4) : Nat) := by
  have h1 : ((x (0 : Fin 4) : Fin _) : Nat) < 1 := (x (0 : Fin 4)).isLt
  have h2 : ((x' (0 : Fin 4) : Fin _) : Nat) < 1 := (x' (0 : Fin 4)).isLt
  show c.val + 1 * (x' (0 : Fin 4) : Nat) ≠ p.val + 1 * (x (0 : Fin 4) : Nat)
  omega

theorem vCell_other {c p : Fin 2} (h : c ≠ p) (k l m : Fin 8) (x : (slotSlab 256 512 p k).shape.Idx) (x' : (vCell c l m).shape.Idx) :
    ((vCell c l m).emb x' (0 : Fin 4) : Nat) ≠ ((slotSlab 256 512 p k).emb x (0 : Fin 4) : Nat) := by
  have h1 : ((x (0 : Fin 4) : Fin _) : Nat) < 1 := (x (0 : Fin 4)).isLt
  have h2 : ((x' (0 : Fin 4) : Fin _) : Nat) < 1 := (x' (0 : Fin 4)).isLt
  show c.val + 1 * (x' (0 : Fin 4) : Nat) ≠ p.val + 1 * (x (0 : Fin 4) : Nat)
  omega

theorem div32_lt {n : Nat} (h : n < 256) : n / 32 < 8 := by omega
theorem mod32_lt (n : Nat) : n % 32 < 32 := by omega

/-- The codes of head `h`, put cell by cell: row `r` of the slab is row `r % 32` of the cell of sequence `r / 32`. -/
theorem get_v {A : Type} (c : Fin 2) (w : Fin 8 → Fin 8 → (⟨4, ![1, 1, 32, 512]⟩ : Shape).Idx → A)
    (X : (⟨4, ![2, 8, 256, 512]⟩ : Shape).Idx → A) (h : Fin 8) (a b : Fin 1) (r : Fin 256) (n : Fin 512) :
    eight (fun k X => eight (fun h X => put X (vCell c h k) (w k h)) X) X ((slotSlab 256 512 c h).emb (ix4 a b r n))
      = w ⟨r.val / 32, div32_lt r.isLt⟩ h (ix4 a b ⟨r.val % 32, mod32_lt _⟩ n) := by
  have h0 := a.isLt
  have h1 := b.isLt
  refine eight_at ⟨r.val / 32, div32_lt r.isLt⟩ (fun X => ?_) (fun l hl X => ?_) X
  · refine eight_at h (fun X => ?_) (fun l hl X => ?_) X
    · refine Eq.trans (congrArg _ ?_) (put_emb X (vCell c h ⟨r.val / 32, div32_lt r.isLt⟩) (w ⟨r.val / 32, div32_lt r.isLt⟩ h) (ix4 a b ⟨r.val % 32, mod32_lt _⟩ n))
      funext d
      refine Fin.ext ?_
      match d with
      | ⟨0, _⟩ => rfl
      | ⟨1, _⟩ => rfl
      | ⟨2, _⟩ => show 0 + 1 * r.val = 32 * (r.val / 32) + 1 * (r.val % 32); omega
      | ⟨3, _⟩ => rfl
    · refine put_off_axis X _ _ (1 : Fin 4) fun x' => ?_
      have h2 : ((x' (1 : Fin 4) : Fin _) : Nat) < 1 := (x' (1 : Fin 4)).isLt
      show l.val + 1 * (x' (1 : Fin 4) : Nat) ≠ h.val + 1 * b.val
      omega
  · refine eight_keep (fun h' X => put_off_axis X _ _ (2 : Fin 4) fun x' => ?_) X
    have h2 : ((x' (2 : Fin 4) : Fin _) : Nat) < 32 := (x' (2 : Fin 4)).isLt
    have h3 : l.val ≠ r.val / 32 := fun e => hl (Fin.ext e)
    show 32 * l.val + 1 * (x' (2 : Fin 4) : Nat) ≠ 0 + 1 * r.val
    omega

/-- The averages of sequence `k`, put cell by cell: row `r` of the slab is row `r % 32` of the cell of head `r / 32`. -/
theorem get_og {A : Type} (w : Fin 8 → Fin 8 → (⟨3, ![1, 32, 512]⟩ : Shape).Idx → A)
    (X : (⟨3, ![8, 256, 512]⟩ : Shape).Idx → A) (k : Fin 8) (a : Fin 1) (r : Fin 256) (n : Fin 512) :
    eight (fun h X => eight (fun k X => put X (ogCell k h) (w h k)) X) X ((slab 256 512 k).emb (ix3 a r n))
      = w ⟨r.val / 32, div32_lt r.isLt⟩ k (ix3 a ⟨r.val % 32, mod32_lt _⟩ n) := by
  have h0 := a.isLt
  refine eight_at ⟨r.val / 32, div32_lt r.isLt⟩ (fun X => ?_) (fun l hl X => ?_) X
  · refine eight_at k (fun X => ?_) (fun l hl X => ?_) X
    · refine Eq.trans (congrArg _ ?_) (put_emb X (ogCell k ⟨r.val / 32, div32_lt r.isLt⟩) (w ⟨r.val / 32, div32_lt r.isLt⟩ k) (ix3 a ⟨r.val % 32, mod32_lt _⟩ n))
      funext d
      refine Fin.ext ?_
      match d with
      | ⟨0, _⟩ => rfl
      | ⟨1, _⟩ => show 0 + 1 * r.val = 32 * (r.val / 32) + 1 * (r.val % 32); omega
      | ⟨2, _⟩ => rfl
    · refine put_off_axis X _ _ (0 : Fin 3) fun x' => ?_
      have h2 : ((x' (0 : Fin 3) : Fin _) : Nat) < 1 := (x' (0 : Fin 3)).isLt
      show l.val + 1 * (x' (0 : Fin 3) : Nat) ≠ k.val + 1 * a.val
      omega
  · refine eight_keep (fun h' X => put_off_axis X _ _ (1 : Fin 3) fun x' => ?_) X
    have h2 : ((x' (1 : Fin 3) : Fin _) : Nat) < 32 := (x' (1 : Fin 3)).isLt
    have h3 : l.val ≠ r.val / 32 := fun e => hl (Fin.ext e)
    show 32 * l.val + 1 * (x' (1 : Fin 3) : Nat) ≠ 0 + 1 * r.val
    omega

/-- Arrays equal at every position given by its coordinates. -/
theorem ext4 {A : Type} {a b c d : Nat} {f g : (⟨4, ![a, b, c, d]⟩ : Shape).Idx → A} (h : ∀ i j k l, f (ix4 i j k l) = g (ix4 i j k l)) : f = g := by
  funext x
  have e := h (x 0) (x 1) (x 2) (x 3)
  have ex := eq_ix4 x
  exact (congrArg f ex).trans (e.trans (congrArg g ex.symm))

theorem ext3 {A : Type} {a b c : Nat} {f g : (⟨3, ![a, b, c]⟩ : Shape).Idx → A} (h : ∀ i j k, f (ix3 i j k) = g (ix3 i j k)) : f = g := by
  funext x
  have e := h (x 0) (x 1) (x 2)
  have ex := eq_ix3 x
  exact (congrArg f ex).trans (e.trans (congrArg g ex.symm))

theorem get_apply {s : Shape} {A : Type} (X : s.Idx → A) (r : Rect s) (x : r.shape.Idx) : get X r x = X (r.emb x) := rfl

/-- A box no change reaches. -/
theorem get_eight_keep {s : Shape} {A : Type} {f : Fin 8 → (s.Idx → A) → s.Idx → A} (r : Rect s)
    (h : ∀ x l X, f l X (r.emb x) = X (r.emb x)) (X : s.Idx → A) : get (eight f X) r = get X r :=
  funext fun x => eight_keep (h x) X

/-- The head's whole slab of codes. -/
theorem get_v_slab {A : Type} (c : Fin 2) (w : Fin 8 → Fin 8 → (⟨4, ![1, 1, 32, 512]⟩ : Shape).Idx → A)
    (X : (⟨4, ![2, 8, 256, 512]⟩ : Shape).Idx → A) (h : Fin 8) :
    get (eight (fun k X => eight (fun h X => put X (vCell c h k) (w k h)) X) X) (slotSlab 256 512 c h)
      = fun x : (⟨4, ![1, 1, 256, 512]⟩ : Shape).Idx =>
        w ⟨(x 2).val / 32, div32_lt (x 2).isLt⟩ h (ix4 (x 0) (x 1) ⟨(x 2).val % 32, mod32_lt _⟩ (x 3)) := by
  refine ext4 (a := 1) (b := 1) (c := 256) (d := 512) fun a b r n => ?_
  exact (get_apply _ _ _).trans (get_v c w X h a b r n)

/-- The other slot's codes. -/
theorem get_v_kept {A : Type} {c p : Fin 2} (hcp : c ≠ p) (w : Fin 8 → Fin 8 → (⟨4, ![1, 1, 32, 512]⟩ : Shape).Idx → A)
    (X : (⟨4, ![2, 8, 256, 512]⟩ : Shape).Idx → A) (h : Fin 8) :
    get (eight (fun k X => eight (fun h X => put X (vCell c h k) (w k h)) X) X) (slotSlab 256 512 p h) = get X (slotSlab 256 512 p h) :=
  get_eight_keep _ (fun x l X => eight_keep (fun h' X => put_off_axis X _ _ (0 : Fin 4) (vCell_other hcp h h' l x)) X) X

/-- The sequence's whole slab of averages. -/
theorem get_og_slab {A : Type} (w : Fin 8 → Fin 8 → (⟨3, ![1, 32, 512]⟩ : Shape).Idx → A)
    (X : (⟨3, ![8, 256, 512]⟩ : Shape).Idx → A) (k : Fin 8) :
    get (eight (fun h X => eight (fun k X => put X (ogCell k h) (w h k)) X) X) (slab 256 512 k)
      = fun x : (⟨3, ![1, 256, 512]⟩ : Shape).Idx =>
        w ⟨(x 1).val / 32, div32_lt (x 1).isLt⟩ k (ix3 (x 0) ⟨(x 1).val % 32, mod32_lt _⟩ (x 2)) := by
  refine ext3 (a := 1) (b := 256) (c := 512) fun a r n => ?_
  exact (get_apply _ _ _).trans (get_og w X k a r n)

/-- Boxes that miss a box on an axis leave it alone. -/
theorem get_eight_other {s : Shape} {A : Type} (r : Fin 8 → Rect s) (w : ∀ k, (r k).shape.Idx → A) (q : Rect s) (a : Fin s.rank)
    (h : ∀ l (x : q.shape.Idx) (x' : (r l).shape.Idx), ((r l).emb x' a : Nat) ≠ (q.emb x a : Nat))
    (X : s.Idx → A) : get (eight (fun k X => put X (r k) (w k)) X) q = get X q :=
  get_eight_keep q (fun x l X => put_off_axis X (r l) (w l) a (h l x)) X

/-! ## An array from its boxes -/

/-- An array of eight slabs from the slabs. -/
def ofSlabs {A : Type} {B C : Nat} (f : Fin 8 → (⟨3, ![1, B, C]⟩ : Shape).Idx → A) : (⟨3, ![8, B, C]⟩ : Shape).Idx → A :=
  fun y => f (y 0) (ix3 0 (y 1) (y 2))

/-- An array of eight rows from the rows. -/
def ofRows {A : Type} {B : Nat} (f : Fin 8 → (⟨2, ![1, B]⟩ : Shape).Idx → A) : (⟨2, ![8, B]⟩ : Shape).Idx → A :=
  fun y => f (y 0) (ix2 0 (y 1))

theorem eq_ofSlabs {A : Type} {B C : Nat} {X : (⟨3, ![8, B, C]⟩ : Shape).Idx → A} {f : Fin 8 → (⟨3, ![1, B, C]⟩ : Shape).Idx → A}
    (h : ∀ k, get X (slab B C k) = f k) : X = ofSlabs f := by
  funext y
  refine Eq.trans (congrArg X ?_) (congrFun (h (y 0)) (ix3 0 (y 1) (y 2)))
  funext a
  refine Fin.ext ?_
  match a with
  | ⟨0, _⟩ => rfl
  | ⟨1, _⟩ => show (y (1 : Fin 3)).val = 0 + 1 * (y (1 : Fin 3)).val; omega
  | ⟨2, _⟩ => show (y (2 : Fin 3)).val = 0 + 1 * (y (2 : Fin 3)).val; omega

theorem eq_ofRows {A : Type} {B : Nat} {X : (⟨2, ![8, B]⟩ : Shape).Idx → A} {f : Fin 8 → (⟨2, ![1, B]⟩ : Shape).Idx → A}
    (h : ∀ k, get X (row2 B k) = f k) : X = ofRows f := by
  funext y
  refine Eq.trans (congrArg X ?_) (congrFun (h (y 0)) (ix2 0 (y 1)))
  funext a
  refine Fin.ext ?_
  match a with
  | ⟨0, _⟩ => rfl
  | ⟨1, _⟩ => show (y (1 : Fin 2)).val = 0 + 1 * (y (1 : Fin 2)).val; omega

/-- A matrix overwritten whole. -/
theorem put_top {A : Type} {m n : Nat} (X : (⟨2, ![m, n]⟩ : Shape).Idx → A) (w : (⟨2, ![m, n]⟩ : Shape).Idx → A) :
    put X (top m n m n le_rfl le_rfl) w = w := by
  funext y
  refine Eq.trans (congrArg _ ?_) (put_emb X (top m n m n le_rfl le_rfl) w y)
  funext a
  refine Fin.ext ?_
  match a with
  | ⟨0, _⟩ => show (y (0 : Fin 2)).val = 0 + 1 * (y (0 : Fin 2)).val; omega
  | ⟨1, _⟩ => show (y (1 : Fin 2)).val = 0 + 1 * (y (1 : Fin 2)).val; omega

/-! ## A slot overwritten whole -/

theorem put_slot4 {A : Type} (B C : Nat) (p : Fin 2) (X : (⟨4, ![2, 8, B, C]⟩ : Shape).Idx → A) (v : A) (k : Fin 8)
    (a b : Fin 1) (r : Fin B) (n : Fin C) :
    put X (slot4 B C p) (fun _ => v) ((slotSlab B C p k).emb (ix4 a b r n)) = v := by
  have h0 := a.isLt
  have h1 := b.isLt
  refine Eq.trans (congrArg _ ?_) (put_emb X (slot4 B C p) (fun _ => v) (ix4 a k r n))
  funext d
  refine Fin.ext ?_
  match d with
  | ⟨0, _⟩ => rfl
  | ⟨1, _⟩ => show k.val + 1 * b.val = 0 + 1 * k.val; omega
  | ⟨2, _⟩ => rfl
  | ⟨3, _⟩ => rfl

theorem put_slot3 {A : Type} (B : Nat) (p : Fin 2) (X : (⟨3, ![2, 8, B]⟩ : Shape).Idx → A) (v : A) (k : Fin 8)
    (a b : Fin 1) (n : Fin B) :
    put X (slot3 B p) (fun _ => v) ((slotRow B p k).emb (ix3 a b n)) = v := by
  have h0 := a.isLt
  have h1 := b.isLt
  refine Eq.trans (congrArg _ ?_) (put_emb X (slot3 B p) (fun _ => v) (ix3 a k n))
  funext d
  refine Fin.ext ?_
  match d with
  | ⟨0, _⟩ => rfl
  | ⟨1, _⟩ => show k.val + 1 * b.val = 0 + 1 * k.val; omega
  | ⟨2, _⟩ => rfl

theorem get_slot4 {A : Type} (B C : Nat) (p : Fin 2) (X : (⟨4, ![2, 8, B, C]⟩ : Shape).Idx → A) (v : A) (k : Fin 8) :
    get (put X (slot4 B C p) fun _ => v) (slotSlab B C p k) = fun _ => v := by
  refine funext fun (x : (⟨4, ![1, 1, B, C]⟩ : Shape).Idx) => ?_
  rw [eq_ix4 x]
  exact put_slot4 B C p X v k _ _ _ _

theorem get_slot3 {A : Type} (B : Nat) (p : Fin 2) (X : (⟨3, ![2, 8, B]⟩ : Shape).Idx → A) (v : A) (k : Fin 8) :
    get (put X (slot3 B p) fun _ => v) (slotRow B p k) = fun _ => v := by
  refine funext fun (x : (⟨3, ![1, 1, B]⟩ : Shape).Idx) => ?_
  rw [eq_ix3 x]
  exact put_slot3 B p X v k _ _ _

end Cert.Pwa
-- ==== Proof.Run.lean ====
/-
  What one step of the kernel leaves: its results as functions of the staged operands and of the scratch
  slot filled by the step before.
-/
module

public import proofs.«01_k».proof.Proof.Boxes

@[expose] public section

noncomputable section

namespace Cert.Pwa

open Idealize.ShloMosaic Idealize.ShloMosaic.TcCoe Idealize.ShloMosaic.ValueIdx
open Idealize.SL Idealize.SL.RA Idealize.SL.Sem
open Cert.Kernel (S8x64x512 S64x128 S256x64 S256x128 S64x256 S8x512x512 S8x1x512 S8x512 S8x256x512 S8x256 S8x512x256 S2x8x64x512 S2x8x512
  S2x8x256x512 S2x8x256x128 S1x64x512 S1x512 S1x1x64x512 S1x1x512 S256x1 S64x1 S1x1x256x128 S1x256x512 S1x1x32x512 S32x512 S1x1x256x512 S1x512x512
  S1x32x512 S1x512x256 S1x8x64x512 S1x8x512 S1x8x256x512 S1x8x256x128 S64x512 S256x512 S8x256x128 S512x256)
open Cert.Kernel.Facts₀ Cert.Kernel.Facts

/-! ## What a step computes -/

section Values

variable {F : FTy → Type} [FloatOps F] [Cert.Kernel.Facts]

variable (G Bt : FVec F S64x128 .f32) (M : FVec F S8x64x512 .bf16) (wv : FVec F S256x64 .bf16) (ws : FVec F S256x128 .f32)

/-- A layer norm parameter over a whole sequence. -/
abbrev wide (G : FVec F S64x128 .f32) : FVec F S64x512 .f32 := spread (get G (top 64 128 64 128))

/-- The first column of a lane-broadcast scale. -/
abbrev col (ws : FVec F S256x128 .f32) : FVec F S256x1 .f32 := get ws (top 256 128 256 1)

/-- The matrix of a projection. -/
abbrev mat (wv : FVec F S256x64 .bf16) : FVec F S256x64 .bf16 := get wv (top 256 64 256 64)

/-- Sequence `k`'s projected values, before the weights' scales. -/
def projected (k : Fin 8) : FVec F S256x512 .f32 :=
  project (mat wv) (xLow (wide G) (wide Bt) (get M (slab 64 512 k))) (xScale (wide G) (wide Bt) (get M (slab 64 512 k)))

def x2cRow (k : Fin 8) : IVec S1x64x512 8 :=
  shapeCast S1x64x512 (fptosi 8 (xCode (wide G) (wide Bt) (get M (slab 64 512 k)))) shapeCasts_S64x512_S1x64x512
def x2sRow (k : Fin 8) : FVec F S1x512 .f32 := xScale (wide G) (wide Bt) (get M (slab 64 512 k))
def vcRow (k : Fin 8) : IVec S1x256x512 8 :=
  shapeCast S1x256x512 (fptosi 8 (vCode (projected G Bt M wv k) (col ws))) shapeCasts_S256x512_S1x256x512
def vsRow (k : Fin 8) : FVec F S256x1 .f32 := vScale (projected G Bt M wv k) (col ws)
def vCellRow (k h : Fin 8) : FVec F S1x1x32x512 .bf16 :=
  shapeCast S1x1x32x512 (rows32 h (vLow (projected G Bt M wv k) (col ws))) shapeCasts_S32x512_S1x1x32x512

/-- A scratch slot: a block's normed codes and scales, its heads' codes, its values' scales. -/
@[ext] structure Slot (F : FTy → Type) where
  xb : Fin 8 → FVec F S1x1x64x512 .bf16
  xs : Fin 8 → FVec F S1x1x512 .f32
  v : Fin 8 → FVec F S1x1x256x512 .bf16
  vsc : Fin 8 → FVec F S1x1x256x128 .f32

/-- The slot of zeros. -/
def Slot.zero : Slot F where
  xb _ := fun _ => Scalar.ofBits .bf16 0x0000#16
  xs _ := fun _ => Scalar.ofBits .f32 0x00000000#32
  v _ := fun _ => Scalar.ofBits .bf16 0x0000#16
  vsc _ := fun _ => Scalar.ofBits .f32 0x00000000#32

/-- The slot a step fills from its block. -/
def Slot.filled : Slot F where
  xb k := shapeCast S1x1x64x512 (xLow (wide G) (wide Bt) (get M (slab 64 512 k))) shapeCasts_S64x512_S1x1x64x512
  xs k := shapeCast S1x1x512 (xScale (wide G) (wide Bt) (get M (slab 64 512 k))) shapeCasts_S1x512_S1x1x512
  v h := fun x => vCellRow G Bt M wv ws ⟨(x 2).val / 32, div32_lt (x 2).isLt⟩ h (ix4 (x 0) (x 1) ⟨(x 2).val % 32, mod32_lt _⟩ (x 3))
  vsc k := shapeCast S1x1x256x128 (lanes (vScale (projected G Bt M wv k) (col ws))) shapeCasts_S256x128_S1x1x256x128

variable (s : Slot F) (wg : FVec F S256x64 .bf16) (wgs : FVec F S256x128 .f32) (wo : FVec F S64x256 .bf16) (wos : FVec F S64x128 .f32)
  (wt : FVec F S8x512x512 .bf16) (fac : FVec F S8x1x512 .f32) (mp : FVec F S8x64x512 .bf16)

/-- Head `h`'s averages for sequence `k`. -/
def ogCellRow (h k : Fin 8) : FVec F S1x32x512 .f32 :=
  shapeCast S1x32x512 (rows32 k (averaged (s.v h) (get wt (slab 512 512 h)) (get fac (slab 1 512 h)))) shapeCasts_S32x512_S1x32x512

/-- Sequence `k`'s averages. -/
def ogRow (k : Fin 8) : FVec F S1x256x512 .f32 := fun x =>
  ogCellRow s wt fac ⟨(x 1).val / 32, div32_lt (x 1).isLt⟩ k (ix3 (x 0) ⟨(x 1).val % 32, mod32_lt _⟩ (x 2))

/-- Sequence `k`'s gated averages. -/
def gatedRow (k : Fin 8) : FVec F S256x512 .f32 :=
  gated (gate (s.xs k) (mat wg) (s.xb k) (col wgs)) (ogRow s wt fac k) (s.vsc k)

def ogsRow (k : Fin 8) : FVec F S1x512 .f32 := ogScale (gatedRow s wg wgs wt fac k)
def ogcRow (k : Fin 8) : IVec S1x512x256 8 := shapeCast S1x512x256 (ogRows (gatedRow s wg wgs wt fac k)) shapeCasts_S512x256_S1x512x256
def moRow (k : Fin 8) : FVec F S1x64x512 .bf16 :=
  shapeCast S1x64x512 (updated (gatedRow s wg wgs wt fac k) (get wo (top 64 256 64 256)) (get wos (top 64 128 64 1)) (get mp (slab 64 512 k)))
    shapeCasts_S64x512_S1x64x512

end Values

/-! ## The states a step goes through -/

section States

variable {F : FTy → Type} [FloatOps F] [Cert.Kernel.Facts]

/-- What the arrays of a step hold. -/
abbrev St (F : FTy → Type) : Type := Store (Elt F) Arr.shape Arr.elt

/-- The slot `s` is what the scratch holds in slot `p`. -/
structure Slot.In (s : Slot F) (σ : St F) (p : Fin 2) : Prop where
  xb : ∀ k, get (σ .xb) (slotSlab 64 512 p k) = s.xb k
  xs : ∀ k, get (σ .xs) (slotRow 512 p k) = s.xs k
  v : ∀ k, get (σ .v) (slotSlab 256 512 p k) = s.v k
  vsc : ∀ k, get (σ .vsc) (slotSlab 256 128 p k) = s.vsc k

/-- After the zeroing of slot `p`. -/
def afterZeros (σ : St F) (p : Fin 2) : St F
  | .xb => put (σ .xb) (slot4 64 512 p) fun _ => Scalar.ofBits .bf16 0x0000#16
  | .xs => put (σ .xs) (slot3 512 p) fun _ => Scalar.ofBits .f32 0x00000000#32
  | .v => put (σ .v) (slot4 256 512 p) fun _ => Scalar.ofBits .bf16 0x0000#16
  | .vsc => put (σ .vsc) (slot4 256 128 p) fun _ => Scalar.ofBits .f32 0x00000000#32
  | j => σ j

/-- After the values of sequence `k`. -/
def afterValues (G Bt : FVec F S64x128 .f32) (M : FVec F S8x64x512 .bf16) (wv : FVec F S256x64 .bf16) (ws : FVec F S256x128 .f32)
    (c : Fin 2) (k : Fin 8) (σ : St F) : St F
  | .x2c => put (σ .x2c) (slab 64 512 k) (x2cRow G Bt M k)
  | .x2s => put (σ .x2s) (row2 512 k) (x2sRow G Bt M k)
  | .xb => put (σ .xb) (slotSlab 64 512 c k) ((Slot.filled G Bt M wv ws).xb k)
  | .xs => put (σ .xs) (slotRow 512 c k) ((Slot.filled G Bt M wv ws).xs k)
  | .vsc => put (σ .vsc) (slotSlab 256 128 c k) ((Slot.filled G Bt M wv ws).vsc k)
  | .vc => put (σ .vc) (slab 256 512 k) (vcRow G Bt M wv ws k)
  | .v => eight (fun h X => put X (vCell c h k) (vCellRow G Bt M wv ws k h)) (σ .v)
  | j => σ j

/-- After the averages of head `h`. -/
def afterAverage (s : Slot F) (wt : FVec F S8x512x512 .bf16) (fac : FVec F S8x1x512 .f32) (h : Fin 8) (σ : St F) : St F
  | .og => eight (fun k X => put X (ogCell k h) (ogCellRow s wt fac h k)) (σ .og)
  | j => σ j

/-- After the outputs of sequence `k`. -/
def afterOutput (s : Slot F) (wg : FVec F S256x64 .bf16) (wgs : FVec F S256x128 .f32) (wo : FVec F S64x256 .bf16) (wos : FVec F S64x128 .f32)
    (wt : FVec F S8x512x512 .bf16) (fac : FVec F S8x1x512 .f32) (mp : FVec F S8x64x512 .bf16) (k : Fin 8) (σ : St F) : St F
  | .ogs => put (σ .ogs) (row2 512 k) (ogsRow s wg wgs wt fac k)
  | .ogc => put (σ .ogc) (slab 512 256 k) (ogcRow s wg wgs wt fac k)
  | .mo => put (σ .mo) (slab 64 512 k) (moRow s wg wgs wo wos wt fac mp k)
  | j => σ j

/-- After the values of the whole block. -/
def afterBlock (G Bt : FVec F S64x128 .f32) (M : FVec F S8x64x512 .bf16) (wv : FVec F S256x64 .bf16) (ws : FVec F S256x128 .f32)
    (c : Fin 2) (σ : St F) : St F := eight (afterValues G Bt M wv ws c) σ

/-- After the scales of the whole block. -/
def afterScales (G Bt : FVec F S64x128 .f32) (M : FVec F S8x64x512 .bf16) (wv : FVec F S256x64 .bf16) (ws : FVec F S256x128 .f32) (σ : St F) : St F
  | .vs => put (σ .vs) (top 8 256 8 256) (scaleRows fun k => vsRow G Bt M wv ws k)
  | j => σ j

end States

/-! ## Each part's run -/

section Parts

variable {nD : Nat} {τ : Topo} {sig : RefSig} {Λ : Labels} {F : FTy → Type} [FloatOps F] [Cert.Kernel.Facts]
variable {Ix : Type} [DecidableEq Ix] {Name : Type} [DecidableEq Name] {U : Type} [URA U] {Lvl : Type} [Preorder Lvl]
variable {defs : Defs nD τ sig (Elt F) Λ} {𝒱 : Variants} {c₀ : Dev nD} {bd : Option 𝒱.V} {Γ : PendingWaitsCtx sig Ix} {E : Set Name}
variable {B : Bank sig Arr.shape Arr.elt} (W : ∀ j, (B j).IsWhole)

/-- A run to a state is a run to an equal one. -/
theorem Does.to {α : Type} {σ σ₁ σ₂ : St F} {p : Step nD τ sig Λ F α} {a a' : α}
    (h : Does Name U Lvl defs 𝒱 c₀ bd Γ E B σ p a σ₁) (e : σ₁ = σ₂) (ea : a = a') : Does Name U Lvl defs 𝒱 c₀ bd Γ E B σ p a' σ₂ := e ▸ ea ▸ h

theorem Does.ld (σ : St F) (j : Arr) (r : Rect j.shape) (n : 0 < r.shape.numel) :
    Does Name U Lvl defs 𝒱 c₀ bd Γ E B σ (Cert.Pwa.ld B j r n) (get (σ j) r) σ := Does.load σ j r _

theorem Does.put (σ : St F) (j : Arr) (r : Rect j.shape) (w : r.shape.Idx → Elt F j.elt) (n : 0 < r.shape.numel)
    (h : ((B j).access r).Stores Finset.univ) :
    Does Name U Lvl defs 𝒱 c₀ bd Γ E B σ (Cert.Pwa.put' B j r w n h) ⟨⟩ (setAt σ j (Cert.Pwa.put (σ j) r w)) :=
  Does.bind (Does.load σ j r _) (Does.store σ j r w h _)

variable (G Bt : FVec F S64x128 .f32) (M : FVec F S8x64x512 .bf16) (wv : FVec F S256x64 .bf16) (ws : FVec F S256x128 .f32)

theorem zeros_does (σ : St F) (p : Fin 2) : Does Name U Lvl defs 𝒱 c₀ bd Γ E B σ (zeros W p) ⟨⟩ (afterZeros σ p) := by
  refine Does.to (a := ⟨⟩) (Does.bind (Does.put σ _ _ _ _ _) <| Does.bind (Does.put _ _ _ _ _ _) <| Does.bind (Does.put _ _ _ _ _ _) <|
    Does.put _ _ _ _ _ _) ?_ rfl
  funext j; cases j <;> simp only [setAt_self, setAt_of_ne, ne_eq, reduceCtorEq, not_false_eq_true, afterZeros] <;> rfl

theorem values_does (σ : St F) (c : Fin 2) (k : Fin 8) (hm : σ .m = M) (hv : σ .wv = wv) (hs : σ .wvs = ws) :
    Does Name U Lvl defs 𝒱 c₀ bd Γ E B σ (values W c (wide G) (wide Bt) k) (vsRow G Bt M wv ws k) (afterValues G Bt M wv ws c k σ) := by
  subst hm hv hs
  refine Does.to (Does.bind (Does.ld σ _ _ _) <| Does.bind (Does.put _ _ _ _ _ _) <| Does.bind (Does.put _ _ _ _ _ _) <|
    Does.bind (Does.put _ _ _ _ _ _) <| Does.bind (Does.put _ _ _ _ _ _) <| Does.bind (Does.ld _ _ _ _) <| Does.bind (Does.ld _ _ _ _) <|
    Does.bind (Does.put _ _ _ _ _ _) <| Does.bind (Does.put _ _ _ _ _ _) <|
    Does.bind (Does.put _ _ _ _ _ _) <| Does.bind (Does.put _ _ _ _ _ _) <| Does.bind (Does.put _ _ _ _ _ _) <|
    Does.bind (Does.put _ _ _ _ _ _) <| Does.bind (Does.put _ _ _ _ _ _) <| Does.bind (Does.put _ _ _ _ _ _) <|
    Does.bind (Does.put _ _ _ _ _ _) <| Does.bind (Does.put _ _ _ _ _ _) <| Does.ret _ _) ?_ ?_
  rotate_left
  · simp only [setAt_of_ne, ne_eq, reduceCtorEq, not_false_eq_true]; rfl
  funext j; cases j <;> simp only [setAt_self, setAt_of_ne, ne_eq, reduceCtorEq, not_false_eq_true, afterValues]
  case v => simp only [eight]; rfl
  all_goals rfl

theorem average_does (σ : St F) (s : Slot F) (wt : FVec F S8x512x512 .bf16) (fac : FVec F S8x1x512 .f32) (p : Fin 2) (h : Fin 8)
    (hv : get (σ .v) (slotSlab 256 512 p h) = s.v h) (ht : σ .wt = wt) (hf : σ .fac = fac) :
    Does Name U Lvl defs 𝒱 c₀ bd Γ E B σ (average (B := B) p h) ⟨⟩ (afterAverage s wt fac h σ) := by
  subst ht hf
  refine Does.to (a := ⟨⟩) (Does.bind (Does.ld σ _ _ _) <| Does.bind (Does.ld σ _ _ _) <| Does.bind (Does.ld σ _ _ _) <|
    Does.bind (Does.put _ _ _ _ _ _) <| Does.bind (Does.put _ _ _ _ _ _) <| Does.bind (Does.put _ _ _ _ _ _) <|
    Does.bind (Does.put _ _ _ _ _ _) <| Does.bind (Does.put _ _ _ _ _ _) <| Does.bind (Does.put _ _ _ _ _ _) <|
    Does.bind (Does.put _ _ _ _ _ _) <| Does.put _ _ _ _ _ _) ?_ rfl
  funext j; cases j <;> simp only [setAt_self, setAt_of_ne, ne_eq, reduceCtorEq, not_false_eq_true, afterAverage]
  simp only [eight, ogCellRow, ← hv]

theorem output_does (σ : St F) (s : Slot F) (p : Fin 2) (k : Fin 8) (wg : FVec F S256x64 .bf16) (wgs : FVec F S256x128 .f32)
    (wo : FVec F S64x256 .bf16) (wos : FVec F S64x128 .f32) (wt : FVec F S8x512x512 .bf16) (fac : FVec F S8x1x512 .f32) (mp : FVec F S8x64x512 .bf16)
    (hxs : get (σ .xs) (slotRow 512 p k) = s.xs k) (hg : σ .wg = wg) (hxb : get (σ .xb) (slotSlab 64 512 p k) = s.xb k) (hgs : σ .wgs = wgs)
    (hog : get (σ .og) (slab 256 512 k) = ogRow s wt fac k) (hvsc : get (σ .vsc) (slotSlab 256 128 p k) = s.vsc k)
    (ho : σ .wo = wo) (hos : σ .wos = wos) (hmp : σ .mp = mp) :
    Does Name U Lvl defs 𝒱 c₀ bd Γ E B σ (output W p k) ⟨⟩ (afterOutput s wg wgs wo wos wt fac mp k σ) := by
  subst hg hgs ho hos hmp
  refine Does.to (a := ⟨⟩) (Does.bind (Does.ld σ _ _ _) <| Does.bind (Does.ld σ _ _ _) <| Does.bind (Does.ld σ _ _ _) <|
    Does.bind (Does.ld σ _ _ _) <| Does.bind (Does.ld σ _ _ _) <| Does.bind (Does.ld σ _ _ _) <|
    Does.bind (Does.put _ _ _ _ _ _) <| Does.bind (Does.put _ _ _ _ _ _) <|
    Does.bind (Does.ld _ _ _ _) <| Does.bind (Does.ld _ _ _ _) <| Does.bind (Does.ld _ _ _ _) <| Does.put _ _ _ _ _ _) ?_ rfl
  funext j; cases j <;> simp only [setAt_self, setAt_of_ne, ne_eq, reduceCtorEq, not_false_eq_true, afterOutput]
  · simp only [moRow, gatedRow, ← hxs, ← hxb, ← hog, ← hvsc]
  · simp only [ogcRow, gatedRow, ← hxs, ← hxb, ← hog, ← hvsc]
  · simp only [ogsRow, gatedRow, ← hxs, ← hxb, ← hog, ← hvsc]

/-! ## The block's arrays, read -/

theorem block_xb (σ : St F) (c : Fin 2) : afterBlock G Bt M wv ws c σ .xb
    = eight (fun k X => put X (slotSlab 64 512 c k) ((Slot.filled G Bt M wv ws).xb k)) (σ .xb) := by
  simp only [afterBlock, eight, afterValues]
theorem block_xs (σ : St F) (c : Fin 2) : afterBlock G Bt M wv ws c σ .xs
    = eight (fun k X => put X (slotRow 512 c k) ((Slot.filled G Bt M wv ws).xs k)) (σ .xs) := by
  simp only [afterBlock, eight, afterValues]
theorem block_v (σ : St F) (c : Fin 2) : afterBlock G Bt M wv ws c σ .v
    = eight (fun k X => eight (fun h X => put X (vCell c h k) (vCellRow G Bt M wv ws k h)) X) (σ .v) := by
  simp only [afterBlock, eight, afterValues]
theorem block_vsc (σ : St F) (c : Fin 2) : afterBlock G Bt M wv ws c σ .vsc
    = eight (fun k X => put X (slotSlab 256 128 c k) ((Slot.filled G Bt M wv ws).vsc k)) (σ .vsc) := by
  simp only [afterBlock, eight, afterValues]

theorem slot_kept (s : Slot F) (σ : St F) {c p : Fin 2} (hcp : c ≠ p) (h : s.In σ p) : s.In (afterBlock G Bt M wv ws c σ) p := by
  refine ⟨fun k => ?_, fun k => ?_, fun k => ?_, fun k => ?_⟩
  · rw [block_xb, ← h.xb k]
    exact get_eight_other (fun k => slotSlab 64 512 c k) _ _ (0 : Fin 4) (slotSlab_other 64 512 hcp k) _
  · rw [block_xs, ← h.xs k]
    exact get_eight_other (fun k => slotRow 512 c k) _ _ (0 : Fin 3) (slotRow_other 512 hcp k) _
  · rw [block_v, ← h.v k]
    exact get_v_kept hcp _ _ k
  · rw [block_vsc, ← h.vsc k]
    exact get_eight_other (fun k => slotSlab 256 128 c k) _ _ (0 : Fin 4) (slotSlab_other 256 128 hcp k) _

theorem slot_filled (σ : St F) (c : Fin 2) : (Slot.filled G Bt M wv ws).In (afterBlock G Bt M wv ws c σ) c := by
  refine ⟨fun k => ?_, fun k => ?_, fun k => ?_, fun k => ?_⟩
  · rw [block_xb]
    exact get_eight_put (fun k => slotSlab 64 512 c k) (Slot.filled G Bt M wv ws).xb (1 : Fin 4) (slotSlab_sep 64 512 c) (σ .xb) k
  · rw [block_xs]
    exact get_eight_put (fun k => slotRow 512 c k) (Slot.filled G Bt M wv ws).xs (1 : Fin 3) (slotRow_sep 512 c) (σ .xs) k
  · rw [block_v]
    exact get_v_slab c (vCellRow G Bt M wv ws) (σ .v) k
  · rw [block_vsc]
    exact get_eight_put (fun k => slotSlab 256 128 c k) (Slot.filled G Bt M wv ws).vsc (1 : Fin 4) (slotSlab_sep 256 128 c) (σ .vsc) k

theorem zero_in (σ : St F) (p : Fin 2) : (Slot.zero (F := F)).In (afterZeros σ p) p := by
  refine ⟨fun k => ?_, fun k => ?_, fun k => ?_, fun k => ?_⟩
  · simp only [afterZeros]; exact get_slot4 64 512 p (σ .xb) _ k
  · simp only [afterZeros]; exact get_slot3 512 p (σ .xs) _ k
  · simp only [afterZeros]; exact get_slot4 256 512 p (σ .v) _ k
  · simp only [afterZeros]; exact get_slot4 256 128 p (σ .vsc) _ k

variable (s : Slot F) (wg : FVec F S256x64 .bf16) (wgs : FVec F S256x128 .f32) (wo : FVec F S64x256 .bf16) (wos : FVec F S64x128 .f32)
  (wt : FVec F S8x512x512 .bf16) (fac : FVec F S8x1x512 .f32) (mp : FVec F S8x64x512 .bf16)

/-- The state at the end of a step, from the state after its zeroing. -/
def afterStep (c : Fin 2) (σ : St F) : St F :=
  eight (afterOutput s wg wgs wo wos wt fac mp) (eight (afterAverage s wt fac) (afterScales G Bt M wv ws (afterBlock G Bt M wv ws c σ)))

theorem og_read (σ : St F) (k : Fin 8) : get (eight (afterAverage s wt fac) σ .og) (slab 256 512 k) = ogRow s wt fac k := by
  have e : eight (afterAverage s wt fac) σ .og = eight (fun h X => eight (fun k X => put X (ogCell k h) (ogCellRow s wt fac h k)) X) (σ .og) := by
    simp only [eight, afterAverage]
  rw [e]
  exact get_og_slab (ogCellRow s wt fac) (σ .og) k

theorem rest_does (σ : St F) (c p : Fin 2) (hcp : c ≠ p) (hs' : s.In σ p)
    (hm : σ .m = M) (hv : σ .wv = wv) (hs : σ .wvs = ws) (hwt : σ .wt = wt) (hfac : σ .fac = fac)
    (hg : σ .wg = wg) (hgs : σ .wgs = wgs) (ho : σ .wo = wo) (hos : σ .wos = wos) (hmp : σ .mp = mp) :
    Does Name U Lvl defs 𝒱 c₀ bd Γ E B σ (rest W c p (wide G) (wide Bt)) ⟨⟩ (afterStep G Bt M wv ws s wg wgs wo wos wt fac mp c σ) := by
  have hk := slot_kept G Bt M wv ws s σ hcp hs'
  have hsv := hk.v
  have hsxs := hk.xs
  have hsxb := hk.xb
  have hsvsc := hk.vsc
  have hog := og_read s wt fac (afterScales G Bt M wv ws (afterBlock G Bt M wv ws c σ))
  have e : ∀ σ : St F, setAt σ .vs (Cert.Pwa.put (σ .vs) (top 8 256 8 256) (scaleRows fun k => vsRow G Bt M wv ws k)) = afterScales G Bt M wv ws σ := fun σ => by
    funext j; cases j <;> simp only [setAt_self, setAt_of_ne, ne_eq, reduceCtorEq, not_false_eq_true, afterScales]
  exact
    Does.bind (values_does W G Bt M wv ws _ c 0 hm hv hs) <|
    Does.bind (values_does W G Bt M wv ws _ c 1 hm hv hs) <|
    Does.bind (values_does W G Bt M wv ws _ c 2 hm hv hs) <|
    Does.bind (values_does W G Bt M wv ws _ c 3 hm hv hs) <|
    Does.bind (values_does W G Bt M wv ws _ c 4 hm hv hs) <|
    Does.bind (values_does W G Bt M wv ws _ c 5 hm hv hs) <|
    Does.bind (values_does W G Bt M wv ws _ c 6 hm hv hs) <|
    Does.bind (values_does W G Bt M wv ws _ c 7 hm hv hs) <|
    Does.bind (Does.to (Does.put (afterBlock G Bt M wv ws c σ) _ _ _ _ _) (e _) rfl) <|
    Does.bind (average_does (B := B) _ s wt fac p 0 (hsv 0) hwt hfac) <|
    Does.bind (average_does (B := B) _ s wt fac p 1 (hsv 1) hwt hfac) <|
    Does.bind (average_does (B := B) _ s wt fac p 2 (hsv 2) hwt hfac) <|
    Does.bind (average_does (B := B) _ s wt fac p 3 (hsv 3) hwt hfac) <|
    Does.bind (average_does (B := B) _ s wt fac p 4 (hsv 4) hwt hfac) <|
    Does.bind (average_does (B := B) _ s wt fac p 5 (hsv 5) hwt hfac) <|
    Does.bind (average_does (B := B) _ s wt fac p 6 (hsv 6) hwt hfac) <|
    Does.bind (average_does (B := B) _ s wt fac p 7 (hsv 7) hwt hfac) <|
    Does.bind (output_does W _ s p 0 wg wgs wo wos wt fac mp (hsxs 0) hg (hsxb 0) hgs (hog 0) (hsvsc 0) ho hos hmp) <|
    Does.bind (output_does W _ s p 1 wg wgs wo wos wt fac mp (hsxs 1) hg (hsxb 1) hgs (hog 1) (hsvsc 1) ho hos hmp) <|
    Does.bind (output_does W _ s p 2 wg wgs wo wos wt fac mp (hsxs 2) hg (hsxb 2) hgs (hog 2) (hsvsc 2) ho hos hmp) <|
    Does.bind (output_does W _ s p 3 wg wgs wo wos wt fac mp (hsxs 3) hg (hsxb 3) hgs (hog 3) (hsvsc 3) ho hos hmp) <|
    Does.bind (output_does W _ s p 4 wg wgs wo wos wt fac mp (hsxs 4) hg (hsxb 4) hgs (hog 4) (hsvsc 4) ho hos hmp) <|
    Does.bind (output_does W _ s p 5 wg wgs wo wos wt fac mp (hsxs 5) hg (hsxb 5) hgs (hog 5) (hsvsc 5) ho hos hmp) <|
    Does.bind (output_does W _ s p 6 wg wgs wo wos wt fac mp (hsxs 6) hg (hsxb 6) hgs (hog 6) (hsvsc 6) ho hos hmp) <|
    output_does W _ s p 7 wg wgs wo wos wt fac mp (hsxs 7) hg (hsxb 7) hgs (hog 7) (hsvsc 7) ho hos hmp

/-- One step of the kernel: what it leaves in every array it writes, and in the slot it fills. -/
theorem body_does (σ : St F) (z : BitVec 1) (c p : Fin 2) (hcp : c ≠ p) (hz : z = 1#1 → s = Slot.zero) (hs' : z ≠ 1#1 → s.In σ p)
    (hG : σ .g = G) (hB : σ .b = Bt)
    (hm : σ .m = M) (hv : σ .wv = wv) (hs : σ .wvs = ws) (hwt : σ .wt = wt) (hfac : σ .fac = fac)
    (hg : σ .wg = wg) (hgs : σ .wgs = wgs) (ho : σ .wo = wo) (hos : σ .wos = wos) (hmp : σ .mp = mp) :
    ∃ σ' : St F, Does Name U Lvl defs 𝒱 c₀ bd Γ E B σ (body W z c p) ⟨⟩ σ'
      ∧ (σ' .g = G ∧ σ' .b = Bt ∧ σ' .m = M ∧ σ' .mp = mp ∧ σ' .wv = wv ∧ σ' .wvs = ws ∧ σ' .wg = wg ∧ σ' .wgs = wgs ∧ σ' .wo = wo ∧ σ' .wos = wos
        ∧ σ' .wt = wt ∧ σ' .fac = fac)
      ∧ σ' .mo = ofSlabs (moRow s wg wgs wo wos wt fac mp) ∧ σ' .x2c = ofSlabs (x2cRow G Bt M) ∧ σ' .x2s = ofRows (x2sRow G Bt M)
      ∧ σ' .vc = ofSlabs (vcRow G Bt M wv ws) ∧ σ' .vs = scaleRows (vsRow G Bt M wv ws)
      ∧ σ' .ogc = ofSlabs (ogcRow s wg wgs wt fac) ∧ σ' .ogs = ofRows (ogsRow s wg wgs wt fac)
      ∧ (Slot.filled G Bt M wv ws).In σ' c := by
  have hstart : ∃ σ₀ : St F, Does Name U Lvl defs 𝒱 c₀ bd Γ E B σ (start W z p) ⟨⟩ σ₀ ∧ s.In σ₀ p ∧
      (σ₀ .g = G ∧ σ₀ .b = Bt ∧ σ₀ .m = M ∧ σ₀ .wv = wv ∧ σ₀ .wvs = ws ∧ σ₀ .wt = wt ∧ σ₀ .fac = fac ∧ σ₀ .wg = wg ∧ σ₀ .wgs = wgs
        ∧ σ₀ .wo = wo ∧ σ₀ .wos = wos ∧ σ₀ .mp = mp) := by
    by_cases h : z = 1#1
    · refine ⟨afterZeros σ p, ?_, ?_, hG, hB, hm, hv, hs, hwt, hfac, hg, hgs, ho, hos, hmp⟩
      · rw [start_pos W h]; exact zeros_does W σ p
      · rw [hz h]; exact zero_in σ p
    · refine ⟨σ, ?_, hs' h, hG, hB, hm, hv, hs, hwt, hfac, hg, hgs, ho, hos, hmp⟩
      rw [start_neg W h]; exact Does.ret σ _
  obtain ⟨σ₀, h0, hin, eG, eB, em, ev, es, ewt, ef, eg, egs, eo, eos, emp⟩ := hstart
  refine ⟨afterStep G Bt M wv ws s wg wgs wo wos wt fac mp c σ₀, ?_, ⟨eG, eB, em, emp, ev, es, eg, egs, eo, eos, ewt, ef⟩, ?_, ?_, ?_, ?_, ?_, ?_, ?_, ?_⟩
  · subst eG eB
    exact Does.bind h0 <| Does.bind (Does.ld σ₀ _ _ _) <| Does.bind (Does.ld σ₀ _ _ _) <|
      rest_does W _ _ M wv ws s wg wgs wo wos wt fac mp σ₀ c p hcp hin em ev es ewt ef eg egs eo eos emp
  · simp only [afterStep, eight, afterOutput, afterAverage, afterScales, afterBlock, afterValues]
    exact eq_ofSlabs (get_eight_put (fun k => slab 64 512 k) (moRow s wg wgs wo wos wt fac mp) (0 : Fin 3) (slab_sep 64 512) (σ₀ .mo))
  · simp only [afterStep, eight, afterOutput, afterAverage, afterScales, afterBlock, afterValues]
    exact eq_ofSlabs (get_eight_put (fun k => slab 64 512 k) (x2cRow G Bt M) (0 : Fin 3) (slab_sep 64 512) (σ₀ .x2c))
  · simp only [afterStep, eight, afterOutput, afterAverage, afterScales, afterBlock, afterValues]
    exact eq_ofRows (get_eight_put (fun k => row2 512 k) (x2sRow G Bt M) (0 : Fin 2) (row2_sep 512) (σ₀ .x2s))
  · simp only [afterStep, eight, afterOutput, afterAverage, afterScales, afterBlock, afterValues]
    exact eq_ofSlabs (get_eight_put (fun k => slab 256 512 k) (vcRow G Bt M wv ws) (0 : Fin 3) (slab_sep 256 512) (σ₀ .vc))
  · simp only [afterStep, eight, afterOutput, afterAverage, afterScales, afterBlock, afterValues]
    exact put_top _ _
  · simp only [afterStep, eight, afterOutput, afterAverage, afterScales, afterBlock, afterValues]
    exact eq_ofSlabs (get_eight_put (fun k => slab 512 256 k) (ogcRow s wg wgs wt fac) (0 : Fin 3) (slab_sep 512 256) (σ₀ .ogc))
  · simp only [afterStep, eight, afterOutput, afterAverage, afterScales, afterBlock, afterValues]
    exact eq_ofRows (get_eight_put (fun k => row2 512 k) (ogsRow s wg wgs wt fac) (0 : Fin 2) (row2_sep 512) (σ₀ .ogs))
  · have h := slot_filled G Bt M wv ws σ₀ c
    exact ⟨fun k => (congrArg (fun X => get X (slotSlab 64 512 c k)) (by simp only [afterStep, eight, afterOutput, afterAverage, afterScales, afterBlock, afterValues])).trans (h.xb k),
      fun k => (congrArg (fun X => get X (slotRow 512 c k)) (by simp only [afterStep, eight, afterOutput, afterAverage, afterScales, afterBlock, afterValues])).trans (h.xs k),
      fun k => (congrArg (fun X => get X (slotSlab 256 512 c k)) (by simp only [afterStep, eight, afterOutput, afterAverage, afterScales, afterBlock, afterValues])).trans (h.v k),
      fun k => (congrArg (fun X => get X (slotSlab 256 128 c k)) (by simp only [afterStep, eight, afterOutput, afterAverage, afterScales, afterBlock, afterValues])).trans (h.vsc k)⟩

end Parts

end Cert.Pwa
-- ==== Proof.RowRead.lean ====
/-
  What one step of the kernel leaves, read element by element over the extended reals.
-/
module

public import proofs.«01_k».proof.Proof.TileRead
public import proofs.«01_k».proof.Proof.Run

@[expose] public section

noncomputable section

namespace Cert.Pwa

open Idealize.ShloMosaic Idealize.SL.Sem
open Cert.Kernel (S64x128 S8x64x512 S256x64 S256x128 S64x256 S8x512x512 S8x1x512)

variable [Cert.Kernel.Facts]

/-! ## Boxes at an index -/

theorem get_slab {A : Type} {B C : Nat} (X : (⟨3, ![8, B, C]⟩ : Shape).Idx → A) (k : Fin 8) (b : Fin B) (c : Fin C) :
    get X (slab B C k) (ix3 0 b c) = X (ix3 k b c) := by
  refine congrArg X (funext fun a => Fin.ext ?_)
  fin_cases a
  · exact Nat.add_zero _
  · exact (Nat.zero_add _).trans (Nat.one_mul _)
  · exact (Nat.zero_add _).trans (Nat.one_mul _)

theorem get_top {A : Type} {M N m n : Nat} (hm : m ≤ M) (hn : n ≤ N) (X : (⟨2, ![M, N]⟩ : Shape).Idx → A) (a : Fin m) (b : Fin n) :
    get X (top M N m n hm hn) (ix2 a b) = X (ix2 (a.castLE hm) (b.castLE hn)) := by
  refine congrArg X (funext fun d => Fin.ext ?_)
  fin_cases d <;> exact (Nat.zero_add _).trans (Nat.one_mul _)

/-- The step's operands hold the parameters `p`: the vectors along the lanes, the matrices transposed. -/
structure Staged (p : Params) (G Bt : FVec Ideal S64x128 .f32) (wv : FVec Ideal S256x64 .bf16) (ws : FVec Ideal S256x128 .f32) : Prop where
  g : ∀ c l, G (ix2 c l) = p.g c
  b : ∀ c l, Bt (ix2 c l) = p.b c
  wv : ∀ c k, wv (ix2 k c) = p.wv c k
  ws : ∀ k l, ws (ix2 k l) = p.wvs k

/-- The operands of a step's second part hold the parameters `p`. -/
structure Staged' (p : Params) (wg : FVec Ideal S256x64 .bf16) (wgs : FVec Ideal S256x128 .f32) (wo : FVec Ideal S64x256 .bf16)
    (wos : FVec Ideal S64x128 .f32) (wt : FVec Ideal S8x512x512 .bf16) (fac : FVec Ideal S8x1x512 .f32) : Prop where
  wg : ∀ c k, wg (ix2 k c) = p.wg c k
  wgs : ∀ k l, wgs (ix2 k l) = p.wgs k
  wo : ∀ k c, wo (ix2 c k) = p.wo k c
  wos : ∀ c l, wos (ix2 c l) = p.wos c
  wt : ∀ h j n, wt (ix3 h j n) = p.wt h j n
  fac : ∀ h n, fac (ix3 h 0 n) = p.fac h n

/-! ## The first part -/

section First

variable {p : Params} {G Bt : FVec Ideal S64x128 .f32} {wv : FVec Ideal S256x64 .bf16} {ws : FVec Ideal S256x128 .f32}
  (S : Staged p G Bt wv ws) (M : FVec Ideal S8x64x512 .bf16) {k : Fin 8} {Mk : Fin 512 → Fin 64 → EReal} (hM : ∀ c n, M (ix3 k c n) = Mk n c)
include S hM

theorem xScale_staged (n : Fin 512) : xScale (wide G) (wide Bt) (get M (slab 64 512 k)) (ix2 0 n) = xsc (Mk n) p.g p.b := by
  rw [xScale_apply]
  congr 1 <;> funext c
  · exact (get_slab M k c n).trans (hM c n)
  · exact (spread_apply _ c n).trans ((get_top _ _ G _ _).trans (S.g _ _))
  · exact (spread_apply _ c n).trans ((get_top _ _ Bt _ _).trans (S.b _ _))

theorem xCode_staged (c : Fin 64) (n : Fin 512) : xCode (wide G) (wide Bt) (get M (slab 64 512 k)) (ix2 c n) = xcd (Mk n) p.g p.b c := by
  rw [xCode_apply]
  congr 1 <;> funext c
  · exact (get_slab M k c n).trans (hM c n)
  · exact (spread_apply _ c n).trans ((get_top _ _ G _ _).trans (S.g _ _))
  · exact (spread_apply _ c n).trans ((get_top _ _ Bt _ _).trans (S.b _ _))

theorem xLow_staged (c : Fin 64) (n : Fin 512) : xLow (wide G) (wide Bt) (get M (slab 64 512 k)) (ix2 c n) = xcd (Mk n) p.g p.b c :=
  xCode_staged S M hM c n

theorem projected_staged (i : Fin 256) (n : Fin 512) : projected G Bt M wv k (ix2 i n) = prj p Mk p.wv n i := by
  rw [projected, project_apply, xScale_staged S M hM, prj]
  congr 1
  refine Finset.sum_congr rfl fun c _ => ?_
  rw [xLow_staged S M hM]
  exact congrArg _ ((get_top _ _ wv _ _).trans (S.wv _ _))

theorem x2cRow_staged (c : Fin 64) (n : Fin 512) : x2cRow G Bt M k (ix3 0 c n) = Ideal.fptosi 8 (xcd (Mk n) p.g p.b c) := by
  rw [← xCode_staged S M hM]
  pointwise [x2cRow, fptosi_eq]

theorem x2sRow_staged (n : Fin 512) : x2sRow G Bt M k (ix2 0 n) = xsc (Mk n) p.g p.b := xScale_staged S M hM n

theorem col_staged (i : Fin 256) : col ws (ix2 i 0) = p.wvs i := (get_top _ _ ws _ _).trans (S.ws _ _)

theorem vsRow_staged (i : Fin 256) : vsRow G Bt M wv ws k (ix2 i 0) = vsc p Mk i := by
  rw [vsRow, vScale_apply, vsc]
  simp only [projected_staged S M hM, col_staged S M hM, val]

theorem vCode_staged (i : Fin 256) (n : Fin 512) : vCode (projected G Bt M wv k) (col ws) (ix2 i n) = vcd p Mk n i := by
  rw [vCode_apply, vcd, vsc]
  simp only [projected_staged S M hM, col_staged S M hM, val]

theorem vcRow_staged (i : Fin 256) (n : Fin 512) : vcRow G Bt M wv ws k (ix3 0 i n) = Ideal.fptosi 8 (vcd p Mk n i) := by
  rw [← vCode_staged S M hM]
  pointwise [vcRow, fptosi_eq]

theorem vCellRow_staged (h : Fin 8) (r : Fin 32) (n : Fin 512) :
    vCellRow G Bt M wv ws k h (ix4 0 0 r n) = vcd p Mk n ⟨32 * h.val + r.val, by omega⟩ := by
  rw [← vCode_staged S M hM]
  pointwise [vCellRow, rows32_apply, vLow]

end First

/-! ## The slot it fills -/

/-- A slot holds a block's normed codes and scales, its value codes by head and their scales. -/
structure Slot.Holds (s : Slot Ideal) (p : Params) (Mk : Fin 8 → Fin 512 → Fin 64 → EReal) : Prop where
  xb : ∀ k c n, s.xb k (ix4 0 0 c n) = xcd (Mk k n) p.g p.b c
  xs : ∀ k n, s.xs k (ix3 0 0 n) = xsc (Mk k n) p.g p.b
  v : ∀ h (k : Fin 8) (r : Fin 32) j, s.v h (ix4 0 0 ⟨32 * k.val + r.val, by omega⟩ j) = vcd p (Mk k) j ⟨32 * h.val + r.val, by omega⟩
  vsc : ∀ k i l, s.vsc k (ix4 0 0 i l) = Cert.Pwa.vsc p (Mk k) i

theorem filled_holds {p : Params} {G Bt : FVec Ideal S64x128 .f32} {wv : FVec Ideal S256x64 .bf16} {ws : FVec Ideal S256x128 .f32}
    (S : Staged p G Bt wv ws) (M : FVec Ideal S8x64x512 .bf16) (Mk : Fin 8 → Fin 512 → Fin 64 → EReal)
    (hM : ∀ k c n, M (ix3 k c n) = Mk k n c) : (Slot.filled G Bt M wv ws).Holds p Mk where
  xb k c n := by
    rw [← xLow_staged S M (hM k)]
    pointwise [Slot.filled]
  xs k n := by
    rw [← xScale_staged S M (hM k)]
    pointwise [Slot.filled]
  v h k r j := by
    rw [← vCellRow_staged S M (hM k)]
    have hk := k.isLt
    have hr := r.isLt
    have e1 : (⟨(32 * k.val + r.val) / 32, div32_lt (by omega)⟩ : Fin 8) = k := Fin.ext (by dsimp only; omega)
    have e2 : (⟨(32 * k.val + r.val) % 32, mod32_lt _⟩ : Fin 32) = r := Fin.ext (by dsimp only; omega)
    show vCellRow G Bt M wv ws ⟨(32 * k.val + r.val) / 32, _⟩ h (ix4 0 0 ⟨(32 * k.val + r.val) % 32, _⟩ j) = _
    rw [e1, e2]
  vsc k i l := by
    rw [← vsRow_staged S M (hM k)]
    pointwise [Slot.filled, lanes_apply, vsRow]

/-! ## The second part -/

section Second

variable {p : Params} {s : Slot Ideal} {Mk : Fin 8 → Fin 512 → Fin 64 → EReal} (H : s.Holds p Mk) {wg : FVec Ideal S256x64 .bf16}
  {wgs : FVec Ideal S256x128 .f32} {wo : FVec Ideal S64x256 .bf16} {wos : FVec Ideal S64x128 .f32} {wt : FVec Ideal S8x512x512 .bf16}
  {fac : FVec Ideal S8x1x512 .f32} (S : Staged' p wg wgs wo wos wt fac)
include H S

theorem ogCellRow_staged (h k : Fin 8) (r : Fin 32) (n : Fin 512) :
    ogCellRow s wt fac h k (ix3 0 r n) = (∑ j, vcd p (Mk k) j ⟨32 * h.val + r.val, by omega⟩ * p.wt h j n) * p.fac h n := by
  trans averaged (s.v h) (get wt (slab 512 512 h)) (get fac (slab 1 512 h)) (ix2 ⟨32 * k.val + r.val, by omega⟩ n)
  · pointwise [ogCellRow, rows32_apply]
  rw [averaged_apply]
  congr 1
  · refine Finset.sum_congr rfl fun j _ => ?_
    rw [H.v]
    exact congrArg _ ((get_slab wt h j n).trans (S.wt h j n))
  · exact (get_slab fac h 0 n).trans (S.fac h n)

theorem ogRow_staged (k : Fin 8) (i : Fin 256) (n : Fin 512) :
    ogRow s wt fac k (ix3 0 i n) = (∑ j, vcd p (Mk k) j i * p.wt (hd i) j n) * p.fac (hd i) n := by
  have h := ogCellRow_staged H S (hd i) k ⟨i.val % 32, mod32_lt _⟩ n
  have e : (⟨32 * (hd i).val + i.val % 32, by have := (hd i).isLt; omega⟩ : Fin 256) = i := Fin.ext (by simp only [hd]; omega)
  rw [e] at h
  exact h

theorem gatedRow_staged (k : Fin 8) (i : Fin 256) (n : Fin 512) : gatedRow s wg wgs wt fac k (ix2 i n) = avg p (Mk k) n i := by
  rw [gatedRow, gated_apply, gate_apply, ogRow_staged H S, H.xs, H.vsc, avg, gat, prj, mul_right_comm (Finset.sum _ _) (p.fac _ _)]
  congr 2
  congr 1
  · congr 1
    refine Finset.sum_congr rfl fun c _ => ?_
    rw [H.xb]
    exact congrArg _ ((get_top _ _ wg _ _).trans (S.wg _ _))
  · exact (get_top _ _ wgs _ _).trans (S.wgs _ _)

theorem ogsRow_staged (k : Fin 8) (n : Fin 512) : ogsRow s wg wgs wt fac k (ix2 0 n) = asc p (Mk k) n := by
  rw [ogsRow, ogScale_apply, asc]
  simp only [gatedRow_staged H S]

theorem ogCode_staged (k : Fin 8) (i : Fin 256) (n : Fin 512) : ogCode (gatedRow s wg wgs wt fac k) (ix2 i n) = acd p (Mk k) n i := by
  rw [ogCode_apply, acd, asc]
  simp only [gatedRow_staged H S]

theorem ogcRow_staged (k : Fin 8) (n : Fin 512) (i : Fin 256) : ogcRow s wg wgs wt fac k (ix3 0 n i) = Ideal.fptosi 8 (acd p (Mk k) n i) := by
  rw [← ogCode_staged H S]
  pointwise [ogcRow, ogRows_apply]

theorem moRow_staged (k : Fin 8) (mp : FVec Ideal S8x64x512 .bf16) (hmp : ∀ c n, mp (ix3 k c n) = Mk k n c) (c : Fin 64) (n : Fin 512) :
    moRow s wg wgs wo wos wt fac mp k (ix3 0 c n) = upd p (Mk k) n c := by
  trans updated (gatedRow s wg wgs wt fac k) (get wo (top 64 256 64 256)) (get wos (top 64 128 64 1)) (get mp (slab 64 512 k)) (ix2 c n)
  · pointwise [moRow]
  rw [updated_apply, upd]
  refine congrArg₂ (· + ·) ((get_slab mp k c n).trans (hmp c n)) (congrArg₂ (· * ·) (congrArg₂ (· * ·) ?_ (ogsRow_staged H S k n)) ?_)
  · refine Finset.sum_congr rfl fun i _ => ?_
    rw [ogCode_staged H S]
    exact congrArg _ ((get_top _ _ wo _ _).trans (S.wo _ _))
  · exact (get_top _ _ wos _ _).trans (S.wos _ _)

end Second

end Cert.Pwa
-- ==== Proof.BodyKI.lean ====
/-
  The printed kernel body is the structured one.
-/
module

public import proofs.«01_k».proof.Proof.Gen.KernelIdeal
public import proofs.«01_k».proof.Proof.Steps
public import Idealize.ShloMosaic.Lib.Pipeline.Regions

@[expose] public section

set_option maxRecDepth 16384

noncomputable section

namespace Cert.KernelIdeal.Body

open Idealize.ShloMosaic Idealize.ShloMosaic.TcCoe Idealize.SL.Sem
open Cert.KernelIdeal
open Cert.KernelIdeal.Facts₀ Cert.KernelIdeal.Facts

variable {F : FTy → Type} [FloatOps F] [Cert.KernelIdeal.Facts] [Cert.Kernel.Facts]

/-- The arrays of a step, from the body's arguments. -/
def bank (arg1 : Memref sig .tc .vmem S8x64x512 .bf16) (arg2 : Memref sig .tc .vmem S8x64x512 .bf16) (arg3 : Memref sig .tc .vmem S64x128 .f32) (arg4 : Memref sig .tc .vmem S64x128 .f32) (arg5 : Memref sig .tc .vmem S256x64 .bf16) (arg6 : Memref sig .tc .vmem S256x128 .f32) (arg7 : Memref sig .tc .vmem S256x64 .bf16) (arg8 : Memref sig .tc .vmem S256x128 .f32) (arg9 : Memref sig .tc .vmem S64x256 .bf16) (arg10 : Memref sig .tc .vmem S64x128 .f32) (arg11 : Memref sig .tc .vmem S8x512x512 .bf16) (arg12 : Memref sig .tc .vmem S8x1x512 .f32) (arg13 : Memref sig .tc .vmem S8x64x512 .bf16) (arg14 : Memref sig .tc .vmem S8x64x512 .i8) (arg15 : Memref sig .tc .vmem S8x512 .f32) (arg16 : Memref sig .tc .vmem S8x256x512 .i8) (arg17 : Memref sig .tc .vmem S8x256 .f32) (arg18 : Memref sig .tc .vmem S8x512x256 .i8) (arg19 : Memref sig .tc .vmem S8x512 .f32) (arg20 : Memref sig .tc .vmem S2x8x64x512 .bf16) (arg21 : Memref sig .tc .vmem S2x8x512 .f32) (arg22 : Memref sig .tc .vmem S2x8x256x512 .bf16) (arg23 : Memref sig .tc .vmem S2x8x256x128 .f32) (arg24 : Memref sig .tc .vmem S8x256x512 .f32) : Cert.Pwa.Bank sig Cert.Pwa.Arr.shape Cert.Pwa.Arr.elt
  | .m => arg1
  | .mp => arg2
  | .g => arg3
  | .b => arg4
  | .wv => arg5
  | .wvs => arg6
  | .wg => arg7
  | .wgs => arg8
  | .wo => arg9
  | .wos => arg10
  | .wt => arg11
  | .fac => arg12
  | .mo => arg13
  | .x2c => arg14
  | .x2s => arg15
  | .vc => arg16
  | .vs => arg17
  | .ogc => arg18
  | .ogs => arg19
  | .xb => arg20
  | .xs => arg21
  | .v => arg22
  | .vsc => arg23
  | .og => arg24

theorem bank_whole (arg1 : Memref sig .tc .vmem S8x64x512 .bf16) (harg1 : arg1.IsWhole) (arg2 : Memref sig .tc .vmem S8x64x512 .bf16) (harg2 : arg2.IsWhole) (arg3 : Memref sig .tc .vmem S64x128 .f32) (harg3 : arg3.IsWhole) (arg4 : Memref sig .tc .vmem S64x128 .f32) (harg4 : arg4.IsWhole) (arg5 : Memref sig .tc .vmem S256x64 .bf16) (harg5 : arg5.IsWhole) (arg6 : Memref sig .tc .vmem S256x128 .f32) (harg6 : arg6.IsWhole) (arg7 : Memref sig .tc .vmem S256x64 .bf16) (harg7 : arg7.IsWhole) (arg8 : Memref sig .tc .vmem S256x128 .f32) (harg8 : arg8.IsWhole) (arg9 : Memref sig .tc .vmem S64x256 .bf16) (harg9 : arg9.IsWhole) (arg10 : Memref sig .tc .vmem S64x128 .f32) (harg10 : arg10.IsWhole) (arg11 : Memref sig .tc .vmem S8x512x512 .bf16) (harg11 : arg11.IsWhole) (arg12 : Memref sig .tc .vmem S8x1x512 .f32) (harg12 : arg12.IsWhole) (arg13 : Memref sig .tc .vmem S8x64x512 .bf16) (harg13 : arg13.IsWhole) (arg14 : Memref sig .tc .vmem S8x64x512 .i8) (harg14 : arg14.IsWhole) (arg15 : Memref sig .tc .vmem S8x512 .f32) (harg15 : arg15.IsWhole) (arg16 : Memref sig .tc .vmem S8x256x512 .i8) (harg16 : arg16.IsWhole) (arg17 : Memref sig .tc .vmem S8x256 .f32) (harg17 : arg17.IsWhole) (arg18 : Memref sig .tc .vmem S8x512x256 .i8) (harg18 : arg18.IsWhole) (arg19 : Memref sig .tc .vmem S8x512 .f32) (harg19 : arg19.IsWhole) (arg20 : Memref sig .tc .vmem S2x8x64x512 .bf16) (harg20 : arg20.IsWhole) (arg21 : Memref sig .tc .vmem S2x8x512 .f32) (harg21 : arg21.IsWhole) (arg22 : Memref sig .tc .vmem S2x8x256x512 .bf16) (harg22 : arg22.IsWhole) (arg23 : Memref sig .tc .vmem S2x8x256x128 .f32) (harg23 : arg23.IsWhole) (arg24 : Memref sig .tc .vmem S8x256x512 .f32) (harg24 : arg24.IsWhole) : ∀ j, (bank arg1 arg2 arg3 arg4 arg5 arg6 arg7 arg8 arg9 arg10 arg11 arg12 arg13 arg14 arg15 arg16 arg17 arg18 arg19 arg20 arg21 arg22 arg23 arg24 j).IsWhole
  | .m => harg1
  | .mp => harg2
  | .g => harg3
  | .b => harg4
  | .wv => harg5
  | .wvs => harg6
  | .wg => harg7
  | .wgs => harg8
  | .wo => harg9
  | .wos => harg10
  | .wt => harg11
  | .fac => harg12
  | .mo => harg13
  | .x2c => harg14
  | .x2s => harg15
  | .vc => harg16
  | .vs => harg17
  | .ogc => harg18
  | .ogs => harg19
  | .xb => harg20
  | .xs => harg21
  | .v => harg22
  | .vsc => harg23
  | .og => harg24

/-- The slot a step fills, as the word the kernel computes. -/
def curWord (i : grid0.Coords) : BitVec 32 :=
  let n : BitVec 32 := Scalar.select (Scalar.cmpi .eq (2#32) (0#32)) (1#32) (2#32)
  let r : BitVec 32 := Scalar.remsi (BitVec.ofNat 32 (i 0).val) n
  Scalar.select (Scalar.andi (Scalar.xori (Scalar.cmpi .slt r (0#32)) (Scalar.cmpi .slt n (0#32))) (Scalar.cmpi .ne r (0#32))) (Scalar.addi r n) r

/-- The slot a step reads, as the word the kernel computes. -/
def prevWord (i : grid0.Coords) : BitVec 32 := Scalar.subi (1#32) (curWord i)

/-- The scratch slot step `i` fills. -/
def cur (i : grid0.Coords) : Fin 2 := ⟨k0_off6 i 0, Nat.lt_of_add_one_le (k0_off6_inb i 0)⟩

/-- The scratch slot step `i` reads. -/
def prev (i : grid0.Coords) : Fin 2 := ⟨k0_off101 i 0, Nat.lt_of_add_one_le (k0_off101_inb i 0)⟩

/-- What a step does up to the first loaded block. -/
theorem part1_eq (i : grid0.Coords) (arg1 : Memref sig .tc .vmem S8x64x512 .bf16) (harg1 : arg1.IsWhole) (arg2 : Memref sig .tc .vmem S8x64x512 .bf16) (harg2 : arg2.IsWhole) (arg3 : Memref sig .tc .vmem S64x128 .f32) (harg3 : arg3.IsWhole) (arg4 : Memref sig .tc .vmem S64x128 .f32) (harg4 : arg4.IsWhole) (arg5 : Memref sig .tc .vmem S256x64 .bf16) (harg5 : arg5.IsWhole) (arg6 : Memref sig .tc .vmem S256x128 .f32) (harg6 : arg6.IsWhole) (arg7 : Memref sig .tc .vmem S256x64 .bf16) (harg7 : arg7.IsWhole) (arg8 : Memref sig .tc .vmem S256x128 .f32) (harg8 : arg8.IsWhole) (arg9 : Memref sig .tc .vmem S64x256 .bf16) (harg9 : arg9.IsWhole) (arg10 : Memref sig .tc .vmem S64x128 .f32) (harg10 : arg10.IsWhole) (arg11 : Memref sig .tc .vmem S8x512x512 .bf16) (harg11 : arg11.IsWhole) (arg12 : Memref sig .tc .vmem S8x1x512 .f32) (harg12 : arg12.IsWhole) (arg13 : Memref sig .tc .vmem S8x64x512 .bf16) (harg13 : arg13.IsWhole) (arg14 : Memref sig .tc .vmem S8x64x512 .i8) (harg14 : arg14.IsWhole) (arg15 : Memref sig .tc .vmem S8x512 .f32) (harg15 : arg15.IsWhole) (arg16 : Memref sig .tc .vmem S8x256x512 .i8) (harg16 : arg16.IsWhole) (arg17 : Memref sig .tc .vmem S8x256 .f32) (harg17 : arg17.IsWhole) (arg18 : Memref sig .tc .vmem S8x512x256 .i8) (harg18 : arg18.IsWhole) (arg19 : Memref sig .tc .vmem S8x512 .f32) (harg19 : arg19.IsWhole) (arg20 : Memref sig .tc .vmem S2x8x64x512 .bf16) (harg20 : arg20.IsWhole) (arg21 : Memref sig .tc .vmem S2x8x512 .f32) (harg21 : arg21.IsWhole) (arg22 : Memref sig .tc .vmem S2x8x256x512 .bf16) (harg22 : arg22.IsWhole) (arg23 : Memref sig .tc .vmem S2x8x256x128 .f32) (harg23 : arg23.IsWhole) (arg24 : Memref sig .tc .vmem S8x256x512 .f32) (harg24 : arg24.IsWhole) :
    k0_part1 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 = (do
      let W := bank_whole arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24
      Cert.Pwa.start W (k0_cond1 i) (prev i)
      let g : FVec F S64x128 .f32 ← Cert.Pwa.ld (bank arg1 arg2 arg3 arg4 arg5 arg6 arg7 arg8 arg9 arg10 arg11 arg12 arg13 arg14 arg15 arg16 arg17 arg18 arg19 arg20 arg21 arg22 arg23 arg24) .g (Cert.Pwa.top 64 128 64 128) h_S64x128
      let b : FVec F S64x128 .f32 ← Cert.Pwa.ld (bank arg1 arg2 arg3 arg4 arg5 arg6 arg7 arg8 arg9 arg10 arg11 arg12 arg13 arg14 arg15 arg16 arg17 arg18 arg19 arg20 arg21 arg22 arg23 arg24) .b (Cert.Pwa.top 64 128 64 128) h_S64x128
      let m : FVec F S1x64x512 .bf16 ← Cert.Pwa.ld (bank arg1 arg2 arg3 arg4 arg5 arg6 arg7 arg8 arg9 arg10 arg11 arg12 arg13 arg14 arg15 arg16 arg17 arg18 arg19 arg20 arg21 arg22 arg23 arg24) .m (Cert.Pwa.slab 64 512 0) h_S1x64x512
      pure ⟨curWord i, prevWord i, Cert.Pwa.spread g, Cert.Pwa.spread b, Cert.Pwa.centred m, Cert.Pwa.deviation m⟩) := by
  by_cases h : k0_cond1 i = 1#1
  · refine Eq.trans (dif_pos h) ?_
    simp only [Cert.Pwa.start_pos _ h]
    chain_rfl
  · refine Eq.trans (dif_neg h) ?_
    simp only [Cert.Pwa.start_neg _ h]
    chain_rfl

/-- Equal first parts of a sequence. -/
theorem bind_left {E : Type → Type} {α β : Type} {p q : Prog E α} {k : α → Prog E β} (h : p = q) : (p >>= k) = (q >>= k) := by rw [h]

/-- The kernel's body is the structured step. -/
theorem body_eq (i : grid0.Coords) (arg1 : Memref sig .tc .vmem S8x64x512 .bf16) (harg1 : arg1.IsWhole) (arg2 : Memref sig .tc .vmem S8x64x512 .bf16) (harg2 : arg2.IsWhole) (arg3 : Memref sig .tc .vmem S64x128 .f32) (harg3 : arg3.IsWhole) (arg4 : Memref sig .tc .vmem S64x128 .f32) (harg4 : arg4.IsWhole) (arg5 : Memref sig .tc .vmem S256x64 .bf16) (harg5 : arg5.IsWhole) (arg6 : Memref sig .tc .vmem S256x128 .f32) (harg6 : arg6.IsWhole) (arg7 : Memref sig .tc .vmem S256x64 .bf16) (harg7 : arg7.IsWhole) (arg8 : Memref sig .tc .vmem S256x128 .f32) (harg8 : arg8.IsWhole) (arg9 : Memref sig .tc .vmem S64x256 .bf16) (harg9 : arg9.IsWhole) (arg10 : Memref sig .tc .vmem S64x128 .f32) (harg10 : arg10.IsWhole) (arg11 : Memref sig .tc .vmem S8x512x512 .bf16) (harg11 : arg11.IsWhole) (arg12 : Memref sig .tc .vmem S8x1x512 .f32) (harg12 : arg12.IsWhole) (arg13 : Memref sig .tc .vmem S8x64x512 .bf16) (harg13 : arg13.IsWhole) (arg14 : Memref sig .tc .vmem S8x64x512 .i8) (harg14 : arg14.IsWhole) (arg15 : Memref sig .tc .vmem S8x512 .f32) (harg15 : arg15.IsWhole) (arg16 : Memref sig .tc .vmem S8x256x512 .i8) (harg16 : arg16.IsWhole) (arg17 : Memref sig .tc .vmem S8x256 .f32) (harg17 : arg17.IsWhole) (arg18 : Memref sig .tc .vmem S8x512x256 .i8) (harg18 : arg18.IsWhole) (arg19 : Memref sig .tc .vmem S8x512 .f32) (harg19 : arg19.IsWhole) (arg20 : Memref sig .tc .vmem S2x8x64x512 .bf16) (harg20 : arg20.IsWhole) (arg21 : Memref sig .tc .vmem S2x8x512 .f32) (harg21 : arg21.IsWhole) (arg22 : Memref sig .tc .vmem S2x8x256x512 .bf16) (harg22 : arg22.IsWhole) (arg23 : Memref sig .tc .vmem S2x8x256x128 .f32) (harg23 : arg23.IsWhole) (arg24 : Memref sig .tc .vmem S8x256x512 .f32) (harg24 : arg24.IsWhole) :
    cc0_pair_weighted_average (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24
      = Cert.Pwa.body (bank_whole arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) (k0_cond1 i) (cur i) (prev i) := by
  unfold cc0_pair_weighted_average k0_part55
  refine Eq.trans (bind_left (bind_left (part1_eq i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24))) ?_
  by_cases h : k0_cond1 i = 1#1
  · simp only [Cert.Pwa.start_pos _ h, Cert.Pwa.body]
    chain_rfl
  · simp only [Cert.Pwa.start_neg _ h, Cert.Pwa.body]
    chain_rfl

end Cert.KernelIdeal.Body
-- ==== Proof.Whole.lean ====
/-
  The arrays of a step, one by one.
-/
module

public import proofs.«01_k».proof.Proof.Run
public import Idealize.ShloMosaic.Lib.Pipeline.Kit

@[expose] public section

noncomputable section

namespace Cert.Pwa

open Idealize.ShloMosaic Idealize.ShloMosaic.TcCoe
open Idealize.SL Idealize.SL.RA Idealize.SL.BI
open scoped Idealize.SL.BI
open Idealize.SL.BI.BIBase Idealize.SL.Sem

variable {nD : Nat} {τ : Topo} {sig : RefSig} {F : FTy → Type}
variable {Ix : Type} [DecidableEq Ix] {Name : Type} [DecidableEq Name] {U : Type} [URA U] {Lvl : Type}

theorem held_eq (c : Dev nD) (B : Bank sig Arr.shape Arr.elt) (σ : St F) :
    (held c B σ : sProp (MT nD τ sig Ix (Elt F) Name U Lvl)) = iprop(owns (c : Thread nD τ) (B .m) fullShare (σ .m) ∗ owns (c : Thread nD τ) (B .mp) fullShare (σ .mp) ∗ owns (c : Thread nD τ) (B .g) fullShare (σ .g) ∗ owns (c : Thread nD τ) (B .b) fullShare (σ .b) ∗ owns (c : Thread nD τ) (B .wv) fullShare (σ .wv) ∗ owns (c : Thread nD τ) (B .wvs) fullShare (σ .wvs) ∗ owns (c : Thread nD τ) (B .wg) fullShare (σ .wg) ∗ owns (c : Thread nD τ) (B .wgs) fullShare (σ .wgs) ∗ owns (c : Thread nD τ) (B .wo) fullShare (σ .wo) ∗ owns (c : Thread nD τ) (B .wos) fullShare (σ .wos) ∗ owns (c : Thread nD τ) (B .wt) fullShare (σ .wt) ∗ owns (c : Thread nD τ) (B .fac) fullShare (σ .fac) ∗ owns (c : Thread nD τ) (B .mo) fullShare (σ .mo) ∗ owns (c : Thread nD τ) (B .x2c) fullShare (σ .x2c) ∗ owns (c : Thread nD τ) (B .x2s) fullShare (σ .x2s) ∗ owns (c : Thread nD τ) (B .vc) fullShare (σ .vc) ∗ owns (c : Thread nD τ) (B .vs) fullShare (σ .vs) ∗ owns (c : Thread nD τ) (B .ogc) fullShare (σ .ogc) ∗ owns (c : Thread nD τ) (B .ogs) fullShare (σ .ogs) ∗ owns (c : Thread nD τ) (B .xb) fullShare (σ .xb) ∗ owns (c : Thread nD τ) (B .xs) fullShare (σ .xs) ∗ owns (c : Thread nD τ) (B .v) fullShare (σ .v) ∗ owns (c : Thread nD τ) (B .vsc) fullShare (σ .vsc) ∗ owns (c : Thread nD τ) (B .og) fullShare (σ .og)) := by
  unfold held
  exact bigSep_univ_eq_bigSepL [Arr.m, Arr.mp, Arr.g, Arr.b, Arr.wv, Arr.wvs, Arr.wg, Arr.wgs, Arr.wo, Arr.wos, Arr.wt, Arr.fac, Arr.mo, Arr.x2c, Arr.x2s, Arr.vc, Arr.vs, Arr.ogc, Arr.ogs, Arr.xb, Arr.xs, Arr.v, Arr.vsc, Arr.og] (by decide) (by decide) fun j => owns (c : Thread nD τ) (B j) fullShare (σ j)

end Cert.Pwa

end
-- ==== Proof.RunKI.lean ====
/-
  The kernel's run: what each step finds and leaves, from the structured body, and the pipeline's run from it.
-/
module

public import proofs.«01_k».proof.Proof.Gen.KernelIdeal.Frame
public import proofs.«01_k».proof.Proof.BodyKI
public import proofs.«01_k».proof.Proof.Whole
public import proofs.«01_k».proof.Proof.Gen.Kernel

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Pwa

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The slots of a step -/

theorem cond_iff : ∀ t : Fin cfg0.N, k0_cond1 (grid0.coords t) = 1#1 ↔ t.val = 0 :=
  (by decide +kernel : ∀ t : Fin grid0.N, k0_cond1 (grid0.coords t) = 1#1 ↔ t.val = 0)
theorem cur_val : ∀ t : Fin cfg0.N, (cur (grid0.coords t)).val = t.val % 2 :=
  (by decide +kernel : ∀ t : Fin grid0.N, k0_off6 (grid0.coords t) 0 = t.val % 2)
theorem prev_val : ∀ t : Fin cfg0.N, (prev (grid0.coords t)).val = 1 - t.val % 2 :=
  (by decide +kernel : ∀ t : Fin grid0.N, k0_off101 (grid0.coords t) 0 = 1 - t.val % 2)

/-- What step `t` leaves in the slot it fills. -/
def slotAt (c : Dev nD) (t : Fin cfg0.N) : Slot F :=
  Slot.filled (iblk m c 2 t) (iblk m c 3 t) (iblk m c 0 t) (iblk m c 4 t) (iblk m c 5 t)

/-- What step `t` finds in the slot it reads: zeros at the first step, what the step before left at the others. -/
def slotBefore (c : Dev nD) (t : Fin cfg0.N) : Slot F :=
  if t.val = 0 then Slot.zero else slotAt m c ⟨t.val - 1, lt_of_le_of_lt (Nat.sub_le _ _) t.isLt⟩

/-- The body's invariant before step `n`: the scratch arrays at contents in which the slot the step before filled is as it left it. -/
def Inv (c : Dev nD) (n : Nat) : sProp 𝕄 :=
  iprop(∃ σ : St F, ⌜∀ t : Fin cfg0.N, t.val + 1 = n → (slotAt m c t).In σ (cur (grid0.coords t))⌝
    ∗ (owns (c : Thread nD τ) (Memref.whole cc0_scratch0) fullShare (σ .xb) ∗ owns (c : Thread nD τ) (Memref.whole cc0_scratch1) fullShare (σ .xs) ∗ owns (c : Thread nD τ) (Memref.whole cc0_scratch2) fullShare (σ .v) ∗ owns (c : Thread nD τ) (Memref.whole cc0_scratch3) fullShare (σ .vsc) ∗ owns (c : Thread nD τ) (Memref.whole cc0_scratch4) fullShare (σ .og)) ∗ ∃ r, prngReg c r)

/-! ## The pipeline's proof data -/

/-- The proof data: the arrays as the region finds them; after step `t` each input's buffer at its block, each output's at what
    the step computes from the blocks and the slot it reads. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => ofSlabs (moRow (slotBefore m c t) (iblk m c 6 t) (iblk m c 7 t) (iblk m c 8 t) (iblk m c 9 t) (iblk m c 10 t) (iblk m c 11 t) (iblk m c 1 t))
    | ⟨13, _⟩ => ofSlabs (x2cRow (iblk m c 2 t) (iblk m c 3 t) (iblk m c 0 t))
    | ⟨14, _⟩ => ofRows (x2sRow (iblk m c 2 t) (iblk m c 3 t) (iblk m c 0 t))
    | ⟨15, _⟩ => ofSlabs (vcRow (iblk m c 2 t) (iblk m c 3 t) (iblk m c 0 t) (iblk m c 4 t) (iblk m c 5 t))
    | ⟨16, _⟩ => scaleRows (vsRow (iblk m c 2 t) (iblk m c 3 t) (iblk m c 0 t) (iblk m c 4 t) (iblk m c 5 t))
    | ⟨17, _⟩ => ofSlabs (ogcRow (slotBefore m c t) (iblk m c 6 t) (iblk m c 7 t) (iblk m c 10 t) (iblk m c 11 t))
    | ⟨18, _⟩ => ofRows (ogsRow (slotBefore m c t) (iblk m c 6 t) (iblk m c 7 t) (iblk m c 10 t) (iblk m c 11 t))
    | ⟨_ + 19, h⟩ => absurd h (Nat.not_lt.2 (Nat.le_add_left _ _))
  Φ n := Inv m c n.val
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = ofSlabs (moRow (slotBefore m c t) (iblk m c 6 t) (iblk m c 7 t) (iblk m c 8 t) (iblk m c 9 t) (iblk m c 10 t) (iblk m c 11 t) (iblk m c 1 t)) := by dsimp only [dats]
theorem after_13 (c : Dev nD) (t : Fin cfg0.N) : (dats m 0 c).after 13 t = ofSlabs (x2cRow (iblk m c 2 t) (iblk m c 3 t) (iblk m c 0 t)) := by dsimp only [dats]
theorem after_14 (c : Dev nD) (t : Fin cfg0.N) : (dats m 0 c).after 14 t = ofRows (x2sRow (iblk m c 2 t) (iblk m c 3 t) (iblk m c 0 t)) := by dsimp only [dats]
theorem after_15 (c : Dev nD) (t : Fin cfg0.N) : (dats m 0 c).after 15 t = ofSlabs (vcRow (iblk m c 2 t) (iblk m c 3 t) (iblk m c 0 t) (iblk m c 4 t) (iblk m c 5 t)) := by dsimp only [dats]
theorem after_16 (c : Dev nD) (t : Fin cfg0.N) : (dats m 0 c).after 16 t = scaleRows (vsRow (iblk m c 2 t) (iblk m c 3 t) (iblk m c 0 t) (iblk m c 4 t) (iblk m c 5 t)) := by dsimp only [dats]
theorem after_17 (c : Dev nD) (t : Fin cfg0.N) : (dats m 0 c).after 17 t = ofSlabs (ogcRow (slotBefore m c t) (iblk m c 6 t) (iblk m c 7 t) (iblk m c 10 t) (iblk m c 11 t)) := by dsimp only [dats]
theorem after_18 (c : Dev nD) (t : Fin cfg0.N) : (dats m 0 c).after 18 t = ofRows (ogsRow (slotBefore m c t) (iblk m c 6 t) (iblk m c 7 t) (iblk m c 10 t) (iblk m c 11 t)) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d

/-! ## The body obligation -/

/-- The arrays of step `t`. -/
abbrev bankAt (t : Fin cfg0.N) : Bank sig Arr.shape Arr.elt := bank (st0_0 t) (st0_1 t) (st0_2 t) (st0_3 t) (st0_4 t) (st0_5 t) (st0_6 t) (st0_7 t) (st0_8 t) (st0_9 t) (st0_10 t) (st0_11 t) (st0_12 t) (st0_13 t) (st0_14 t) (st0_15 t) (st0_16 t) (st0_17 t) (st0_18 t) (Memref.whole cc0_scratch0) (Memref.whole cc0_scratch1) (Memref.whole cc0_scratch2) (Memref.whole cc0_scratch3) (Memref.whole cc0_scratch4)

theorem bodyAt_eq (t : Fin cfg0.N) : bodyAt0 (F := F) t = Cert.Pwa.body (B := bankAt t) (bank_whole (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (st0_14 t) (hstage0_14 ((cfg0.slots t 14).cast nbuf0_14)) (st0_15 t) (hstage0_15 ((cfg0.slots t 15).cast nbuf0_15)) (st0_16 t) (hstage0_16 ((cfg0.slots t 16).cast nbuf0_16)) (st0_17 t) (hstage0_17 ((cfg0.slots t 17).cast nbuf0_17)) (st0_18 t) (hstage0_18 ((cfg0.slots t 18).cast nbuf0_18)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _))
    (k0_cond1 (grid0.coords t)) (cur (grid0.coords t)) (prev (grid0.coords t)) := body_eq ..

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t))

/-- The contents a step starts from. -/
def startAt (c : Dev nD) (t : Fin cfg0.N) (X12 : (Arr.shape .mo).Idx → Elt F (Arr.elt .mo)) (X13 : (Arr.shape .x2c).Idx → Elt F (Arr.elt .x2c))
    (X14 : (Arr.shape .x2s).Idx → Elt F (Arr.elt .x2s)) (X15 : (Arr.shape .vc).Idx → Elt F (Arr.elt .vc)) (X16 : (Arr.shape .vs).Idx → Elt F (Arr.elt .vs))
    (X17 : (Arr.shape .ogc).Idx → Elt F (Arr.elt .ogc)) (X18 : (Arr.shape .ogs).Idx → Elt F (Arr.elt .ogs)) (σ : St F) : St F
  | .m => iblk m c 0 t
  | .mp => iblk m c 1 t
  | .g => iblk m c 2 t
  | .b => iblk m c 3 t
  | .wv => iblk m c 4 t
  | .wvs => iblk m c 5 t
  | .wg => iblk m c 6 t
  | .wgs => iblk m c 7 t
  | .wo => iblk m c 8 t
  | .wos => iblk m c 9 t
  | .wt => iblk m c 10 t
  | .fac => iblk m c 11 t
  | .mo => X12
  | .x2c => X13
  | .x2s => X14
  | .vc => X15
  | .vs => X16
  | .ogc => X17
  | .ogs => X18
  | .xb => σ .xb
  | .xs => σ .xs
  | .v => σ .v
  | .vsc => σ .vsc
  | .og => σ .og

theorem slotBefore_zero (c : Dev nD) (t : Fin cfg0.N) (h : k0_cond1 (grid0.coords t) = 1#1) : slotBefore m c t = Slot.zero :=
  if_pos ((cond_iff t).1 h)

theorem slotBefore_in (c : Dev nD) (t : Fin cfg0.N) (h : k0_cond1 (grid0.coords t) ≠ 1#1) (σ : St F)
    (hσ : ∀ t' : Fin cfg0.N, t'.val + 1 = t.val → (slotAt m c t').In σ (cur (grid0.coords t'))) : (slotBefore m c t).In σ (prev (grid0.coords t)) := by
  have h0 : t.val ≠ 0 := fun e => h ((cond_iff t).2 e)
  have e := hσ ⟨t.val - 1, lt_of_le_of_lt (Nat.sub_le _ _) t.isLt⟩ (by show t.val - 1 + 1 = t.val; omega)
  have ep : cur (grid0.coords ⟨t.val - 1, lt_of_le_of_lt (Nat.sub_le _ _) t.isLt⟩) = prev (grid0.coords t) := by
    refine Fin.ext ?_
    rw [prev_val]
    refine (cur_val _).trans ?_
    show (t.val - 1) % 2 = 1 - t.val % 2
    omega
  rw [ep] at e
  unfold slotBefore
  rw [if_neg h0]
  exact e

theorem slots_ne (t : Fin cfg0.N) : cur (grid0.coords t) ≠ prev (grid0.coords t) := fun e => by
  have h := congrArg Fin.val e
  rw [cur_val, prev_val] at h
  omega

/-- Step `t`, from any contents of its results. -/
theorem step_run (c : Dev nD) (t : Fin cfg0.N) (X12 : (Arr.shape .mo).Idx → Elt F (Arr.elt .mo)) (X13 : (Arr.shape .x2c).Idx → Elt F (Arr.elt .x2c))
    (X14 : (Arr.shape .x2s).Idx → Elt F (Arr.elt .x2s)) (X15 : (Arr.shape .vc).Idx → Elt F (Arr.elt .vc)) (X16 : (Arr.shape .vs).Idx → Elt F (Arr.elt .vs))
    (X17 : (Arr.shape .ogc).Idx → Elt F (Arr.elt .ogc)) (X18 : (Arr.shape .ogs).Idx → Elt F (Arr.elt .ogs))
    (σ : St F) (hσ : ∀ t' : Fin cfg0.N, t'.val + 1 = t.val → (slotAt m c t').In σ (cur (grid0.coords t'))) :
    ∃ σ' : St F, Does ℕ (UR sig nD τ) ℕ (Ix := Unit) (defs₀ (F := F)) Variants.none c none .empty Set.univ (bankAt t) (startAt m c t X12 X13 X14 X15 X16 X17 X18 σ) (bodyAt0 t) ⟨⟩ σ'
      ∧ (σ' .g = iblk m c 2 t ∧ σ' .b = iblk m c 3 t ∧ σ' .m = iblk m c 0 t ∧ σ' .mp = iblk m c 1 t ∧ σ' .wv = iblk m c 4 t ∧ σ' .wvs = iblk m c 5 t ∧ σ' .wg = iblk m c 6 t ∧ σ' .wgs = iblk m c 7 t ∧ σ' .wo = iblk m c 8 t ∧ σ' .wos = iblk m c 9 t ∧ σ' .wt = iblk m c 10 t ∧ σ' .fac = iblk m c 11 t)
      ∧ σ' .mo = ofSlabs (moRow (slotBefore m c t) (iblk m c 6 t) (iblk m c 7 t) (iblk m c 8 t) (iblk m c 9 t) (iblk m c 10 t) (iblk m c 11 t) (iblk m c 1 t)) ∧ σ' .x2c = ofSlabs (x2cRow (iblk m c 2 t) (iblk m c 3 t) (iblk m c 0 t)) ∧ σ' .x2s = ofRows (x2sRow (iblk m c 2 t) (iblk m c 3 t) (iblk m c 0 t)) ∧ σ' .vc = ofSlabs (vcRow (iblk m c 2 t) (iblk m c 3 t) (iblk m c 0 t) (iblk m c 4 t) (iblk m c 5 t)) ∧ σ' .vs = scaleRows (vsRow (iblk m c 2 t) (iblk m c 3 t) (iblk m c 0 t) (iblk m c 4 t) (iblk m c 5 t)) ∧ σ' .ogc = ofSlabs (ogcRow (slotBefore m c t) (iblk m c 6 t) (iblk m c 7 t) (iblk m c 10 t) (iblk m c 11 t)) ∧ σ' .ogs = ofRows (ogsRow (slotBefore m c t) (iblk m c 6 t) (iblk m c 7 t) (iblk m c 10 t) (iblk m c 11 t))
      ∧ (slotAt m c t).In σ' (cur (grid0.coords t)) := by
  rw [bodyAt_eq]
  exact body_does (nD := nD) (τ := τ) (sig := sig) (Λ := Λ₀) (Ix := Unit) (Name := ℕ) (U := UR sig nD τ) (Lvl := ℕ) (defs := defs₀ (F := F)) (𝒱 := Variants.none) (c₀ := c) (bd := none) (Γ := .empty) (E := Set.univ)
      (B := bankAt t) (bank_whole (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (st0_14 t) (hstage0_14 ((cfg0.slots t 14).cast nbuf0_14)) (st0_15 t) (hstage0_15 ((cfg0.slots t 15).cast nbuf0_15)) (st0_16 t) (hstage0_16 ((cfg0.slots t 16).cast nbuf0_16)) (st0_17 t) (hstage0_17 ((cfg0.slots t 17).cast nbuf0_17)) (st0_18 t) (hstage0_18 ((cfg0.slots t 18).cast nbuf0_18)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _))
      (iblk m c 2 t) (iblk m c 3 t) (iblk m c 0 t) (iblk m c 4 t) (iblk m c 5 t) (slotBefore m c t) (iblk m c 6 t) (iblk m c 7 t) (iblk m c 8 t) (iblk m c 9 t)
      (iblk m c 10 t) (iblk m c 11 t) (iblk m c 1 t)
      (startAt m c t X12 X13 X14 X15 X16 X17 X18 σ)
      (k0_cond1 (grid0.coords t)) (cur (grid0.coords t)) (prev (grid0.coords t)) (slots_ne t) (slotBefore_zero m c t)
      (fun h => let h' := slotBefore_in m c t h σ hσ; ⟨h'.xb, h'.xs, h'.v, h'.vsc⟩) rfl rfl rfl rfl rfl rfl rfl rfl rfl rfl rfl rfl

set_option maxHeartbeats 1000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before_0, before_1, before_2, before_3, before_4, before_5, before_6, before_7, before_8, before_9, before_10, before_11]
  rw [show (dats m 0 c).Φ t.castSucc = Inv m c t.val from rfl, show (dats m 0 c).Φ t.succ = Inv m c (t.val + 1) from rfl,
    show (dats m 0 c).owesAt () t.succ = (dats m 0 c).owesAt () t.castSucc from rfl,
    after_0, after_1, after_2, after_3, after_4, after_5, after_6, after_7, after_8, after_9, after_10, after_11, after_12, after_13, after_14, after_15, after_16, after_17, after_18]
  unfold Inv
  iintro ⟨⟨%σ, %hσ, ⟨S0, S1, S2, S3, S4⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  obtain ⟨σ', hdo, ⟨e_g, e_b, e_m, e_mp, e_wv, e_wvs, e_wg, e_wgs, e_wo, e_wos, e_wt, e_fac⟩, e_mo, e_x2c, e_x2s, e_vc, e_vs, e_ogc, e_ogs, hin⟩ :=
    step_run m c t ((dats m 0 c).before 12 t d12) ((dats m 0 c).before 13 t d13) ((dats m 0 c).before 14 t d14) ((dats m 0 c).before 15 t d15) ((dats m 0 c).before 16 t d16) ((dats m 0 c).before 17 t d17) ((dats m 0 c).before 18 t d18) σ hσ
  iapply (hdo _)
  rw [held_eq, held_eq, e_g, e_b, e_m, e_mp, e_wv, e_wvs, e_wg, e_wgs, e_wo, e_wos, e_wt, e_fac, e_mo, e_x2c, e_x2s, e_vc, e_vs, e_ogc, e_ogs]
  isplitl [H0 H1 H2 H3 H4 H5 H6 H7 H8 H9 H10 H11 H12 H13 H14 H15 H16 H17 H18 S0 S1 S2 S3 S4]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [S0]; · iexact S0
    isplitl [S1]; · iexact S1
    isplitl [S2]; · iexact S2
    isplitl [S3]; · iexact S3
    iexact S4
  iintro ⟨H0, H1, H2, H3, H4, H5, H6, H7, H8, H9, H10, H11, H12, H13, H14, H15, H16, H17, H18, S0, S1, S2, S3, S4⟩
  isplitl [S0 S1 S2 S3 S4 Hr]
  · iexists σ'
    isplitr
    · ipureintro
      intro t' ht'
      have : t' = t := Fin.ext (by omega)
      subst this
      exact hin
    isplitr [Hr]
    · isplitl [S0]; · iexact S0
      isplitl [S1]; · iexact S1
      isplitl [S2]; · iexact S2
      isplitl [S3]; · iexact S3
      iexact S4
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

theorem inv_enter (c : Dev nD) : Pipeline.ΦA spec0 c ⊢ (Inv m c 0 : sProp 𝕄) := by
  unfold Pipeline.ΦA Inv
  rw [scopedRest0_eq]
  iintro ⟨⟨⟨%f0, S0⟩, ⟨%f1, S1⟩, ⟨%f2, S2⟩, ⟨%f3, S3⟩, ⟨%f4, S4⟩⟩, Hr⟩
  iexists (fun
    | .xb => f0 | .xs => f1 | .v => f2 | .vsc => f3 | .og => f4
    | j => fun _ => Classical.arbitrary _ : St F)
  isplitr
  · ipureintro
    intro t ht
    omega
  rw [owns_whole, owns_whole, owns_whole, owns_whole, owns_whole]
  isplitr [Hr]
  · isplitl [S0]; · iexact S0
    isplitl [S1]; · iexact S1
    isplitl [S2]; · iexact S2
    isplitl [S3]; · iexact S3
    iexact S4
  iexact Hr

theorem inv_leave (c : Dev nD) (n : Nat) : (Inv m c n : sProp 𝕄) ⊢ Pipeline.ΦA spec0 c := by
  unfold Pipeline.ΦA Inv
  simp only [owns_whole]
  rw [scopedRest0_eq]
  iintro ⟨%σ, %hσ, ⟨S0, S1, S2, S3, S4⟩, Hr⟩
  isplitr [Hr]
  · isplitl [S0]; · iexists _; iexact S0
    isplitl [S1]; · iexists _; iexact S1
    isplitl [S2]; · iexists _; iexact S2
    isplitl [S3]; · iexists _; iexact S3
    iexists _; iexact S4
  iexact Hr

set_option backward.isDefEq.respectTransparency.types false in
set_option maxHeartbeats 800000 in
/-- The run: every array of the pipeline ends at what the proof data say, and every semaphore counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track_shared (Q' := _) cfgs (dats m) (0 : Fin 1) launch₀0 defs₀ Variants.none m ρ main
    (hbody := fun c => (body_obligation m c).loose) (hq := fun _ _ _ => rfl) (howed := fun _ _ => rfl) (V₀ := V0 m) (opss := [hostOps1])
    (hsub := sfx_sub) (hfresh := sfx_fresh) (hkeep := sfx_keeps)
    (hmain := hmain m Variants.none) (hA := A_eq m) (hin := inv_enter m) (hout := fun c => inv_leave m c _)

end Cert.KernelIdeal.Body

end
-- ==== Proof.EntryKI.lean ====
/-
  The blocks a step of the kernel finds, read element by element as elements of its arguments.
-/
module

public import proofs.«01_k».proof.Proof.RowRead
public import proofs.«01_k».proof.Proof.RunKI
public import Idealize.ShloMosaic.Lib.Claim
public import Idealize.ShloMosaic.Lib.Pipeline.ValueKit

@[expose] public section

noncomputable section

namespace Cert.KernelIdeal.Body

open Idealize.ShloMosaic Idealize.ShloMosaic.TcCoe
open Idealize.SL.Sem
open Cert.KernelIdeal Cert.KernelIdeal.Gen Cert.Pwa

variable (m : (ℓ : Loc nD τ sig) → Buf (Elt Ideal) ℓ) (c : Dev nD)

/-- The parameters, from the arguments. -/
def paramsOf : Params where
  g a := m ((c : Thread nD τ).loc main_arg1) (ix1 a)
  b a := m ((c : Thread nD τ).loc main_arg2) (ix1 a)
  wv a k := m ((c : Thread nD τ).loc main_arg3) (ix2 a k)
  wvs k := m ((c : Thread nD τ).loc main_arg4) (ix1 k)
  wg a k := m ((c : Thread nD τ).loc main_arg5) (ix2 a k)
  wgs k := m ((c : Thread nD τ).loc main_arg6) (ix1 k)
  wo k a := m ((c : Thread nD τ).loc main_arg7) (ix2 k a)
  wos a := m ((c : Thread nD τ).loc main_arg8) (ix1 a)
  wt h j n := m ((c : Thread nD τ).loc main_arg9) (ix3 h j n)
  fac h n := m ((c : Thread nD τ).loc main_arg10) (ix3 h 0 n)

/-- A sequence of the argument. -/
def seqOf (s : Fin 896) : Fin 512 → Fin 64 → EReal := fun n a => m ((c : Thread nD τ).loc main_arg0) (ix3 s n a)

/-! ## Where the blocks lie -/

theorem eq_at2 {A B : Nat} (x : (⟨2, ![A, B]⟩ : Shape).Idx) (a : Fin A) (b : Fin B) (h0 : (x 0).val = a.val) (h1 : (x 1).val = b.val) : x = ix2 a b := by
  funext d; apply Fin.ext
  fin_cases d
  · exact h0
  · exact h1

theorem eq_at3 {A B C : Nat} (x : (⟨3, ![A, B, C]⟩ : Shape).Idx) (a : Fin A) (b : Fin B) (c : Fin C) (h0 : (x 0).val = a.val) (h1 : (x 1).val = b.val)
    (h2 : (x 2).val = c.val) : x = ix3 a b c := by
  funext d; apply Fin.ext
  fin_cases d
  · exact h0
  · exact h1
  · exact h2

theorem index_2 : ∀ t : Fin grid0.N, win0_2.index t = ![0, 0] := by decide +kernel
theorem index_3 : ∀ t : Fin grid0.N, win0_3.index t = ![0, 0] := by decide +kernel
theorem index_4 : ∀ t : Fin grid0.N, win0_4.index t = ![0, 0] := by decide +kernel
theorem index_5 : ∀ t : Fin grid0.N, win0_5.index t = ![0, 0] := by decide +kernel
theorem index_6 : ∀ t : Fin grid0.N, win0_6.index t = ![0, 0] := by decide +kernel
theorem index_7 : ∀ t : Fin grid0.N, win0_7.index t = ![0, 0] := by decide +kernel
theorem index_8 : ∀ t : Fin grid0.N, win0_8.index t = ![0, 0] := by decide +kernel
theorem index_9 : ∀ t : Fin grid0.N, win0_9.index t = ![0, 0] := by decide +kernel
theorem index_10 : ∀ t : Fin grid0.N, win0_10.index t = ![0, 0, 0] := by decide +kernel
theorem index_11 : ∀ t : Fin grid0.N, win0_11.index t = ![0, 0, 0] := by decide +kernel
theorem index_0 : ∀ t : Fin grid0.N, win0_0.index t = ![min t.val 111, 0, 0] := by decide +kernel
theorem index_1 : ∀ t : Fin grid0.N, win0_1.index t = ![t.val - 1, 0, 0] := by decide +kernel

/-! ## What they hold -/

theorem iblk_2 (t : Fin cfg0.N) (a : Fin 64) (l : Fin 128) : iblk m c 2 t (ix2 a l) = (paramsOf m c).g a := by
  blk_simp [iblk]
  rw [eq_at2 ((win0_2.blk t).view.emb (ix2 a l)) a l (by blk_simp [index_2 t]) (by blk_simp [index_2 t])]
  simp only [V, V0, List.flatten_cons, List.flatten_nil, List.append_nil]
  entry_read
  pointwise [paramsOf]

theorem iblk_3 (t : Fin cfg0.N) (a : Fin 64) (l : Fin 128) : iblk m c 3 t (ix2 a l) = (paramsOf m c).b a := by
  blk_simp [iblk]
  rw [eq_at2 ((win0_3.blk t).view.emb (ix2 a l)) a l (by blk_simp [index_3 t]) (by blk_simp [index_3 t])]
  simp only [V, V0, List.flatten_cons, List.flatten_nil, List.append_nil]
  entry_read
  pointwise [paramsOf]

theorem iblk_4 (t : Fin cfg0.N) (a : Fin 256) (l : Fin 64) : iblk m c 4 t (ix2 a l) = (paramsOf m c).wv l a := by
  blk_simp [iblk]
  rw [eq_at2 ((win0_4.blk t).view.emb (ix2 a l)) a l (by blk_simp [index_4 t]) (by blk_simp [index_4 t])]
  simp only [V, V0, List.flatten_cons, List.flatten_nil, List.append_nil]
  entry_read
  pointwise [paramsOf]

theorem iblk_5 (t : Fin cfg0.N) (a : Fin 256) (l : Fin 128) : iblk m c 5 t (ix2 a l) = (paramsOf m c).wvs a := by
  blk_simp [iblk]
  rw [eq_at2 ((win0_5.blk t).view.emb (ix2 a l)) a l (by blk_simp [index_5 t]) (by blk_simp [index_5 t])]
  simp only [V, V0, List.flatten_cons, List.flatten_nil, List.append_nil]
  entry_read
  pointwise [paramsOf]

theorem iblk_6 (t : Fin cfg0.N) (a : Fin 256) (l : Fin 64) : iblk m c 6 t (ix2 a l) = (paramsOf m c).wg l a := by
  blk_simp [iblk]
  rw [eq_at2 ((win0_6.blk t).view.emb (ix2 a l)) a l (by blk_simp [index_6 t]) (by blk_simp [index_6 t])]
  simp only [V, V0, List.flatten_cons, List.flatten_nil, List.append_nil]
  entry_read
  pointwise [paramsOf]

theorem iblk_7 (t : Fin cfg0.N) (a : Fin 256) (l : Fin 128) : iblk m c 7 t (ix2 a l) = (paramsOf m c).wgs a := by
  blk_simp [iblk]
  rw [eq_at2 ((win0_7.blk t).view.emb (ix2 a l)) a l (by blk_simp [index_7 t]) (by blk_simp [index_7 t])]
  simp only [V, V0, List.flatten_cons, List.flatten_nil, List.append_nil]
  entry_read
  pointwise [paramsOf]

theorem iblk_8 (t : Fin cfg0.N) (a : Fin 64) (l : Fin 256) : iblk m c 8 t (ix2 a l) = (paramsOf m c).wo l a := by
  blk_simp [iblk]
  rw [eq_at2 ((win0_8.blk t).view.emb (ix2 a l)) a l (by blk_simp [index_8 t]) (by blk_simp [index_8 t])]
  simp only [V, V0, List.flatten_cons, List.flatten_nil, List.append_nil]
  entry_read
  pointwise [paramsOf]

theorem iblk_9 (t : Fin cfg0.N) (a : Fin 64) (l : Fin 128) : iblk m c 9 t (ix2 a l) = (paramsOf m c).wos a := by
  blk_simp [iblk]
  rw [eq_at2 ((win0_9.blk t).view.emb (ix2 a l)) a l (by blk_simp [index_9 t]) (by blk_simp [index_9 t])]
  simp only [V, V0, List.flatten_cons, List.flatten_nil, List.append_nil]
  entry_read
  pointwise [paramsOf]

theorem iblk_10 (t : Fin cfg0.N) (h : Fin 8) (j n : Fin 512) : iblk m c 10 t (ix3 h j n) = (paramsOf m c).wt h j n := by
  blk_simp [iblk]
  rw [eq_at3 ((win0_10.blk t).view.emb (ix3 h j n)) h j n (by blk_simp [index_10 t]) (by blk_simp [index_10 t]) (by blk_simp [index_10 t]), V_main_arg9]
  rfl

theorem iblk_11 (t : Fin cfg0.N) (h : Fin 8) (n : Fin 512) : iblk m c 11 t (ix3 h 0 n) = (paramsOf m c).fac h n := by
  blk_simp [iblk]
  rw [eq_at3 ((win0_11.blk t).view.emb (ix3 h 0 n)) h 0 n (by blk_simp [index_11 t]) (by blk_simp [index_11 t]) (by blk_simp [index_11 t]), V_main_arg10]
  rfl

theorem iblk_0 (t : Fin cfg0.N) (k : Fin 8) (a : Fin 64) (n : Fin 512) :
    iblk m c 0 t (ix3 k a n) = seqOf m c ⟨min t.val 111 * 8 + k.val, by omega⟩ n a := by
  blk_simp [iblk]
  rw [eq_at3 ((win0_0.blk t).view.emb (ix3 k a n)) ⟨min t.val 111 * 8 + k.val, by omega⟩ a n (by blk_simp [index_0 t]) (by blk_simp [index_0 t])
    (by blk_simp [index_0 t])]
  simp only [V, V0, List.flatten_cons, List.flatten_nil, List.append_nil]
  entry_read
  pointwise [seqOf]

theorem iblk_1 (t : Fin cfg0.N) (k : Fin 8) (a : Fin 64) (n : Fin 512) :
    iblk m c 1 t (ix3 k a n) = seqOf m c ⟨(t.val - 1) * 8 + k.val, by have : t.val < 113 := t.isLt; omega⟩ n a := by
  have ht : t.val < 113 := t.isLt
  blk_simp [iblk]
  rw [eq_at3 ((win0_1.blk t).view.emb (ix3 k a n)) ⟨(t.val - 1) * 8 + k.val, by omega⟩ a n (by blk_simp [index_1 t]) (by blk_simp [index_1 t])
    (by blk_simp [index_1 t])]
  simp only [V, V0, List.flatten_cons, List.flatten_nil, List.append_nil]
  entry_read
  pointwise [seqOf]

theorem staged (t : Fin cfg0.N) : Staged (paramsOf m c) (iblk m c 2 t) (iblk m c 3 t) (iblk m c 4 t) (iblk m c 5 t) where
  g := iblk_2 m c t
  b := iblk_3 m c t
  wv a k := iblk_4 m c t k a
  ws := iblk_5 m c t

theorem staged' (t : Fin cfg0.N) :
    Staged' (paramsOf m c) (iblk m c 6 t) (iblk m c 7 t) (iblk m c 8 t) (iblk m c 9 t) (iblk m c 10 t) (iblk m c 11 t) where
  wg a k := iblk_6 m c t k a
  wgs := iblk_7 m c t
  wo k a := iblk_8 m c t a k
  wos := iblk_9 m c t
  wt := iblk_10 m c t
  fac := iblk_11 m c t

/-- The slot a step reads holds the block before it. -/
theorem slotBefore_holds (t : Fin cfg0.N) (h : 1 ≤ t.val) : (slotBefore m c t).Holds (paramsOf m c)
    fun k => seqOf m c ⟨(t.val - 1) * 8 + k.val, by have : t.val < 113 := t.isLt; omega⟩ := by
  have ht : t.val < 113 := t.isLt
  rw [slotBefore, if_neg (by omega), slotAt]
  refine filled_holds (staged m c _) _ _ fun k a n => (iblk_0 m c _ k a n).trans ?_
  exact congrArg (fun i => seqOf m c i n a) (Fin.ext (by dsimp only; omega))

end Cert.KernelIdeal.Body
-- ==== Proof.FinalKI.lean ====
/-
  The kernel's result arrays after the run.
-/
module

public import proofs.«01_k».proof.Proof.EntryKI

@[expose] public section

noncomputable section

namespace Cert.KernelIdeal.Body

open Idealize.ShloMosaic Idealize.ShloMosaic.TcCoe
open Idealize.SL.Sem
open Cert.KernelIdeal Cert.KernelIdeal.Gen Cert.Pwa

variable (m : (ℓ : Loc nD τ sig) → Buf (Elt Ideal) ℓ) (c : Dev nD)

theorem index_12 : ∀ t : Fin grid0.N, win0_12.index t = ![t.val - 1, 0, 0] := by decide +kernel
theorem index_13 : ∀ t : Fin grid0.N, win0_13.index t = ![min t.val 111, 0, 0] := by decide +kernel
theorem index_14 : ∀ t : Fin grid0.N, win0_14.index t = ![min t.val 111, 0] := by decide +kernel
theorem index_15 : ∀ t : Fin grid0.N, win0_15.index t = ![min t.val 111, 0, 0] := by decide +kernel
theorem index_16 : ∀ t : Fin grid0.N, win0_16.index t = ![min t.val 111, 0] := by decide +kernel
theorem index_17 : ∀ t : Fin grid0.N, win0_17.index t = ![t.val - 1, 0, 0] := by decide +kernel
theorem index_18 : ∀ t : Fin grid0.N, win0_18.index t = ![t.val - 1, 0] := by decide +kernel
theorem flush_12 : ∀ t : Fin cfg0.N, (cfg0.win 12).flush t = true → 1 ≤ t.val :=
  (by decide +kernel : ∀ t : Fin grid0.N, win0_12.flush t = true → 1 ≤ t.val)
theorem flush_17 : ∀ t : Fin cfg0.N, (cfg0.win 17).flush t = true → 1 ≤ t.val :=
  (by decide +kernel : ∀ t : Fin grid0.N, win0_17.flush t = true → 1 ≤ t.val)
theorem flush_18 : ∀ t : Fin cfg0.N, (cfg0.win 18).flush t = true → 1 ≤ t.val :=
  (by decide +kernel : ∀ t : Fin grid0.N, win0_18.flush t = true → 1 ≤ t.val)

theorem ofSlabs_at {A : Type} {B C : Nat} (f : Fin 8 → (⟨3, ![1, B, C]⟩ : Shape).Idx → A) (k : Fin 8) (b : Fin B) (c : Fin C) :
    ofSlabs f (ix3 k b c) = f k (ix3 0 b c) := rfl

theorem ofRows_at {A : Type} {B : Nat} (f : Fin 8 → (⟨2, ![1, B]⟩ : Shape).Idx → A) (k : Fin 8) (b : Fin B) :
    ofRows f (ix2 k b) = f k (ix2 0 b) := rfl

/-- The sequence at place `k` of the block computed at step `t`. -/
abbrev curSeq (t : Fin cfg0.N) (k : Fin 8) : Fin 896 := ⟨min t.val 111 * 8 + k.val, by omega⟩

/-- The sequence at place `k` of the block before it. -/
abbrev prevSeq (t : Fin cfg0.N) (k : Fin 8) : Fin 896 := ⟨(t.val - 1) * 8 + k.val, by have : t.val < 113 := t.isLt; omega⟩

/-- The codes of the normed input. -/
theorem final_13 : (dats m 0 c).arrAt 13 cfg0.N = fun i : S896x64x512.Idx => Ideal.fptosi 8 (xcd (seqOf m c (i 0) (i 2)) (paramsOf m c).g (paramsOf m c).b (i 1)) := by
  refine (dats m 0 c).arrAt_eq_of_covers 13 _ (by decide +kernel) fun t hf y => ?_
  blk_simp
  rw [after_13]
  obtain ⟨k, a, n, rfl⟩ : ∃ (k : Fin 8) (a : Fin 64) (n : Fin 512), y = ix3 k a n := ⟨y 0, y 1, y 2, eq_at3 y (y 0) (y 1) (y 2) rfl rfl rfl⟩
  rw [eq_at3 ((win0_13.blk t).view.emb (ix3 k a n)) (curSeq t k) a n (by blk_simp [index_13 t]) (by blk_simp [index_13 t]) (by blk_simp [index_13 t])]
  exact x2cRow_staged (staged m c t) _ (fun a n => iblk_0 m c t k a n) a n

/-- Their scales. -/
theorem final_14 : (dats m 0 c).arrAt 14 cfg0.N = fun i : S896x512.Idx => xsc (seqOf m c (i 0) (i 1)) (paramsOf m c).g (paramsOf m c).b := by
  refine (dats m 0 c).arrAt_eq_of_covers 14 _ (by decide +kernel) fun t hf y => ?_
  blk_simp
  rw [after_14]
  obtain ⟨k, a, rfl⟩ : ∃ (k : Fin 8) (a : Fin 512), y = ix2 k a := ⟨y 0, y 1, eq_at2 y (y 0) (y 1) rfl rfl⟩
  rw [eq_at2 ((win0_14.blk t).view.emb (ix2 k a)) (curSeq t k) a (by blk_simp [index_14 t]) (by blk_simp [index_14 t])]
  exact x2sRow_staged (staged m c t) _ (fun a n => iblk_0 m c t k a n) a

/-- The codes of the values. -/
theorem final_15 : (dats m 0 c).arrAt 15 cfg0.N = fun i : S896x256x512.Idx => Ideal.fptosi 8 (vcd (paramsOf m c) (seqOf m c (i 0)) (i 2) (i 1)) := by
  refine (dats m 0 c).arrAt_eq_of_covers 15 _ (by decide +kernel) fun t hf y => ?_
  blk_simp
  rw [after_15]
  obtain ⟨k, a, n, rfl⟩ : ∃ (k : Fin 8) (a : Fin 256) (n : Fin 512), y = ix3 k a n := ⟨y 0, y 1, y 2, eq_at3 y (y 0) (y 1) (y 2) rfl rfl rfl⟩
  rw [eq_at3 ((win0_15.blk t).view.emb (ix3 k a n)) (curSeq t k) a n (by blk_simp [index_15 t]) (by blk_simp [index_15 t]) (by blk_simp [index_15 t])]
  exact vcRow_staged (staged m c t) _ (fun a n => iblk_0 m c t k a n) a n

/-- Their scales. -/
theorem final_16 : (dats m 0 c).arrAt 16 cfg0.N = fun i : S896x256.Idx => vsc (paramsOf m c) (seqOf m c (i 0)) (i 1) := by
  refine (dats m 0 c).arrAt_eq_of_covers 16 _ (by decide +kernel) fun t hf y => ?_
  blk_simp
  rw [after_16]
  obtain ⟨k, a, rfl⟩ : ∃ (k : Fin 8) (a : Fin 256), y = ix2 k a := ⟨y 0, y 1, eq_at2 y (y 0) (y 1) rfl rfl⟩
  rw [eq_at2 ((win0_16.blk t).view.emb (ix2 k a)) (curSeq t k) a (by blk_simp [index_16 t]) (by blk_simp [index_16 t])]
  exact (scaleRows_apply _ k a).trans (vsRow_staged (staged m c t) _ (fun a n => iblk_0 m c t k a n) a)

/-- The updated input. -/
theorem final_12 : (dats m 0 c).arrAt 12 cfg0.N = fun i : S896x64x512.Idx => upd (paramsOf m c) (seqOf m c (i 0)) (i 2) (i 1) := by
  refine (dats m 0 c).arrAt_eq_of_covers 12 _ (by decide +kernel) fun t hf y => ?_
  have ht := flush_12 t hf
  blk_simp
  rw [after_12]
  obtain ⟨k, a, n, rfl⟩ : ∃ (k : Fin 8) (a : Fin 64) (n : Fin 512), y = ix3 k a n := ⟨y 0, y 1, y 2, eq_at3 y (y 0) (y 1) (y 2) rfl rfl rfl⟩
  rw [eq_at3 ((win0_12.blk t).view.emb (ix3 k a n)) (prevSeq t k) a n (by blk_simp [index_12 t]) (by blk_simp [index_12 t]) (by blk_simp [index_12 t])]
  exact moRow_staged (slotBefore_holds m c t ht) (staged' m c t) k _ (fun a n => iblk_1 m c t k a n) a n

/-- The codes of the gated averages. -/
theorem final_17 : (dats m 0 c).arrAt 17 cfg0.N = fun i : S896x512x256.Idx => Ideal.fptosi 8 (acd (paramsOf m c) (seqOf m c (i 0)) (i 1) (i 2)) := by
  refine (dats m 0 c).arrAt_eq_of_covers 17 _ (by decide +kernel) fun t hf y => ?_
  have ht := flush_17 t hf
  blk_simp
  rw [after_17]
  obtain ⟨k, a, n, rfl⟩ : ∃ (k : Fin 8) (a : Fin 512) (n : Fin 256), y = ix3 k a n := ⟨y 0, y 1, y 2, eq_at3 y (y 0) (y 1) (y 2) rfl rfl rfl⟩
  rw [eq_at3 ((win0_17.blk t).view.emb (ix3 k a n)) (prevSeq t k) a n (by blk_simp [index_17 t]) (by blk_simp [index_17 t]) (by blk_simp [index_17 t])]
  exact ogcRow_staged (slotBefore_holds m c t ht) (staged' m c t) k a n

/-- Their scales. -/
theorem final_18 : (dats m 0 c).arrAt 18 cfg0.N = fun i : S896x512.Idx => asc (paramsOf m c) (seqOf m c (i 0)) (i 1) := by
  refine (dats m 0 c).arrAt_eq_of_covers 18 _ (by decide +kernel) fun t hf y => ?_
  have ht := flush_18 t hf
  blk_simp
  rw [after_18]
  obtain ⟨k, a, rfl⟩ : ∃ (k : Fin 8) (a : Fin 512), y = ix2 k a := ⟨y 0, y 1, eq_at2 y (y 0) (y 1) rfl rfl⟩
  rw [eq_at2 ((win0_18.blk t).view.emb (ix2 k a)) (prevSeq t k) a (by blk_simp [index_18 t]) (by blk_simp [index_18 t])]
  exact ogsRow_staged (slotBefore_holds m c t ht) (staged' m c t) k a

end Cert.KernelIdeal.Body
-- ==== Proof.EndsKI.lean ====
/-
  What the kernel's result buffers hold after the operations that follow its call: the call's result arrays, transposed and regrouped.
-/
module

public import proofs.«01_k».proof.Proof.FinalKI
public import Idealize.ShloMosaic.Lib.Claim

@[expose] public section

noncomputable section

namespace Cert.KernelIdeal.Body

open Idealize.ShloMosaic Idealize.ShloMosaic.TcCoe
open Idealize.SL.Sem
open Cert.KernelIdeal Cert.KernelIdeal.Gen Cert.Pwa

variable (m : (ℓ : Loc nD τ sig) → Buf (Elt Ideal) ℓ) (c : Dev nD)

theorem eq_at4 {A B C D : Nat} (x : (⟨4, ![A, B, C, D]⟩ : Shape).Idx) (a : Fin A) (b : Fin B) (c : Fin C) (d : Fin D) (h0 : (x 0).val = a.val)
    (h1 : (x 1).val = b.val) (h2 : (x 2).val = c.val) (h3 : (x 3).val = d.val) : x = ix4 a b c d := by
  funext e; apply Fin.ext
  fin_cases e
  · exact h0
  · exact h1
  · exact h2
  · exact h3

/-- The buffers when the call returns. -/
abbrev leftAt : Valuation τ sig (Elt Ideal) :=
  Pipeline.withArrays (cfgs 0).spec c (V0 m c) fun w => (dats m 0 c).arrAt w (cfgs 0).N

theorem left_arr (w : Fin 19) : leftAt m c (Proc.devRef .tc (Pipeline.arrRef (cfgs 0).spec w)) = (dats m 0 c).arrAt w (cfgs 0).N :=
  Pipeline.Dat.withArrays_arrAt (dats m 0 c) (by decide +kernel) (V0 m c) (A_eq m c) w

theorem end_15 : Pipeline.afterTail₀ cfgs (dats m) 0 (V0 m) [hostOps1] c main_v15
    = fun i : S896x512x64.Idx => upd (paramsOf m c) (seqOf m c (i 0)) (i 1) (i 2) := by
  unfold Pipeline.afterTail₀
  simp only [List.flatten_cons, List.flatten_nil, List.append_nil, StableHlo.after_cons, StableHlo.after_nil]
  after_results_steps
  refine (congrArg (transpose S896x512x64 [0, 2, 1] · transposes_S896x64x512_S896x512x64_0_2_1) ((left_arr m c 12).trans (final_12 m c))).trans ?_
  funext i
  obtain ⟨s, n, k, rfl⟩ : ∃ s n k, i = ix3 s n k := ⟨i 0, i 1, i 2, eq_at3 i (i 0) (i 1) (i 2) rfl rfl rfl⟩
  pointwise []

theorem end_16 : Pipeline.afterTail₀ cfgs (dats m) 0 (V0 m) [hostOps1] c main_v16
    = fun i : S896x512x64.Idx => Ideal.fptosi 8 (xcd (seqOf m c (i 0) (i 1)) (paramsOf m c).g (paramsOf m c).b (i 2)) := by
  unfold Pipeline.afterTail₀
  simp only [List.flatten_cons, List.flatten_nil, List.append_nil, StableHlo.after_cons, StableHlo.after_nil]
  after_results_steps
  refine (congrArg (transpose S896x512x64 [0, 2, 1] · transposes_S896x64x512_S896x512x64_0_2_1) ((left_arr m c 13).trans (final_13 m c))).trans ?_
  funext i
  obtain ⟨s, n, k, rfl⟩ : ∃ s n k, i = ix3 s n k := ⟨i 0, i 1, i 2, eq_at3 i (i 0) (i 1) (i 2) rfl rfl rfl⟩
  pointwise []

theorem end_18 : Pipeline.afterTail₀ cfgs (dats m) 0 (V0 m) [hostOps1] c main_v18
    = fun i : S896x512x8x32.Idx => Ideal.fptosi 8 (vcd (paramsOf m c) (seqOf m c (i 0)) (i 1) (joined (i 2) (i 3))) := by
  unfold Pipeline.afterTail₀
  simp only [List.flatten_cons, List.flatten_nil, List.append_nil, StableHlo.after_cons, StableHlo.after_nil]
  after_results_steps
  refine (congrArg (fun x : IVec S896x256x512 8 => transpose S896x512x8x32 [0, 3, 1, 2] (shapeCast S896x8x32x512 x shapeCasts_S896x256x512_S896x8x32x512)
    transposes_S896x8x32x512_S896x512x8x32_0_3_1_2) ((left_arr m c 15).trans (final_15 m c))).trans ?_
  funext i
  obtain ⟨s, n, h, k, rfl⟩ : ∃ s n h k, i = ix4 s n h k := ⟨i 0, i 1, i 2, i 3, eq_at4 i (i 0) (i 1) (i 2) (i 3) rfl rfl rfl rfl⟩
  pointwise []
  rw [show (⟨h.val * 32 + k.val, by omega⟩ : Fin 256) = joined h k from Fin.ext (by simp only; omega)]

theorem end_19 : Pipeline.afterTail₀ cfgs (dats m) 0 (V0 m) [hostOps1] c main_v19
    = fun i : S896x8x32.Idx => vsc (paramsOf m c) (seqOf m c (i 0)) (joined (i 1) (i 2)) := by
  unfold Pipeline.afterTail₀
  simp only [List.flatten_cons, List.flatten_nil, List.append_nil, StableHlo.after_cons, StableHlo.after_nil]
  after_results_steps
  refine (congrArg (fun x : FVec Ideal S896x256 .f32 => shapeCast S896x8x32 x shapeCasts_S896x256_S896x8x32) ((left_arr m c 16).trans (final_16 m c))).trans ?_
  funext i
  obtain ⟨s, h, k, rfl⟩ : ∃ s h k, i = ix3 s h k := ⟨i 0, i 1, i 2, eq_at3 i (i 0) (i 1) (i 2) rfl rfl rfl⟩
  pointwise []
  rw [show (⟨h.val * 32 + k.val, by omega⟩ : Fin 256) = joined h k from Fin.ext (by simp only; omega)]

end Cert.KernelIdeal.Body
-- ==== Proof.RefRead.lean ====
/-
  The reference's tile functions read element by element over the extended reals.
-/
module

public import proofs.«01_k».proof.Proof.Spec
public import proofs.«01_k».proof.Proof.Gen.ReferenceIdeal.Skeleton

@[expose] public section

noncomputable section

namespace Cert.Pwa.Ref

open Idealize.ShloMosaic Idealize.SL.Sem
open Cert.ReferenceIdeal Cert.ReferenceIdeal.Gen

variable [Cert.ReferenceIdeal.Facts]

/-- The operands hold the parameters `p`. -/
structure Given (p : Params) (g b : FVec Ideal S64 .f32) (wv : FVec Ideal S64x256 .bf16) (wvs : FVec Ideal S256 .f32)
    (wg : FVec Ideal S64x256 .bf16) (wgs : FVec Ideal S256 .f32) (wo : FVec Ideal S256x64 .bf16) (wos : FVec Ideal S64 .f32)
    (wt : FVec Ideal S8x512x512 .bf16) (fac : FVec Ideal S8x512 .f32) : Prop where
  g : ∀ c, g (ix1 c) = p.g c
  b : ∀ c, b (ix1 c) = p.b c
  wv : ∀ c k, wv (ix2 c k) = p.wv c k
  wvs : ∀ k, wvs (ix1 k) = p.wvs k
  wg : ∀ c k, wg (ix2 c k) = p.wg c k
  wgs : ∀ k, wgs (ix1 k) = p.wgs k
  wo : ∀ k c, wo (ix2 k c) = p.wo k c
  wos : ∀ c, wos (ix1 c) = p.wos c
  wt : ∀ h n j, wt (ix3 h n j) = p.wt h j n
  fac : ∀ h n, fac (ix2 h n) = p.fac h n

variable {p : Params} {g b : FVec Ideal S64 .f32} {wv : FVec Ideal S64x256 .bf16} {wvs : FVec Ideal S256 .f32}
  {wg : FVec Ideal S64x256 .bf16} {wgs : FVec Ideal S256 .f32} {wo : FVec Ideal S256x64 .bf16} {wos : FVec Ideal S64 .f32}
  {wt : FVec Ideal S8x512x512 .bf16} {fac : FVec Ideal S8x512 .f32} (G : Given p g b wv wvs wg wgs wo wos wt fac)
  (m : FVec Ideal S896x512x64 .bf16)

/-- A sequence of the input. -/
def seq (m : FVec Ideal S896x512x64 .bf16) (s : Fin 896) : Fin 512 → Fin 64 → EReal := fun n c => m (ix3 s n c)

/-! ## Shared pieces -/

/-- A symmetric scale from a largest magnitude. -/
theorem scale_read {S : Shape} (x : FVec Ideal S .f32) (i : S.Idx) :
    select (cmpf .ogt x (broadcast S (Scalar.ofBits (F := Ideal) .f32 0x00000000#32)))
      (divf x (broadcast S (Scalar.ofBits (F := Ideal) .f32 0x42FE0000#32))) (broadcast S (Scalar.ofBits (F := Ideal) .f32 0x3F800000#32)) i
      = scl (x i) := by
  pointwise [scl]

/-- A quotient rounded and clipped. -/
theorem code_read {S : Shape} (x : FVec Ideal S .f32) (i : S.Idx) :
    minimumf (broadcast S (Scalar.sitofp (F := Ideal) .f32 127#32))
      (maximumf (broadcast S (Scalar.sitofp (F := Ideal) .f32 4294967169#32)) (roundeven x)) i = rc (x i) := by
  pointwise [rc, sitofp_127, sitofp_m127]

/-- Codes read back. -/
theorem back_read {S : Shape} (x : IVec S 8) (i : S.Idx) (y : EReal) (h : x i = Ideal.fptosi 8 (rc y)) :
    sitofp (F := Ideal) .bf16 x i = rc y := (congrArg (fun v : BitVec 8 => ((v.toInt : ℝ) : EReal)) h).trans (sitofp_fptosi_rc y)

theorem mag_channels (x : FVec Ideal S896x512x64 .f32) (s : Fin 896) (n : Fin 512) :
    multiReduction (F := Ideal) .maximumf [2] S896x512 (absf x) 0xFF800000#32 reduces_S896x512x64_S896x512 (.inl rfl) rfl (ix2 s n)
      = mag fun c => x (ix3 s n c) := by
  pointwise [absf_eq, minf_eq, mag]

theorem mag_values (x : FVec Ideal S896x512x8x32 .f32) (s : Fin 896) (h : Fin 8) (c : Fin 32) :
    multiReduction (F := Ideal) .maximumf [1] S896x8x32 (absf x) 0xFF800000#32 reduces_S896x512x8x32_S896x8x32 (.inl rfl) rfl (ix3 s h c)
      = mag fun n => x (ix4 s n h c) := by
  pointwise [absf_eq, minf_eq, mag]

theorem mag_gated (x : FVec Ideal S896x512x256 .f32) (s : Fin 896) (n : Fin 512) :
    multiReduction (F := Ideal) .maximumf [2] S896x512 (absf x) 0xFF800000#32 reduces_S896x512x256_S896x512 (.inl rfl) rfl (ix2 s n)
      = mag fun c => x (ix3 s n c) := by
  pointwise [absf_eq, minf_eq, mag]

theorem over_channels (x : FVec Ideal S896x512x64 .f32) (w : FVec Ideal S896x512 .f32) (s : Fin 896) (n : Fin 512) (c : Fin 64) :
    divf x (broadcastTo S896x512x64 (shapeCast S896x512x1 w shapeCasts_S896x512_S896x512x1) broadcasts_S896x512x1_S896x512x64) (ix3 s n c)
      = Ideal.div (x (ix3 s n c)) (w (ix2 s n)) := by
  pointwise []

theorem over_values (x : FVec Ideal S896x512x8x32 .f32) (w : FVec Ideal S896x8x32 .f32) (s : Fin 896) (n : Fin 512) (h : Fin 8) (c : Fin 32) :
    divf x (broadcastTo S896x512x8x32 (shapeCast S896x1x8x32 w shapeCasts_S896x8x32_S896x1x8x32) broadcasts_S896x1x8x32_S896x512x8x32) (ix4 s n h c)
      = Ideal.div (x (ix4 s n h c)) (w (ix3 s h c)) := by
  pointwise []

theorem over_gated (x : FVec Ideal S896x512x256 .f32) (w : FVec Ideal S896x512 .f32) (s : Fin 896) (n : Fin 512) (c : Fin 256) :
    divf x (broadcastTo S896x512x256 (shapeCast S896x512x1 w shapeCasts_S896x512_S896x512x1) broadcasts_S896x512x1_S896x512x256) (ix3 s n c)
      = Ideal.div (x (ix3 s n c)) (w (ix2 s n)) := by
  pointwise []

/-- A projection: the product with a matrix, times the positions' scales, times the channels'. -/
theorem project_read (x : FVec Ideal S896x512x64 .bf16) (w : FVec Ideal S64x256 .bf16) (xs : FVec Ideal S896x512 .f32) (ws : FVec Ideal S256 .f32)
    (s : Fin 896) (n : Fin 512) (k : Fin 256) :
    mulf (mulf (matmul dot_S896x512x64_S64x256_S896x512x256_2_0_01_1_n_n none x w (constant S896x512x256 .f32 0x00000000#32))
        (broadcastTo S896x512x256 (shapeCast S896x512x1 xs shapeCasts_S896x512_S896x512x1) broadcasts_S896x512x1_S896x512x256))
      (broadcastTo S896x512x256 (shapeCast S1x1x256 ws shapeCasts_S256_S1x1x256) broadcasts_S1x1x256_S896x512x256) (ix3 s n k)
      = (∑ c, x (ix3 s n c) * w (ix2 c k)) * xs (ix2 s n) * ws (ix1 k) := by
  pointwise []

theorem back_project_read (x : FVec Ideal S896x512x256 .bf16) (w : FVec Ideal S256x64 .bf16) (xs : FVec Ideal S896x512 .f32) (ws : FVec Ideal S64 .f32)
    (s : Fin 896) (n : Fin 512) (k : Fin 64) :
    mulf (mulf (matmul dot_S896x512x256_S256x64_S896x512x64_2_0_01_1_n_n none x w (constant S896x512x64 .f32 0x00000000#32))
        (broadcastTo S896x512x64 (shapeCast S896x512x1 xs shapeCasts_S896x512_S896x512x1) broadcasts_S896x512x1_S896x512x64))
      (broadcastTo S896x512x64 (shapeCast S1x1x64 ws shapeCasts_S64_S1x1x64) broadcasts_S1x1x64_S896x512x64) (ix3 s n k)
      = (∑ c, x (ix3 s n c) * w (ix2 c k)) * xs (ix2 s n) * ws (ix1 k) := by
  pointwise []

/-- The average over positions, with the values' scales and the factors. -/
theorem average_read (v : FVec Ideal S896x512x8x32 .bf16) (w : FVec Ideal S8x512x512 .bf16) (vs : FVec Ideal S896x8x32 .f32) (f : FVec Ideal S8x512 .f32)
    (s : Fin 896) (n : Fin 512) (h : Fin 8) (c : Fin 32) :
    mulf (mulf (transpose S896x512x8x32 [1, 3, 0, 2]
          (matmul dot_S896x512x8x32_S8x512x512_S8x896x32x512_1_2_03_1_2_0 none v w (constant S8x896x32x512 .f32 0x00000000#32))
          transposes_S8x896x32x512_p1_3_0_2_S896x512x8x32)
        (broadcastTo S896x512x8x32 (shapeCast S896x1x8x32 vs shapeCasts_S896x8x32_S896x1x8x32) broadcasts_S896x1x8x32_S896x512x8x32))
      (broadcastTo S896x512x8x32 (shapeCast S1x512x8x1 (transpose S512x8 [1, 0] (shapeCast S8x512 f shapeCasts_S8x512_S8x512)
        transposes_S8x512_p1_0_S512x8) shapeCasts_S512x8_S1x512x8x1) broadcasts_S1x512x8x1_S896x512x8x32) (ix4 s n h c)
      = (∑ j, v (ix4 s j h c) * w (ix3 h n j)) * vs (ix3 s h c) * f (ix2 h n) := by
  pointwise []

theorem heads_read (x : FVec Ideal S896x512x256 .f32) (s : Fin 896) (n : Fin 512) (h : Fin 8) (c : Fin 32) :
    shapeCast S896x512x8x32 x shapeCasts_S896x512x256_S896x512x8x32 (ix4 s n h c) = x (ix3 s n ⟨32 * h.val + c.val, by omega⟩) := by
  pointwise []
  exact congrArg (fun i => x (ix3 s n i)) (Fin.ext (by dsimp only; omega))

theorem joined_read (x : FVec Ideal S896x512x8x32 .f32) (s : Fin 896) (n : Fin 512) (k : Fin 256) :
    shapeCast S896x512x256 x shapeCasts_S896x512x8x32_S896x512x256 (ix3 s n k) = x (ix4 s n (hd k) ⟨k.val % 32, Nat.mod_lt _ (by decide)⟩) := by
  pointwise [hd]

theorem pay1_apply (s : Fin 896) (n : Fin 512) (c : Fin 64) : k0_pay1 (F := Ideal) m (ix3 s n c) = seq m s n c := by
  pointwise [k0_pay1, seq]

theorem pay2_apply (g b : FVec Ideal S64 .f32) (s : Fin 896) (n : Fin 512) (c : Fin 64) :
    k0_pay2 (F := Ideal) m g b (ix3 s n c) = nrm (seq m s n) (fun c => g (ix1 c)) (fun c => b (ix1 c)) c := by
  pointwise [k0_pay2, pay1_apply, nrm, mean, dev]

/-! ## The reference's values -/

include G

theorem norm_given (s : Fin 896) (n : Fin 512) (c : Fin 64) : k0_pay2 (F := Ideal) m g b (ix3 s n c) = nrm (seq m s n) p.g p.b c := by
  rw [pay2_apply, funext G.g, funext G.b]

theorem xScale_given (s : Fin 896) (n : Fin 512) : k0_pay3 (F := Ideal) m g b (ix2 s n) = xsc (seq m s n) p.g p.b := by
  refine (scale_read _ _).trans (congrArg scl ((mag_channels _ s n).trans (congrArg mag (funext fun c => ?_))))
  exact norm_given G m s n c

theorem xCode_given (s : Fin 896) (n : Fin 512) (c : Fin 64) : k0_pay4 (F := Ideal) m g b (ix3 s n c) = xcd (seq m s n) p.g p.b c := by
  refine (code_read _ _).trans (congrArg rc ((over_channels _ _ s n c).trans (congrArg₂ Ideal.div ?_ ?_)))
  · exact norm_given G m s n c
  · exact xScale_given G m s n

theorem xInt_given (s : Fin 896) (n : Fin 512) (c : Fin 64) :
    k0_pay5 (F := Ideal) (k0_pay4 m g b) (ix3 s n c) = Ideal.fptosi 8 (xcd (seq m s n) p.g p.b c) :=
  congrArg (Ideal.fptosi 8) (xCode_given G m s n c)

theorem value_given (s : Fin 896) (n : Fin 512) (h : Fin 8) (c : Fin 32) :
    k0_pay6 (F := Ideal) (k0_pay3 m g b) (k0_pay4 m g b) wv wvs (ix4 s n h c) = val p (seq m s) n ⟨32 * h.val + c.val, by omega⟩ := by
  refine (heads_read _ s n h c).trans ((project_read _ _ _ _ _ _ _).trans (congrArg₂ (· * ·) (congrArg₂ (· * ·) (Finset.sum_congr rfl fun i _ => congrArg₂ (· * ·) ?_ ?_) ?_) ?_))
  · exact back_read _ _ _ (xInt_given G m s n i)
  · exact G.wv _ _
  · exact xScale_given G m s n
  · exact G.wvs _

theorem gate_given (s : Fin 896) (n : Fin 512) (k : Fin 256) :
    k0_pay7 (F := Ideal) (k0_pay3 m g b) (k0_pay4 m g b) wg wgs (ix3 s n k) = prj p (seq m s) p.wg n k * p.wgs k := by
  refine (project_read _ _ _ _ _ _ _).trans (congrArg₂ (· * ·) (congrArg₂ (· * ·) (Finset.sum_congr rfl fun i _ => congrArg₂ (· * ·) ?_ ?_) ?_) ?_)
  · exact back_read _ _ _ (xInt_given G m s n i)
  · exact G.wg _ _
  · exact xScale_given G m s n
  · exact G.wgs _

theorem vScale_given (s : Fin 896) (h : Fin 8) (c : Fin 32) :
    k0_pay8 (F := Ideal) (k0_pay3 m g b) (k0_pay4 m g b) wv wvs (ix3 s h c) = vsc p (seq m s) ⟨32 * h.val + c.val, by omega⟩ := by
  refine (scale_read _ _).trans (congrArg scl ((mag_values _ s h c).trans (congrArg mag (funext fun n => ?_))))
  exact value_given G m s n h c

theorem vInt_given (s : Fin 896) (n : Fin 512) (h : Fin 8) (c : Fin 32) :
    k0_pay9 (F := Ideal) (k0_pay3 m g b) (k0_pay4 m g b) wv wvs (ix4 s n h c)
      = Ideal.fptosi 8 (vcd p (seq m s) n ⟨32 * h.val + c.val, by omega⟩) := by
  refine congrArg (Ideal.fptosi 8) ((code_read _ _).trans (congrArg rc ((over_values _ _ s n h c).trans (congrArg₂ Ideal.div ?_ ?_))))
  · exact value_given G m s n h c
  · exact vScale_given G m s h c

/-- The reference's gated averages. -/
abbrev gatedOf (m : FVec Ideal S896x512x64 .bf16) (g b : FVec Ideal S64 .f32) (wv : FVec Ideal S64x256 .bf16) (wvs : FVec Ideal S256 .f32)
    (wg : FVec Ideal S64x256 .bf16) (wgs : FVec Ideal S256 .f32) (wt : FVec Ideal S8x512x512 .bf16) (fac : FVec Ideal S8x512 .f32) :
    FVec Ideal S896x512x256 .f32 :=
  k0_pay11 (k0_pay7 (k0_pay3 m g b) (k0_pay4 m g b) wg wgs) (k0_pay8 (k0_pay3 m g b) (k0_pay4 m g b) wv wvs)
    (k0_pay9 (F := Ideal) (k0_pay3 m g b) (k0_pay4 m g b) wv wvs) (k0_pay10 wt) fac

theorem weights_read (s : Fin 8) (n j : Fin 512) : k0_pay10 (F := Ideal) wt (ix3 s n j) = wt (ix3 s n j) := by
  pointwise [k0_pay10]

theorem gated_given (s : Fin 896) (n : Fin 512) (k : Fin 256) : gatedOf m g b wv wvs wg wgs wt fac (ix3 s n k) = avg p (seq m s) n k := by
  have e : (⟨32 * (hd k).val + k.val % 32, by have := (hd k).isLt; omega⟩ : Fin 256) = k := Fin.ext (by simp only [hd]; omega)
  refine congrArg₂ (· * ·) (congrArg Ideal.logistic (gate_given G m s n k)) ((joined_read _ s n k).trans ((average_read _ _ _ _ _ _ _ _).trans
    (congrArg₂ (· * ·) (congrArg₂ (· * ·) (Finset.sum_congr rfl fun j _ => congrArg₂ (· * ·) ?_ ?_) ?_) ?_)))
  · refine (back_read _ _ _ (vInt_given G m s j (hd k) _)).trans ?_
    exact congrArg (vcd p (seq m s) j) e
  · exact (weights_read G _ _ _).trans (G.wt _ _ _)
  · exact (vScale_given G m s (hd k) _).trans (congrArg (vsc p (seq m s)) e)
  · exact G.fac _ _

theorem ogScale_given (s : Fin 896) (n : Fin 512) :
    k0_pay12 (F := Ideal) (k0_pay7 (k0_pay3 m g b) (k0_pay4 m g b) wg wgs) (k0_pay8 (k0_pay3 m g b) (k0_pay4 m g b) wv wvs)
      (k0_pay9 (F := Ideal) (k0_pay3 m g b) (k0_pay4 m g b) wv wvs) (k0_pay10 wt) fac (ix2 s n) = asc p (seq m s) n := by
  refine (scale_read _ _).trans (congrArg scl ((mag_gated _ s n).trans (congrArg mag (funext fun k => ?_))))
  exact gated_given G m s n k

theorem ogInt_given (s : Fin 896) (n : Fin 512) (k : Fin 256) :
    k0_pay13 (F := Ideal) (k0_pay7 (k0_pay3 m g b) (k0_pay4 m g b) wg wgs) (k0_pay8 (k0_pay3 m g b) (k0_pay4 m g b) wv wvs)
      (k0_pay9 (F := Ideal) (k0_pay3 m g b) (k0_pay4 m g b) wv wvs) (k0_pay10 wt) fac (ix3 s n k) = Ideal.fptosi 8 (acd p (seq m s) n k) := by
  refine congrArg (Ideal.fptosi 8) ((code_read _ _).trans (congrArg rc ((over_gated _ _ s n k).trans (congrArg₂ Ideal.div ?_ ?_))))
  · exact gated_given G m s n k
  · exact ogScale_given G m s n

theorem update_given (s : Fin 896) (n : Fin 512) (c : Fin 64) :
    k0_pay14 (F := Ideal) (k0_pay1 m) (k0_pay7 (k0_pay3 m g b) (k0_pay4 m g b) wg wgs) (k0_pay8 (k0_pay3 m g b) (k0_pay4 m g b) wv wvs)
      (k0_pay9 (F := Ideal) (k0_pay3 m g b) (k0_pay4 m g b) wv wvs) (k0_pay10 wt) fac wo wos (ix3 s n c) = upd p (seq m s) n c := by
  refine congrArg₂ (· + ·) (pay1_apply m s n c) ((back_project_read _ _ _ _ _ _ _).trans (congrArg₂ (· * ·) (congrArg₂ (· * ·)
    (Finset.sum_congr rfl fun i _ => congrArg₂ (· * ·) ?_ ?_) ?_) ?_))
  · exact back_read _ _ _ (ogInt_given G m s n i)
  · exact G.wo _ _
  · exact ogScale_given G m s n
  · exact G.wos _

end Cert.Pwa.Ref
-- ==== Proof.FinalRef.lean ====
/-
  The blocks the reference finds, read as elements of its arguments, and its result arrays after the run.
-/
module

public import proofs.«01_k».proof.Proof.RefRead
public import proofs.«01_k».proof.Proof.Gen.ReferenceIdeal.Frame
public import Idealize.ShloMosaic.Lib.Claim
public import Idealize.ShloMosaic.Lib.Pipeline.ValueKit

@[expose] public section

noncomputable section

namespace Cert.ReferenceIdeal.Body

open Idealize.ShloMosaic Idealize.ShloMosaic.TcCoe
open Idealize.SL.Sem
open Cert.ReferenceIdeal Cert.ReferenceIdeal.Gen Cert.Pwa Cert.Pwa.Ref

variable (m : (ℓ : Loc nD τ sig) → Buf (Elt Ideal) ℓ) (c : Dev nD)

/-- The parameters, from the arguments. -/
def paramsOf : Params where
  g a := m ((c : Thread nD τ).loc main_arg1) (ix1 a)
  b a := m ((c : Thread nD τ).loc main_arg2) (ix1 a)
  wv a k := m ((c : Thread nD τ).loc main_arg3) (ix2 a k)
  wvs k := m ((c : Thread nD τ).loc main_arg4) (ix1 k)
  wg a k := m ((c : Thread nD τ).loc main_arg5) (ix2 a k)
  wgs k := m ((c : Thread nD τ).loc main_arg6) (ix1 k)
  wo k a := m ((c : Thread nD τ).loc main_arg7) (ix2 k a)
  wos a := m ((c : Thread nD τ).loc main_arg8) (ix1 a)
  wt h j n := m ((c : Thread nD τ).loc main_arg9) (ix3 h j n)
  fac h n := m ((c : Thread nD τ).loc main_arg10) (ix3 h 0 n)

/-- A sequence of the argument. -/
def seqOf (s : Fin 896) : Fin 512 → Fin 64 → EReal := fun n a => m ((c : Thread nD τ).loc main_arg0) (ix3 s n a)

/-! ## Where the blocks lie -/

theorem eq_at1 {A : Nat} (x : (⟨1, ![A]⟩ : Shape).Idx) (a : Fin A) (h0 : (x 0).val = a.val) : x = ix1 a := by
  funext d; apply Fin.ext
  fin_cases d
  exact h0

theorem eq_at2 {A B : Nat} (x : (⟨2, ![A, B]⟩ : Shape).Idx) (a : Fin A) (b : Fin B) (h0 : (x 0).val = a.val) (h1 : (x 1).val = b.val) : x = ix2 a b := by
  funext d; apply Fin.ext
  fin_cases d
  · exact h0
  · exact h1

theorem eq_at3 {A B C : Nat} (x : (⟨3, ![A, B, C]⟩ : Shape).Idx) (a : Fin A) (b : Fin B) (c : Fin C) (h0 : (x 0).val = a.val) (h1 : (x 1).val = b.val)
    (h2 : (x 2).val = c.val) : x = ix3 a b c := by
  funext d; apply Fin.ext
  fin_cases d
  · exact h0
  · exact h1
  · exact h2

theorem eq_at4 {A B C D : Nat} (x : (⟨4, ![A, B, C, D]⟩ : Shape).Idx) (a : Fin A) (b : Fin B) (c : Fin C) (d : Fin D) (h0 : (x 0).val = a.val)
    (h1 : (x 1).val = b.val) (h2 : (x 2).val = c.val) (h3 : (x 3).val = d.val) : x = ix4 a b c d := by
  funext e; apply Fin.ext
  fin_cases e
  · exact h0
  · exact h1
  · exact h2
  · exact h3

theorem index_0 : ∀ t : Fin grid0.N, win0_0.index t = ![0, 0, 0] := by decide +kernel
theorem index_1 : ∀ t : Fin grid0.N, win0_1.index t = ![0] := by decide +kernel
theorem index_2 : ∀ t : Fin grid0.N, win0_2.index t = ![0] := by decide +kernel
theorem index_3 : ∀ t : Fin grid0.N, win0_3.index t = ![0, 0] := by decide +kernel
theorem index_4 : ∀ t : Fin grid0.N, win0_4.index t = ![0] := by decide +kernel
theorem index_5 : ∀ t : Fin grid0.N, win0_5.index t = ![0, 0] := by decide +kernel
theorem index_6 : ∀ t : Fin grid0.N, win0_6.index t = ![0] := by decide +kernel
theorem index_7 : ∀ t : Fin grid0.N, win0_7.index t = ![0, 0] := by decide +kernel
theorem index_8 : ∀ t : Fin grid0.N, win0_8.index t = ![0] := by decide +kernel
theorem index_9 : ∀ t : Fin grid0.N, win0_9.index t = ![0, 0, 0] := by decide +kernel
theorem index_10 : ∀ t : Fin grid0.N, win0_10.index t = ![0, 0] := by decide +kernel

/-! ## What they hold -/

theorem iblk_0 (t : Fin cfg0.N) (i : Fin 896) (j : Fin 512) (k : Fin 64) : iblk m c 0 t (ix3 i j k) = seqOf m c i j k := by
  blk_simp [iblk]
  rw [eq_at3 ((win0_0.blk t).view.emb (ix3 i j k)) i j k (by blk_simp [index_0 t]) (by blk_simp [index_0 t]) (by blk_simp [index_0 t]), V_main_arg0]
  rfl

theorem iblk_1 (t : Fin cfg0.N) (i : Fin 64) : iblk m c 1 t (ix1 i) = (paramsOf m c).g i := by
  blk_simp [iblk]
  rw [eq_at1 ((win0_1.blk t).view.emb (ix1 i)) i (by blk_simp [index_1 t]), V_main_arg1]
  rfl

theorem iblk_2 (t : Fin cfg0.N) (i : Fin 64) : iblk m c 2 t (ix1 i) = (paramsOf m c).b i := by
  blk_simp [iblk]
  rw [eq_at1 ((win0_2.blk t).view.emb (ix1 i)) i (by blk_simp [index_2 t]), V_main_arg2]
  rfl

theorem iblk_3 (t : Fin cfg0.N) (i : Fin 64) (j : Fin 256) : iblk m c 3 t (ix2 i j) = (paramsOf m c).wv i j := by
  blk_simp [iblk]
  rw [eq_at2 ((win0_3.blk t).view.emb (ix2 i j)) i j (by blk_simp [index_3 t]) (by blk_simp [index_3 t]), V_main_arg3]
  rfl

theorem iblk_4 (t : Fin cfg0.N) (i : Fin 256) : iblk m c 4 t (ix1 i) = (paramsOf m c).wvs i := by
  blk_simp [iblk]
  rw [eq_at1 ((win0_4.blk t).view.emb (ix1 i)) i (by blk_simp [index_4 t]), V_main_arg4]
  rfl

theorem iblk_5 (t : Fin cfg0.N) (i : Fin 64) (j : Fin 256) : iblk m c 5 t (ix2 i j) = (paramsOf m c).wg i j := by
  blk_simp [iblk]
  rw [eq_at2 ((win0_5.blk t).view.emb (ix2 i j)) i j (by blk_simp [index_5 t]) (by blk_simp [index_5 t]), V_main_arg5]
  rfl

theorem iblk_6 (t : Fin cfg0.N) (i : Fin 256) : iblk m c 6 t (ix1 i) = (paramsOf m c).wgs i := by
  blk_simp [iblk]
  rw [eq_at1 ((win0_6.blk t).view.emb (ix1 i)) i (by blk_simp [index_6 t]), V_main_arg6]
  rfl

theorem iblk_7 (t : Fin cfg0.N) (i : Fin 256) (j : Fin 64) : iblk m c 7 t (ix2 i j) = (paramsOf m c).wo i j := by
  blk_simp [iblk]
  rw [eq_at2 ((win0_7.blk t).view.emb (ix2 i j)) i j (by blk_simp [index_7 t]) (by blk_simp [index_7 t]), V_main_arg7]
  rfl

theorem iblk_8 (t : Fin cfg0.N) (i : Fin 64) : iblk m c 8 t (ix1 i) = (paramsOf m c).wos i := by
  blk_simp [iblk]
  rw [eq_at1 ((win0_8.blk t).view.emb (ix1 i)) i (by blk_simp [index_8 t]), V_main_arg8]
  rfl

theorem iblk_9 (t : Fin cfg0.N) (i : Fin 8) (j : Fin 512) (k : Fin 512) : iblk m c 9 t (ix3 i j k) = (paramsOf m c).wt i k j := by
  blk_simp [iblk]
  rw [eq_at3 ((win0_9.blk t).view.emb (ix3 i j k)) i j k (by blk_simp [index_9 t]) (by blk_simp [index_9 t]) (by blk_simp [index_9 t])]
  simp only [V]
  entry_read
  pointwise [paramsOf]

theorem iblk_10 (t : Fin cfg0.N) (i : Fin 8) (j : Fin 512) : iblk m c 10 t (ix2 i j) = (paramsOf m c).fac i j := by
  blk_simp [iblk]
  rw [eq_at2 ((win0_10.blk t).view.emb (ix2 i j)) i j (by blk_simp [index_10 t]) (by blk_simp [index_10 t])]
  simp only [V]
  entry_read
  pointwise [paramsOf]

/-- The whole-array loads of the reference's operands hold its parameters. -/
theorem given (t : Fin cfg0.N) : Given (paramsOf m c) (iblk m c 1 t) (iblk m c 2 t) (iblk m c 3 t) (iblk m c 4 t) (iblk m c 5 t) (iblk m c 6 t)
    (iblk m c 7 t) (iblk m c 8 t) (iblk m c 9 t) (iblk m c 10 t) where
  g := iblk_1 m c t
  b := iblk_2 m c t
  wv := iblk_3 m c t
  wvs := iblk_4 m c t
  wg := iblk_5 m c t
  wgs := iblk_6 m c t
  wo := iblk_7 m c t
  wos := iblk_8 m c t
  wt := iblk_9 m c t
  fac := iblk_10 m c t

theorem seq_block (t : Fin cfg0.N) (s : Fin 896) : seq (iblk m c 0 t) s = seqOf m c s := by
  funext n a
  exact iblk_0 m c t s n a

/-! ## The payloads, of the operands themselves -/

section Payloads

variable (x0 : FVec Ideal S896x512x64 .bf16) (x1 : FVec Ideal S64 .f32) (x2 : FVec Ideal S64 .f32) (x3 : FVec Ideal S64x256 .bf16) (x4 : FVec Ideal S256 .f32) (x5 : FVec Ideal S64x256 .bf16) (x6 : FVec Ideal S256 .f32) (x7 : FVec Ideal S256x64 .bf16) (x8 : FVec Ideal S64 .f32) (x9 : FVec Ideal S8x512x512 .bf16) (x10 : FVec Ideal S8x512 .f32)

theorem pay15_eq : k0_pay15 (F := Ideal) x0 x1 x2 x3 x4 x5 x6 x7 x8 x9 x10 = k0_pay3 x0 x1 x2 := by
  simp (disch := decide) only [k0_pay15, View.ld_unit_lit]

theorem pay16_eq : k0_pay16 (F := Ideal) x0 x1 x2 x3 x4 x5 x6 x7 x8 x9 x10 = k0_pay4 x0 x1 x2 := by
  simp (disch := decide) only [k0_pay16, View.ld_unit_lit]

theorem pay17_eq : k0_pay17 (F := Ideal) x0 x1 x2 x3 x4 x5 x6 x7 x8 x9 x10 = k0_pay7 (k0_pay3 x0 x1 x2) (k0_pay4 x0 x1 x2) x5 x6 := by
  simp (disch := decide) only [k0_pay17, pay15_eq, pay16_eq, View.ld_unit_lit]

theorem pay18_eq : k0_pay18 (F := Ideal) x0 x1 x2 x3 x4 x5 x6 x7 x8 x9 x10 = k0_pay8 (k0_pay3 x0 x1 x2) (k0_pay4 x0 x1 x2) x3 x4 := by
  simp (disch := decide) only [k0_pay18, pay15_eq, pay16_eq, View.ld_unit_lit]

theorem pay19_eq : k0_pay19 (F := Ideal) x0 x1 x2 x3 x4 x5 x6 x7 x8 x9 x10 = k0_pay9 (F := Ideal) (k0_pay3 x0 x1 x2) (k0_pay4 x0 x1 x2) x3 x4 := by
  simp (disch := decide) only [k0_pay19, pay15_eq, pay16_eq, View.ld_unit_lit]

theorem pay20_eq : k0_pay20 (F := Ideal) x0 x1 x2 x3 x4 x5 x6 x7 x8 x9 x10 = k0_pay10 x9 := by
  simp (disch := decide) only [k0_pay20, View.ld_unit_lit]

end Payloads

/-! ## The result arrays -/

theorem final_11 : (dats m 0 c).arrAt 11 cfg0.N = fun i : S896x512x64.Idx => upd (paramsOf m c) (seqOf m c (i 0)) (i 1) (i 2) := by
  refine (dats m 0 c).arrAt_eq_of_after_last 11 t0_0 (by decide +kernel) _ fun j => ?_
  obtain ⟨s, n, k, rfl⟩ : ∃ s n k, j = ix3 s n k := ⟨j 0, j 1, j 2, eq_at3 j (j 0) (j 1) (j 2) rfl rfl rfl⟩
  blk_simp
  rw [after0_11]
  frame_out
  rw [pay17_eq, pay18_eq, pay19_eq, pay20_eq]
  refine (update_given (given m c t0_0) (iblk m c 0 t0_0) s n k).trans ?_
  rw [seq_block]
  rfl

theorem final_12 : (dats m 0 c).arrAt 12 cfg0.N = fun i : S896x512x64.Idx => Ideal.fptosi 8 (xcd (seqOf m c (i 0) (i 1)) (paramsOf m c).g (paramsOf m c).b (i 2)) := by
  refine (dats m 0 c).arrAt_eq_of_after_last 12 t0_0 (by decide +kernel) _ fun j => ?_
  obtain ⟨s, n, k, rfl⟩ : ∃ s n k, j = ix3 s n k := ⟨j 0, j 1, j 2, eq_at3 j (j 0) (j 1) (j 2) rfl rfl rfl⟩
  blk_simp
  rw [after0_12]
  frame_out
  rw [pay16_eq]
  refine (xInt_given (given m c t0_0) (iblk m c 0 t0_0) s n k).trans ?_
  rw [seq_block]
  rfl

theorem final_13 : (dats m 0 c).arrAt 13 cfg0.N = fun i : S896x512.Idx => xsc (seqOf m c (i 0) (i 1)) (paramsOf m c).g (paramsOf m c).b := by
  refine (dats m 0 c).arrAt_eq_of_after_last 13 t0_0 (by decide +kernel) _ fun j => ?_
  obtain ⟨s, n, rfl⟩ : ∃ s n, j = ix2 s n := ⟨j 0, j 1, eq_at2 j (j 0) (j 1) rfl rfl⟩
  blk_simp
  rw [after0_13]
  frame_out
  rw [pay15_eq]
  refine (xScale_given (given m c t0_0) (iblk m c 0 t0_0) s n).trans ?_
  rw [seq_block]
  rfl

theorem final_14 : (dats m 0 c).arrAt 14 cfg0.N = fun i : S896x512x8x32.Idx => Ideal.fptosi 8 (vcd (paramsOf m c) (seqOf m c (i 0)) (i 1) (joined (i 2) (i 3))) := by
  refine (dats m 0 c).arrAt_eq_of_after_last 14 t0_0 (by decide +kernel) _ fun j => ?_
  obtain ⟨s, n, h, k, rfl⟩ : ∃ s n h k, j = ix4 s n h k := ⟨j 0, j 1, j 2, j 3, eq_at4 j (j 0) (j 1) (j 2) (j 3) rfl rfl rfl rfl⟩
  blk_simp
  rw [after0_14]
  frame_out
  rw [pay19_eq]
  refine (vInt_given (given m c t0_0) (iblk m c 0 t0_0) s n h k).trans ?_
  rw [seq_block]
  rfl

theorem final_15 : (dats m 0 c).arrAt 15 cfg0.N = fun i : S896x8x32.Idx => vsc (paramsOf m c) (seqOf m c (i 0)) (joined (i 1) (i 2)) := by
  refine (dats m 0 c).arrAt_eq_of_after_last 15 t0_0 (by decide +kernel) _ fun j => ?_
  obtain ⟨s, h, k, rfl⟩ : ∃ s h k, j = ix3 s h k := ⟨j 0, j 1, j 2, eq_at3 j (j 0) (j 1) (j 2) rfl rfl rfl⟩
  blk_simp
  rw [after0_15]
  frame_out
  rw [pay18_eq]
  refine (vScale_given (given m c t0_0) (iblk m c 0 t0_0) s h k).trans ?_
  rw [seq_block]
  rfl

theorem final_16 : (dats m 0 c).arrAt 16 cfg0.N = fun i : S896x512x256.Idx => Ideal.fptosi 8 (acd (paramsOf m c) (seqOf m c (i 0)) (i 1) (i 2)) := by
  refine (dats m 0 c).arrAt_eq_of_after_last 16 t0_0 (by decide +kernel) _ fun j => ?_
  obtain ⟨s, n, k, rfl⟩ : ∃ s n k, j = ix3 s n k := ⟨j 0, j 1, j 2, eq_at3 j (j 0) (j 1) (j 2) rfl rfl rfl⟩
  blk_simp
  rw [after0_16]
  frame_out
  rw [pay17_eq, pay18_eq, pay19_eq, pay20_eq]
  refine (ogInt_given (given m c t0_0) (iblk m c 0 t0_0) s n k).trans ?_
  rw [seq_block]
  rfl

theorem final_17 : (dats m 0 c).arrAt 17 cfg0.N = fun i : S896x512.Idx => asc (paramsOf m c) (seqOf m c (i 0)) (i 1) := by
  refine (dats m 0 c).arrAt_eq_of_after_last 17 t0_0 (by decide +kernel) _ fun j => ?_
  obtain ⟨s, n, rfl⟩ : ∃ s n, j = ix2 s n := ⟨j 0, j 1, eq_at2 j (j 0) (j 1) rfl rfl⟩
  blk_simp
  rw [after0_17]
  frame_out
  rw [pay17_eq, pay18_eq, pay19_eq, pay20_eq]
  refine (ogScale_given (given m c t0_0) (iblk m c 0 t0_0) s n).trans ?_
  rw [seq_block]
  rfl

end Cert.ReferenceIdeal.Body
-- ==== Proof.Algebraic.lean ====
/-
  The kernel and the reference end with the same results.
-/
module

public import proofs.«01_k».proof.Defs
public import proofs.«01_k».proof.Proof.EndsKI
public import proofs.«01_k».proof.Proof.FinalRef
public import Idealize.ShloMosaic.Lib.Claim

@[expose] public section

noncomputable section

namespace Cert.Pwa

open Idealize.ShloMosaic Idealize.ShloMosaic.TcCoe
open Idealize.SL.Sem

/-- From memories that agree on the arguments both programs have the same parameters and the same sequences, so what the kernel's seven result
buffers hold (`EndsKI`, `FinalKI`) is what the reference's hold (`FinalRef`). -/
theorem algebraic : Cert.algebraic_KernelIdeal_ReferenceIdeal := by
  intro m g m' g' _ hagree
  have hP : ∀ c, Cert.ReferenceIdeal.Body.paramsOf m' c = Cert.KernelIdeal.Body.paramsOf m c := fun c => by
    obtain ⟨h0, h1, h2, h3, h4, h5, h6, h7, h8, h9, h10⟩ := hagree c
    unfold Cert.ReferenceIdeal.Body.paramsOf Cert.KernelIdeal.Body.paramsOf
    rw [h1, h2, h3, h4, h5, h6, h7, h8, h9, h10]
  have hS : ∀ c, Cert.ReferenceIdeal.Body.seqOf m' c = Cert.KernelIdeal.Body.seqOf m c := fun c => by
    unfold Cert.ReferenceIdeal.Body.seqOf Cert.KernelIdeal.Body.seqOf
    rw [(hagree c).1]
  refine ⟨_, _, _, _, _, _, _, θ_run_mono (θ_run_and (Cert.KernelIdeal.Gen.frame_of m g (Cert.KernelIdeal.Body.dats m) (Cert.KernelIdeal.Body.A_eq m)
      ((θ_run _ _ _).mono (fun _ h => h.1) (Cert.KernelIdeal.Body.run_main m g))) (Cert.KernelIdeal.Body.run_main m g)) fun r h c =>
      ⟨((h.2.1 c).2 Cert.KernelIdeal.main_v15 (by decide)).trans (Cert.KernelIdeal.Body.end_15 m c),
       ((h.2.1 c).2 Cert.KernelIdeal.main_v16 (by decide)).trans (Cert.KernelIdeal.Body.end_16 m c),
       ((h.2.1 c).1 14).trans (Cert.KernelIdeal.Body.final_14 m c),
       ((h.2.1 c).2 Cert.KernelIdeal.main_v18 (by decide)).trans (Cert.KernelIdeal.Body.end_18 m c),
       ((h.2.1 c).2 Cert.KernelIdeal.main_v19 (by decide)).trans (Cert.KernelIdeal.Body.end_19 m c),
       ((h.2.1 c).1 17).trans (Cert.KernelIdeal.Body.final_17 m c),
       ((h.2.1 c).1 18).trans (Cert.KernelIdeal.Body.final_18 m c), h.1 c⟩,
    θ_run_mono (θ_run_and (Cert.ReferenceIdeal.Gen.frame m' g') (Cert.ReferenceIdeal.Gen.run_main m' g')) fun r h c =>
      ⟨((h.2 c).1 11).trans ((Cert.ReferenceIdeal.Body.final_11 m' c).trans ?_),
       ((h.2 c).1 12).trans ((Cert.ReferenceIdeal.Body.final_12 m' c).trans ?_),
       ((h.2 c).1 13).trans ((Cert.ReferenceIdeal.Body.final_13 m' c).trans ?_),
       ((h.2 c).1 14).trans ((Cert.ReferenceIdeal.Body.final_14 m' c).trans ?_),
       ((h.2 c).1 15).trans ((Cert.ReferenceIdeal.Body.final_15 m' c).trans ?_),
       ((h.2 c).1 16).trans ((Cert.ReferenceIdeal.Body.final_16 m' c).trans ?_),
       ((h.2 c).1 17).trans ((Cert.ReferenceIdeal.Body.final_17 m' c).trans ?_), h.1.1 c⟩⟩
  all_goals rw [hP c, hS c]

end Cert.Pwa
-- ==== Proof.BodyK.lean ====
/-
  The printed kernel body is the structured one.
-/
module

public import proofs.«01_k».proof.Proof.Gen.Kernel
public import proofs.«01_k».proof.Proof.Steps
public import Idealize.ShloMosaic.Lib.Pipeline.Regions

@[expose] public section

set_option maxRecDepth 16384

noncomputable section

namespace Cert.Kernel.Body

open Idealize.ShloMosaic Idealize.ShloMosaic.TcCoe Idealize.SL.Sem
open Cert.Kernel
open Cert.Kernel.Facts₀ Cert.Kernel.Facts

variable {F : FTy → Type} [FloatOps F] [Cert.Kernel.Facts]

/-- The arrays of a step, from the body's arguments. -/
def bank (arg1 : Memref sig .tc .vmem S8x64x512 .bf16) (arg2 : Memref sig .tc .vmem S8x64x512 .bf16) (arg3 : Memref sig .tc .vmem S64x128 .f32) (arg4 : Memref sig .tc .vmem S64x128 .f32) (arg5 : Memref sig .tc .vmem S256x64 .bf16) (arg6 : Memref sig .tc .vmem S256x128 .f32) (arg7 : Memref sig .tc .vmem S256x64 .bf16) (arg8 : Memref sig .tc .vmem S256x128 .f32) (arg9 : Memref sig .tc .vmem S64x256 .bf16) (arg10 : Memref sig .tc .vmem S64x128 .f32) (arg11 : Memref sig .tc .vmem S8x512x512 .bf16) (arg12 : Memref sig .tc .vmem S8x1x512 .f32) (arg13 : Memref sig .tc .vmem S8x64x512 .bf16) (arg14 : Memref sig .tc .vmem S8x64x512 .i8) (arg15 : Memref sig .tc .vmem S8x512 .f32) (arg16 : Memref sig .tc .vmem S8x256x512 .i8) (arg17 : Memref sig .tc .vmem S8x256 .f32) (arg18 : Memref sig .tc .vmem S8x512x256 .i8) (arg19 : Memref sig .tc .vmem S8x512 .f32) (arg20 : Memref sig .tc .vmem S2x8x64x512 .bf16) (arg21 : Memref sig .tc .vmem S2x8x512 .f32) (arg22 : Memref sig .tc .vmem S2x8x256x512 .bf16) (arg23 : Memref sig .tc .vmem S2x8x256x128 .f32) (arg24 : Memref sig .tc .vmem S8x256x512 .f32) : Cert.Pwa.Bank sig Cert.Pwa.Arr.shape Cert.Pwa.Arr.elt
  | .m => arg1
  | .mp => arg2
  | .g => arg3
  | .b => arg4
  | .wv => arg5
  | .wvs => arg6
  | .wg => arg7
  | .wgs => arg8
  | .wo => arg9
  | .wos => arg10
  | .wt => arg11
  | .fac => arg12
  | .mo => arg13
  | .x2c => arg14
  | .x2s => arg15
  | .vc => arg16
  | .vs => arg17
  | .ogc => arg18
  | .ogs => arg19
  | .xb => arg20
  | .xs => arg21
  | .v => arg22
  | .vsc => arg23
  | .og => arg24

theorem bank_whole (arg1 : Memref sig .tc .vmem S8x64x512 .bf16) (harg1 : arg1.IsWhole) (arg2 : Memref sig .tc .vmem S8x64x512 .bf16) (harg2 : arg2.IsWhole) (arg3 : Memref sig .tc .vmem S64x128 .f32) (harg3 : arg3.IsWhole) (arg4 : Memref sig .tc .vmem S64x128 .f32) (harg4 : arg4.IsWhole) (arg5 : Memref sig .tc .vmem S256x64 .bf16) (harg5 : arg5.IsWhole) (arg6 : Memref sig .tc .vmem S256x128 .f32) (harg6 : arg6.IsWhole) (arg7 : Memref sig .tc .vmem S256x64 .bf16) (harg7 : arg7.IsWhole) (arg8 : Memref sig .tc .vmem S256x128 .f32) (harg8 : arg8.IsWhole) (arg9 : Memref sig .tc .vmem S64x256 .bf16) (harg9 : arg9.IsWhole) (arg10 : Memref sig .tc .vmem S64x128 .f32) (harg10 : arg10.IsWhole) (arg11 : Memref sig .tc .vmem S8x512x512 .bf16) (harg11 : arg11.IsWhole) (arg12 : Memref sig .tc .vmem S8x1x512 .f32) (harg12 : arg12.IsWhole) (arg13 : Memref sig .tc .vmem S8x64x512 .bf16) (harg13 : arg13.IsWhole) (arg14 : Memref sig .tc .vmem S8x64x512 .i8) (harg14 : arg14.IsWhole) (arg15 : Memref sig .tc .vmem S8x512 .f32) (harg15 : arg15.IsWhole) (arg16 : Memref sig .tc .vmem S8x256x512 .i8) (harg16 : arg16.IsWhole) (arg17 : Memref sig .tc .vmem S8x256 .f32) (harg17 : arg17.IsWhole) (arg18 : Memref sig .tc .vmem S8x512x256 .i8) (harg18 : arg18.IsWhole) (arg19 : Memref sig .tc .vmem S8x512 .f32) (harg19 : arg19.IsWhole) (arg20 : Memref sig .tc .vmem S2x8x64x512 .bf16) (harg20 : arg20.IsWhole) (arg21 : Memref sig .tc .vmem S2x8x512 .f32) (harg21 : arg21.IsWhole) (arg22 : Memref sig .tc .vmem S2x8x256x512 .bf16) (harg22 : arg22.IsWhole) (arg23 : Memref sig .tc .vmem S2x8x256x128 .f32) (harg23 : arg23.IsWhole) (arg24 : Memref sig .tc .vmem S8x256x512 .f32) (harg24 : arg24.IsWhole) : ∀ j, (bank arg1 arg2 arg3 arg4 arg5 arg6 arg7 arg8 arg9 arg10 arg11 arg12 arg13 arg14 arg15 arg16 arg17 arg18 arg19 arg20 arg21 arg22 arg23 arg24 j).IsWhole
  | .m => harg1
  | .mp => harg2
  | .g => harg3
  | .b => harg4
  | .wv => harg5
  | .wvs => harg6
  | .wg => harg7
  | .wgs => harg8
  | .wo => harg9
  | .wos => harg10
  | .wt => harg11
  | .fac => harg12
  | .mo => harg13
  | .x2c => harg14
  | .x2s => harg15
  | .vc => harg16
  | .vs => harg17
  | .ogc => harg18
  | .ogs => harg19
  | .xb => harg20
  | .xs => harg21
  | .v => harg22
  | .vsc => harg23
  | .og => harg24

/-- The slot a step fills, as the word the kernel computes. -/
def curWord (i : grid0.Coords) : BitVec 32 :=
  let n : BitVec 32 := Scalar.select (Scalar.cmpi .eq (2#32) (0#32)) (1#32) (2#32)
  let r : BitVec 32 := Scalar.remsi (BitVec.ofNat 32 (i 0).val) n
  Scalar.select (Scalar.andi (Scalar.xori (Scalar.cmpi .slt r (0#32)) (Scalar.cmpi .slt n (0#32))) (Scalar.cmpi .ne r (0#32))) (Scalar.addi r n) r

/-- The slot a step reads, as the word the kernel computes. -/
def prevWord (i : grid0.Coords) : BitVec 32 := Scalar.subi (1#32) (curWord i)

/-- The scratch slot step `i` fills. -/
def cur (i : grid0.Coords) : Fin 2 := ⟨k0_off6 i 0, Nat.lt_of_add_one_le (k0_off6_inb i 0)⟩

/-- The scratch slot step `i` reads. -/
def prev (i : grid0.Coords) : Fin 2 := ⟨k0_off101 i 0, Nat.lt_of_add_one_le (k0_off101_inb i 0)⟩

/-- What a step does up to the first loaded block. -/
theorem part1_eq (i : grid0.Coords) (arg1 : Memref sig .tc .vmem S8x64x512 .bf16) (harg1 : arg1.IsWhole) (arg2 : Memref sig .tc .vmem S8x64x512 .bf16) (harg2 : arg2.IsWhole) (arg3 : Memref sig .tc .vmem S64x128 .f32) (harg3 : arg3.IsWhole) (arg4 : Memref sig .tc .vmem S64x128 .f32) (harg4 : arg4.IsWhole) (arg5 : Memref sig .tc .vmem S256x64 .bf16) (harg5 : arg5.IsWhole) (arg6 : Memref sig .tc .vmem S256x128 .f32) (harg6 : arg6.IsWhole) (arg7 : Memref sig .tc .vmem S256x64 .bf16) (harg7 : arg7.IsWhole) (arg8 : Memref sig .tc .vmem S256x128 .f32) (harg8 : arg8.IsWhole) (arg9 : Memref sig .tc .vmem S64x256 .bf16) (harg9 : arg9.IsWhole) (arg10 : Memref sig .tc .vmem S64x128 .f32) (harg10 : arg10.IsWhole) (arg11 : Memref sig .tc .vmem S8x512x512 .bf16) (harg11 : arg11.IsWhole) (arg12 : Memref sig .tc .vmem S8x1x512 .f32) (harg12 : arg12.IsWhole) (arg13 : Memref sig .tc .vmem S8x64x512 .bf16) (harg13 : arg13.IsWhole) (arg14 : Memref sig .tc .vmem S8x64x512 .i8) (harg14 : arg14.IsWhole) (arg15 : Memref sig .tc .vmem S8x512 .f32) (harg15 : arg15.IsWhole) (arg16 : Memref sig .tc .vmem S8x256x512 .i8) (harg16 : arg16.IsWhole) (arg17 : Memref sig .tc .vmem S8x256 .f32) (harg17 : arg17.IsWhole) (arg18 : Memref sig .tc .vmem S8x512x256 .i8) (harg18 : arg18.IsWhole) (arg19 : Memref sig .tc .vmem S8x512 .f32) (harg19 : arg19.IsWhole) (arg20 : Memref sig .tc .vmem S2x8x64x512 .bf16) (harg20 : arg20.IsWhole) (arg21 : Memref sig .tc .vmem S2x8x512 .f32) (harg21 : arg21.IsWhole) (arg22 : Memref sig .tc .vmem S2x8x256x512 .bf16) (harg22 : arg22.IsWhole) (arg23 : Memref sig .tc .vmem S2x8x256x128 .f32) (harg23 : arg23.IsWhole) (arg24 : Memref sig .tc .vmem S8x256x512 .f32) (harg24 : arg24.IsWhole) :
    k0_part1 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 = (do
      let W := bank_whole arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24
      Cert.Pwa.start W (k0_cond1 i) (prev i)
      let g : FVec F S64x128 .f32 ← Cert.Pwa.ld (bank arg1 arg2 arg3 arg4 arg5 arg6 arg7 arg8 arg9 arg10 arg11 arg12 arg13 arg14 arg15 arg16 arg17 arg18 arg19 arg20 arg21 arg22 arg23 arg24) .g (Cert.Pwa.top 64 128 64 128) h_S64x128
      let b : FVec F S64x128 .f32 ← Cert.Pwa.ld (bank arg1 arg2 arg3 arg4 arg5 arg6 arg7 arg8 arg9 arg10 arg11 arg12 arg13 arg14 arg15 arg16 arg17 arg18 arg19 arg20 arg21 arg22 arg23 arg24) .b (Cert.Pwa.top 64 128 64 128) h_S64x128
      let m : FVec F S1x64x512 .bf16 ← Cert.Pwa.ld (bank arg1 arg2 arg3 arg4 arg5 arg6 arg7 arg8 arg9 arg10 arg11 arg12 arg13 arg14 arg15 arg16 arg17 arg18 arg19 arg20 arg21 arg22 arg23 arg24) .m (Cert.Pwa.slab 64 512 0) h_S1x64x512
      pure ⟨curWord i, prevWord i, Cert.Pwa.spread g, Cert.Pwa.spread b, Cert.Pwa.centred m, Cert.Pwa.deviation m⟩) := by
  by_cases h : k0_cond1 i = 1#1
  · refine Eq.trans (dif_pos h) ?_
    simp only [Cert.Pwa.start_pos _ h]
    chain_rfl
  · refine Eq.trans (dif_neg h) ?_
    simp only [Cert.Pwa.start_neg _ h]
    chain_rfl

/-- Equal first parts of a sequence. -/
theorem bind_left {E : Type → Type} {α β : Type} {p q : Prog E α} {k : α → Prog E β} (h : p = q) : (p >>= k) = (q >>= k) := by rw [h]

/-- The kernel's body is the structured step. -/
theorem body_eq (i : grid0.Coords) (arg1 : Memref sig .tc .vmem S8x64x512 .bf16) (harg1 : arg1.IsWhole) (arg2 : Memref sig .tc .vmem S8x64x512 .bf16) (harg2 : arg2.IsWhole) (arg3 : Memref sig .tc .vmem S64x128 .f32) (harg3 : arg3.IsWhole) (arg4 : Memref sig .tc .vmem S64x128 .f32) (harg4 : arg4.IsWhole) (arg5 : Memref sig .tc .vmem S256x64 .bf16) (harg5 : arg5.IsWhole) (arg6 : Memref sig .tc .vmem S256x128 .f32) (harg6 : arg6.IsWhole) (arg7 : Memref sig .tc .vmem S256x64 .bf16) (harg7 : arg7.IsWhole) (arg8 : Memref sig .tc .vmem S256x128 .f32) (harg8 : arg8.IsWhole) (arg9 : Memref sig .tc .vmem S64x256 .bf16) (harg9 : arg9.IsWhole) (arg10 : Memref sig .tc .vmem S64x128 .f32) (harg10 : arg10.IsWhole) (arg11 : Memref sig .tc .vmem S8x512x512 .bf16) (harg11 : arg11.IsWhole) (arg12 : Memref sig .tc .vmem S8x1x512 .f32) (harg12 : arg12.IsWhole) (arg13 : Memref sig .tc .vmem S8x64x512 .bf16) (harg13 : arg13.IsWhole) (arg14 : Memref sig .tc .vmem S8x64x512 .i8) (harg14 : arg14.IsWhole) (arg15 : Memref sig .tc .vmem S8x512 .f32) (harg15 : arg15.IsWhole) (arg16 : Memref sig .tc .vmem S8x256x512 .i8) (harg16 : arg16.IsWhole) (arg17 : Memref sig .tc .vmem S8x256 .f32) (harg17 : arg17.IsWhole) (arg18 : Memref sig .tc .vmem S8x512x256 .i8) (harg18 : arg18.IsWhole) (arg19 : Memref sig .tc .vmem S8x512 .f32) (harg19 : arg19.IsWhole) (arg20 : Memref sig .tc .vmem S2x8x64x512 .bf16) (harg20 : arg20.IsWhole) (arg21 : Memref sig .tc .vmem S2x8x512 .f32) (harg21 : arg21.IsWhole) (arg22 : Memref sig .tc .vmem S2x8x256x512 .bf16) (harg22 : arg22.IsWhole) (arg23 : Memref sig .tc .vmem S2x8x256x128 .f32) (harg23 : arg23.IsWhole) (arg24 : Memref sig .tc .vmem S8x256x512 .f32) (harg24 : arg24.IsWhole) :
    cc0_pair_weighted_average (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24
      = Cert.Pwa.body (bank_whole arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) (k0_cond1 i) (cur i) (prev i) := by
  unfold cc0_pair_weighted_average k0_part55
  refine Eq.trans (bind_left (bind_left (part1_eq i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24))) ?_
  by_cases h : k0_cond1 i = 1#1
  · simp only [Cert.Pwa.start_pos _ h, Cert.Pwa.body]
    chain_rfl
  · simp only [Cert.Pwa.start_neg _ h, Cert.Pwa.body]
    chain_rfl

end Cert.Kernel.Body
-- ==== Proof.RunK.lean ====
/-
  The kernel's run: what each step finds and leaves, from the structured body, and the pipeline's run from it.
-/
module

public import proofs.«01_k».proof.Proof.Gen.Kernel.Frame
public import proofs.«01_k».proof.Proof.BodyK
public import proofs.«01_k».proof.Proof.Whole

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Pwa

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The slots of a step -/

theorem cond_iff : ∀ t : Fin cfg0.N, k0_cond1 (grid0.coords t) = 1#1 ↔ t.val = 0 :=
  (by decide +kernel : ∀ t : Fin grid0.N, k0_cond1 (grid0.coords t) = 1#1 ↔ t.val = 0)
theorem cur_val : ∀ t : Fin cfg0.N, (cur (grid0.coords t)).val = t.val % 2 :=
  (by decide +kernel : ∀ t : Fin grid0.N, k0_off6 (grid0.coords t) 0 = t.val % 2)
theorem prev_val : ∀ t : Fin cfg0.N, (prev (grid0.coords t)).val = 1 - t.val % 2 :=
  (by decide +kernel : ∀ t : Fin grid0.N, k0_off101 (grid0.coords t) 0 = 1 - t.val % 2)

/-- What step `t` leaves in the slot it fills. -/
def slotAt (c : Dev nD) (t : Fin cfg0.N) : Slot F :=
  Slot.filled (iblk m c 2 t) (iblk m c 3 t) (iblk m c 0 t) (iblk m c 4 t) (iblk m c 5 t)

/-- What step `t` finds in the slot it reads: zeros at the first step, what the step before left at the others. -/
def slotBefore (c : Dev nD) (t : Fin cfg0.N) : Slot F :=
  if t.val = 0 then Slot.zero else slotAt m c ⟨t.val - 1, lt_of_le_of_lt (Nat.sub_le _ _) t.isLt⟩

/-- The body's invariant before step `n`: the scratch arrays at contents in which the slot the step before filled is as it left it. -/
def Inv (c : Dev nD) (n : Nat) : sProp 𝕄 :=
  iprop(∃ σ : St F, ⌜∀ t : Fin cfg0.N, t.val + 1 = n → (slotAt m c t).In σ (cur (grid0.coords t))⌝
    ∗ (owns (c : Thread nD τ) (Memref.whole cc0_scratch0) fullShare (σ .xb) ∗ owns (c : Thread nD τ) (Memref.whole cc0_scratch1) fullShare (σ .xs) ∗ owns (c : Thread nD τ) (Memref.whole cc0_scratch2) fullShare (σ .v) ∗ owns (c : Thread nD τ) (Memref.whole cc0_scratch3) fullShare (σ .vsc) ∗ owns (c : Thread nD τ) (Memref.whole cc0_scratch4) fullShare (σ .og)) ∗ ∃ r, prngReg c r)

/-! ## The pipeline's proof data -/

/-- The proof data: the arrays as the region finds them; after step `t` each input's buffer at its block, each output's at what
    the step computes from the blocks and the slot it reads. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => ofSlabs (moRow (slotBefore m c t) (iblk m c 6 t) (iblk m c 7 t) (iblk m c 8 t) (iblk m c 9 t) (iblk m c 10 t) (iblk m c 11 t) (iblk m c 1 t))
    | ⟨13, _⟩ => ofSlabs (x2cRow (iblk m c 2 t) (iblk m c 3 t) (iblk m c 0 t))
    | ⟨14, _⟩ => ofRows (x2sRow (iblk m c 2 t) (iblk m c 3 t) (iblk m c 0 t))
    | ⟨15, _⟩ => ofSlabs (vcRow (iblk m c 2 t) (iblk m c 3 t) (iblk m c 0 t) (iblk m c 4 t) (iblk m c 5 t))
    | ⟨16, _⟩ => scaleRows (vsRow (iblk m c 2 t) (iblk m c 3 t) (iblk m c 0 t) (iblk m c 4 t) (iblk m c 5 t))
    | ⟨17, _⟩ => ofSlabs (ogcRow (slotBefore m c t) (iblk m c 6 t) (iblk m c 7 t) (iblk m c 10 t) (iblk m c 11 t))
    | ⟨18, _⟩ => ofRows (ogsRow (slotBefore m c t) (iblk m c 6 t) (iblk m c 7 t) (iblk m c 10 t) (iblk m c 11 t))
    | ⟨_ + 19, h⟩ => absurd h (Nat.not_lt.2 (Nat.le_add_left _ _))
  Φ n := Inv m c n.val
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = ofSlabs (moRow (slotBefore m c t) (iblk m c 6 t) (iblk m c 7 t) (iblk m c 8 t) (iblk m c 9 t) (iblk m c 10 t) (iblk m c 11 t) (iblk m c 1 t)) := by dsimp only [dats]
theorem after_13 (c : Dev nD) (t : Fin cfg0.N) : (dats m 0 c).after 13 t = ofSlabs (x2cRow (iblk m c 2 t) (iblk m c 3 t) (iblk m c 0 t)) := by dsimp only [dats]
theorem after_14 (c : Dev nD) (t : Fin cfg0.N) : (dats m 0 c).after 14 t = ofRows (x2sRow (iblk m c 2 t) (iblk m c 3 t) (iblk m c 0 t)) := by dsimp only [dats]
theorem after_15 (c : Dev nD) (t : Fin cfg0.N) : (dats m 0 c).after 15 t = ofSlabs (vcRow (iblk m c 2 t) (iblk m c 3 t) (iblk m c 0 t) (iblk m c 4 t) (iblk m c 5 t)) := by dsimp only [dats]
theorem after_16 (c : Dev nD) (t : Fin cfg0.N) : (dats m 0 c).after 16 t = scaleRows (vsRow (iblk m c 2 t) (iblk m c 3 t) (iblk m c 0 t) (iblk m c 4 t) (iblk m c 5 t)) := by dsimp only [dats]
theorem after_17 (c : Dev nD) (t : Fin cfg0.N) : (dats m 0 c).after 17 t = ofSlabs (ogcRow (slotBefore m c t) (iblk m c 6 t) (iblk m c 7 t) (iblk m c 10 t) (iblk m c 11 t)) := by dsimp only [dats]
theorem after_18 (c : Dev nD) (t : Fin cfg0.N) : (dats m 0 c).after 18 t = ofRows (ogsRow (slotBefore m c t) (iblk m c 6 t) (iblk m c 7 t) (iblk m c 10 t) (iblk m c 11 t)) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d

/-! ## The body obligation -/

/-- The arrays of step `t`. -/
abbrev bankAt (t : Fin cfg0.N) : Bank sig Arr.shape Arr.elt := bank (st0_0 t) (st0_1 t) (st0_2 t) (st0_3 t) (st0_4 t) (st0_5 t) (st0_6 t) (st0_7 t) (st0_8 t) (st0_9 t) (st0_10 t) (st0_11 t) (st0_12 t) (st0_13 t) (st0_14 t) (st0_15 t) (st0_16 t) (st0_17 t) (st0_18 t) (Memref.whole cc0_scratch0) (Memref.whole cc0_scratch1) (Memref.whole cc0_scratch2) (Memref.whole cc0_scratch3) (Memref.whole cc0_scratch4)

theorem bodyAt_eq (t : Fin cfg0.N) : bodyAt0 (F := F) t = Cert.Pwa.body (B := bankAt t) (bank_whole (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (st0_14 t) (hstage0_14 ((cfg0.slots t 14).cast nbuf0_14)) (st0_15 t) (hstage0_15 ((cfg0.slots t 15).cast nbuf0_15)) (st0_16 t) (hstage0_16 ((cfg0.slots t 16).cast nbuf0_16)) (st0_17 t) (hstage0_17 ((cfg0.slots t 17).cast nbuf0_17)) (st0_18 t) (hstage0_18 ((cfg0.slots t 18).cast nbuf0_18)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _))
    (k0_cond1 (grid0.coords t)) (cur (grid0.coords t)) (prev (grid0.coords t)) := body_eq ..

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t))

/-- The contents a step starts from. -/
def startAt (c : Dev nD) (t : Fin cfg0.N) (X12 : (Arr.shape .mo).Idx → Elt F (Arr.elt .mo)) (X13 : (Arr.shape .x2c).Idx → Elt F (Arr.elt .x2c))
    (X14 : (Arr.shape .x2s).Idx → Elt F (Arr.elt .x2s)) (X15 : (Arr.shape .vc).Idx → Elt F (Arr.elt .vc)) (X16 : (Arr.shape .vs).Idx → Elt F (Arr.elt .vs))
    (X17 : (Arr.shape .ogc).Idx → Elt F (Arr.elt .ogc)) (X18 : (Arr.shape .ogs).Idx → Elt F (Arr.elt .ogs)) (σ : St F) : St F
  | .m => iblk m c 0 t
  | .mp => iblk m c 1 t
  | .g => iblk m c 2 t
  | .b => iblk m c 3 t
  | .wv => iblk m c 4 t
  | .wvs => iblk m c 5 t
  | .wg => iblk m c 6 t
  | .wgs => iblk m c 7 t
  | .wo => iblk m c 8 t
  | .wos => iblk m c 9 t
  | .wt => iblk m c 10 t
  | .fac => iblk m c 11 t
  | .mo => X12
  | .x2c => X13
  | .x2s => X14
  | .vc => X15
  | .vs => X16
  | .ogc => X17
  | .ogs => X18
  | .xb => σ .xb
  | .xs => σ .xs
  | .v => σ .v
  | .vsc => σ .vsc
  | .og => σ .og

theorem slotBefore_zero (c : Dev nD) (t : Fin cfg0.N) (h : k0_cond1 (grid0.coords t) = 1#1) : slotBefore m c t = Slot.zero :=
  if_pos ((cond_iff t).1 h)

theorem slotBefore_in (c : Dev nD) (t : Fin cfg0.N) (h : k0_cond1 (grid0.coords t) ≠ 1#1) (σ : St F)
    (hσ : ∀ t' : Fin cfg0.N, t'.val + 1 = t.val → (slotAt m c t').In σ (cur (grid0.coords t'))) : (slotBefore m c t).In σ (prev (grid0.coords t)) := by
  have h0 : t.val ≠ 0 := fun e => h ((cond_iff t).2 e)
  have e := hσ ⟨t.val - 1, lt_of_le_of_lt (Nat.sub_le _ _) t.isLt⟩ (by show t.val - 1 + 1 = t.val; omega)
  have ep : cur (grid0.coords ⟨t.val - 1, lt_of_le_of_lt (Nat.sub_le _ _) t.isLt⟩) = prev (grid0.coords t) := by
    refine Fin.ext ?_
    rw [prev_val]
    refine (cur_val _).trans ?_
    show (t.val - 1) % 2 = 1 - t.val % 2
    omega
  rw [ep] at e
  unfold slotBefore
  rw [if_neg h0]
  exact e

theorem slots_ne (t : Fin cfg0.N) : cur (grid0.coords t) ≠ prev (grid0.coords t) := fun e => by
  have h := congrArg Fin.val e
  rw [cur_val, prev_val] at h
  omega

/-- Step `t`, from any contents of its results. -/
theorem step_run (c : Dev nD) (t : Fin cfg0.N) (X12 : (Arr.shape .mo).Idx → Elt F (Arr.elt .mo)) (X13 : (Arr.shape .x2c).Idx → Elt F (Arr.elt .x2c))
    (X14 : (Arr.shape .x2s).Idx → Elt F (Arr.elt .x2s)) (X15 : (Arr.shape .vc).Idx → Elt F (Arr.elt .vc)) (X16 : (Arr.shape .vs).Idx → Elt F (Arr.elt .vs))
    (X17 : (Arr.shape .ogc).Idx → Elt F (Arr.elt .ogc)) (X18 : (Arr.shape .ogs).Idx → Elt F (Arr.elt .ogs))
    (σ : St F) (hσ : ∀ t' : Fin cfg0.N, t'.val + 1 = t.val → (slotAt m c t').In σ (cur (grid0.coords t'))) :
    ∃ σ' : St F, Does ℕ (UR sig nD τ) ℕ (Ix := Unit) (defs₀ (F := F)) Variants.none c none .empty Set.univ (bankAt t) (startAt m c t X12 X13 X14 X15 X16 X17 X18 σ) (bodyAt0 t) ⟨⟩ σ'
      ∧ (σ' .g = iblk m c 2 t ∧ σ' .b = iblk m c 3 t ∧ σ' .m = iblk m c 0 t ∧ σ' .mp = iblk m c 1 t ∧ σ' .wv = iblk m c 4 t ∧ σ' .wvs = iblk m c 5 t ∧ σ' .wg = iblk m c 6 t ∧ σ' .wgs = iblk m c 7 t ∧ σ' .wo = iblk m c 8 t ∧ σ' .wos = iblk m c 9 t ∧ σ' .wt = iblk m c 10 t ∧ σ' .fac = iblk m c 11 t)
      ∧ σ' .mo = ofSlabs (moRow (slotBefore m c t) (iblk m c 6 t) (iblk m c 7 t) (iblk m c 8 t) (iblk m c 9 t) (iblk m c 10 t) (iblk m c 11 t) (iblk m c 1 t)) ∧ σ' .x2c = ofSlabs (x2cRow (iblk m c 2 t) (iblk m c 3 t) (iblk m c 0 t)) ∧ σ' .x2s = ofRows (x2sRow (iblk m c 2 t) (iblk m c 3 t) (iblk m c 0 t)) ∧ σ' .vc = ofSlabs (vcRow (iblk m c 2 t) (iblk m c 3 t) (iblk m c 0 t) (iblk m c 4 t) (iblk m c 5 t)) ∧ σ' .vs = scaleRows (vsRow (iblk m c 2 t) (iblk m c 3 t) (iblk m c 0 t) (iblk m c 4 t) (iblk m c 5 t)) ∧ σ' .ogc = ofSlabs (ogcRow (slotBefore m c t) (iblk m c 6 t) (iblk m c 7 t) (iblk m c 10 t) (iblk m c 11 t)) ∧ σ' .ogs = ofRows (ogsRow (slotBefore m c t) (iblk m c 6 t) (iblk m c 7 t) (iblk m c 10 t) (iblk m c 11 t))
      ∧ (slotAt m c t).In σ' (cur (grid0.coords t)) := by
  rw [bodyAt_eq]
  exact body_does (nD := nD) (τ := τ) (sig := sig) (Λ := Λ₀) (Ix := Unit) (Name := ℕ) (U := UR sig nD τ) (Lvl := ℕ) (defs := defs₀ (F := F)) (𝒱 := Variants.none) (c₀ := c) (bd := none) (Γ := .empty) (E := Set.univ)
      (B := bankAt t) (bank_whole (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (st0_14 t) (hstage0_14 ((cfg0.slots t 14).cast nbuf0_14)) (st0_15 t) (hstage0_15 ((cfg0.slots t 15).cast nbuf0_15)) (st0_16 t) (hstage0_16 ((cfg0.slots t 16).cast nbuf0_16)) (st0_17 t) (hstage0_17 ((cfg0.slots t 17).cast nbuf0_17)) (st0_18 t) (hstage0_18 ((cfg0.slots t 18).cast nbuf0_18)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _))
      (iblk m c 2 t) (iblk m c 3 t) (iblk m c 0 t) (iblk m c 4 t) (iblk m c 5 t) (slotBefore m c t) (iblk m c 6 t) (iblk m c 7 t) (iblk m c 8 t) (iblk m c 9 t)
      (iblk m c 10 t) (iblk m c 11 t) (iblk m c 1 t)
      (startAt m c t X12 X13 X14 X15 X16 X17 X18 σ)
      (k0_cond1 (grid0.coords t)) (cur (grid0.coords t)) (prev (grid0.coords t)) (slots_ne t) (slotBefore_zero m c t)
      (fun h => let h' := slotBefore_in m c t h σ hσ; ⟨h'.xb, h'.xs, h'.v, h'.vsc⟩) rfl rfl rfl rfl rfl rfl rfl rfl rfl rfl rfl rfl

set_option maxHeartbeats 1000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before_0, before_1, before_2, before_3, before_4, before_5, before_6, before_7, before_8, before_9, before_10, before_11]
  rw [show (dats m 0 c).Φ t.castSucc = Inv m c t.val from rfl, show (dats m 0 c).Φ t.succ = Inv m c (t.val + 1) from rfl,
    show (dats m 0 c).owesAt () t.succ = (dats m 0 c).owesAt () t.castSucc from rfl,
    after_0, after_1, after_2, after_3, after_4, after_5, after_6, after_7, after_8, after_9, after_10, after_11, after_12, after_13, after_14, after_15, after_16, after_17, after_18]
  unfold Inv
  iintro ⟨⟨%σ, %hσ, ⟨S0, S1, S2, S3, S4⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  obtain ⟨σ', hdo, ⟨e_g, e_b, e_m, e_mp, e_wv, e_wvs, e_wg, e_wgs, e_wo, e_wos, e_wt, e_fac⟩, e_mo, e_x2c, e_x2s, e_vc, e_vs, e_ogc, e_ogs, hin⟩ :=
    step_run m c t ((dats m 0 c).before 12 t d12) ((dats m 0 c).before 13 t d13) ((dats m 0 c).before 14 t d14) ((dats m 0 c).before 15 t d15) ((dats m 0 c).before 16 t d16) ((dats m 0 c).before 17 t d17) ((dats m 0 c).before 18 t d18) σ hσ
  iapply (hdo _)
  rw [held_eq, held_eq, e_g, e_b, e_m, e_mp, e_wv, e_wvs, e_wg, e_wgs, e_wo, e_wos, e_wt, e_fac, e_mo, e_x2c, e_x2s, e_vc, e_vs, e_ogc, e_ogs]
  isplitl [H0 H1 H2 H3 H4 H5 H6 H7 H8 H9 H10 H11 H12 H13 H14 H15 H16 H17 H18 S0 S1 S2 S3 S4]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [S0]; · iexact S0
    isplitl [S1]; · iexact S1
    isplitl [S2]; · iexact S2
    isplitl [S3]; · iexact S3
    iexact S4
  iintro ⟨H0, H1, H2, H3, H4, H5, H6, H7, H8, H9, H10, H11, H12, H13, H14, H15, H16, H17, H18, S0, S1, S2, S3, S4⟩
  isplitl [S0 S1 S2 S3 S4 Hr]
  · iexists σ'
    isplitr
    · ipureintro
      intro t' ht'
      have : t' = t := Fin.ext (by omega)
      subst this
      exact hin
    isplitr [Hr]
    · isplitl [S0]; · iexact S0
      isplitl [S1]; · iexact S1
      isplitl [S2]; · iexact S2
      isplitl [S3]; · iexact S3
      iexact S4
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

theorem inv_enter (c : Dev nD) : Pipeline.ΦA spec0 c ⊢ (Inv m c 0 : sProp 𝕄) := by
  unfold Pipeline.ΦA Inv
  rw [scopedRest0_eq]
  iintro ⟨⟨⟨%f0, S0⟩, ⟨%f1, S1⟩, ⟨%f2, S2⟩, ⟨%f3, S3⟩, ⟨%f4, S4⟩⟩, Hr⟩
  iexists (fun
    | .xb => f0 | .xs => f1 | .v => f2 | .vsc => f3 | .og => f4
    | j => fun _ => Classical.arbitrary _ : St F)
  isplitr
  · ipureintro
    intro t ht
    omega
  rw [owns_whole, owns_whole, owns_whole, owns_whole, owns_whole]
  isplitr [Hr]
  · isplitl [S0]; · iexact S0
    isplitl [S1]; · iexact S1
    isplitl [S2]; · iexact S2
    isplitl [S3]; · iexact S3
    iexact S4
  iexact Hr

theorem inv_leave (c : Dev nD) (n : Nat) : (Inv m c n : sProp 𝕄) ⊢ Pipeline.ΦA spec0 c := by
  unfold Pipeline.ΦA Inv
  simp only [owns_whole]
  rw [scopedRest0_eq]
  iintro ⟨%σ, %hσ, ⟨S0, S1, S2, S3, S4⟩, Hr⟩
  isplitr [Hr]
  · isplitl [S0]; · iexists _; iexact S0
    isplitl [S1]; · iexists _; iexact S1
    isplitl [S2]; · iexists _; iexact S2
    isplitl [S3]; · iexists _; iexact S3
    iexists _; iexact S4
  iexact Hr

set_option backward.isDefEq.respectTransparency.types false in
set_option maxHeartbeats 800000 in
/-- The run: every array of the pipeline ends at what the proof data say, and every semaphore counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track_shared (Q' := _) cfgs (dats m) (0 : Fin 1) launch₀0 defs₀ Variants.none m ρ main
    (hbody := fun c => (body_obligation m c).loose) (hq := fun _ _ _ => rfl) (howed := fun _ _ => rfl) (V₀ := V0 m) (opss := [hostOps1])
    (hsub := sfx_sub) (hfresh := sfx_fresh) (hkeep := sfx_keeps)
    (hmain := hmain m Variants.none) (hA := A_eq m) (hin := inv_enter m) (hout := fun c => inv_leave m c _)

end Cert.Kernel.Body

end
-- ==== Proof.OpmTile.lean ====
/-
  What one step of the outer product computes from the arrays it loads: pure functions, in the kernel's own
  operations and order.
-/
module

public import proofs.«01_k».proof.Opm

@[expose] public section

noncomputable section

namespace Cert.Outer

open Idealize.ShloMosaic Idealize.SL.Sem
open Cert.Opm
open Cert.Opm.Facts₀ Cert.Opm.Facts Cert.Opm.K0.Facts₀ Cert.Opm.Shapes1.Facts₀ Cert.Opm.Shapes3.Facts₀

variable {F : FTy → Type} [FloatOps F] [Cert.Opm.Facts]

/-! ## The group scales -/

/-- An array times the constant. -/
def magnitude (a f : FVec F S16x128 .f32) : FVec F S16x128 .f32 := mulf (mulf a f) (broadcast S16x128 (Scalar.ofBits .f32 0x3B124925#32))

/-- The exponent of the power of two above a magnitude. -/
def exponent (y : FVec F S16x128 .f32) : FVec F S16x128 .f32 :=
  addf (floor (divf (log (absf y)) (broadcast S16x128 (Scalar.ofBits .f32 0x3F317218#32)))) (broadcast S16x128 (Scalar.ofBits .f32 0x3F800000#32))

/-- Where a magnitude is zero. -/
def isZero (y : FVec F S16x128 .f32) : IVec S16x128 1 := cmpf .oeq y (broadcast S16x128 (Scalar.ofBits .f32 0x00000000#32))

/-- The power of two above a magnitude, and one for zero. -/
def scaleOf (y : FVec F S16x128 .f32) : FVec F S16x128 .f32 :=
  select (isZero y) (broadcast S16x128 (Scalar.ofBits .f32 0x3F800000#32)) (exp2 (exponent y))

/-- Its reciprocal. -/
def inverseOf (y : FVec F S16x128 .f32) : FVec F S16x128 .f32 :=
  select (isZero y) (broadcast S16x128 (Scalar.ofBits .f32 0x3F800000#32)) (exp2 (subf (broadcast S16x128 (Scalar.ofBits .f32 0x00000000#32)) (exponent y)))

theorem slicesC (c : Fin 32) : S16x32.Slices ![0, c.val] S16x1 := by
  refine ⟨rfl, fun a => ?_⟩
  have := c.isLt
  fin_cases a
  · show 0 + 16 ≤ 16; omega
  · show c.val + 1 ≤ 32; omega

/-- The factor of group `c`: its column's scales times the inverse counts. -/
def factor (asc : FVec F S16x32 .f32) (rc : FVec F S16x128 .f32) (c : Fin 32) : FVec F S16x128 .f32 :=
  mulf (broadcastTo S16x128 (extractStridedSlice S16x1 ![0, c.val] (shapeCast S16x32 asc shapeCasts_S16x32_S16x32) (slicesC c)) broadcasts_S16x1_S16x128) rc

/-- What group `c`'s rows are multiplied with. -/
def qRow (asc : FVec F S16x32 .f32) (rc : FVec F S16x128 .f32) (c : Fin 32) (a : FVec F S16x128 .f32) : FVec F S16x128 .f32 :=
  mulf (factor asc rc c) (inverseOf (magnitude a (factor asc rc c)))

/-- Group `c`'s scales. -/
def scRow (asc : FVec F S16x32 .f32) (rc : FVec F S16x128 .f32) (c : Fin 32) (a : FVec F S16x128 .f32) : FVec F S16x128 .f32 :=
  scaleOf (magnitude a (factor asc rc c))

/-! ## The products -/

/-- The product of all rows with two columns' lanes. -/
def products (l : FVec F S32x16x896 .bf16) (x y : FVec F S1x896x128 .bf16) : FVec F S512x256 .f32 :=
  matmul dot_S512x896_S896x256_S512x256_1_0_0_1_n_n none (shapeCast S512x896 l shapeCasts_S32x16x896_S512x896)
    (concatenate S896x256 1 [⟨S896x128, shapeCast S896x128 x shapeCasts_S1x896x128_S896x128⟩, ⟨S896x128, shapeCast S896x128 y shapeCasts_S1x896x128_S896x128⟩]
      concatenates_S896x128_S896x128_S896x256_d1) (constant S512x256 .f32 0x00000000#32)

/-- The first column's products, scaled. -/
def first (p : FVec F S512x256 .f32) (s : FVec F S1x128 .f32) : FVec F S512x128 .f32 :=
  mulf (extractStridedSlice S512x128 ![0, 0] p slices_S512x256_o0_0_S512x128) (broadcastTo S512x128 s broadcasts_S1x128_S512x128)

/-- The second column's products, scaled. -/
def second (p : FVec F S512x256 .f32) (s : FVec F S1x128 .f32) : FVec F S512x128 .f32 :=
  mulf (extractStridedSlice S512x128 ![0, 128] p slices_S512x256_o0_128_S512x128) (broadcastTo S512x128 s broadcasts_S1x128_S512x128)

/-- The larger magnitude of two. -/
def larger (x y : FVec F S512x128 .f32) : FVec F S512x128 .f32 := maximumf (absf x) (absf y)

theorem slicesRows (c : Fin 32) : S512x128.Slices ![16 * c.val, 0] S16x128 := by
  refine ⟨rfl, fun a => ?_⟩
  have := c.isLt
  fin_cases a
  · show 16 * c.val + 16 ≤ 512; omega
  · show 0 + 128 ≤ 128; omega

/-- Rows `16c … 16c+15`. -/
def rows16 (c : Fin 32) (t : FVec F S512x128 .f32) : FVec F S16x128 .f32 := extractStridedSlice S16x128 ![16 * c.val, 0] t (slicesRows c)

/-! ## The codes -/

/-- The codes of a group. -/
def codeOf (o : FVec F S32x128 .f32) (q : FVec F S1x128 .f32) : FVec F S32x128 .fp8e4m3 :=
  truncf .fp8e4m3 (minimumf (broadcast S32x128 (Scalar.ofBits .f32 0x43E00000#32)) (maximumf (broadcast S32x128 (Scalar.ofBits .f32 0xC3E00000#32))
    (mulf o (broadcastTo S32x128 q broadcasts_S1x128_S32x128)))) bitsLt_fp8e4m3_f32

/-- The codes scaled back. -/
def backOf (o : FVec F S32x128 .f32) (q s : FVec F S1x128 .f32) : FVec F S32x128 .bf16 :=
  mulf (extf .bf16 (codeOf o q) bitsLt_fp8e4m3_bf16)
    (truncf .bf16 (broadcastTo S32x128 (shapeCast S1x128 s shapeCasts_S1x128_S1x128) broadcasts_S1x128_S32x128) bitsLt_bf16_f32)

/-- Four groups' codes, as the result stores them. -/
def fourCodes (a b c d : FVec F S32x128 .fp8e4m3) : FVec F S1x128x128 .fp8e4m3 :=
  shapeCast S1x128x128 (transpose S128x128 [1, 0] (concatenate S128x128 0 [⟨S32x128, a⟩, ⟨S32x128, b⟩, ⟨S32x128, c⟩, ⟨S32x128, d⟩]
    concatenates_S32x128_S32x128_S32x128_S32x128_S128x128_d0) transposes_S128x128_p1_0_S128x128) shapeCasts_S128x128_S1x128x128

/-- Four groups scaled back. -/
structure Four (F : FTy → Type) where
  a : FVec F S32x128 .bf16
  b : FVec F S32x128 .bf16
  c : FVec F S32x128 .bf16
  d : FVec F S32x128 .bf16

/-- All groups scaled back, one below the other. -/
def stack (x0 x1 x2 x3 x4 x5 x6 x7 : Four F) : FVec F S1024x128 .bf16 :=
  concatenate S1024x128 0 [⟨S32x128, x0.a⟩, ⟨S32x128, x0.b⟩, ⟨S32x128, x0.c⟩, ⟨S32x128, x0.d⟩, ⟨S32x128, x1.a⟩, ⟨S32x128, x1.b⟩, ⟨S32x128, x1.c⟩, ⟨S32x128, x1.d⟩,
    ⟨S32x128, x2.a⟩, ⟨S32x128, x2.b⟩, ⟨S32x128, x2.c⟩, ⟨S32x128, x2.d⟩, ⟨S32x128, x3.a⟩, ⟨S32x128, x3.b⟩, ⟨S32x128, x3.c⟩, ⟨S32x128, x3.d⟩,
    ⟨S32x128, x4.a⟩, ⟨S32x128, x4.b⟩, ⟨S32x128, x4.c⟩, ⟨S32x128, x4.d⟩, ⟨S32x128, x5.a⟩, ⟨S32x128, x5.b⟩, ⟨S32x128, x5.c⟩, ⟨S32x128, x5.d⟩,
    ⟨S32x128, x6.a⟩, ⟨S32x128, x6.b⟩, ⟨S32x128, x6.c⟩, ⟨S32x128, x6.d⟩, ⟨S32x128, x7.a⟩, ⟨S32x128, x7.b⟩, ⟨S32x128, x7.c⟩, ⟨S32x128, x7.d⟩] concatenates_S32x128_S32x128_S32x128_S32x128_S32x128_S32x128_S32x128_S32x128_S32x128_S32x128_S32x128_S32x128_S32x128_S32x128_S32x128_S32x128_S32x128_S32x128_S32x128_S32x128_S32x128_S32x128_S32x128_S32x128_S32x128_S32x128_S32x128_S32x128_S32x128_S32x128_S32x128_S32x128_S1024x128_d0

/-! ## The update of `z` -/

/-- Two positions' groups times the output weights. -/
def outputs (w : FVec F S128x1024 .bf16) (x y : FVec F S1024x128 .bf16) : FVec F S128x256 .f32 :=
  matmul dot_S128x1024_S1024x256_S128x256_1_0_0_1_n_n none (shapeCast S128x1024 w shapeCasts_S128x1024_S128x1024)
    (concatenate S1024x256 1 [⟨S1024x128, x⟩, ⟨S1024x128, y⟩] concatenates_S1024x128_S1024x128_S1024x256_d1) (constant S128x256 .f32 0x00000000#32)

def left (p : FVec F S128x256 .f32) : FVec F S128x128 .f32 := extractStridedSlice S128x128 ![0, 0] p slices_S128x256_o0_0_S128x128
def right (p : FVec F S128x256 .f32) : FVec F S128x128 .f32 := extractStridedSlice S128x128 ![0, 128] p slices_S128x256_o0_128_S128x128

/-- The updated block, one column a position. -/
def updated (z : FVec F S1x128x128 .bf16) (p ws b : FVec F S128x128 .f32) : FVec F S128x128 .f32 :=
  addf (extf .f32 (transpose S128x128 [1, 0] (shapeCast S128x128 z shapeCasts_S1x128x128_S128x128) transposes_S128x128_p1_0_S128x128) bitsLt_bf16_f32)
    (addf (mulf p (shapeCast S128x128 ws shapeCasts_S128x128_S128x128)) (shapeCast S128x128 b shapeCasts_S128x128_S128x128))

/-- As the result stores it. -/
def stored (z : FVec F S128x128 .f32) : FVec F S1x128x128 .bf16 :=
  shapeCast S1x128x128 (transpose S128x128 [1, 0] (truncf .bf16 z bitsLt_bf16_f32) transposes_S128x128_p1_0_S128x128) shapeCasts_S128x128_S1x128x128

def colMean (x : FVec F S128x128 .f32) : FVec F S1x128 .f32 :=
  divf (shapeCast S1x128 (multiReduction .add [0] S128 x 0x00000000#32 reduces_S128x128_S128 (.inl rfl) rfl) shapeCasts_S128_S1x128)
    (broadcast S1x128 (Scalar.ofBits .f32 0x43000000#32))

def centred (x : FVec F S128x128 .f32) : FVec F S128x128 .f32 := subf x (broadcastTo S128x128 (colMean x) broadcasts_S1x128_S128x128)

def normed (x g b : FVec F S128x128 .f32) : FVec F S128x128 .f32 :=
  addf (mulf (mulf (centred x) (broadcastTo S128x128 (divf (broadcast S1x128 (Scalar.ofBits .f32 0x3F800000#32))
    (sqrt (addf (colMean (mulf (centred x) (centred x))) (broadcast S1x128 (Scalar.ofBits .f32 0x3727C5AC#32))))) broadcasts_S1x128_S128x128))
    (shapeCast S128x128 g shapeCasts_S128x128_S128x128)) (shapeCast S128x128 b shapeCasts_S128x128_S128x128)

/-- A value in f32 as three in bf16. -/
def three (y : FVec F S128x128 .f32) : FVec F S384x128 .bf16 :=
  let hi := truncf .bf16 y bitsLt_bf16_f32
  let r := subf y (extf .f32 hi bitsLt_bf16_f32)
  let mid := truncf .bf16 r bitsLt_bf16_f32
  concatenate S384x128 0 [⟨S128x128, hi⟩, ⟨S128x128, mid⟩, ⟨S128x128, truncf .bf16 (subf r (extf .f32 mid bitsLt_bf16_f32)) bitsLt_bf16_f32⟩]
    concatenates_S128x128_S128x128_S128x128_S384x128_d0

/-- The heads' logits of two positions. -/
def logits (w : FVec F S32x384 .bf16) (x y : FVec F S384x128 .bf16) : FVec F S8x256 .f32 :=
  let l := matmul dot_S32x384_S384x256_S32x256_1_0_0_1_n_n none w
    (concatenate S384x256 1 [⟨S384x128, x⟩, ⟨S384x128, y⟩] concatenates_S384x128_S384x128_S384x256_d1) (constant S32x256 .f32 0x00000000#32)
  addf (addf (extractStridedSlice S8x256 ![0, 0] l slices_S32x256_o0_0_S8x256) (extractStridedSlice S8x256 ![8, 0] l slices_S32x256_o8_0_S8x256))
    (extractStridedSlice S8x256 ![16, 0] l slices_S32x256_o16_0_S8x256)

def leftLogits (l : FVec F S8x256 .f32) : FVec F S8x1x128 .f32 :=
  shapeCast S8x1x128 (extractStridedSlice S8x128 ![0, 0] l slices_S8x256_o0_0_S8x128) shapeCasts_S8x128_S8x1x128
def rightLogits (l : FVec F S8x256 .f32) : FVec F S8x1x128 .f32 :=
  shapeCast S8x1x128 (extractStridedSlice S8x128 ![0, 128] l slices_S8x256_o0_128_S8x128) shapeCasts_S8x128_S8x1x128

end Cert.Outer
-- ==== Proof.OpmSub.lean ====
/-
  Loads and stores through the squeezed slice of an array of the family.
-/
module

public import proofs.«01_k».proof.Proof.Held
public import Idealize.ShloMosaic.Lib.Pipeline.Value

@[expose] public section

noncomputable section

namespace Cert.Pwa

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

/-- An array with the inside of the box `r₀` replaced by `Y`, shaped `s'`. -/
def fill {s s' : Shape} {A : Type} (X : s.Idx → A) (r₀ : Rect s) (hc : s'.ShapeCasts r₀.shape) (Y : s'.Idx → A) : s.Idx → A :=
  put X r₀ (shapeCast r₀.shape Y hc)

section Sub

variable {nD : Nat} {τ : Topo} {sig : RefSig} {Val : EltTy → Type}
variable {Ix : Type} [DecidableEq Ix] {Name : Type} [DecidableEq Name] {U : Type} [URA U] {Lvl : Type}

local notation "𝕄" => MT nD τ sig Ix Val Name U Lvl

variable {J : Type} [Fintype J] [DecidableEq J] {sh : J → Shape} {el : J → EltTy}
variable [Preorder Lvl] {Λ : Labels} {defs : Defs nD τ sig Val Λ} {𝒱 : Variants} {c : Dev nD}
  {bd : Option 𝒱.V} {Γ : PendingWaitsCtx sig Ix} {E : Set Name} {B : Bank sig sh el}

theorem read_write_sub {s s' : Shape} {e : EltTy} (M : Memref sig .tc .vmem s e) (r₀ : Rect s) (h₀ : ∀ a, r₀.stride a = 1) (hq : r₀.shape.Squeezes s')
    (hc : r₀.shape.ShapeCasts s') (hc' : s'.ShapeCasts r₀.shape) (r : Rect s') (f : M.view.ty.Contents Val) (w : r.shape.Idx → Val e) :
    M.view.read Val ((((M.slice r₀ h₀).squeeze s' hq).access r).write Val f w Finset.univ)
      = fill (M.view.read Val f) r₀ hc' (put (shapeCast s' (get (M.view.read Val f) r₀) hc) r w) := by
  have h1 : ∀ g : M.view.ty.Contents Val, ((M.slice r₀ h₀).squeeze s' hq).view.read Val g = shapeCast s' (get (M.view.read Val g) r₀) hc := fun g => rfl
  have h2 := read_write_put ((M.slice r₀ h₀).squeeze s' hq).view r f w
  rw [h1] at h2
  funext y
  by_cases h : ∃ x, r₀.emb x = y
  · obtain ⟨x, rfl⟩ := h
    unfold fill
    rw [put_emb]
    have h3 := congrArg (fun Y => shapeCast r₀.shape Y hc' x) h2
    refine Eq.trans ?_ h3
    show _ = shapeCast r₀.shape (shapeCast s' (get _ r₀) hc) hc' x
    rw [shapeCast_shapeCast]
    rfl
  · have h' : ∀ x, r₀.emb x ≠ y := fun x hx => h ⟨x, hx⟩
    unfold fill
    rw [put_of_forall_ne _ _ _ h']
    refine (View.read_apply ..).trans (Eq.trans ?_ (View.read_apply ..).symm)
    rw [View.write_of_not_mem]
    intro hm
    obtain ⟨x, -, hx⟩ := Finset.mem_map.1 hm
    exact h' (Shape.reshapeEquiv hq.numel_eq (r.emb x)) (M.view.emb.injective hx)

/-- A load of a box of the squeezed slice of one array. -/
theorem Does.load_sub (σ : Store Val sh el) (j : J) (r₀ : Rect (sh j)) (h₀ : ∀ a, r₀.stride a = 1) {s' : Shape} (hq : r₀.shape.Squeezes s')
    (hc : r₀.shape.ShapeCasts s') (r : Rect s') (hl : (((B j).slice r₀ h₀).squeeze s' hq).view.LoadsAt r.toLoadRect) :
    Does Name U Lvl defs 𝒱 c bd Γ E B σ (Prog.lift (.load (((B j).slice r₀ h₀).squeeze s' hq) r.toLoadRect hl))
      (get (shapeCast s' (get (σ j) r₀) hc) r) σ := fun Q => by
  rw [held_split c B σ j]
  unfold owns
  iintro ⟨⟨⟨%f, %hf, H⟩, R⟩, K⟩
  iapply (wp_load (m := ((B j).slice r₀ h₀).squeeze s' hq) (S := (B j).view.set) (k := .ret) (f := f) 𝒱 (c : Thread nD τ) bd E ((View.setOn_subset_set _ _).trans
    ((subset_of_eq (View.set_reshape _ _)).trans (View.set_slice_subset _ _)))) $$ H
  iintro H
  have e : (((B j).slice r₀ h₀).squeeze s' hq).view.readAt Val r.toLoadRect f = get (shapeCast s' (get (σ j) r₀) hc) r := by rw [← hf]; rfl
  rw [e]
  iapply (le_wp_ret frame (wpE' defs 𝒱 (c : Thread nD τ) bd Γ) E (get (shapeCast s' (get (σ j) r₀) hc) r) Q)
  iapply K
  isplitl [H]
  · iexists f
    isplitr; · ipureintro; exact hf
    iexact H
  · iexact R

/-- A store to a box of the squeezed slice of one array. -/
theorem Does.store_sub (σ : Store Val sh el) (j : J) (r₀ : Rect (sh j)) (h₀ : ∀ a, r₀.stride a = 1) {s' : Shape} (hq : r₀.shape.Squeezes s')
    (hc : r₀.shape.ShapeCasts s') (hc' : s'.ShapeCasts r₀.shape) (r : Rect s') (w : r.shape.Idx → Val (el j))
    (hx : ((((B j).slice r₀ h₀).squeeze s' hq).access r).Stores Finset.univ)
    (hm : (Finset.univ : Finset r.shape.Idx) = Finset.univ ∨ ∀ a, r.stride a = 1) :
    Does Name U Lvl defs 𝒱 c bd Γ E B σ (Prog.lift (.store (((B j).slice r₀ h₀).squeeze s' hq) r w Finset.univ hx hm)) ⟨⟩
      (setAt σ j (fill (σ j) r₀ hc' (put (shapeCast s' (get (σ j) r₀) hc) r w))) := fun Q => by
  rw [held_split c B σ j, held_setAt]
  unfold owns
  iintro ⟨⟨⟨%f, %hf, H⟩, R⟩, K⟩
  iapply (wp_store (m := ((B j).slice r₀ h₀).squeeze s' hq) (r := r) (w := w) (Mk := Finset.univ) (hx := hx) (S := (B j).view.set) (k := .ret) (f := f) 𝒱 (c : Thread nD τ) bd E
    ((View.setOn_subset_set _ _).trans ((View.set_slice_subset _ _).trans ((subset_of_eq (View.set_reshape _ _)).trans (View.set_slice_subset _ _))))) $$ H
  iintro H
  iapply (le_wp_ret frame (wpE' defs 𝒱 (c : Thread nD τ) bd Γ) E PUnit.unit Q)
  iapply K
  isplitl [H]
  · iexists (((((B j).slice r₀ h₀).squeeze s' hq).access r).write Val f w Finset.univ)
    isplitr
    · ipureintro; rw [← hf]; exact read_write_sub (B j) r₀ h₀ hq hc hc' r f w
    iexact H
  · iexact R

end Sub

end Cert.Pwa
-- ==== Proof.OpmSteps.lean ====
/-
  One step of the outer product as a program over named arrays: the scales of the slot the step before
  filled, then eight blocks, each filling four columns of the other slot and finishing two positions.
-/
module

public import proofs.«01_k».proof.Proof.OpmTile
public import proofs.«01_k».proof.Proof.OpmSub
public import proofs.«01_k».proof.Proof.Steps

@[expose] public section

noncomputable section

namespace Cert.Outer

open Idealize.ShloMosaic Idealize.ShloMosaic.TcCoe Idealize.SL.Sem
open Cert.Opm (S32x16x896 S32x896x128 S32x128 S16x32 S16x128 S16x128x128 S128x1024 S128x128 S32x384 S16x128x1024 S16x32x128 S8x16x128
  S2x16448x128 S2x512x128 S576x128 S1x16448x128 S16448x128 S1x512x128 S512x128 S1x896x128 S1x128 S512x256 S1x32x128 S1x128x128 S1024x128 S384x128
  S8x1x128 S128x256 S8x256)
open Cert.Opm.Facts₀ Cert.Opm.Facts Cert.Opm.K0.Facts₀ Cert.Opm.Shapes1.Facts₀ Cert.Opm.Shapes3.Facts₀
open Cert.Pwa (Bank Store Step inb2 inb3)

/-- The arrays of one step: the staged operands, the staged results, the scratch. -/
inductive Arr where
  | at' | bp | bs | as' | rc | z | wo | wos | bo | lg | lb | wpb
  | oc | os | zo | pb
  | o | am | q | sc
deriving DecidableEq

instance : Fintype Arr where
  elems := {.at', .bp, .bs, .as', .rc, .z, .wo, .wos, .bo, .lg, .lb, .wpb, .oc, .os, .zo, .pb, .o, .am, .q, .sc}
  complete := by intro x; cases x <;> decide

/-- Their shapes. -/
abbrev Arr.shape : Arr → Shape
  | .at' => S32x16x896 | .bp => S32x896x128 | .bs => S32x128 | .as' => S16x32 | .rc => S16x128 | .z => S16x128x128
  | .wo => S128x1024 | .wos => S128x128 | .bo => S128x128 | .lg => S128x128 | .lb => S128x128 | .wpb => S32x384
  | .oc => S16x128x1024 | .os => S16x32x128 | .zo => S16x128x128 | .pb => S8x16x128
  | .o => S2x16448x128 | .am => S2x512x128 | .q => S576x128 | .sc => S576x128

/-- Their element types. -/
abbrev Arr.elt : Arr → EltTy
  | .at' => .bf16 | .bp => .bf16 | .bs => .f32 | .as' => .f32 | .rc => .f32 | .z => .bf16
  | .wo => .bf16 | .wos => .f32 | .bo => .f32 | .lg => .f32 | .lb => .f32 | .wpb => .bf16
  | .oc => .fp8e4m3 | .os => .f32 | .zo => .bf16 | .pb => .f32
  | .o => .f32 | .am => .f32 | .q => .f32 | .sc => .f32

/-! ## The boxes a step reads and writes -/

/-- All of a matrix. -/
abbrev all2 (A B : Nat) : Rect ⟨2, ![A, B]⟩ :=
  Rect.unit (s := ⟨2, ![A, B]⟩) ![0, 0] (⟨2, ![A, B]⟩ : Shape).size (inb2 (by omega) (by omega))

/-- All of a stack of matrices. -/
abbrev all3 (A B C : Nat) : Rect ⟨3, ![A, B, C]⟩ :=
  Rect.unit (s := ⟨3, ![A, B, C]⟩) ![0, 0, 0] (⟨3, ![A, B, C]⟩ : Shape).size (inb3 (by omega) (by omega) (by omega))

/-- Matrix `k` of a stack. -/
abbrev slab {A : Nat} (B C : Nat) (k : Fin A) : Rect ⟨3, ![A, B, C]⟩ :=
  Rect.unit (s := ⟨3, ![A, B, C]⟩) ![k.val, 0, 0] (⟨3, ![1, B, C]⟩ : Shape).size (inb3 (by omega) (by omega) (by omega))

/-- Row `k` of a matrix. -/
abbrev row {A : Nat} (B : Nat) (k : Fin A) : Rect ⟨2, ![A, B]⟩ :=
  Rect.unit (s := ⟨2, ![A, B]⟩) ![k.val, 0] (⟨2, ![1, B]⟩ : Shape).size (inb2 (by omega) (by omega))

/-- Row `36i + c`. -/
abbrev cell (i : Fin 16) (c : Fin 32) : Rect S576x128 :=
  Rect.unit (s := S576x128) ![36 * i.val + c.val, 0] S1x128.size (inb2 (by omega) (by omega))

/-- Rows `36i … 36i+31`. -/
abbrev cells (i : Fin 16) : Rect S576x128 :=
  Rect.unit (s := S576x128) ![36 * i.val, 0] S32x128.size (inb2 (by omega) (by omega))

/-- Rows `c, 36 + c, …`. -/
abbrev comb (c : Fin 32) : Rect S576x128 :=
  ⟨⟨![c.val, 0], S16x128.size, ![36, 1], fun | 0 => .inr (by show c.val + 36 * 15 < 576; omega) | 1 => .inr (by show 0 + 1 * 127 < 128; omega)⟩,
    fun | 0 => by show 0 < 36; omega | 1 => by show 0 < 1; omega⟩

/-- Rows `32c + d, 1028 + 32c + d, …`. -/
abbrev wide (c d : Fin 32) : Rect S16448x128 :=
  ⟨⟨![32 * c.val + d.val, 0], S16x128.size, ![1028, 1],
    fun | 0 => .inr (by show 32 * c.val + d.val + 1028 * 15 < 16448; omega) | 1 => .inr (by show 0 + 1 * 127 < 128; omega)⟩,
    fun | 0 => by show 0 < 1028; omega | 1 => by show 0 < 1; omega⟩

/-- Rows `1028i + 32c … 1028i + 32c + 31`. -/
abbrev group (i : Fin 16) (c : Fin 32) : Rect S16448x128 :=
  Rect.unit (s := S16448x128) ![1028 * i.val + 32 * c.val, 0] S32x128.size (inb2 (by omega) (by omega))

/-- Rows `16c … 16c + 15`. -/
abbrev rowsOf (c : Fin 32) : Rect S512x128 :=
  Rect.unit (s := S512x128) ![16 * c.val, 0] S16x128.size (inb2 (by omega) (by omega))

/-- Position `i`, columns `128g … 128g+127`, of the codes. -/
abbrev codesBox (i : Fin 16) (g : Fin 8) : Rect S16x128x1024 :=
  Rect.unit (s := S16x128x1024) ![i.val, 0, 128 * g.val] S1x128x128.size (inb3 (by omega) (by omega) (by omega))

/-- Position `i` of the logits. -/
abbrev logitsBox (i : Fin 16) : Rect S8x16x128 :=
  Rect.unit (s := S8x16x128) ![0, i.val, 0] S8x1x128.size (inb3 (by omega) (by omega) (by omega))

/-! ## The program -/

section Program

variable {nD : Nat} {τ : Topo} {sig : RefSig} {Λ : Labels} {F : FTy → Type} [FloatOps F] [Cert.Opm.Facts]

variable (B : Bank sig Arr.shape Arr.elt)

/-- Load a box of the array `j`. -/
def ld (j : Arr) (r : Rect j.shape) (h : 0 < r.shape.numel) : Step nD τ sig Λ F (r.shape.Idx → Elt F j.elt) :=
  Prog.lift (.load (B j) r.toLoadRect (View.loadsAt_vmem h))

/-- Store to a box of the array `j`. -/
def st (j : Arr) (r : Rect j.shape) (w : r.shape.Idx → Elt F j.elt) (h : ((B j).access r).Stores Finset.univ) : Step nD τ sig Λ F PUnit :=
  Prog.lift (.store (B j) r w Finset.univ h (.inl rfl))

/-- Load a box nothing reads, then store to it. -/
def put' (j : Arr) (r : Rect j.shape) (w : r.shape.Idx → Elt F j.elt) (n : 0 < r.shape.numel) (h : ((B j).access r).Stores Finset.univ) :
    Step nD τ sig Λ F PUnit := do
  let _ ← ld B j r n
  st B j r w h

/-- Slot `p` of the products. -/
abbrev slotO (p : Fin 2) : Memref sig .tc .vmem S16448x128 .f32 :=
  ((B .o).slice (slab 16448 128 p) (fun _ => rfl)).squeeze S16448x128 squeezes_S1x16448x128_S16448x128

/-- Slot `p` of the magnitudes. -/
abbrev slotAm (p : Fin 2) : Memref sig .tc .vmem S512x128 .f32 :=
  ((B .am).slice (slab 512 128 p) (fun _ => rfl)).squeeze S512x128 squeezes_S1x512x128_S512x128

/-- Load a box of slot `p` of the products. -/
def ldO (p : Fin 2) (r : Rect S16448x128) (h : 0 < r.shape.numel) : Step nD τ sig Λ F (r.shape.Idx → Elt F .f32) :=
  Prog.lift (.load (slotO B p) r.toLoadRect (View.loadsAt_vmem h))

/-- Load a box of slot `p` of the magnitudes. -/
def ldAm (p : Fin 2) (r : Rect S512x128) (h : 0 < r.shape.numel) : Step nD τ sig Λ F (r.shape.Idx → Elt F .f32) :=
  Prog.lift (.load (slotAm B p) r.toLoadRect (View.loadsAt_vmem h))

/-- Load a box of slot `p` of the products that nothing reads, then store to it. -/
def putO (p : Fin 2) (r : Rect S16448x128) (w : r.shape.Idx → Elt F .f32) (h : 0 < r.shape.numel) : Step nD τ sig Λ F PUnit := do
  let _ ← ldO B p r h
  Prog.lift (.store (slotO B p) r w Finset.univ (View.stores_vmem_bits_univ h rfl) (.inl rfl))

/-- Run a list of programs in order. -/
def each {ι : Type} (f : ι → Step nD τ sig Λ F PUnit) : List ι → Step nD τ sig Λ F PUnit
  | [] => pure ⟨⟩
  | a :: l => do
    f a
    each f l

/-- The numbers below 32. -/
abbrev all32 : List (Fin 32) :=
  [0, 1, 2, 3, 4, 5, 6, 7, 8, 9, 10, 11, 12, 13, 14, 15, 16, 17, 18, 19, 20, 21, 22, 23, 24, 25, 26, 27, 28, 29, 30, 31]

variable {B} (W : ∀ j, (B j).IsWhole)

theorem stores_low (hw : ∀ j, (B j).IsWhole) (j : Arr) (r : Rect j.shape) (n : 0 < r.shape.numel) (p : r.PackedRows j.elt.packing) :
    ((B j).access r).Stores Finset.univ :=
  View.stores_vmem n ((hw j).storeExact_slice rfl _ p) (fun _ => rfl)

variable (B) in
/-- The scales of group `c`. -/
def scales (p : Fin 2) (asc : FVec F S16x32 .f32) (rc : FVec F S16x128 .f32) (c : Fin 32) : Step nD τ sig Λ F PUnit := do
  let a : FVec F S16x128 .f32 ← ldAm B p (rowsOf c) h_S16x128
  put' B .q (comb c) (shapeCast S16x128 (qRow asc rc c a) shapeCasts_S16x128_S16x128) h_S16x128 (View.stores_vmem_bits_univ h_S16x128 rfl)
  put' B .sc (comb c) (shapeCast S16x128 (scRow asc rc c a) shapeCasts_S16x128_S16x128) h_S16x128 (View.stores_vmem_bits_univ h_S16x128 rfl)

variable (B) in
/-- Column `d` of the products' groups, into slot `s`. -/
def columns (s : Fin 2) (d : Fin 32) (t : FVec F S512x128 .f32) (c : Fin 32) : Step nD τ sig Λ F PUnit :=
  putO B s (wide c d) (shapeCast S16x128 (rows16 c t) shapeCasts_S16x128_S16x128) h_S16x128

/-- The first of a pair of columns. -/
abbrev even (e : Fin 16) : Fin 32 := ⟨2 * e.val, by omega⟩
/-- The second. -/
abbrev odd (e : Fin 16) : Fin 32 := ⟨2 * e.val + 1, by omega⟩

variable (B) in
/-- The magnitudes of a pair of columns into slot `s`, over the earlier ones unless they are the first. -/
def magnitudes (s : Fin 2) (e : Fin 16) (x y : FVec F S512x128 .f32) : Step nD τ sig Λ F PUnit :=
  match e with
  | ⟨0, _⟩ => put' B .am (slab 512 128 s) (shapeCast S1x512x128 (larger x y) shapeCasts_S512x128_S1x512x128) h_S1x512x128 (View.stores_vmem_bits_univ h_S1x512x128 rfl)
  | ⟨_ + 1, _⟩ => do
    let a : FVec F S1x512x128 .f32 ← ld B .am (slab 512 128 s) h_S1x512x128
    put' B .am (slab 512 128 s) (shapeCast S1x512x128 (maximumf (shapeCast S512x128 a shapeCasts_S1x512x128_S512x128) (larger x y)) shapeCasts_S512x128_S1x512x128)
      h_S1x512x128 (View.stores_vmem_bits_univ h_S1x512x128 rfl)

variable (B) in
/-- Two columns of the products into slot `s`. -/
def pair (s : Fin 2) (l : FVec F S32x16x896 .bf16) (e : Fin 16) : Step nD τ sig Λ F PUnit := do
  let x : FVec F S1x896x128 .bf16 ← ld B .bp (slab 896 128 (even e)) h_S1x896x128
  let y : FVec F S1x896x128 .bf16 ← ld B .bp (slab 896 128 (odd e)) h_S1x896x128
  let sx : FVec F S1x128 .f32 ← ld B .bs (row 128 (even e)) h_S1x128
  let sy : FVec F S1x128 .f32 ← ld B .bs (row 128 (odd e)) h_S1x128
  magnitudes B s e (first (products l x y) sx) (second (products l x y) sy)
  each (columns B s (even e) (first (products l x y) sx)) all32
  each (columns B s (odd e) (second (products l x y) sy)) all32

/-- Four groups of position `i`: their codes stored, their values returned. -/
def four (p : Fin 2) (i : Fin 16) (g : Fin 8) : Step nD τ sig Λ F (Four F) := do
  let o0 : FVec F S32x128 .f32 ← ldO B p (group i ⟨4 * g.val, by omega⟩) h_S32x128
  let q0 : FVec F S1x128 .f32 ← ld B .q (cell i ⟨4 * g.val, by omega⟩) h_S1x128
  let s0 : FVec F S1x128 .f32 ← ld B .sc (cell i ⟨4 * g.val, by omega⟩) h_S1x128
  let o1 : FVec F S32x128 .f32 ← ldO B p (group i ⟨4 * g.val + 1, by omega⟩) h_S32x128
  let q1 : FVec F S1x128 .f32 ← ld B .q (cell i ⟨4 * g.val + 1, by omega⟩) h_S1x128
  let s1 : FVec F S1x128 .f32 ← ld B .sc (cell i ⟨4 * g.val + 1, by omega⟩) h_S1x128
  let o2 : FVec F S32x128 .f32 ← ldO B p (group i ⟨4 * g.val + 2, by omega⟩) h_S32x128
  let q2 : FVec F S1x128 .f32 ← ld B .q (cell i ⟨4 * g.val + 2, by omega⟩) h_S1x128
  let s2 : FVec F S1x128 .f32 ← ld B .sc (cell i ⟨4 * g.val + 2, by omega⟩) h_S1x128
  let o3 : FVec F S32x128 .f32 ← ldO B p (group i ⟨4 * g.val + 3, by omega⟩) h_S32x128
  let q3 : FVec F S1x128 .f32 ← ld B .q (cell i ⟨4 * g.val + 3, by omega⟩) h_S1x128
  let s3 : FVec F S1x128 .f32 ← ld B .sc (cell i ⟨4 * g.val + 3, by omega⟩) h_S1x128
  put' B .oc (codesBox i g) (fourCodes (codeOf o0 q0) (codeOf o1 q1) (codeOf o2 q2) (codeOf o3 q3)) h_S1x128x128
    (stores_low W .oc _ h_S1x128x128 (Affine.packed_dvd (by decide) ⟨0, rfl⟩ ⟨32, rfl⟩))
  pure ⟨backOf o0 q0 s0, backOf o1 q1 s1, backOf o2 q2 s2, backOf o3 q3 s3⟩

/-- Position `i`: its scales and codes stored, its values returned. -/
def quantise (p : Fin 2) (i : Fin 16) : Step nD τ sig Λ F (FVec F S1024x128 .bf16) := do
  let s : FVec F S32x128 .f32 ← ld B .sc (cells i) h_S32x128
  put' B .os (slab 32 128 i) (shapeCast S1x32x128 s shapeCasts_S32x128_S1x32x128) h_S1x32x128 (View.stores_vmem_bits_univ h_S1x32x128 rfl)
  let x0 ← four W p i 0
  let x1 ← four W p i 1
  let x2 ← four W p i 2
  let x3 ← four W p i 3
  let x4 ← four W p i 4
  let x5 ← four W p i 5
  let x6 ← four W p i 6
  let x7 ← four W p i 7
  pure (stack x0 x1 x2 x3 x4 x5 x6 x7)

/-- Position `i`'s update, stored, and its norm. -/
def update (i : Fin 16) (x : FVec F S128x128 .f32) : Step nD τ sig Λ F (FVec F S384x128 .bf16) := do
  let z : FVec F S1x128x128 .bf16 ← ld B .z (slab 128 128 i) h_S1x128x128
  let ws : FVec F S128x128 .f32 ← ld B .wos (all2 128 128) h_S128x128
  let b : FVec F S128x128 .f32 ← ld B .bo (all2 128 128) h_S128x128
  put' B .zo (slab 128 128 i) (stored (updated z x ws b)) h_S1x128x128
    (stores_low W .zo _ h_S1x128x128 (Affine.packed_rows (by decide) rfl rfl rfl rfl))
  let g : FVec F S128x128 .f32 ← ld B .lg (all2 128 128) h_S128x128
  let b' : FVec F S128x128 .f32 ← ld B .lb (all2 128 128) h_S128x128
  pure (three (normed (updated z x ws b) g b'))

/-- Block `k`: four columns filled, two positions finished. -/
def block (c p : Fin 2) (l : FVec F S32x16x896 .bf16) (k : Fin 8) : Step nD τ sig Λ F PUnit := do
  pair B c l ⟨2 * k.val, by omega⟩
  pair B c l ⟨2 * k.val + 1, by omega⟩
  let x ← quantise W p ⟨2 * k.val, by omega⟩
  let y ← quantise W p ⟨2 * k.val + 1, by omega⟩
  let w : FVec F S128x1024 .bf16 ← ld B .wo (all2 128 1024) h_S128x1024
  let u ← update W ⟨2 * k.val, by omega⟩ (left (outputs w x y))
  let v ← update W ⟨2 * k.val + 1, by omega⟩ (right (outputs w x y))
  let h : FVec F S32x384 .bf16 ← ld B .wpb (all2 32 384) h_S32x384
  put' B .pb (logitsBox ⟨2 * k.val, by omega⟩) (leftLogits (logits h u v)) h_S8x1x128 (View.stores_vmem_bits_univ h_S8x1x128 rfl)
  put' B .pb (logitsBox ⟨2 * k.val + 1, by omega⟩) (rightLogits (logits h u v)) h_S8x1x128 (View.stores_vmem_bits_univ h_S8x1x128 rfl)

variable (B) in
/-- Zero the scratch slot the first step reads. -/
def zeros (p : Fin 2) : Step nD τ sig Λ F PUnit := do
  put' B .o (slab 16448 128 p) (shapeCast S1x16448x128 (broadcast S16448x128 (Scalar.ofBits .f32 0x00000000#32)) shapeCasts_S16448x128_S1x16448x128) h_S1x16448x128
    (View.stores_vmem_bits_univ h_S1x16448x128 rfl)
  put' B .am (slab 512 128 p) (shapeCast S1x512x128 (broadcast S512x128 (Scalar.ofBits .f32 0x00000000#32)) shapeCasts_S512x128_S1x512x128) h_S1x512x128
    (View.stores_vmem_bits_univ h_S1x512x128 rfl)

variable (B) in
/-- Zero the slot where the step is the first. -/
def start (w : BitVec 1) (p : Fin 2) : Step nD τ sig Λ F PUnit := if h : w = 1#1 then zeros B p else pure ⟨⟩

theorem start_pos {w : BitVec 1} (h : w = 1#1) (p : Fin 2) : start (F := F) (nD := nD) (τ := τ) (Λ := Λ) B w p = zeros B p := dif_pos h

theorem start_neg {w : BitVec 1} (h : ¬ w = 1#1) (p : Fin 2) : start (F := F) (nD := nD) (τ := τ) (Λ := Λ) B w p = pure ⟨⟩ := dif_neg h

/-- One step after the zeroing. -/
def rest (c p : Fin 2) : Step nD τ sig Λ F PUnit := do
  let l : FVec F S32x16x896 .bf16 ← ld B .at' (all3 32 16 896) h_S32x16x896
  let rc : FVec F S16x128 .f32 ← ld B .rc (all2 16 128) h_S16x128
  let asc : FVec F S16x32 .f32 ← ld B .as' (all2 16 32) h_S16x32
  each (scales B p asc rc) all32
  each (block W c p l) [0, 1, 2, 3, 4, 5, 6, 7]

/-- One step of the kernel. -/
def body (w : BitVec 1) (c p : Fin 2) : Step nD τ sig Λ F PUnit := do
  start B w p
  rest W c p

end Program

end Cert.Outer
-- ==== Proof.OpmBodyK.lean ====
/-
  The printed body of `Opm` is the structured one.
-/
module

public import proofs.«01_k».proof.Proof.Gen.Opm
public import proofs.«01_k».proof.Proof.OpmSteps
public import Idealize.ShloMosaic.Lib.Pipeline.Regions

@[expose] public section

set_option maxRecDepth 65536

noncomputable section

namespace Cert.Opm.Body

open Idealize.ShloMosaic Idealize.ShloMosaic.TcCoe Idealize.SL.Sem
open Cert.Opm
open Cert.Opm.Facts₀ Cert.Opm.Facts Cert.Opm.K0.Facts₀ Cert.Opm.Shapes1.Facts₀ Cert.Opm.Shapes3.Facts₀

variable {F : FTy → Type} [FloatOps F] [Cert.Opm.Facts]

/-- The arrays of a step, from the body's arguments. -/
def bank (arg1 : Memref sig .tc .vmem S32x16x896 .bf16) (arg2 : Memref sig .tc .vmem S32x896x128 .bf16) (arg3 : Memref sig .tc .vmem S32x128 .f32) (arg4 : Memref sig .tc .vmem S16x32 .f32) (arg5 : Memref sig .tc .vmem S16x128 .f32) (arg6 : Memref sig .tc .vmem S16x128x128 .bf16) (arg7 : Memref sig .tc .vmem S128x1024 .bf16) (arg8 : Memref sig .tc .vmem S128x128 .f32) (arg9 : Memref sig .tc .vmem S128x128 .f32) (arg10 : Memref sig .tc .vmem S128x128 .f32) (arg11 : Memref sig .tc .vmem S128x128 .f32) (arg12 : Memref sig .tc .vmem S32x384 .bf16) (arg13 : Memref sig .tc .vmem S16x128x1024 .fp8e4m3) (arg14 : Memref sig .tc .vmem S16x32x128 .f32) (arg15 : Memref sig .tc .vmem S16x128x128 .bf16) (arg16 : Memref sig .tc .vmem S8x16x128 .f32) (arg17 : Memref sig .tc .vmem S2x16448x128 .f32) (arg18 : Memref sig .tc .vmem S2x512x128 .f32) (arg19 : Memref sig .tc .vmem S576x128 .f32) (arg20 : Memref sig .tc .vmem S576x128 .f32) : Cert.Pwa.Bank sig Cert.Outer.Arr.shape Cert.Outer.Arr.elt
  | .at' => arg1
  | .bp => arg2
  | .bs => arg3
  | .as' => arg4
  | .rc => arg5
  | .z => arg6
  | .wo => arg7
  | .wos => arg8
  | .bo => arg9
  | .lg => arg10
  | .lb => arg11
  | .wpb => arg12
  | .oc => arg13
  | .os => arg14
  | .zo => arg15
  | .pb => arg16
  | .o => arg17
  | .am => arg18
  | .q => arg19
  | .sc => arg20

theorem bank_whole (arg1 : Memref sig .tc .vmem S32x16x896 .bf16) (harg1 : arg1.IsWhole) (arg2 : Memref sig .tc .vmem S32x896x128 .bf16) (harg2 : arg2.IsWhole) (arg3 : Memref sig .tc .vmem S32x128 .f32) (harg3 : arg3.IsWhole) (arg4 : Memref sig .tc .vmem S16x32 .f32) (harg4 : arg4.IsWhole) (arg5 : Memref sig .tc .vmem S16x128 .f32) (harg5 : arg5.IsWhole) (arg6 : Memref sig .tc .vmem S16x128x128 .bf16) (harg6 : arg6.IsWhole) (arg7 : Memref sig .tc .vmem S128x1024 .bf16) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S32x384 .bf16) (harg12 : arg12.IsWhole) (arg13 : Memref sig .tc .vmem S16x128x1024 .fp8e4m3) (harg13 : arg13.IsWhole) (arg14 : Memref sig .tc .vmem S16x32x128 .f32) (harg14 : arg14.IsWhole) (arg15 : Memref sig .tc .vmem S16x128x128 .bf16) (harg15 : arg15.IsWhole) (arg16 : Memref sig .tc .vmem S8x16x128 .f32) (harg16 : arg16.IsWhole) (arg17 : Memref sig .tc .vmem S2x16448x128 .f32) (harg17 : arg17.IsWhole) (arg18 : Memref sig .tc .vmem S2x512x128 .f32) (harg18 : arg18.IsWhole) (arg19 : Memref sig .tc .vmem S576x128 .f32) (harg19 : arg19.IsWhole) (arg20 : Memref sig .tc .vmem S576x128 .f32) (harg20 : arg20.IsWhole) : ∀ j, (bank arg1 arg2 arg3 arg4 arg5 arg6 arg7 arg8 arg9 arg10 arg11 arg12 arg13 arg14 arg15 arg16 arg17 arg18 arg19 arg20 j).IsWhole
  | .at' => harg1
  | .bp => harg2
  | .bs => harg3
  | .as' => harg4
  | .rc => harg5
  | .z => harg6
  | .wo => harg7
  | .wos => harg8
  | .bo => harg9
  | .lg => harg10
  | .lb => harg11
  | .wpb => harg12
  | .oc => harg13
  | .os => harg14
  | .zo => harg15
  | .pb => harg16
  | .o => harg17
  | .am => harg18
  | .q => harg19
  | .sc => harg20

/-- The slot a step fills, as the word the kernel computes. -/
def curWord (i : grid0.Coords) : BitVec 32 :=
  let n : BitVec 32 := Scalar.select (Scalar.cmpi .eq (2#32) (0#32)) (1#32) (2#32)
  let r : BitVec 32 := Scalar.remsi (BitVec.ofNat 32 (i 0).val) n
  Scalar.select (Scalar.andi (Scalar.xori (Scalar.cmpi .slt r (0#32)) (Scalar.cmpi .slt n (0#32))) (Scalar.cmpi .ne r (0#32))) (Scalar.addi r n) r

/-- The slot step `i` fills. -/
def cur (i : grid0.Coords) : Fin 2 := ⟨k0_off5 i 0, Nat.lt_of_add_one_le (k0_off5_inb i 0)⟩

/-- The slot step `i` reads. -/
def prev (i : grid0.Coords) : Fin 2 := ⟨k0_off6 i 0, Nat.lt_of_add_one_le (k0_off6_inb i 0)⟩

/-- What a step does up to the first group's exponents. -/
theorem part1_eq (i : grid0.Coords) (arg1 : Memref sig .tc .vmem S32x16x896 .bf16) (harg1 : arg1.IsWhole) (arg2 : Memref sig .tc .vmem S32x896x128 .bf16) (harg2 : arg2.IsWhole) (arg3 : Memref sig .tc .vmem S32x128 .f32) (harg3 : arg3.IsWhole) (arg4 : Memref sig .tc .vmem S16x32 .f32) (harg4 : arg4.IsWhole) (arg5 : Memref sig .tc .vmem S16x128 .f32) (harg5 : arg5.IsWhole) (arg6 : Memref sig .tc .vmem S16x128x128 .bf16) (harg6 : arg6.IsWhole) (arg7 : Memref sig .tc .vmem S128x1024 .bf16) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S32x384 .bf16) (harg12 : arg12.IsWhole) (arg13 : Memref sig .tc .vmem S16x128x1024 .fp8e4m3) (harg13 : arg13.IsWhole) (arg14 : Memref sig .tc .vmem S16x32x128 .f32) (harg14 : arg14.IsWhole) (arg15 : Memref sig .tc .vmem S16x128x128 .bf16) (harg15 : arg15.IsWhole) (arg16 : Memref sig .tc .vmem S8x16x128 .f32) (harg16 : arg16.IsWhole) (arg17 : Memref sig .tc .vmem S2x16448x128 .f32) (harg17 : arg17.IsWhole) (arg18 : Memref sig .tc .vmem S2x512x128 .f32) (harg18 : arg18.IsWhole) (arg19 : Memref sig .tc .vmem S576x128 .f32) (harg19 : arg19.IsWhole) (arg20 : Memref sig .tc .vmem S576x128 .f32) (harg20 : arg20.IsWhole) :
    k0_part1 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 = (do
      Cert.Outer.start (bank arg1 arg2 arg3 arg4 arg5 arg6 arg7 arg8 arg9 arg10 arg11 arg12 arg13 arg14 arg15 arg16 arg17 arg18 arg19 arg20) (k0_cond1 i) (prev i)
      let l : FVec F S32x16x896 .bf16 ← Cert.Outer.ld (bank arg1 arg2 arg3 arg4 arg5 arg6 arg7 arg8 arg9 arg10 arg11 arg12 arg13 arg14 arg15 arg16 arg17 arg18 arg19 arg20) .at' (Cert.Outer.all3 32 16 896) h_S32x16x896
      let rc : FVec F S16x128 .f32 ← Cert.Outer.ld (bank arg1 arg2 arg3 arg4 arg5 arg6 arg7 arg8 arg9 arg10 arg11 arg12 arg13 arg14 arg15 arg16 arg17 arg18 arg19 arg20) .rc (Cert.Outer.all2 16 128) h_S16x128
      let asc : FVec F S16x32 .f32 ← Cert.Outer.ld (bank arg1 arg2 arg3 arg4 arg5 arg6 arg7 arg8 arg9 arg10 arg11 arg12 arg13 arg14 arg15 arg16 arg17 arg18 arg19 arg20) .as' (Cert.Outer.all2 16 32) h_S16x32
      let m : FVec F S16x128 .f32 ← Cert.Outer.ldAm (bank arg1 arg2 arg3 arg4 arg5 arg6 arg7 arg8 arg9 arg10 arg11 arg12 arg13 arg14 arg15 arg16 arg17 arg18 arg19 arg20) (prev i) (Cert.Outer.rowsOf 0) h_S16x128
      pure ⟨curWord i, shapeCast S512x896 l shapeCasts_S32x16x896_S512x896, rc, shapeCast S16x32 asc shapeCasts_S16x32_S16x32, Cert.Outer.factor asc rc 0,
        Cert.Outer.magnitude m (Cert.Outer.factor asc rc 0), Cert.Outer.exponent (Cert.Outer.magnitude m (Cert.Outer.factor asc rc 0))⟩) := by
  by_cases h : k0_cond1 i = 1#1
  · refine Eq.trans (dif_pos h) ?_
    simp only [Cert.Outer.start_pos h]
    chain_rfl
  · refine Eq.trans (dif_neg h) ?_
    simp only [Cert.Outer.start_neg h]
    chain_rfl

/-- Equal first parts of a sequence. -/
theorem bind_left {E : Type → Type} {α β : Type} {p q : Prog E α} {k : α → Prog E β} (h : p = q) : (p >>= k) = (q >>= k) := by rw [h]

/-- The kernel's body is the structured step. -/
theorem body_eq (i : grid0.Coords) (arg1 : Memref sig .tc .vmem S32x16x896 .bf16) (harg1 : arg1.IsWhole) (arg2 : Memref sig .tc .vmem S32x896x128 .bf16) (harg2 : arg2.IsWhole) (arg3 : Memref sig .tc .vmem S32x128 .f32) (harg3 : arg3.IsWhole) (arg4 : Memref sig .tc .vmem S16x32 .f32) (harg4 : arg4.IsWhole) (arg5 : Memref sig .tc .vmem S16x128 .f32) (harg5 : arg5.IsWhole) (arg6 : Memref sig .tc .vmem S16x128x128 .bf16) (harg6 : arg6.IsWhole) (arg7 : Memref sig .tc .vmem S128x1024 .bf16) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S32x384 .bf16) (harg12 : arg12.IsWhole) (arg13 : Memref sig .tc .vmem S16x128x1024 .fp8e4m3) (harg13 : arg13.IsWhole) (arg14 : Memref sig .tc .vmem S16x32x128 .f32) (harg14 : arg14.IsWhole) (arg15 : Memref sig .tc .vmem S16x128x128 .bf16) (harg15 : arg15.IsWhole) (arg16 : Memref sig .tc .vmem S8x16x128 .f32) (harg16 : arg16.IsWhole) (arg17 : Memref sig .tc .vmem S2x16448x128 .f32) (harg17 : arg17.IsWhole) (arg18 : Memref sig .tc .vmem S2x512x128 .f32) (harg18 : arg18.IsWhole) (arg19 : Memref sig .tc .vmem S576x128 .f32) (harg19 : arg19.IsWhole) (arg20 : Memref sig .tc .vmem S576x128 .f32) (harg20 : arg20.IsWhole) :
    cc0_outer_product_mean (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20
      = Cert.Outer.body (bank_whole arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) (k0_cond1 i) (cur i) (prev i) := by
  unfold cc0_outer_product_mean k0_part510 k0_part502
  refine Eq.trans (bind_left (bind_left (bind_left (part1_eq i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20)))) ?_
  by_cases h : k0_cond1 i = 1#1
  · simp only [Cert.Outer.start_pos h, Cert.Outer.body]
    chain_rfl
  · simp only [Cert.Outer.start_neg h, Cert.Outer.body]
    chain_rfl

end Cert.Opm.Body
-- ==== Proof.OpmRun.lean ====
/-
  What the parts of a step of the outer product leave, as functions of the staged operands and of the
  slot filled by the step before.
-/
module

public import proofs.«01_k».proof.Proof.OpmSteps
public import proofs.«01_k».proof.Proof.Boxes

@[expose] public section

noncomputable section

namespace Cert.Outer

open Idealize.ShloMosaic Idealize.ShloMosaic.TcCoe Idealize.ShloMosaic.ValueIdx
open Idealize.SL Idealize.SL.RA Idealize.SL.Sem
open Cert.Opm (S32x16x896 S32x896x128 S32x128 S16x32 S16x128 S16x128x128 S128x1024 S128x128 S32x384 S16x128x1024 S16x32x128 S8x16x128
  S2x16448x128 S2x512x128 S576x128 S1x16448x128 S16448x128 S1x512x128 S512x128 S1x896x128 S1x128 S512x256 S1x32x128 S1x128x128 S1024x128 S384x128
  S8x1x128 S128x256 S8x256)
open Cert.Opm.Facts₀ Cert.Opm.Facts Cert.Opm.K0.Facts₀ Cert.Opm.Shapes1.Facts₀ Cert.Opm.Shapes3.Facts₀
open Cert.Pwa (Bank Store Step get put put_emb put_off_axis setAt setAt_self setAt_of_ne Does fill)

/-! ## What a step computes -/

/-- What the arrays of a step hold. -/
abbrev St (F : FTy → Type) : Type := Store (Elt F) Arr.shape Arr.elt

section Values

variable {F : FTy → Type} [FloatOps F] [Cert.Opm.Facts]

/-- A scratch slot: each group's products, and the largest magnitudes. -/
@[ext] structure Slot (F : FTy → Type) where
  o : Fin 16 → Fin 32 → FVec F S32x128 .f32
  am : FVec F S512x128 .f32

/-- The slot of zeros. -/
def Slot.zero : Slot F where
  o _ _ := fun _ => Scalar.ofBits .f32 0x00000000#32
  am := fun _ => Scalar.ofBits .f32 0x00000000#32

variable (X : St F) (s : Slot F)

def theRows : FVec F S32x16x896 .bf16 := get (X .at') (all3 32 16 896)
def theCounts : FVec F S16x128 .f32 := get (X .rc) (all2 16 128)
def theScales : FVec F S16x32 .f32 := get (X .as') (all2 16 32)

/-- The products of the columns `2e` and `2e + 1`. -/
def prodAt (e : Fin 16) : FVec F S512x256 .f32 := products (theRows X) (get (X .bp) (slab 896 128 (even e))) (get (X .bp) (slab 896 128 (odd e)))
def evenAt (e : Fin 16) : FVec F S512x128 .f32 := first (prodAt X e) (get (X .bs) (row 128 (even e)))
def oddAt (e : Fin 16) : FVec F S512x128 .f32 := second (prodAt X e) (get (X .bs) (row 128 (odd e)))

/-- The products of column `d`. -/
def column (d : Fin 32) : FVec F S512x128 .f32 := if d.val % 2 = 0 then evenAt X ⟨d.val / 2, by omega⟩ else oddAt X ⟨d.val / 2, by omega⟩

/-- The largest magnitudes of the columns up to `2n + 1`. -/
def largest : (n : Nat) → n < 16 → FVec F S512x128 .f32
  | 0, _ => larger (evenAt X 0) (oddAt X 0)
  | n + 1, h => maximumf (largest n (by omega)) (larger (evenAt X ⟨n + 1, h⟩) (oddAt X ⟨n + 1, h⟩))

/-- The slot a step fills. -/
def Slot.filled : Slot F where
  o i c := fun x => column X (x 0) (ix2 (⟨16 * c.val + i.val, by omega⟩ : Fin 512) (x 1))
  am := largest X 15 (by omega)

/-- Group `c`'s factors at position `i`. -/
def qAt (i : Fin 16) (c : Fin 32) : FVec F S1x128 .f32 := fun x => qRow (theScales X) (theCounts X) c (get s.am (rowsOf c)) (ix2 i (x 1))
/-- Group `c`'s scales at position `i`. -/
def scAt (i : Fin 16) (c : Fin 32) : FVec F S1x128 .f32 := fun x => scRow (theScales X) (theCounts X) c (get s.am (rowsOf c)) (ix2 i (x 1))
/-- All scales at position `i`. -/
def scalesAt (i : Fin 16) : FVec F S32x128 .f32 := fun x => scRow (theScales X) (theCounts X) (x 0) (get s.am (rowsOf (x 0))) (ix2 i (x 1))

/-- Group `4g + n`. -/
abbrev grp (g : Fin 8) (n : Fin 4) : Fin 32 := ⟨4 * g.val + n.val, by omega⟩

def codeAt (i : Fin 16) (c : Fin 32) : FVec F S32x128 .fp8e4m3 := codeOf (s.o i c) (qAt X s i c)
def backAt (i : Fin 16) (c : Fin 32) : FVec F S32x128 .bf16 := backOf (s.o i c) (qAt X s i c) (scAt X s i c)
def codesAt (i : Fin 16) (g : Fin 8) : FVec F S1x128x128 .fp8e4m3 :=
  fourCodes (codeAt X s i (grp g 0)) (codeAt X s i (grp g 1)) (codeAt X s i (grp g 2)) (codeAt X s i (grp g 3))
def fourAt (i : Fin 16) (g : Fin 8) : Four F :=
  ⟨backAt X s i (grp g 0), backAt X s i (grp g 1), backAt X s i (grp g 2), backAt X s i (grp g 3)⟩
def stackAt (i : Fin 16) : FVec F S1024x128 .bf16 :=
  stack (fourAt X s i 0) (fourAt X s i 1) (fourAt X s i 2) (fourAt X s i 3) (fourAt X s i 4) (fourAt X s i 5) (fourAt X s i 6) (fourAt X s i 7)

/-- The first position of block `k`. -/
abbrev lo (k : Fin 8) : Fin 16 := ⟨2 * k.val, by omega⟩
/-- The second. -/
abbrev hi (k : Fin 8) : Fin 16 := ⟨2 * k.val + 1, by omega⟩

def outAt (k : Fin 8) : FVec F S128x256 .f32 := outputs (get (X .wo) (all2 128 1024)) (stackAt X s (lo k)) (stackAt X s (hi k))
/-- The update of position `i` by `x`. -/
def updAt (i : Fin 16) (x : FVec F S128x128 .f32) : FVec F S128x128 .f32 :=
  updated (get (X .z) (slab 128 128 i)) x (get (X .wos) (all2 128 128)) (get (X .bo) (all2 128 128))
def halfAt (i : Fin 16) : FVec F S128x128 .f32 :=
  if i.val % 2 = 0 then left (outAt X s ⟨i.val / 2, by omega⟩) else right (outAt X s ⟨i.val / 2, by omega⟩)
def storedAt (i : Fin 16) : FVec F S1x128x128 .bf16 := stored (updAt X i (halfAt X s i))
def threeAt (i : Fin 16) : FVec F S384x128 .bf16 :=
  three (normed (updAt X i (halfAt X s i)) (get (X .lg) (all2 128 128)) (get (X .lb) (all2 128 128)))
def logitsOf (k : Fin 8) : FVec F S8x256 .f32 := logits (get (X .wpb) (all2 32 384)) (threeAt X s (lo k)) (threeAt X s (hi k))
def logitsAt (i : Fin 16) : FVec F S8x1x128 .f32 :=
  if i.val % 2 = 0 then leftLogits (logitsOf X s ⟨i.val / 2, by omega⟩) else rightLogits (logitsOf X s ⟨i.val / 2, by omega⟩)

theorem halfAt_lo (k : Fin 8) : halfAt X s (lo k) = left (outAt X s k) := by
  unfold halfAt
  rw [if_pos (by show 2 * k.val % 2 = 0; omega)]
  congr 2; exact Fin.ext (by show 2 * k.val / 2 = k.val; omega)
theorem halfAt_hi (k : Fin 8) : halfAt X s (hi k) = right (outAt X s k) := by
  unfold halfAt
  rw [if_neg (by show ¬ (2 * k.val + 1) % 2 = 0; omega)]
  congr 2; exact Fin.ext (by show (2 * k.val + 1) / 2 = k.val; omega)
theorem logitsAt_lo (k : Fin 8) : logitsAt X s (lo k) = leftLogits (logitsOf X s k) := by
  unfold logitsAt
  rw [if_pos (by show 2 * k.val % 2 = 0; omega)]
  congr 2; exact Fin.ext (by show 2 * k.val / 2 = k.val; omega)
theorem logitsAt_hi (k : Fin 8) : logitsAt X s (hi k) = rightLogits (logitsOf X s k) := by
  unfold logitsAt
  rw [if_neg (by show ¬ (2 * k.val + 1) % 2 = 0; omega)]
  congr 2; exact Fin.ext (by show (2 * k.val + 1) / 2 = k.val; omega)
theorem column_even (e : Fin 16) : column X (even e) = evenAt X e := by
  unfold column
  rw [if_pos (by show 2 * e.val % 2 = 0; omega)]
  congr 1; exact Fin.ext (by show 2 * e.val / 2 = e.val; omega)
theorem column_odd (e : Fin 16) : column X (odd e) = oddAt X e := by
  unfold column
  rw [if_neg (by show ¬ (2 * e.val + 1) % 2 = 0; omega)]
  congr 1; exact Fin.ext (by show (2 * e.val + 1) / 2 = e.val; omega)

/-! ## The slots of a state -/

/-- The products in slot `p`. -/
def prods (σ : St F) (p : Fin 2) : FVec F S16448x128 .f32 := shapeCast S16448x128 (get (σ .o) (slab 16448 128 p)) shapeCasts_S1x16448x128_S16448x128
/-- The magnitudes in slot `p`. -/
def mags (σ : St F) (p : Fin 2) : FVec F S512x128 .f32 := shapeCast S512x128 (get (σ .am) (slab 512 128 p)) shapeCasts_S1x512x128_S512x128

/-- Row `1028i + 32c + d` of the products. -/
abbrev place (i : Fin 16) (c d : Fin 32) (j : Fin 128) : S16448x128.Idx := ix2 (⟨1028 * i.val + 32 * c.val + d.val, by omega⟩ : Fin 16448) j

/-- The slot `s` is what the scratch holds in slot `p`. -/
structure Slot.In (s : Slot F) (σ : St F) (p : Fin 2) : Prop where
  o : ∀ i c d j, prods σ p (place i c d j) = s.o i c (ix2 d j)
  am : mags σ p = s.am

end Values

/-! ## Boxes -/

section Boxes
variable {A : Type}

theorem get_put {s : Shape} (X : s.Idx → A) (r : Rect s) (w : r.shape.Idx → A) : get (put X r w) r = w := funext fun x => put_emb X r w x

/-- A box apart from the one read, on an axis. -/
theorem get_put_apart {s : Shape} (X : s.Idx → A) (r r' : Rect s) (w : r.shape.Idx → A) (a : Fin s.rank)
    (h : ∀ (x : r.shape.Idx) (x' : r'.shape.Idx), (r.emb x a : Nat) ≠ (r'.emb x' a : Nat)) : get (put X r w) r' = get X r' :=
  funext fun x' => put_off_axis X r w a fun x => h x x'

theorem slab_apart {N : Nat} (B C : Nat) {k l : Fin N} (h : k ≠ l) (x : (slab B C k).shape.Idx) (x' : (slab B C l).shape.Idx) :
    ((slab B C k).emb x (0 : Fin 3) : Nat) ≠ ((slab B C l).emb x' (0 : Fin 3) : Nat) := by
  have h1 : ((x (0 : Fin 3) : Fin _) : Nat) < 1 := (x (0 : Fin 3)).isLt
  have h2 : ((x' (0 : Fin 3) : Fin _) : Nat) < 1 := (x' (0 : Fin 3)).isLt
  show k.val + 1 * (x (0 : Fin 3) : Nat) ≠ l.val + 1 * (x' (0 : Fin 3) : Nat)
  omega

theorem get_slab_other {N : Nat} (B C : Nat) {k l : Fin N} (h : k ≠ l) (X : (⟨3, ![N, B, C]⟩ : Shape).Idx → A) (w) :
    get (put X (slab B C k) w) (slab B C l) = get X (slab B C l) := get_put_apart X _ _ w (0 : Fin 3) (slab_apart B C h)

theorem logitsBox_apart {k l : Fin 16} (h : k ≠ l) (x : (logitsBox k).shape.Idx) (x' : (logitsBox l).shape.Idx) :
    ((logitsBox k).emb x (1 : Fin 3) : Nat) ≠ ((logitsBox l).emb x' (1 : Fin 3) : Nat) := by
  have h1 : ((x (1 : Fin 3) : Fin _) : Nat) < 1 := (x (1 : Fin 3)).isLt
  have h2 : ((x' (1 : Fin 3) : Fin _) : Nat) < 1 := (x' (1 : Fin 3)).isLt
  show k.val + 1 * (x (1 : Fin 3) : Nat) ≠ l.val + 1 * (x' (1 : Fin 3) : Nat)
  omega

theorem codes_apart_pos {k l : Fin 16} (h : k ≠ l) (g g' : Fin 8) (x : (codesBox k g).shape.Idx) (x' : (codesBox l g').shape.Idx) :
    ((codesBox k g).emb x (0 : Fin 3) : Nat) ≠ ((codesBox l g').emb x' (0 : Fin 3) : Nat) := by
  have h1 : ((x (0 : Fin 3) : Fin _) : Nat) < 1 := (x (0 : Fin 3)).isLt
  have h2 : ((x' (0 : Fin 3) : Fin _) : Nat) < 1 := (x' (0 : Fin 3)).isLt
  show k.val + 1 * (x (0 : Fin 3) : Nat) ≠ l.val + 1 * (x' (0 : Fin 3) : Nat)
  omega

theorem codes_apart_grp (k : Fin 16) {g g' : Fin 8} (h : g ≠ g') (x : (codesBox k g).shape.Idx) (x' : (codesBox k g').shape.Idx) :
    ((codesBox k g).emb x (2 : Fin 3) : Nat) ≠ ((codesBox k g').emb x' (2 : Fin 3) : Nat) := by
  have h1 : ((x (2 : Fin 3) : Fin _) : Nat) < 128 := (x (2 : Fin 3)).isLt
  have h2 : ((x' (2 : Fin 3) : Fin _) : Nat) < 128 := (x' (2 : Fin 3)).isLt
  show 128 * g.val + 1 * (x (2 : Fin 3) : Nat) ≠ 128 * g'.val + 1 * (x' (2 : Fin 3) : Nat)
  omega

theorem emb2 {M N : Nat} (r : Rect ⟨2, ![M, N]⟩) (x : r.shape.Idx) (y : (⟨2, ![M, N]⟩ : Shape).Idx) (h0 : (r.emb x (0 : Fin 2) : Nat) = (y (0 : Fin 2) : Nat))
    (h1 : (r.emb x (1 : Fin 2) : Nat) = (y (1 : Fin 2) : Nat)) : r.emb x = y :=
  funext fun | (0 : Fin 2) => Fin.ext h0 | (1 : Fin 2) => Fin.ext h1

/-- Group `c`'s rows, at position `i`. -/
theorem cell_comb (X : S576x128.Idx → A) (c : Fin 32) (w : (comb c).shape.Idx → A) (i : Fin 16) (x : (cell i c).shape.Idx) :
    put X (comb c) w ((cell i c).emb x) = w (ix2 i (x (1 : Fin 2))) := by
  have h1 : ((x (0 : Fin 2) : Fin _) : Nat) < 1 := (x (0 : Fin 2)).isLt
  have e : (cell i c).emb x = (comb c).emb (ix2 i (x (1 : Fin 2))) := by
    refine emb2 _ _ _ ?_ ?_
    · show 36 * i.val + c.val + 1 * (x (0 : Fin 2) : Nat) = c.val + 36 * i.val; omega
    · rfl
  rw [e, put_emb]

theorem cell_comb_other (X : S576x128.Idx → A) {c c' : Fin 32} (h : c ≠ c') (w : (comb c).shape.Idx → A) (i : Fin 16) :
    get (put X (comb c) w) (cell i c') = get X (cell i c') := by
  refine get_put_apart X _ _ w (0 : Fin 2) fun x x' => ?_
  have h1 : ((x' (0 : Fin 2) : Fin _) : Nat) < 1 := (x' (0 : Fin 2)).isLt
  have h2 : ((x (0 : Fin 2) : Fin _) : Nat) < 16 := (x (0 : Fin 2)).isLt
  show c.val + 36 * (x (0 : Fin 2) : Nat) ≠ 36 * i.val + c'.val + 1 * (x' (0 : Fin 2) : Nat)
  omega

theorem place_wide (X : S16448x128.Idx → A) (c d : Fin 32) (w : (wide c d).shape.Idx → A) (i : Fin 16) (j : Fin 128) :
    put X (wide c d) w (place i c d j) = w (ix2 i j) := by
  have e : place i c d j = (wide c d).emb (ix2 i j) := by
    refine (emb2 _ _ _ ?_ ?_).symm
    · show 32 * c.val + d.val + 1028 * i.val = 1028 * i.val + 32 * c.val + d.val; omega
    · show 0 + 1 * j.val = j.val; omega
  rw [e, put_emb]

theorem place_wide_other (X : S16448x128.Idx → A) (c d : Fin 32) (w : (wide c d).shape.Idx → A) (i : Fin 16) (c' d' : Fin 32) (j : Fin 128)
    (h : ¬ (c' = c ∧ d' = d)) : put X (wide c d) w (place i c' d' j) = X (place i c' d' j) := by
  refine put_off_axis X _ w (0 : Fin 2) fun x => ?_
  have h2 : ((x (0 : Fin 2) : Fin _) : Nat) < 16 := (x (0 : Fin 2)).isLt
  show 32 * c.val + d.val + 1028 * (x (0 : Fin 2) : Nat) ≠ 1028 * i.val + 32 * c'.val + d'.val
  intro e
  have hc := c.isLt
  have hd := d.isLt
  have hc' := c'.isLt
  have hd' := d'.isLt
  have hi : (x (0 : Fin 2) : Nat) = i.val := by omega
  have hcc : c'.val = c.val := by omega
  exact h ⟨Fin.ext hcc, Fin.ext (by omega)⟩

theorem group_place (i : Fin 16) (c : Fin 32) (x : (group i c).shape.Idx) : (group i c).emb x = place i c (x (0 : Fin 2)) (x (1 : Fin 2)) := by
  refine emb2 _ _ _ ?_ ?_
  · show 1028 * i.val + 32 * c.val + 1 * (x (0 : Fin 2) : Nat) = 1028 * i.val + 32 * c.val + (x (0 : Fin 2) : Nat); omega
  · show 0 + 1 * (x (1 : Fin 2) : Nat) = (x (1 : Fin 2) : Nat); omega

theorem cells_cell (X : S576x128.Idx → A) (i : Fin 16) (x : (cells i).shape.Idx) :
    get X (cells i) x = get X (cell i (x (0 : Fin 2))) (ix2 (0 : Fin 1) (x (1 : Fin 2))) := by
  show X _ = X _
  congr 1
  refine emb2 _ _ _ ?_ ?_
  · show 36 * i.val + 1 * (x (0 : Fin 2) : Nat) = 36 * i.val + (x (0 : Fin 2) : Nat) + 1 * 0; omega
  · rfl

end Boxes

section Slots
variable {F : FTy → Type} [FloatOps F] [Cert.Opm.Facts]

/-- The state with a box of slot `s` of the products overwritten. -/
def putProds (σ : St F) (s : Fin 2) (r : Rect S16448x128) (w : r.shape.Idx → Elt F .f32) : St F :=
  setAt σ .o (fill (σ .o) (slab 16448 128 s) shapeCasts_S16448x128_S1x16448x128 (put (prods σ s) r w))

theorem prods_put (σ : St F) (s : Fin 2) (r : Rect S16448x128) (w : r.shape.Idx → Elt F .f32) : prods (putProds σ s r w) s = put (prods σ s) r w := by
  unfold prods putProds fill
  rw [setAt_self, get_put]
  exact shapeCast_shapeCast ..

theorem prods_put_other (σ : St F) {s p : Fin 2} (h : s ≠ p) (r : Rect S16448x128) (w : r.shape.Idx → Elt F .f32) : prods (putProds σ s r w) p = prods σ p := by
  unfold prods putProds fill
  rw [setAt_self, get_slab_other 16448 128 h]

theorem putProds_ne (σ : St F) (s : Fin 2) (r : Rect S16448x128) (w : r.shape.Idx → Elt F .f32) {j : Arr} (h : j ≠ .o) : putProds σ s r w j = σ j :=
  setAt_of_ne σ h _

/-- The state with slot `s` of the magnitudes overwritten. -/
def putMags (σ : St F) (s : Fin 2) (Y : FVec F S512x128 .f32) : St F :=
  setAt σ .am (put (σ .am) (slab 512 128 s) (shapeCast S1x512x128 Y shapeCasts_S512x128_S1x512x128))

theorem mags_put (σ : St F) (s : Fin 2) (Y : FVec F S512x128 .f32) : mags (putMags σ s Y) s = Y := by
  unfold mags putMags
  rw [setAt_self, get_put]
  exact shapeCast_shapeCast ..

theorem mags_put_other (σ : St F) {s p : Fin 2} (h : s ≠ p) (Y : FVec F S512x128 .f32) : mags (putMags σ s Y) p = mags σ p := by
  unfold mags putMags
  rw [setAt_self, get_slab_other 512 128 h]

theorem putMags_ne (σ : St F) (s : Fin 2) (Y : FVec F S512x128 .f32) {j : Arr} (h : j ≠ .am) : putMags σ s Y j = σ j := setAt_of_ne σ h _

end Slots

end Cert.Outer
-- ==== Proof.OpmDoes.lean ====
/-
  One step of the outer product, run: its results, and the slot it leaves.
-/
module

public import proofs.«01_k».proof.Proof.OpmRun

@[expose] public section

noncomputable section

namespace Cert.Outer

open Idealize.ShloMosaic Idealize.ShloMosaic.TcCoe Idealize.ShloMosaic.ValueIdx
open Idealize.SL Idealize.SL.RA Idealize.SL.Sem
open Cert.Opm (S32x16x896 S32x896x128 S32x128 S16x32 S16x128 S16x128x128 S128x1024 S128x128 S32x384 S16x128x1024 S16x32x128 S8x16x128
  S2x16448x128 S2x512x128 S576x128 S1x16448x128 S16448x128 S1x512x128 S512x128 S1x896x128 S1x128 S512x256 S1x32x128 S1x128x128 S1024x128 S384x128
  S8x1x128 S128x256 S8x256)
open Cert.Opm.Facts₀ Cert.Opm.Facts Cert.Opm.K0.Facts₀ Cert.Opm.Shapes1.Facts₀ Cert.Opm.Shapes3.Facts₀
open Cert.Pwa (Bank Store Step get put put_emb put_off_axis setAt setAt_self setAt_of_ne Does fill)

section Parts

variable {nD : Nat} {τ : Topo} {sig : RefSig} {Λ : Labels} {F : FTy → Type} [FloatOps F] [Cert.Opm.Facts]
variable {Ix : Type} [DecidableEq Ix] {Name : Type} [DecidableEq Name] {U : Type} [URA U] {Lvl : Type} [Preorder Lvl]
variable {defs : Defs nD τ sig (Elt F) Λ} {𝒱 : Variants} {c₀ : Dev nD} {bd : Option 𝒱.V} {Γ : PendingWaitsCtx sig Ix} {E : Set Name}
variable {B : Bank sig Arr.shape Arr.elt} (W : ∀ j, (B j).IsWhole)

variable (Name U Lvl defs 𝒱 c₀ bd Γ E B) in
/-- The program `p`, started at `σ`, returns `a` at a state of `R`. -/
def Leads {α : Type} (σ : St F) (p : Step nD τ sig Λ F α) (a : α) (R : St F → Prop) : Prop :=
  ∃ σ', Does Name U Lvl defs 𝒱 c₀ bd Γ E B σ p a σ' ∧ R σ'

theorem Leads.of {α : Type} {σ σ' : St F} {p : Step nD τ sig Λ F α} {a : α} {R : St F → Prop}
    (h : Does Name U Lvl defs 𝒱 c₀ bd Γ E B σ p a σ') (r : R σ') : Leads Name U Lvl defs 𝒱 c₀ bd Γ E B σ p a R := ⟨σ', h, r⟩

theorem Leads.bind {α β : Type} {σ : St F} {p : Step nD τ sig Λ F α} {k : α → Step nD τ sig Λ F β} {a : α} {b : β} {R S : St F → Prop}
    (h : Leads Name U Lvl defs 𝒱 c₀ bd Γ E B σ p a R) (hk : ∀ σ', R σ' → Leads Name U Lvl defs 𝒱 c₀ bd Γ E B σ' (k a) b S) :
    Leads Name U Lvl defs 𝒱 c₀ bd Γ E B σ (p >>= k) b S := by
  obtain ⟨σ', d, r⟩ := h
  obtain ⟨σ'', d', r'⟩ := hk σ' r
  exact ⟨σ'', Does.bind d d', r'⟩

theorem Leads.step {α β : Type} {σ σ' : St F} {p : Step nD τ sig Λ F α} {k : α → Step nD τ sig Λ F β} {a : α} {b : β} {S : St F → Prop}
    (h : Does Name U Lvl defs 𝒱 c₀ bd Γ E B σ p a σ') (hk : Leads Name U Lvl defs 𝒱 c₀ bd Γ E B σ' (k a) b S) :
    Leads Name U Lvl defs 𝒱 c₀ bd Γ E B σ (p >>= k) b S := by
  obtain ⟨σ'', d', r'⟩ := hk
  exact ⟨σ'', Does.bind h d', r'⟩

theorem Leads.mono {α : Type} {σ : St F} {p : Step nD τ sig Λ F α} {a : α} {R S : St F → Prop}
    (h : Leads Name U Lvl defs 𝒱 c₀ bd Γ E B σ p a R) (i : ∀ σ', R σ' → S σ') : Leads Name U Lvl defs 𝒱 c₀ bd Γ E B σ p a S := by
  obtain ⟨σ', d, r⟩ := h
  exact ⟨σ', d, i σ' r⟩

theorem Leads.ret {α : Type} {σ : St F} {a : α} {R : St F → Prop} (r : R σ) : Leads Name U Lvl defs 𝒱 c₀ bd Γ E B σ (pure a) a R :=
  ⟨σ, Does.ret σ a, r⟩

theorem does_ld (σ : St F) (j : Arr) (r : Rect j.shape) (n : 0 < r.shape.numel) :
    Does Name U Lvl defs 𝒱 c₀ bd Γ E B σ (ld B j r n) (get (σ j) r) σ := Does.load σ j r _

theorem does_put (σ : St F) (j : Arr) (r : Rect j.shape) (w : r.shape.Idx → Elt F j.elt) (n : 0 < r.shape.numel)
    (h : ((B j).access r).Stores Finset.univ) :
    Does Name U Lvl defs 𝒱 c₀ bd Γ E B σ (put' B j r w n h) ⟨⟩ (setAt σ j (put (σ j) r w)) :=
  Does.bind (Does.load σ j r _) (Does.store σ j r w h _)

theorem does_ldO (σ : St F) (p : Fin 2) (r : Rect S16448x128) (n : 0 < r.shape.numel) :
    Does Name U Lvl defs 𝒱 c₀ bd Γ E B σ (ldO B p r n) (get (prods σ p) r) σ :=
  Does.load_sub σ .o (slab 16448 128 p) _ _ _ r _

theorem does_ldAm (σ : St F) (p : Fin 2) (r : Rect S512x128) (n : 0 < r.shape.numel) :
    Does Name U Lvl defs 𝒱 c₀ bd Γ E B σ (ldAm B p r n) (get (mags σ p) r) σ :=
  Does.load_sub σ .am (slab 512 128 p) _ _ _ r _

theorem does_putO (σ : St F) (p : Fin 2) (r : Rect S16448x128) (w : r.shape.Idx → Elt F .f32) (n : 0 < r.shape.numel) :
    Does Name U Lvl defs 𝒱 c₀ bd Γ E B σ (putO B p r w n) ⟨⟩ (putProds σ p r w) :=
  Does.bind (Does.load_sub σ .o (slab 16448 128 p) _ _ shapeCasts_S1x16448x128_S16448x128 r _)
    (Does.store_sub σ .o (slab 16448 128 p) _ _ shapeCasts_S1x16448x128_S16448x128 shapeCasts_S16448x128_S1x16448x128 r w _ _)

/-- A list of programs, with an invariant of the ones done. -/
theorem each_leads {ι : Type} (f : ι → Step nD τ sig Λ F PUnit) (I : (ι → Prop) → St F → Prop)
    (h : ∀ D a σ, I D σ → Leads Name U Lvl defs 𝒱 c₀ bd Γ E B σ (f a) ⟨⟩ (I fun x => x = a ∨ D x)) :
    ∀ (l : List ι) (D : ι → Prop) (σ : St F), I D σ → Leads Name U Lvl defs 𝒱 c₀ bd Γ E B σ (each f l) ⟨⟩ (I fun x => x ∈ l ∨ D x)
  | [], D, σ, hi => by
    have e : (fun x => x ∈ ([] : List ι) ∨ D x) = D := funext fun x => propext ⟨fun h => h.elim (fun h => absurd h (List.not_mem_nil)) id, .inr⟩
    rw [e]; exact Leads.ret hi
  | a :: l, D, σ, hi => by
    refine Leads.bind (h D a σ hi) fun σ' hi' => ?_
    refine (each_leads f I h l _ σ' hi').mono fun σ'' hi'' => ?_
    have e : (fun x => x ∈ a :: l ∨ D x) = fun x => x ∈ l ∨ x = a ∨ D x := funext fun x => propext (by
      rw [List.mem_cons]; constructor
      · rintro ((h | h) | h)
        · exact .inr (.inl h)
        · exact .inl h
        · exact .inr (.inr h)
      · rintro (h | h | h)
        · exact .inl (.inr h)
        · exact .inl (.inl h)
        · exact .inr h)
    rw [e]; exact hi''

theorem mem_all32 : ∀ c : Fin 32, c ∈ all32 := by decide

/-! ## The group scales -/

variable (X : St F) (s : Slot F)

/-- After the scales of the groups `D`. -/
structure ScalesIn (σ₀ : St F) (D : Fin 32 → Prop) (σ : St F) : Prop where
  kept : ∀ j, j ≠ .q → j ≠ .sc → σ j = σ₀ j
  q : ∀ c, D c → ∀ i, get (σ .q) (cell i c) = qAt X s i c
  sc : ∀ c, D c → ∀ i, get (σ .sc) (cell i c) = scAt X s i c

theorem scales_leads (σ₀ : St F) (p : Fin 2) (h : s.In σ₀ p) :
    Leads Name U Lvl defs 𝒱 c₀ bd Γ E B σ₀ (each (scales B p (theScales X) (theCounts X)) all32) ⟨⟩
      fun σ => (∀ j, j ≠ .q → j ≠ .sc → σ j = σ₀ j) ∧ (∀ i c, get (σ .q) (cell i c) = qAt X s i c) ∧ ∀ i c, get (σ .sc) (cell i c) = scAt X s i c := by
  refine (each_leads (scales B p (theScales X) (theCounts X)) (ScalesIn X s σ₀) (fun D c σ hi => ?_) all32 (fun _ => False) σ₀
    ⟨fun _ _ _ => rfl, fun _ h => h.elim, fun _ h => h.elim⟩).mono
    fun σ hσ => ⟨hσ.kept, fun i c => hσ.q c (.inl (mem_all32 c)) i, fun i c => hσ.sc c (.inl (mem_all32 c)) i⟩
  have ha : mags σ p = s.am := by
    rw [← h.am]; unfold mags; rw [hi.kept .am (by decide) (by decide)]
  refine Leads.of (Does.bind (does_ldAm σ p _ _) <| Does.bind (does_put _ _ _ _ _ _) <| does_put _ _ _ _ _ _) ?_
  rw [ha]
  refine ⟨fun j h1 h2 => ?_, fun c' hc i => ?_, fun c' hc i => ?_⟩
  · rw [setAt_of_ne _ h2, setAt_of_ne _ h1]; exact hi.kept j h1 h2
  · rw [setAt_of_ne _ (by decide), setAt_self]
    by_cases e : c' = c
    · subst e
      funext x
      refine (cell_comb _ _ _ i x).trans ?_
      exact congrFun (shapeCast_self ..) _
    · rw [cell_comb_other _ (Ne.symm e)]
      exact hi.q c' (hc.resolve_left e) i
  · rw [setAt_self, setAt_of_ne _ (by decide)]
    by_cases e : c' = c
    · subst e
      funext x
      refine (cell_comb _ _ _ i x).trans ?_
      exact congrFun (shapeCast_self ..) _
    · rw [cell_comb_other _ (Ne.symm e)]
      exact hi.sc c' (hc.resolve_left e) i

/-! ## A pair of columns -/

/-- After the groups `D` of column `d`. -/
structure ColumnIn (σ₀ : St F) (s : Fin 2) (d : Fin 32) (t : FVec F S512x128 .f32) (D : Fin 32 → Prop) (σ : St F) : Prop where
  kept : ∀ j, j ≠ .o → σ j = σ₀ j
  other : ∀ p, s ≠ p → prods σ p = prods σ₀ p
  done : ∀ c, D c → ∀ i j, prods σ s (place i c d j) = t (ix2 (⟨16 * c.val + i.val, by omega⟩ : Fin 512) j)
  rest : ∀ d', d' ≠ d → ∀ i c j, prods σ s (place i c d' j) = prods σ₀ s (place i c d' j)

theorem rows16_apply (c : Fin 32) (t : FVec F S512x128 .f32) (i : Fin 16) (j : Fin 128) :
    rows16 c t (ix2 i j) = t (ix2 (⟨16 * c.val + i.val, by omega⟩ : Fin 512) j) := by
  unfold rows16
  show t _ = t _
  congr 1
  funext a
  match a with
  | (0 : Fin 2) => exact Fin.ext rfl
  | (1 : Fin 2) => exact Fin.ext (by show 0 + j.val = j.val; omega)

theorem column_leads (σ₀ : St F) (s : Fin 2) (d : Fin 32) (t : FVec F S512x128 .f32) :
    Leads Name U Lvl defs 𝒱 c₀ bd Γ E B σ₀ (each (columns B s d t) all32) ⟨⟩ (ColumnIn σ₀ s d t fun _ => True) := by
  have e : (fun x => x ∈ all32 ∨ False) = fun _ => True := funext fun x => propext ⟨fun _ => trivial, fun _ => .inl (mem_all32 x)⟩
  rw [← e]
  refine each_leads (columns B s d t) (ColumnIn σ₀ s d t) (fun D c σ hi => ?_) all32 (fun _ => False) σ₀
    ⟨fun _ _ => rfl, fun _ _ => rfl, fun _ h => h.elim, fun _ _ _ _ _ => rfl⟩
  refine Leads.of (does_putO σ s _ _ _) ⟨fun j h => ?_, fun p h => ?_, fun c' hc i j => ?_, fun d' hd i c' j => ?_⟩
  · rw [putProds_ne _ _ _ _ h]; exact hi.kept j h
  · rw [prods_put_other _ h]; exact hi.other p h
  · rw [prods_put]
    by_cases e : c' = c
    · subst e
      refine (place_wide _ _ _ _ i j).trans ?_
      refine (congrFun (shapeCast_self ..) _).trans ?_
      exact rows16_apply _ t i j
    · rw [place_wide_other _ _ _ _ _ _ _ _ fun h => e h.1]
      exact hi.done c' (hc.resolve_left e) i j
  · rw [prods_put, place_wide_other _ _ _ _ _ _ _ _ fun h => hd h.2]
    exact hi.rest d' hd i c' j

/-- After the pair `e` of columns. -/
structure PairIn (σ₀ : St F) (s : Fin 2) (e : Fin 16) (σ : St F) : Prop where
  kept : ∀ j, j ≠ .o → j ≠ .am → σ j = σ₀ j
  other : ∀ p, s ≠ p → prods σ p = prods σ₀ p
  am : mags σ s = largest X e.val e.isLt
  even : ∀ c i j, prods σ s (place i c (even e) j) = evenAt X e (ix2 (⟨16 * c.val + i.val, by omega⟩ : Fin 512) j)
  odd : ∀ c i j, prods σ s (place i c (odd e) j) = oddAt X e (ix2 (⟨16 * c.val + i.val, by omega⟩ : Fin 512) j)
  rest : ∀ d', d' ≠ Outer.even e → d' ≠ Outer.odd e → ∀ i c j, prods σ s (place i c d' j) = prods σ₀ s (place i c d' j)

theorem prods_congr {σ σ' : St F} (h : σ .o = σ' .o) (p : Fin 2) : prods σ p = prods σ' p := by unfold prods; rw [h]
theorem mags_congr {σ σ' : St F} (h : σ .am = σ' .am) (p : Fin 2) : mags σ p = mags σ' p := by unfold mags; rw [h]

theorem magnitudes_leads (σ₀ : St F) (s : Fin 2) (e : Fin 16) (hm : ∀ n, n + 1 = e.val → ∀ h, mags σ₀ s = largest X n h) :
    Leads Name U Lvl defs 𝒱 c₀ bd Γ E B σ₀ (magnitudes B s e (evenAt X e) (oddAt X e)) ⟨⟩
      fun σ => (∀ j, j ≠ .am → σ j = σ₀ j) ∧ mags σ s = largest X e.val e.isLt := by
  match e, hm with
  | ⟨0, _⟩, _ => exact Leads.of (does_put σ₀ _ _ _ _ _) ⟨fun j h => putMags_ne σ₀ s _ h, mags_put σ₀ s _⟩
  | ⟨n + 1, h⟩, hm =>
    have hm' := hm n rfl (by omega)
    refine Leads.of (Does.bind (does_ld σ₀ .am (slab 512 128 s) _) (does_put σ₀ _ _ _ _ _)) ⟨fun j h => putMags_ne σ₀ s _ h, (mags_put σ₀ s _).trans ?_⟩
    show maximumf (mags σ₀ s) _ = _
    rw [hm']
    rfl

theorem pair_leads (σ₀ : St F) (s : Fin 2) (e : Fin 16) (hp : σ₀ .bp = X .bp) (hb : σ₀ .bs = X .bs)
    (hm : ∀ n, n + 1 = e.val → ∀ h, mags σ₀ s = largest X n h) :
    Leads Name U Lvl defs 𝒱 c₀ bd Γ E B σ₀ (pair B s (theRows X) e) ⟨⟩ (PairIn X σ₀ s e) := by
  unfold pair
  refine Leads.step (does_ld σ₀ .bp _ _) ?_
  refine Leads.step (does_ld σ₀ .bp _ _) ?_
  refine Leads.step (does_ld σ₀ .bs _ _) ?_
  refine Leads.step (does_ld σ₀ .bs _ _) ?_
  rw [hp, hb]
  refine Leads.bind (magnitudes_leads X σ₀ s e hm) fun σ₁ h₁ => ?_
  refine Leads.bind (column_leads σ₁ s (even e) _) fun σ₂ h₂ => ?_
  refine (column_leads σ₂ s (odd e) _).mono fun σ₃ h₃ => ?_
  have hne : even e ≠ odd e := fun h => by have := congrArg Fin.val h; simp only [even, odd] at this; omega
  refine ⟨fun j h h' => ?_, fun p h => ?_, ?_, fun c i j => ?_, fun c i j => ?_, fun d' h h' i c j => ?_⟩
  · rw [h₃.kept j h, h₂.kept j h, h₁.1 j h']
  · rw [h₃.other p h, h₂.other p h]
    exact prods_congr (h₁.1 .o (by decide)) p
  · rw [← h₁.2]
    exact (mags_congr (h₃.kept .am (by decide)) s).trans (mags_congr (h₂.kept .am (by decide)) s)
  · rw [h₃.rest _ hne, h₂.done c trivial i j]; rfl
  · rw [h₃.done c trivial i j]; rfl
  · rw [h₃.rest _ h', h₂.rest _ h, prods_congr (h₁.1 .o (by decide))]

/-! ## A position -/

/-- What quantising needs: the slot, the factors, the scales. -/
structure Ready (p : Fin 2) (σ : St F) : Prop where
  o : ∀ i c d j, prods σ p (place i c d j) = s.o i c (ix2 d j)
  q : ∀ i c, get (σ .q) (cell i c) = qAt X s i c
  sc : ∀ i c, get (σ .sc) (cell i c) = scAt X s i c

theorem Ready.congr {p : Fin 2} {σ σ' : St F} (h : Ready X s p σ) (ho : prods σ' p = prods σ p) (hq : σ' .q = σ .q) (hs : σ' .sc = σ .sc) : Ready X s p σ' :=
  ⟨fun i c d j => by rw [ho]; exact h.o i c d j, fun i c => by rw [hq]; exact h.q i c, fun i c => by rw [hs]; exact h.sc i c⟩

theorem Ready.group {p : Fin 2} {σ : St F} (h : Ready X s p σ) (i : Fin 16) (c : Fin 32) : get (prods σ p) (group i c) = s.o i c := by
  funext x
  show prods σ p _ = _
  rw [group_place]
  refine (h.o i c _ _).trans ?_
  congr 1
  funext a
  match a with
  | (0 : Fin 2) => rfl
  | (1 : Fin 2) => rfl

/-- After the codes `D` of position `i`. -/
structure CodesIn (σ₀ : St F) (i : Fin 16) (D : Fin 8 → Prop) (σ : St F) : Prop where
  kept : ∀ j, j ≠ .oc → σ j = σ₀ j
  done : ∀ g, D g → get (σ .oc) (codesBox i g) = codesAt X s i g
  rest : ∀ i', i ≠ i' → ∀ g, get (σ .oc) (codesBox i' g) = get (σ₀ .oc) (codesBox i' g)

theorem four_leads (σ₀ σ : St F) (p : Fin 2) (i : Fin 16) (g : Fin 8) (D : Fin 8 → Prop) (hr : Ready X s p σ₀) (h : CodesIn X s σ₀ i D σ) :
    Leads Name U Lvl defs 𝒱 c₀ bd Γ E B σ (four W p i g) (fourAt X s i g) (CodesIn X s σ₀ i fun x => x = g ∨ D x) := by
  have hr' := hr.congr (σ' := σ) X s (prods_congr (h.kept .o (by decide)) p) (h.kept .q (by decide)) (h.kept .sc (by decide))
  unfold four
  refine Leads.step (does_ldO σ p _ _) <| Leads.step (does_ld σ .q _ _) <| Leads.step (does_ld σ .sc _ _) <|
    Leads.step (does_ldO σ p _ _) <| Leads.step (does_ld σ .q _ _) <| Leads.step (does_ld σ .sc _ _) <|
    Leads.step (does_ldO σ p _ _) <| Leads.step (does_ld σ .q _ _) <| Leads.step (does_ld σ .sc _ _) <|
    Leads.step (does_ldO σ p _ _) <| Leads.step (does_ld σ .q _ _) <| Leads.step (does_ld σ .sc _ _) <|
    Leads.step (does_put σ _ _ _ _ _) ?_
  simp only [hr'.group X s, hr'.q, hr'.sc]
  refine Leads.ret ⟨fun j hj => ?_, fun g' hg => ?_, fun i' hi g' => ?_⟩
  · rw [setAt_of_ne _ hj]; exact h.kept j hj
  · rw [setAt_self]
    by_cases e : g' = g
    · subst e
      rw [get_put]; rfl
    · rw [get_put_apart _ _ _ _ _ (codes_apart_grp i (Ne.symm e))]
      exact h.done g' (hg.resolve_left e)
  · rw [setAt_self, get_put_apart _ _ _ _ _ (codes_apart_pos hi g g')]
    exact h.rest i' hi g'

/-- After position `i`. -/
structure QuantIn (σ₀ : St F) (i : Fin 16) (σ : St F) : Prop where
  kept : ∀ j, j ≠ .oc → j ≠ .os → σ j = σ₀ j
  oc : ∀ g, get (σ .oc) (codesBox i g) = codesAt X s i g
  os : get (σ .os) (slab 32 128 i) = shapeCast S1x32x128 (scalesAt X s i) shapeCasts_S32x128_S1x32x128
  ocRest : ∀ i', i ≠ i' → ∀ g, get (σ .oc) (codesBox i' g) = get (σ₀ .oc) (codesBox i' g)
  osRest : ∀ i', i ≠ i' → get (σ .os) (slab 32 128 i') = get (σ₀ .os) (slab 32 128 i')

theorem quantise_leads (σ₀ : St F) (p : Fin 2) (i : Fin 16) (hr : Ready X s p σ₀) :
    Leads Name U Lvl defs 𝒱 c₀ bd Γ E B σ₀ (quantise W p i) (stackAt X s i) (QuantIn X s σ₀ i) := by
  have hs : get (σ₀ .sc) (cells i) = scalesAt X s i := by
    funext x
    refine (cells_cell _ i x).trans ?_
    exact congrFun (hr.sc i (x (0 : Fin 2))) _
  unfold quantise
  refine Leads.step (does_ld σ₀ .sc _ _) <| Leads.step (does_put σ₀ _ _ _ _ _) ?_
  rw [hs]
  generalize hσ : setAt σ₀ .os (put (σ₀ .os) (slab 32 128 i) (shapeCast S1x32x128 (scalesAt X s i) shapeCasts_S32x128_S1x32x128)) = σ₁
  have hk : ∀ j, j ≠ .os → σ₁ j = σ₀ j := fun j hj => by rw [← hσ, setAt_of_ne _ hj]
  have hr₁ := hr.congr (σ' := σ₁) X s (prods_congr (hk .o (by decide)) p) (hk .q (by decide)) (hk .sc (by decide))
  refine Leads.bind (four_leads W X s σ₁ σ₁ p i 0 (fun _ => False) hr₁ ⟨fun _ _ => rfl, fun _ h => h.elim, fun _ _ _ => rfl⟩) fun _ h => ?_
  refine Leads.bind (four_leads W X s σ₁ _ p i 1 _ hr₁ h) fun _ h => ?_
  refine Leads.bind (four_leads W X s σ₁ _ p i 2 _ hr₁ h) fun _ h => ?_
  refine Leads.bind (four_leads W X s σ₁ _ p i 3 _ hr₁ h) fun _ h => ?_
  refine Leads.bind (four_leads W X s σ₁ _ p i 4 _ hr₁ h) fun _ h => ?_
  refine Leads.bind (four_leads W X s σ₁ _ p i 5 _ hr₁ h) fun _ h => ?_
  refine Leads.bind (four_leads W X s σ₁ _ p i 6 _ hr₁ h) fun _ h => ?_
  refine Leads.bind (four_leads W X s σ₁ _ p i 7 _ hr₁ h) fun σ h => ?_
  refine Leads.ret ⟨fun j h1 h2 => ?_, fun g => h.done g ?_, ?_, fun i' hi g => ?_, fun i' hi => ?_⟩
  · rw [h.kept j h1, hk j h2]
  · revert g; decide
  · rw [h.kept .os (by decide), ← hσ, setAt_self, get_put]
  · rw [h.rest i' hi g, hk .oc (by decide)]
  · rw [h.kept .os (by decide), ← hσ, setAt_self, get_slab_other 32 128 hi]

/-- The state after position `i`'s update by `x`. -/
theorem update_leads (σ₀ : St F) (i : Fin 16) (x : FVec F S128x128 .f32) (hz : σ₀ .z = X .z) (hw : σ₀ .wos = X .wos) (hb : σ₀ .bo = X .bo)
    (hg : σ₀ .lg = X .lg) (hl : σ₀ .lb = X .lb) :
    Leads Name U Lvl defs 𝒱 c₀ bd Γ E B σ₀ (update W i x) (three (normed (updAt X i x) (get (X .lg) (all2 128 128)) (get (X .lb) (all2 128 128))))
      fun σ => (∀ j, j ≠ .zo → σ j = σ₀ j) ∧ get (σ .zo) (slab 128 128 i) = stored (updAt X i x)
        ∧ ∀ i', i ≠ i' → get (σ .zo) (slab 128 128 i') = get (σ₀ .zo) (slab 128 128 i') := by
  unfold update
  refine Leads.step (does_ld σ₀ .z _ _) <| Leads.step (does_ld σ₀ .wos _ _) <| Leads.step (does_ld σ₀ .bo _ _) <|
    Leads.step (does_put σ₀ _ _ _ _ _) <| Leads.step (does_ld _ .lg _ _) <| Leads.step (does_ld _ .lb _ _) ?_
  rw [setAt_of_ne _ (by decide), setAt_of_ne _ (by decide), hz, hw, hb, hg, hl]
  refine Leads.ret ⟨fun j hj => setAt_of_ne _ hj _, ?_, fun i' hi => ?_⟩
  · rw [setAt_self, get_put]; rfl
  · rw [setAt_self, get_slab_other 128 128 hi]

/-! ## A block -/

/-- The operands. -/
def opnd : Arr → Bool
  | .at' | .bp | .bs | .as' | .rc | .z | .wo | .wos | .bo | .lg | .lb | .wpb => true
  | _ => false

/-- The arrays the blocks do not write. -/
def fixed : Arr → Bool
  | .oc | .os | .zo | .pb | .o | .am => false
  | _ => true

theorem opnd_fixed : ∀ j, opnd j = true → fixed j = true := by intro j; cases j <;> decide

/-- After `n` blocks. -/
structure At (c p : Fin 2) (n : Nat) (σ : St F) : Prop where
  ops : ∀ j, opnd j = true → σ j = X j
  ready : Ready X s p σ
  am : ∀ m, m + 1 = 2 * n → ∀ h, mags σ c = largest X m h
  cols : ∀ d : Fin 32, d.val < 4 * n → ∀ i c' j, prods σ c (place i c' d j) = column X d (ix2 (⟨16 * c'.val + i.val, by omega⟩ : Fin 512) j)
  oc : ∀ i : Fin 16, i.val < 2 * n → ∀ g, get (σ .oc) (codesBox i g) = codesAt X s i g
  os : ∀ i : Fin 16, i.val < 2 * n → get (σ .os) (slab 32 128 i) = shapeCast S1x32x128 (scalesAt X s i) shapeCasts_S32x128_S1x32x128
  zo : ∀ i : Fin 16, i.val < 2 * n → get (σ .zo) (slab 128 128 i) = storedAt X s i
  pb : ∀ i : Fin 16, i.val < 2 * n → get (σ .pb) (logitsBox i) = logitsAt X s i

theorem ops_of {σ σ' : St F} {P : Arr → Prop} (h : ∀ j, opnd j = true → σ j = X j) (hp : ∀ j, opnd j = true → P j) (k : ∀ j, P j → σ' j = σ j) :
    ∀ j, opnd j = true → σ' j = X j := fun j hj => (k j (hp j hj)).trans (h j hj)

theorem opnd_ne {j k : Arr} (h : opnd j = true) (hk : opnd k = false) : j ≠ k := fun e => by rw [e, hk] at h; exact absurd h (by decide)

theorem block_leads (c p : Fin 2) (hcp : c ≠ p) (k : Fin 8) (σ₀ : St F) (h : At X s c p k.val σ₀) :
    Leads Name U Lvl defs 𝒱 c₀ bd Γ E B σ₀ (block W c p (theRows X) k) ⟨⟩ (At X s c p (k.val + 1)) := by
  have hk := k.isLt
  have lohi : lo k ≠ hi k := fun e => by have := congrArg Fin.val e; simp only [lo, hi] at this; omega
  unfold block
  refine Leads.bind (pair_leads X σ₀ c (lo k) (h.ops _ rfl) (h.ops _ rfl) fun n hn => h.am n hn) fun σa a => ?_
  have oa : ∀ j, opnd j = true → σa j = X j := fun j hj => (a.kept j (opnd_ne hj rfl) (opnd_ne hj rfl)).trans (h.ops j hj)
  have ra : Ready X s p σa := h.ready.congr X s (a.other p hcp) (a.kept .q (by decide) (by decide)) (a.kept .sc (by decide) (by decide))
  refine Leads.bind (pair_leads X σa c (hi k) (oa _ rfl) (oa _ rfl) fun n hn hl => a.am.trans (by congr 1; show 2 * k.val = n; exact (Nat.succ.inj hn).symm)) fun σb b => ?_
  have ob : ∀ j, opnd j = true → σb j = X j := fun j hj => (b.kept j (opnd_ne hj rfl) (opnd_ne hj rfl)).trans (oa j hj)
  have rb : Ready X s p σb := ra.congr X s (b.other p hcp) (b.kept .q (by decide) (by decide)) (b.kept .sc (by decide) (by decide))
  refine Leads.bind (quantise_leads W X s σb p (lo k) rb) fun σc q => ?_
  have oc : ∀ j, opnd j = true → σc j = X j := fun j hj => (q.kept j (opnd_ne hj rfl) (opnd_ne hj rfl)).trans (ob j hj)
  have rc : Ready X s p σc := rb.congr X s (prods_congr (q.kept .o (by decide) (by decide)) p) (q.kept .q (by decide) (by decide)) (q.kept .sc (by decide) (by decide))
  refine Leads.bind (quantise_leads W X s σc p (hi k) rc) fun σd r => ?_
  have od : ∀ j, opnd j = true → σd j = X j := fun j hj => (r.kept j (opnd_ne hj rfl) (opnd_ne hj rfl)).trans (oc j hj)
  refine Leads.step (does_ld σd .wo _ _) ?_
  rw [od .wo rfl]
  refine Leads.bind (update_leads W X σd (lo k) _ (od _ rfl) (od _ rfl) (od _ rfl) (od _ rfl) (od _ rfl)) fun σe u => ?_
  have oe : ∀ j, opnd j = true → σe j = X j := fun j hj => (u.1 j (opnd_ne hj rfl)).trans (od j hj)
  refine Leads.bind (update_leads W X σe (hi k) _ (oe _ rfl) (oe _ rfl) (oe _ rfl) (oe _ rfl) (oe _ rfl)) fun σf v => ?_
  have of : ∀ j, opnd j = true → σf j = X j := fun j hj => (v.1 j (opnd_ne hj rfl)).trans (oe j hj)
  refine Leads.step (does_ld σf .wpb _ _) <| Leads.step (does_put σf _ _ _ _ _) <| Leads.of (does_put _ _ _ _ _ _) ?_
  rw [of .wpb rfl]
  generalize hL : leftLogits _ = L
  generalize hR : rightLogits _ = R
  have eL : L = logitsAt X s (lo k) := by
    rw [← hL, logitsAt_lo]; unfold logitsOf threeAt; rw [halfAt_lo, halfAt_hi]; rfl
  have eR : R = logitsAt X s (hi k) := by
    rw [← hR, logitsAt_hi]; unfold logitsOf threeAt; rw [halfAt_lo, halfAt_hi]; rfl
  rw [eL, eR]
  -- the arrays other than the logits are as after the updates
  have fin : ∀ j, j ≠ .pb → setAt (setAt σf .pb (put (σf .pb) (logitsBox (lo k)) (logitsAt X s (lo k)))) .pb
      (put ((setAt σf .pb (put (σf .pb) (logitsBox (lo k)) (logitsAt X s (lo k)))) .pb) (logitsBox (hi k)) (logitsAt X s (hi k))) j = σf j :=
    fun j hj => (setAt_of_ne _ hj _).trans (setAt_of_ne _ hj _)
  have epb : ∀ j, j ≠ .oc → j ≠ .os → j ≠ .zo → σf j = σb j := fun j h1 h2 h3 => by rw [v.1 j h3, u.1 j h3, r.kept j h1 h2, q.kept j h1 h2]
  have split : ∀ i : Fin 16, i.val < 2 * (k.val + 1) → i = lo k ∨ i = hi k ∨ (i.val < 2 * k.val ∧ lo k ≠ i ∧ hi k ≠ i) := fun i hi' => by
    rcases Nat.lt_or_ge i.val (2 * k.val) with h1 | h1
    · exact .inr (.inr ⟨h1, fun e => by have := congrArg Fin.val e; simp only [lo] at this; omega, fun e => by have := congrArg Fin.val e; simp only [hi] at this; omega⟩)
    · rcases Nat.eq_or_lt_of_le h1 with h2 | h2
      · exact .inl (Fin.ext h2.symm)
      · exact .inr (.inl (Fin.ext (by show i.val = 2 * k.val + 1; omega)))
  refine ⟨fun j hj => (fin j (opnd_ne hj rfl)).trans (of j hj), ?_, fun m hm hl => ?_, fun d hd i c' j => ?_, fun i hi' g => ?_, fun i hi' => ?_, fun i hi' => ?_, fun i hi' => ?_⟩
  · refine rb.congr X s (prods_congr ((fin .o (by decide)).trans (epb .o (by decide) (by decide) (by decide))) p) ?_ ?_
    · exact (fin .q (by decide)).trans (epb .q (by decide) (by decide) (by decide))
    · exact (fin .sc (by decide)).trans (epb .sc (by decide) (by decide) (by decide))
  · refine (mags_congr ((fin .am (by decide)).trans (epb .am (by decide) (by decide) (by decide))) c).trans (b.am.trans ?_)
    congr 1
    show 2 * k.val + 1 = m; omega
  · rw [prods_congr ((fin .o (by decide)).trans (epb .o (by decide) (by decide) (by decide))) c]
    have hd' := d.isLt
    by_cases e1 : d = odd (hi k)
    · rw [e1, column_odd]; exact b.odd c' i j
    by_cases e2 : d = even (hi k)
    · rw [e2, column_even]; exact b.even c' i j
    rw [b.rest d e2 e1]
    by_cases e3 : d = odd (lo k)
    · rw [e3, column_odd]; exact a.odd c' i j
    by_cases e4 : d = even (lo k)
    · rw [e4, column_even]; exact a.even c' i j
    rw [a.rest d e4 e3]
    refine h.cols d ?_ i c' j
    have n1 : d.val ≠ 2 * (2 * k.val + 1) + 1 := fun e => e1 (Fin.ext e)
    have n2 : d.val ≠ 2 * (2 * k.val + 1) := fun e => e2 (Fin.ext e)
    have n3 : d.val ≠ 2 * (2 * k.val) + 1 := fun e => e3 (Fin.ext e)
    have n4 : d.val ≠ 2 * (2 * k.val) := fun e => e4 (Fin.ext e)
    omega
  · rw [fin .oc (by decide), v.1 .oc (by decide), u.1 .oc (by decide)]
    rcases split i hi' with rfl | rfl | ⟨h1, h2, h3⟩
    · rw [r.ocRest _ lohi.symm]; exact q.oc g
    · exact r.oc g
    · rw [r.ocRest _ h3, q.ocRest _ h2, b.kept .oc (by decide) (by decide), a.kept .oc (by decide) (by decide)]; exact h.oc i h1 g
  · rw [fin .os (by decide), v.1 .os (by decide), u.1 .os (by decide)]
    rcases split i hi' with rfl | rfl | ⟨h1, h2, h3⟩
    · rw [r.osRest _ lohi.symm]; exact q.os
    · exact r.os
    · rw [r.osRest _ h3, q.osRest _ h2, b.kept .os (by decide) (by decide), a.kept .os (by decide) (by decide)]; exact h.os i h1
  · rw [fin .zo (by decide)]
    rcases split i hi' with rfl | rfl | ⟨h1, h2, h3⟩
    · rw [v.2.2 _ lohi.symm, u.2.1]; unfold storedAt; rw [halfAt_lo]; rfl
    · rw [v.2.1]; unfold storedAt; rw [halfAt_hi]; rfl
    · rw [v.2.2 _ h3, u.2.2 _ h2, r.kept .zo (by decide) (by decide), q.kept .zo (by decide) (by decide),
        b.kept .zo (by decide) (by decide), a.kept .zo (by decide) (by decide)]; exact h.zo i h1
  · rw [setAt_self, setAt_self]
    rcases split i hi' with rfl | rfl | ⟨h1, h2, h3⟩
    · rw [get_put_apart _ _ _ _ _ (logitsBox_apart lohi.symm), get_put]
    · rw [get_put]
    · rw [get_put_apart _ _ _ _ _ (logitsBox_apart h3), get_put_apart _ _ _ _ _ (logitsBox_apart h2), epb .pb (by decide) (by decide) (by decide),
        b.kept .pb (by decide) (by decide), a.kept .pb (by decide) (by decide)]; exact h.pb i h1

/-! ## A step -/

/-- A step's codes. -/
def allCodes : FVec F S16x128x1024 .fp8e4m3 := fun y =>
  codesAt X s (y (0 : Fin 3)) ⟨(y (2 : Fin 3)).val / 128, by have := (y (2 : Fin 3)).isLt; change _ < 1024 at this; omega⟩
    (ix3 (0 : Fin 1) (y (1 : Fin 3)) (⟨(y (2 : Fin 3)).val % 128, Nat.mod_lt _ (by decide)⟩ : Fin 128))
/-- A step's scales. -/
def allScales : FVec F S16x32x128 .f32 := fun y => scalesAt X s (y (0 : Fin 3)) (ix2 (y (1 : Fin 3)) (y (2 : Fin 3)))
/-- A step's updates. -/
def allStored : FVec F S16x128x128 .bf16 := fun y => storedAt X s (y (0 : Fin 3)) (ix3 (0 : Fin 1) (y (1 : Fin 3)) (y (2 : Fin 3)))
/-- A step's logits. -/
def allLogits : FVec F S8x16x128 .f32 := fun y => logitsAt X s (y (1 : Fin 3)) (ix3 (y (0 : Fin 3)) (0 : Fin 1) (y (2 : Fin 3)))

theorem emb3 {L M N : Nat} (r : Rect ⟨3, ![L, M, N]⟩) (x : r.shape.Idx) (y : (⟨3, ![L, M, N]⟩ : Shape).Idx) (h0 : (r.emb x (0 : Fin 3) : Nat) = (y (0 : Fin 3) : Nat))
    (h1 : (r.emb x (1 : Fin 3) : Nat) = (y (1 : Fin 3) : Nat)) (h2 : (r.emb x (2 : Fin 3) : Nat) = (y (2 : Fin 3) : Nat)) : r.emb x = y :=
  funext fun | (0 : Fin 3) => Fin.ext h0 | (1 : Fin 3) => Fin.ext h1 | (2 : Fin 3) => Fin.ext h2

/-- What a step ends at. -/
structure Done (c : Fin 2) (σ : St F) : Prop where
  ops : ∀ j, opnd j = true → σ j = X j
  oc : σ .oc = allCodes X s
  os : σ .os = allScales X s
  zo : σ .zo = allStored X s
  pb : σ .pb = allLogits X s
  slot : (Slot.filled X).In σ c

theorem done_of {c p : Fin 2} {σ : St F} (h : At X s c p 8 σ) : Done X s c σ := by
  refine ⟨h.ops, ?_, ?_, ?_, ?_, ⟨fun i c' d j => ?_, h.am 15 rfl (by omega)⟩⟩
  · funext y
    have hy : (y (0 : Fin 3)).val < 16 := (y (0 : Fin 3)).isLt
    have hy2 : (y (2 : Fin 3)).val < 1024 := (y (2 : Fin 3)).isLt
    have e := congrFun (h.oc (y (0 : Fin 3)) (by omega) ⟨(y (2 : Fin 3)).val / 128, by omega⟩)
      (ix3 (0 : Fin 1) (y (1 : Fin 3)) (⟨(y (2 : Fin 3)).val % 128, Nat.mod_lt _ (by decide)⟩ : Fin 128))
    refine Eq.trans ?_ e
    show σ .oc y = σ .oc _
    congr 1
    refine (emb3 _ _ _ ?_ ?_ ?_).symm
    · show (y (0 : Fin 3)).val + 1 * 0 = (y (0 : Fin 3)).val; omega
    · show 0 + 1 * (y (1 : Fin 3)).val = (y (1 : Fin 3)).val; omega
    · show 128 * ((y (2 : Fin 3)).val / 128) + 1 * ((y (2 : Fin 3)).val % 128) = (y (2 : Fin 3)).val; omega
  · funext y
    have hy : (y (0 : Fin 3)).val < 16 := (y (0 : Fin 3)).isLt
    have e := congrFun (h.os (y (0 : Fin 3)) (by omega)) (ix3 (0 : Fin 1) (y (1 : Fin 3)) (y (2 : Fin 3)))
    refine Eq.trans ?_ (e.trans ?_)
    · show σ .os y = σ .os _
      congr 1
      refine (emb3 _ _ _ ?_ ?_ ?_).symm
      · show (y (0 : Fin 3)).val + 1 * 0 = (y (0 : Fin 3)).val; omega
      · show 0 + 1 * (y (1 : Fin 3)).val = (y (1 : Fin 3)).val; omega
      · show 0 + 1 * (y (2 : Fin 3)).val = (y (2 : Fin 3)).val; omega
    · refine (shapeCast_addUnit_apply _ _ _ _).trans ?_
      show scalesAt X s _ _ = scalesAt X s _ _
      congr 1
      funext a
      match a with
      | (0 : Fin 2) => rfl
      | (1 : Fin 2) => rfl
  · funext y
    have hy : (y (0 : Fin 3)).val < 16 := (y (0 : Fin 3)).isLt
    have e := congrFun (h.zo (y (0 : Fin 3)) (by omega)) (ix3 (0 : Fin 1) (y (1 : Fin 3)) (y (2 : Fin 3)))
    refine Eq.trans ?_ e
    show σ .zo y = σ .zo _
    congr 1
    refine (emb3 _ _ _ ?_ ?_ ?_).symm
    · show (y (0 : Fin 3)).val + 1 * 0 = (y (0 : Fin 3)).val; omega
    · show 0 + 1 * (y (1 : Fin 3)).val = (y (1 : Fin 3)).val; omega
    · show 0 + 1 * (y (2 : Fin 3)).val = (y (2 : Fin 3)).val; omega
  · funext y
    have hy : (y (1 : Fin 3)).val < 16 := (y (1 : Fin 3)).isLt
    have e := congrFun (h.pb (y (1 : Fin 3)) (by omega)) (ix3 (y (0 : Fin 3)) (0 : Fin 1) (y (2 : Fin 3)))
    refine Eq.trans ?_ e
    show σ .pb y = σ .pb _
    congr 1
    refine (emb3 _ _ _ ?_ ?_ ?_).symm
    · show 0 + 1 * (y (0 : Fin 3)).val = (y (0 : Fin 3)).val; omega
    · show (y (1 : Fin 3)).val + 1 * 0 = (y (1 : Fin 3)).val; omega
    · show 0 + 1 * (y (2 : Fin 3)).val = (y (2 : Fin 3)).val; omega
  · have hd := d.isLt
    exact h.cols d (by omega) i c' j

theorem rest_leads (c p : Fin 2) (hcp : c ≠ p) (σ₀ : St F) (hX : ∀ j, opnd j = true → σ₀ j = X j) (h : s.In σ₀ p) :
    Leads Name U Lvl defs 𝒱 c₀ bd Γ E B σ₀ (rest W c p) ⟨⟩ (Done X s c) := by
  unfold rest
  refine Leads.step (does_ld σ₀ .at' _ _) <| Leads.step (does_ld σ₀ .rc _ _) <| Leads.step (does_ld σ₀ .as' _ _) ?_
  rw [hX .at' rfl, hX .rc rfl, hX .as' rfl]
  refine Leads.bind (scales_leads X s σ₀ p h) fun σ₁ h₁ => ?_
  have a₁ : At X s c p 0 σ₁ := ⟨fun j hj => (h₁.1 j (opnd_ne hj rfl) (opnd_ne hj rfl)).trans (hX j hj),
    ⟨fun i c' d j => (congrFun (prods_congr (h₁.1 .o (by decide) (by decide)) p) _).trans (h.o i c' d j), h₁.2.1, h₁.2.2⟩,
    fun m hm => absurd hm (by omega), fun d hd => absurd hd (by omega), fun i hi => absurd hi (by omega), fun i hi => absurd hi (by omega),
    fun i hi => absurd hi (by omega), fun i hi => absurd hi (by omega)⟩
  refine Leads.bind (block_leads W X s c p hcp 0 _ a₁) fun _ a => ?_
  refine Leads.bind (block_leads W X s c p hcp 1 _ a) fun _ a => ?_
  refine Leads.bind (block_leads W X s c p hcp 2 _ a) fun _ a => ?_
  refine Leads.bind (block_leads W X s c p hcp 3 _ a) fun _ a => ?_
  refine Leads.bind (block_leads W X s c p hcp 4 _ a) fun _ a => ?_
  refine Leads.bind (block_leads W X s c p hcp 5 _ a) fun _ a => ?_
  refine Leads.bind (block_leads W X s c p hcp 6 _ a) fun _ a => ?_
  refine Leads.bind (block_leads W X s c p hcp 7 _ a) fun _ a => ?_
  exact Leads.ret (done_of X s a)

theorem zeros_leads (p : Fin 2) (σ₀ : St F) : Leads Name U Lvl defs 𝒱 c₀ bd Γ E B σ₀ (zeros B p) ⟨⟩
    fun σ => (∀ j, j ≠ .o → j ≠ .am → σ j = σ₀ j) ∧ (Slot.zero (F := F)).In σ p := by
  refine Leads.of (Does.bind (does_put σ₀ _ _ _ _ _) (does_put _ _ _ _ _ _)) ⟨fun j h h' => ?_, ⟨fun i c d j => ?_, ?_⟩⟩
  · rw [setAt_of_ne _ h', setAt_of_ne _ h]
  · unfold prods
    rw [setAt_of_ne _ (by decide), setAt_self, get_put]
    rfl
  · unfold mags
    rw [setAt_self, get_put]
    rfl

/-- A step: from the operands and the slot the step before filled, its results and the slot it fills. -/
theorem body_leads (w : BitVec 1) (c p : Fin 2) (hcp : c ≠ p) (σ₀ : St F) (hX : ∀ j, opnd j = true → σ₀ j = X j) (hz : w = 1#1 → s = Slot.zero)
    (hs : w ≠ 1#1 → s.In σ₀ p) : Leads Name U Lvl defs 𝒱 c₀ bd Γ E B σ₀ (body W w c p) ⟨⟩ (Done X s c) := by
  unfold body
  by_cases h : w = 1#1
  · rw [start_pos h]
    refine Leads.bind (zeros_leads p σ₀) fun σ₁ h₁ => ?_
    rw [hz h]
    exact rest_leads W X Slot.zero c p hcp σ₁ (fun j hj => (h₁.1 j (opnd_ne hj rfl) (opnd_ne hj rfl)).trans (hX j hj)) h₁.2
  · rw [start_neg h]
    exact Leads.step (Does.ret σ₀ _) (rest_leads W X s c p hcp σ₀ hX (hs h))

end Parts

end Cert.Outer
-- ==== Proof.OpmWhole.lean ====
/-
  The arrays of a step, one by one.
-/
module

public import proofs.«01_k».proof.Proof.OpmDoes
public import Idealize.ShloMosaic.Lib.Pipeline.Kit

@[expose] public section

noncomputable section

namespace Cert.Outer

open Idealize.ShloMosaic Idealize.ShloMosaic.TcCoe
open Idealize.SL Idealize.SL.RA Idealize.SL.BI
open scoped Idealize.SL.BI
open Idealize.SL.BI.BIBase Idealize.SL.Sem
open Cert.Pwa (Bank held)

variable {nD : Nat} {τ : Topo} {sig : RefSig} {F : FTy → Type}
variable {Ix : Type} [DecidableEq Ix] {Name : Type} [DecidableEq Name] {U : Type} [URA U] {Lvl : Type}

theorem held_eq (c : Dev nD) (B : Bank sig Arr.shape Arr.elt) (σ : St F) :
    (held c B σ : sProp (MT nD τ sig Ix (Elt F) Name U Lvl)) = iprop(owns (c : Thread nD τ) (B .at') fullShare (σ .at') ∗ owns (c : Thread nD τ) (B .bp) fullShare (σ .bp) ∗ owns (c : Thread nD τ) (B .bs) fullShare (σ .bs) ∗ owns (c : Thread nD τ) (B .as') fullShare (σ .as') ∗ owns (c : Thread nD τ) (B .rc) fullShare (σ .rc) ∗ owns (c : Thread nD τ) (B .z) fullShare (σ .z) ∗ owns (c : Thread nD τ) (B .wo) fullShare (σ .wo) ∗ owns (c : Thread nD τ) (B .wos) fullShare (σ .wos) ∗ owns (c : Thread nD τ) (B .bo) fullShare (σ .bo) ∗ owns (c : Thread nD τ) (B .lg) fullShare (σ .lg) ∗ owns (c : Thread nD τ) (B .lb) fullShare (σ .lb) ∗ owns (c : Thread nD τ) (B .wpb) fullShare (σ .wpb) ∗ owns (c : Thread nD τ) (B .oc) fullShare (σ .oc) ∗ owns (c : Thread nD τ) (B .os) fullShare (σ .os) ∗ owns (c : Thread nD τ) (B .zo) fullShare (σ .zo) ∗ owns (c : Thread nD τ) (B .pb) fullShare (σ .pb) ∗ owns (c : Thread nD τ) (B .o) fullShare (σ .o) ∗ owns (c : Thread nD τ) (B .am) fullShare (σ .am) ∗ owns (c : Thread nD τ) (B .q) fullShare (σ .q) ∗ owns (c : Thread nD τ) (B .sc) fullShare (σ .sc)) := by
  unfold held
  exact bigSep_univ_eq_bigSepL [Arr.at', Arr.bp, Arr.bs, Arr.as', Arr.rc, Arr.z, Arr.wo, Arr.wos, Arr.bo, Arr.lg, Arr.lb, Arr.wpb, Arr.oc, Arr.os, Arr.zo, Arr.pb, Arr.o, Arr.am, Arr.q, Arr.sc] (by decide) (by decide) fun j => owns (c : Thread nD τ) (B j) fullShare (σ j)

end Cert.Outer

end
-- ==== Proof.OpmRunK.lean ====
/-
  The run of `Opm`: what each step finds and leaves, from the structured body, and the pipeline's run from it.
-/
module

public import proofs.«01_k».proof.Proof.Gen.Opm.Frame
public import proofs.«01_k».proof.Proof.OpmBodyK
public import proofs.«01_k».proof.Proof.OpmWhole
public import proofs.«01_k».proof.Proof.Gen.Opm

@[expose] public section

set_option maxRecDepth 16384

noncomputable section

namespace Cert.Opm.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Opm Cert.Opm.Gen Cert.Outer
open Cert.Pwa (Bank Store Does held)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The slots of a step -/

theorem cond_iff : ∀ t : Fin cfg0.N, k0_cond1 (grid0.coords t) = 1#1 ↔ t.val = 0 :=
  (by decide +kernel : ∀ t : Fin grid0.N, k0_cond1 (grid0.coords t) = 1#1 ↔ t.val = 0)
theorem cur_val : ∀ t : Fin cfg0.N, (cur (grid0.coords t)).val = t.val % 2 :=
  (by decide +kernel : ∀ t : Fin grid0.N, k0_off5 (grid0.coords t) 0 = t.val % 2)
theorem prev_val : ∀ t : Fin cfg0.N, (prev (grid0.coords t)).val = 1 - t.val % 2 :=
  (by decide +kernel : ∀ t : Fin grid0.N, k0_off6 (grid0.coords t) 0 = 1 - t.val % 2)

/-- The operands of step `t`. -/
def opsAt (c : Dev nD) (t : Fin cfg0.N) : St F
  | .at' => iblk m c 0 t
  | .bp => iblk m c 1 t
  | .bs => iblk m c 2 t
  | .as' => iblk m c 3 t
  | .rc => iblk m c 4 t
  | .z => iblk m c 5 t
  | .wo => iblk m c 6 t
  | .wos => iblk m c 7 t
  | .bo => iblk m c 8 t
  | .lg => iblk m c 9 t
  | .lb => iblk m c 10 t
  | .wpb => iblk m c 11 t
  | _ => fun _ => Classical.arbitrary _

/-- What step `t` leaves in the slot it fills. -/
def slotAt (c : Dev nD) (t : Fin cfg0.N) : Slot F := Slot.filled (opsAt m c t)

/-- What step `t` finds in the slot it reads: zeros at the first step, what the step before left at the others. -/
def slotBefore (c : Dev nD) (t : Fin cfg0.N) : Slot F :=
  if t.val = 0 then Slot.zero else slotAt m c ⟨t.val - 1, lt_of_le_of_lt (Nat.sub_le _ _) t.isLt⟩

/-- The body's invariant before step `n`: the scratch arrays at contents in which the slot the step before filled is as it left it. -/
def Inv (c : Dev nD) (n : Nat) : sProp 𝕄 :=
  iprop(∃ σ : St F, ⌜∀ t : Fin cfg0.N, t.val + 1 = n → (slotAt m c t).In σ (cur (grid0.coords t))⌝
    ∗ (owns (c : Thread nD τ) (Memref.whole cc0_scratch0) fullShare (σ .o) ∗ owns (c : Thread nD τ) (Memref.whole cc0_scratch1) fullShare (σ .am) ∗ owns (c : Thread nD τ) (Memref.whole cc0_scratch2) fullShare (σ .q) ∗ owns (c : Thread nD τ) (Memref.whole cc0_scratch3) fullShare (σ .sc)) ∗ ∃ r, prngReg c r)

/-! ## The pipeline's proof data -/

/-- The proof data: the arrays as the region finds them; after step `t` each input's buffer at its block, each output's at what
    the step computes from the blocks and the slot it reads. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => allCodes (opsAt m c t) (slotBefore m c t)
    | ⟨13, _⟩ => allScales (opsAt m c t) (slotBefore m c t)
    | ⟨14, _⟩ => allStored (opsAt m c t) (slotBefore m c t)
    | ⟨15, _⟩ => allLogits (opsAt m c t) (slotBefore m c t)
    | ⟨_ + 16, h⟩ => absurd h (Nat.not_lt.2 (Nat.le_add_left _ _))
  Φ n := Inv m c n.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = allCodes (opsAt m c t) (slotBefore m c t) := by dsimp only [dats]
theorem after_13 (c : Dev nD) (t : Fin cfg0.N) : (dats m 0 c).after 13 t = allScales (opsAt m c t) (slotBefore m c t) := by dsimp only [dats]
theorem after_14 (c : Dev nD) (t : Fin cfg0.N) : (dats m 0 c).after 14 t = allStored (opsAt m c t) (slotBefore m c t) := by dsimp only [dats]
theorem after_15 (c : Dev nD) (t : Fin cfg0.N) : (dats m 0 c).after 15 t = allLogits (opsAt m c t) (slotBefore m c t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d

/-! ## The body obligation -/

/-- The arrays of step `t`. -/
abbrev bankAt (t : Fin cfg0.N) : Bank sig Arr.shape Arr.elt := bank (st0_0 t) (st0_1 t) (st0_2 t) (st0_3 t) (st0_4 t) (st0_5 t) (st0_6 t) (st0_7 t) (st0_8 t) (st0_9 t) (st0_10 t) (st0_11 t) (st0_12 t) (st0_13 t) (st0_14 t) (st0_15 t) (Memref.whole cc0_scratch0) (Memref.whole cc0_scratch1) (Memref.whole cc0_scratch2) (Memref.whole cc0_scratch3)

theorem bodyAt_eq (t : Fin cfg0.N) : bodyAt0 (F := F) t = Cert.Outer.body (B := bankAt t) (bank_whole (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (st0_14 t) (hstage0_14 ((cfg0.slots t 14).cast nbuf0_14)) (st0_15 t) (hstage0_15 ((cfg0.slots t 15).cast nbuf0_15)) (Memref.whole cc0_scratch0) (Memref.isWhole_whole _) (Memref.whole cc0_scratch1) (Memref.isWhole_whole _) (Memref.whole cc0_scratch2) (Memref.isWhole_whole _) (Memref.whole cc0_scratch3) (Memref.isWhole_whole _))
    (k0_cond1 (grid0.coords t)) (cur (grid0.coords t)) (prev (grid0.coords t)) := body_eq ..

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t))

/-- The contents a step starts from. -/
def startAt (c : Dev nD) (t : Fin cfg0.N) (X12 : (Arr.shape .oc).Idx → Elt F (Arr.elt .oc)) (X13 : (Arr.shape .os).Idx → Elt F (Arr.elt .os)) (X14 : (Arr.shape .zo).Idx → Elt F (Arr.elt .zo)) (X15 : (Arr.shape .pb).Idx → Elt F (Arr.elt .pb)) (σ : St F) : St F
  | .at' => iblk m c 0 t
  | .bp => iblk m c 1 t
  | .bs => iblk m c 2 t
  | .as' => iblk m c 3 t
  | .rc => iblk m c 4 t
  | .z => iblk m c 5 t
  | .wo => iblk m c 6 t
  | .wos => iblk m c 7 t
  | .bo => iblk m c 8 t
  | .lg => iblk m c 9 t
  | .lb => iblk m c 10 t
  | .wpb => iblk m c 11 t
  | .oc => X12
  | .os => X13
  | .zo => X14
  | .pb => X15
  | .o => σ .o
  | .am => σ .am
  | .q => σ .q
  | .sc => σ .sc

theorem slotBefore_zero (c : Dev nD) (t : Fin cfg0.N) (h : k0_cond1 (grid0.coords t) = 1#1) : slotBefore m c t = Slot.zero :=
  if_pos ((cond_iff t).1 h)

theorem slotBefore_in (c : Dev nD) (t : Fin cfg0.N) (h : k0_cond1 (grid0.coords t) ≠ 1#1) (σ : St F)
    (hσ : ∀ t' : Fin cfg0.N, t'.val + 1 = t.val → (slotAt m c t').In σ (cur (grid0.coords t'))) : (slotBefore m c t).In σ (prev (grid0.coords t)) := by
  have h0 : t.val ≠ 0 := fun e => h ((cond_iff t).2 e)
  have e := hσ ⟨t.val - 1, lt_of_le_of_lt (Nat.sub_le _ _) t.isLt⟩ (by show t.val - 1 + 1 = t.val; omega)
  have ep : cur (grid0.coords ⟨t.val - 1, lt_of_le_of_lt (Nat.sub_le _ _) t.isLt⟩) = prev (grid0.coords t) := by
    refine Fin.ext ?_
    rw [prev_val]
    refine (cur_val _).trans ?_
    show (t.val - 1) % 2 = 1 - t.val % 2
    omega
  rw [ep] at e
  unfold slotBefore
  rw [if_neg h0]
  exact e

theorem slots_ne (t : Fin cfg0.N) : cur (grid0.coords t) ≠ prev (grid0.coords t) := fun e => by
  have h := congrArg Fin.val e
  rw [cur_val, prev_val] at h
  omega

/-- Step `t`, from any contents of its results. -/
theorem step_run (c : Dev nD) (t : Fin cfg0.N) (X12 : (Arr.shape .oc).Idx → Elt F (Arr.elt .oc)) (X13 : (Arr.shape .os).Idx → Elt F (Arr.elt .os)) (X14 : (Arr.shape .zo).Idx → Elt F (Arr.elt .zo)) (X15 : (Arr.shape .pb).Idx → Elt F (Arr.elt .pb))
    (σ : St F) (hσ : ∀ t' : Fin cfg0.N, t'.val + 1 = t.val → (slotAt m c t').In σ (cur (grid0.coords t'))) :
    ∃ σ' : St F, Does ℕ (UR sig nD τ) ℕ (Ix := Unit) (defs₀ (F := F)) Variants.none c none .empty Set.univ (bankAt t) (startAt m c t X12 X13 X14 X15 σ) (bodyAt0 t) ⟨⟩ σ'
      ∧ Done (opsAt m c t) (slotBefore m c t) (cur (grid0.coords t)) σ' := by
  rw [bodyAt_eq]
  exact body_leads (nD := nD) (τ := τ) (sig := sig) (Λ := Λ₀) (Ix := Unit) (Name := ℕ) (U := UR sig nD τ) (Lvl := ℕ) (defs := defs₀ (F := F)) (𝒱 := Variants.none) (c₀ := c) (bd := none) (Γ := .empty) (E := Set.univ)
      (B := bankAt t) (bank_whole (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (st0_14 t) (hstage0_14 ((cfg0.slots t 14).cast nbuf0_14)) (st0_15 t) (hstage0_15 ((cfg0.slots t 15).cast nbuf0_15)) (Memref.whole cc0_scratch0) (Memref.isWhole_whole _) (Memref.whole cc0_scratch1) (Memref.isWhole_whole _) (Memref.whole cc0_scratch2) (Memref.isWhole_whole _) (Memref.whole cc0_scratch3) (Memref.isWhole_whole _))
      (opsAt m c t) (slotBefore m c t) (k0_cond1 (grid0.coords t)) (cur (grid0.coords t)) (prev (grid0.coords t)) (slots_ne t)
      (startAt m c t X12 X13 X14 X15 σ) (fun j hj => by cases j <;> first | rfl | exact absurd hj (by decide)) (slotBefore_zero m c t)
      (fun h => let h' := slotBefore_in m c t h σ hσ; ⟨h'.o, h'.am⟩)

set_option maxHeartbeats 1000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before_0, before_1, before_2, before_3, before_4, before_5, before_6, before_7, before_8, before_9, before_10, before_11]
  rw [show (dats m 0 c).Φ t.castSucc = Inv m c t.val from rfl, show (dats m 0 c).Φ t.succ = Inv m c (t.val + 1) from rfl,
    show (dats m 0 c).owesAt () t.succ = (dats m 0 c).owesAt () t.castSucc from rfl,
    after_0, after_1, after_2, after_3, after_4, after_5, after_6, after_7, after_8, after_9, after_10, after_11, after_12, after_13, after_14, after_15]
  unfold Inv
  iintro ⟨⟨%σ, %hσ, ⟨S0, S1, S2, S3⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  obtain ⟨σ', hdo, ⟨hops, e_oc, e_os, e_zo, e_pb, hin⟩⟩ :=
    step_run m c t ((dats m 0 c).before 12 t d12) ((dats m 0 c).before 13 t d13) ((dats m 0 c).before 14 t d14) ((dats m 0 c).before 15 t d15) σ hσ
  have e0 : σ' .at' = iblk m c 0 t := hops .at' rfl
  have e1 : σ' .bp = iblk m c 1 t := hops .bp rfl
  have e2 : σ' .bs = iblk m c 2 t := hops .bs rfl
  have e3 : σ' .as' = iblk m c 3 t := hops .as' rfl
  have e4 : σ' .rc = iblk m c 4 t := hops .rc rfl
  have e5 : σ' .z = iblk m c 5 t := hops .z rfl
  have e6 : σ' .wo = iblk m c 6 t := hops .wo rfl
  have e7 : σ' .wos = iblk m c 7 t := hops .wos rfl
  have e8 : σ' .bo = iblk m c 8 t := hops .bo rfl
  have e9 : σ' .lg = iblk m c 9 t := hops .lg rfl
  have e10 : σ' .lb = iblk m c 10 t := hops .lb rfl
  have e11 : σ' .wpb = iblk m c 11 t := hops .wpb rfl
  iapply (hdo _)
  rw [held_eq, held_eq, e0, e1, e2, e3, e4, e5, e6, e7, e8, e9, e10, e11, e_oc, e_os, e_zo, e_pb]
  isplitl [H0 H1 H2 H3 H4 H5 H6 H7 H8 H9 H10 H11 H12 H13 H14 H15 S0 S1 S2 S3]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [S0]; · iexact S0
    isplitl [S1]; · iexact S1
    isplitl [S2]; · iexact S2
    iexact S3
  iintro ⟨H0, H1, H2, H3, H4, H5, H6, H7, H8, H9, H10, H11, H12, H13, H14, H15, S0, S1, S2, S3⟩
  isplitl [S0 S1 S2 S3 Hr]
  · iexists σ'
    isplitr
    · ipureintro
      intro t' ht'
      have : t' = t := Fin.ext (by omega)
      subst this
      exact hin
    isplitr [Hr]
    · isplitl [S0]; · iexact S0
      isplitl [S1]; · iexact S1
      isplitl [S2]; · iexact S2
      iexact S3
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

theorem inv_enter (c : Dev nD) : Pipeline.ΦA spec0 c ⊢ (Inv m c 0 : sProp 𝕄) := by
  unfold Pipeline.ΦA Inv
  rw [scopedRest0_eq]
  iintro ⟨⟨⟨%f0, S0⟩, ⟨%f1, S1⟩, ⟨%f2, S2⟩, ⟨%f3, S3⟩⟩, Hr⟩
  iexists (fun
    | .o => f0 | .am => f1 | .q => f2 | .sc => f3
    | j => fun _ => Classical.arbitrary _ : St F)
  isplitr
  · ipureintro
    intro t ht
    omega
  rw [owns_whole, owns_whole, owns_whole, owns_whole]
  isplitr [Hr]
  · isplitl [S0]; · iexact S0
    isplitl [S1]; · iexact S1
    isplitl [S2]; · iexact S2
    iexact S3
  iexact Hr

theorem inv_leave (c : Dev nD) (n : Nat) : (Inv m c n : sProp 𝕄) ⊢ Pipeline.ΦA spec0 c := by
  unfold Pipeline.ΦA Inv
  simp only [owns_whole]
  rw [scopedRest0_eq]
  iintro ⟨%σ, %hσ, ⟨S0, S1, S2, S3⟩, Hr⟩
  isplitr [Hr]
  · isplitl [S0]; · iexists _; iexact S0
    isplitl [S1]; · iexists _; iexact S1
    isplitl [S2]; · iexists _; iexact S2
    iexists _; iexact S3
  iexact Hr

set_option backward.isDefEq.respectTransparency.types false in
set_option maxHeartbeats 800000 in
/-- The run: every array of the pipeline ends at what the proof data say, and every semaphore counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl) (howed := fun _ _ => rfl) (V₀ := V0 m) (opss := [hostOps1])
    (hsub := sfx_sub) (hfresh := sfx_fresh) (hkeep := sfx_keeps)
    (hmain := hmain m Variants.none) (hA := A_eq m) (hin := inv_enter m) (hout := fun c => inv_leave m c _)

end Cert.Opm.Body

end
-- ==== Proof.OpmBodyKI.lean ====
/-
  The printed body of `OpmIdeal` is the structured one.
-/
module

public import proofs.«01_k».proof.Proof.Gen.OpmIdeal
public import proofs.«01_k».proof.Proof.OpmSteps
public import Idealize.ShloMosaic.Lib.Pipeline.Regions

@[expose] public section

set_option maxRecDepth 65536

noncomputable section

namespace Cert.OpmIdeal.Body

open Idealize.ShloMosaic Idealize.ShloMosaic.TcCoe Idealize.SL.Sem
open Cert.OpmIdeal
open Cert.OpmIdeal.Facts₀ Cert.OpmIdeal.Facts Cert.OpmIdeal.K0.Facts₀ Cert.OpmIdeal.Shapes1.Facts₀ Cert.OpmIdeal.Shapes3.Facts₀

variable {F : FTy → Type} [FloatOps F] [Cert.OpmIdeal.Facts] [Cert.Opm.Facts]

/-- The arrays of a step, from the body's arguments. -/
def bank (arg1 : Memref sig .tc .vmem S32x16x896 .bf16) (arg2 : Memref sig .tc .vmem S32x896x128 .bf16) (arg3 : Memref sig .tc .vmem S32x128 .f32) (arg4 : Memref sig .tc .vmem S16x32 .f32) (arg5 : Memref sig .tc .vmem S16x128 .f32) (arg6 : Memref sig .tc .vmem S16x128x128 .bf16) (arg7 : Memref sig .tc .vmem S128x1024 .bf16) (arg8 : Memref sig .tc .vmem S128x128 .f32) (arg9 : Memref sig .tc .vmem S128x128 .f32) (arg10 : Memref sig .tc .vmem S128x128 .f32) (arg11 : Memref sig .tc .vmem S128x128 .f32) (arg12 : Memref sig .tc .vmem S32x384 .bf16) (arg13 : Memref sig .tc .vmem S16x128x1024 .fp8e4m3) (arg14 : Memref sig .tc .vmem S16x32x128 .f32) (arg15 : Memref sig .tc .vmem S16x128x128 .bf16) (arg16 : Memref sig .tc .vmem S8x16x128 .f32) (arg17 : Memref sig .tc .vmem S2x16448x128 .f32) (arg18 : Memref sig .tc .vmem S2x512x128 .f32) (arg19 : Memref sig .tc .vmem S576x128 .f32) (arg20 : Memref sig .tc .vmem S576x128 .f32) : Cert.Pwa.Bank sig Cert.Outer.Arr.shape Cert.Outer.Arr.elt
  | .at' => arg1
  | .bp => arg2
  | .bs => arg3
  | .as' => arg4
  | .rc => arg5
  | .z => arg6
  | .wo => arg7
  | .wos => arg8
  | .bo => arg9
  | .lg => arg10
  | .lb => arg11
  | .wpb => arg12
  | .oc => arg13
  | .os => arg14
  | .zo => arg15
  | .pb => arg16
  | .o => arg17
  | .am => arg18
  | .q => arg19
  | .sc => arg20

theorem bank_whole (arg1 : Memref sig .tc .vmem S32x16x896 .bf16) (harg1 : arg1.IsWhole) (arg2 : Memref sig .tc .vmem S32x896x128 .bf16) (harg2 : arg2.IsWhole) (arg3 : Memref sig .tc .vmem S32x128 .f32) (harg3 : arg3.IsWhole) (arg4 : Memref sig .tc .vmem S16x32 .f32) (harg4 : arg4.IsWhole) (arg5 : Memref sig .tc .vmem S16x128 .f32) (harg5 : arg5.IsWhole) (arg6 : Memref sig .tc .vmem S16x128x128 .bf16) (harg6 : arg6.IsWhole) (arg7 : Memref sig .tc .vmem S128x1024 .bf16) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S32x384 .bf16) (harg12 : arg12.IsWhole) (arg13 : Memref sig .tc .vmem S16x128x1024 .fp8e4m3) (harg13 : arg13.IsWhole) (arg14 : Memref sig .tc .vmem S16x32x128 .f32) (harg14 : arg14.IsWhole) (arg15 : Memref sig .tc .vmem S16x128x128 .bf16) (harg15 : arg15.IsWhole) (arg16 : Memref sig .tc .vmem S8x16x128 .f32) (harg16 : arg16.IsWhole) (arg17 : Memref sig .tc .vmem S2x16448x128 .f32) (harg17 : arg17.IsWhole) (arg18 : Memref sig .tc .vmem S2x512x128 .f32) (harg18 : arg18.IsWhole) (arg19 : Memref sig .tc .vmem S576x128 .f32) (harg19 : arg19.IsWhole) (arg20 : Memref sig .tc .vmem S576x128 .f32) (harg20 : arg20.IsWhole) : ∀ j, (bank arg1 arg2 arg3 arg4 arg5 arg6 arg7 arg8 arg9 arg10 arg11 arg12 arg13 arg14 arg15 arg16 arg17 arg18 arg19 arg20 j).IsWhole
  | .at' => harg1
  | .bp => harg2
  | .bs => harg3
  | .as' => harg4
  | .rc => harg5
  | .z => harg6
  | .wo => harg7
  | .wos => harg8
  | .bo => harg9
  | .lg => harg10
  | .lb => harg11
  | .wpb => harg12
  | .oc => harg13
  | .os => harg14
  | .zo => harg15
  | .pb => harg16
  | .o => harg17
  | .am => harg18
  | .q => harg19
  | .sc => harg20

/-- The slot a step fills, as the word the kernel computes. -/
def curWord (i : grid0.Coords) : BitVec 32 :=
  let n : BitVec 32 := Scalar.select (Scalar.cmpi .eq (2#32) (0#32)) (1#32) (2#32)
  let r : BitVec 32 := Scalar.remsi (BitVec.ofNat 32 (i 0).val) n
  Scalar.select (Scalar.andi (Scalar.xori (Scalar.cmpi .slt r (0#32)) (Scalar.cmpi .slt n (0#32))) (Scalar.cmpi .ne r (0#32))) (Scalar.addi r n) r

/-- The slot step `i` fills. -/
def cur (i : grid0.Coords) : Fin 2 := ⟨k0_off5 i 0, Nat.lt_of_add_one_le (k0_off5_inb i 0)⟩

/-- The slot step `i` reads. -/
def prev (i : grid0.Coords) : Fin 2 := ⟨k0_off6 i 0, Nat.lt_of_add_one_le (k0_off6_inb i 0)⟩

/-- What a step does up to the first group's exponents. -/
theorem part1_eq (i : grid0.Coords) (arg1 : Memref sig .tc .vmem S32x16x896 .bf16) (harg1 : arg1.IsWhole) (arg2 : Memref sig .tc .vmem S32x896x128 .bf16) (harg2 : arg2.IsWhole) (arg3 : Memref sig .tc .vmem S32x128 .f32) (harg3 : arg3.IsWhole) (arg4 : Memref sig .tc .vmem S16x32 .f32) (harg4 : arg4.IsWhole) (arg5 : Memref sig .tc .vmem S16x128 .f32) (harg5 : arg5.IsWhole) (arg6 : Memref sig .tc .vmem S16x128x128 .bf16) (harg6 : arg6.IsWhole) (arg7 : Memref sig .tc .vmem S128x1024 .bf16) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S32x384 .bf16) (harg12 : arg12.IsWhole) (arg13 : Memref sig .tc .vmem S16x128x1024 .fp8e4m3) (harg13 : arg13.IsWhole) (arg14 : Memref sig .tc .vmem S16x32x128 .f32) (harg14 : arg14.IsWhole) (arg15 : Memref sig .tc .vmem S16x128x128 .bf16) (harg15 : arg15.IsWhole) (arg16 : Memref sig .tc .vmem S8x16x128 .f32) (harg16 : arg16.IsWhole) (arg17 : Memref sig .tc .vmem S2x16448x128 .f32) (harg17 : arg17.IsWhole) (arg18 : Memref sig .tc .vmem S2x512x128 .f32) (harg18 : arg18.IsWhole) (arg19 : Memref sig .tc .vmem S576x128 .f32) (harg19 : arg19.IsWhole) (arg20 : Memref sig .tc .vmem S576x128 .f32) (harg20 : arg20.IsWhole) :
    k0_part1 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 = (do
      Cert.Outer.start (bank arg1 arg2 arg3 arg4 arg5 arg6 arg7 arg8 arg9 arg10 arg11 arg12 arg13 arg14 arg15 arg16 arg17 arg18 arg19 arg20) (k0_cond1 i) (prev i)
      let l : FVec F S32x16x896 .bf16 ← Cert.Outer.ld (bank arg1 arg2 arg3 arg4 arg5 arg6 arg7 arg8 arg9 arg10 arg11 arg12 arg13 arg14 arg15 arg16 arg17 arg18 arg19 arg20) .at' (Cert.Outer.all3 32 16 896) h_S32x16x896
      let rc : FVec F S16x128 .f32 ← Cert.Outer.ld (bank arg1 arg2 arg3 arg4 arg5 arg6 arg7 arg8 arg9 arg10 arg11 arg12 arg13 arg14 arg15 arg16 arg17 arg18 arg19 arg20) .rc (Cert.Outer.all2 16 128) h_S16x128
      let asc : FVec F S16x32 .f32 ← Cert.Outer.ld (bank arg1 arg2 arg3 arg4 arg5 arg6 arg7 arg8 arg9 arg10 arg11 arg12 arg13 arg14 arg15 arg16 arg17 arg18 arg19 arg20) .as' (Cert.Outer.all2 16 32) h_S16x32
      let m : FVec F S16x128 .f32 ← Cert.Outer.ldAm (bank arg1 arg2 arg3 arg4 arg5 arg6 arg7 arg8 arg9 arg10 arg11 arg12 arg13 arg14 arg15 arg16 arg17 arg18 arg19 arg20) (prev i) (Cert.Outer.rowsOf 0) h_S16x128
      pure ⟨curWord i, shapeCast S512x896 l shapeCasts_S32x16x896_S512x896, rc, shapeCast S16x32 asc shapeCasts_S16x32_S16x32, Cert.Outer.factor asc rc 0,
        Cert.Outer.magnitude m (Cert.Outer.factor asc rc 0), Cert.Outer.exponent (Cert.Outer.magnitude m (Cert.Outer.factor asc rc 0))⟩) := by
  by_cases h : k0_cond1 i = 1#1
  · refine Eq.trans (dif_pos h) ?_
    simp only [Cert.Outer.start_pos h]
    chain_rfl
  · refine Eq.trans (dif_neg h) ?_
    simp only [Cert.Outer.start_neg h]
    chain_rfl

/-- Equal first parts of a sequence. -/
theorem bind_left {E : Type → Type} {α β : Type} {p q : Prog E α} {k : α → Prog E β} (h : p = q) : (p >>= k) = (q >>= k) := by rw [h]

/-- The kernel's body is the structured step. -/
theorem body_eq (i : grid0.Coords) (arg1 : Memref sig .tc .vmem S32x16x896 .bf16) (harg1 : arg1.IsWhole) (arg2 : Memref sig .tc .vmem S32x896x128 .bf16) (harg2 : arg2.IsWhole) (arg3 : Memref sig .tc .vmem S32x128 .f32) (harg3 : arg3.IsWhole) (arg4 : Memref sig .tc .vmem S16x32 .f32) (harg4 : arg4.IsWhole) (arg5 : Memref sig .tc .vmem S16x128 .f32) (harg5 : arg5.IsWhole) (arg6 : Memref sig .tc .vmem S16x128x128 .bf16) (harg6 : arg6.IsWhole) (arg7 : Memref sig .tc .vmem S128x1024 .bf16) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S32x384 .bf16) (harg12 : arg12.IsWhole) (arg13 : Memref sig .tc .vmem S16x128x1024 .fp8e4m3) (harg13 : arg13.IsWhole) (arg14 : Memref sig .tc .vmem S16x32x128 .f32) (harg14 : arg14.IsWhole) (arg15 : Memref sig .tc .vmem S16x128x128 .bf16) (harg15 : arg15.IsWhole) (arg16 : Memref sig .tc .vmem S8x16x128 .f32) (harg16 : arg16.IsWhole) (arg17 : Memref sig .tc .vmem S2x16448x128 .f32) (harg17 : arg17.IsWhole) (arg18 : Memref sig .tc .vmem S2x512x128 .f32) (harg18 : arg18.IsWhole) (arg19 : Memref sig .tc .vmem S576x128 .f32) (harg19 : arg19.IsWhole) (arg20 : Memref sig .tc .vmem S576x128 .f32) (harg20 : arg20.IsWhole) :
    cc0_outer_product_mean (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20
      = Cert.Outer.body (bank_whole arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) (k0_cond1 i) (cur i) (prev i) := by
  unfold cc0_outer_product_mean k0_part510 k0_part502
  refine Eq.trans (bind_left (bind_left (bind_left (part1_eq i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20)))) ?_
  by_cases h : k0_cond1 i = 1#1
  · simp only [Cert.Outer.start_pos h, Cert.Outer.body]
    chain_rfl
  · simp only [Cert.Outer.start_neg h, Cert.Outer.body]
    chain_rfl

end Cert.OpmIdeal.Body
-- ==== Proof.OpmRunKI.lean ====
/-
  The run of `OpmIdeal`: what each step finds and leaves, from the structured body, and the pipeline's run from it.
-/
module

public import proofs.«01_k».proof.Proof.Gen.OpmIdeal.Frame
public import proofs.«01_k».proof.Proof.OpmBodyKI
public import proofs.«01_k».proof.Proof.OpmWhole
public import proofs.«01_k».proof.Proof.Gen.Opm

@[expose] public section

set_option maxRecDepth 16384

noncomputable section

namespace Cert.OpmIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.OpmIdeal Cert.OpmIdeal.Gen Cert.Outer
open Cert.Pwa (Bank Store Does held)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The slots of a step -/

theorem cond_iff : ∀ t : Fin cfg0.N, k0_cond1 (grid0.coords t) = 1#1 ↔ t.val = 0 :=
  (by decide +kernel : ∀ t : Fin grid0.N, k0_cond1 (grid0.coords t) = 1#1 ↔ t.val = 0)
theorem cur_val : ∀ t : Fin cfg0.N, (cur (grid0.coords t)).val = t.val % 2 :=
  (by decide +kernel : ∀ t : Fin grid0.N, k0_off5 (grid0.coords t) 0 = t.val % 2)
theorem prev_val : ∀ t : Fin cfg0.N, (prev (grid0.coords t)).val = 1 - t.val % 2 :=
  (by decide +kernel : ∀ t : Fin grid0.N, k0_off6 (grid0.coords t) 0 = 1 - t.val % 2)

/-- The operands of step `t`. -/
def opsAt (c : Dev nD) (t : Fin cfg0.N) : St F
  | .at' => iblk m c 0 t
  | .bp => iblk m c 1 t
  | .bs => iblk m c 2 t
  | .as' => iblk m c 3 t
  | .rc => iblk m c 4 t
  | .z => iblk m c 5 t
  | .wo => iblk m c 6 t
  | .wos => iblk m c 7 t
  | .bo => iblk m c 8 t
  | .lg => iblk m c 9 t
  | .lb => iblk m c 10 t
  | .wpb => iblk m c 11 t
  | _ => fun _ => Classical.arbitrary _

/-- What step `t` leaves in the slot it fills. -/
def slotAt (c : Dev nD) (t : Fin cfg0.N) : Slot F := Slot.filled (opsAt m c t)

/-- What step `t` finds in the slot it reads: zeros at the first step, what the step before left at the others. -/
def slotBefore (c : Dev nD) (t : Fin cfg0.N) : Slot F :=
  if t.val = 0 then Slot.zero else slotAt m c ⟨t.val - 1, lt_of_le_of_lt (Nat.sub_le _ _) t.isLt⟩

/-- The body's invariant before step `n`: the scratch arrays at contents in which the slot the step before filled is as it left it. -/
def Inv (c : Dev nD) (n : Nat) : sProp 𝕄 :=
  iprop(∃ σ : St F, ⌜∀ t : Fin cfg0.N, t.val + 1 = n → (slotAt m c t).In σ (cur (grid0.coords t))⌝
    ∗ (owns (c : Thread nD τ) (Memref.whole cc0_scratch0) fullShare (σ .o) ∗ owns (c : Thread nD τ) (Memref.whole cc0_scratch1) fullShare (σ .am) ∗ owns (c : Thread nD τ) (Memref.whole cc0_scratch2) fullShare (σ .q) ∗ owns (c : Thread nD τ) (Memref.whole cc0_scratch3) fullShare (σ .sc)) ∗ ∃ r, prngReg c r)

/-! ## The pipeline's proof data -/

/-- The proof data: the arrays as the region finds them; after step `t` each input's buffer at its block, each output's at what
    the step computes from the blocks and the slot it reads. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => allCodes (opsAt m c t) (slotBefore m c t)
    | ⟨13, _⟩ => allScales (opsAt m c t) (slotBefore m c t)
    | ⟨14, _⟩ => allStored (opsAt m c t) (slotBefore m c t)
    | ⟨15, _⟩ => allLogits (opsAt m c t) (slotBefore m c t)
    | ⟨_ + 16, h⟩ => absurd h (Nat.not_lt.2 (Nat.le_add_left _ _))
  Φ n := Inv m c n.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = allCodes (opsAt m c t) (slotBefore m c t) := by dsimp only [dats]
theorem after_13 (c : Dev nD) (t : Fin cfg0.N) : (dats m 0 c).after 13 t = allScales (opsAt m c t) (slotBefore m c t) := by dsimp only [dats]
theorem after_14 (c : Dev nD) (t : Fin cfg0.N) : (dats m 0 c).after 14 t = allStored (opsAt m c t) (slotBefore m c t) := by dsimp only [dats]
theorem after_15 (c : Dev nD) (t : Fin cfg0.N) : (dats m 0 c).after 15 t = allLogits (opsAt m c t) (slotBefore m c t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d

/-! ## The body obligation -/

/-- The arrays of step `t`. -/
abbrev bankAt (t : Fin cfg0.N) : Bank sig Arr.shape Arr.elt := bank (st0_0 t) (st0_1 t) (st0_2 t) (st0_3 t) (st0_4 t) (st0_5 t) (st0_6 t) (st0_7 t) (st0_8 t) (st0_9 t) (st0_10 t) (st0_11 t) (st0_12 t) (st0_13 t) (st0_14 t) (st0_15 t) (Memref.whole cc0_scratch0) (Memref.whole cc0_scratch1) (Memref.whole cc0_scratch2) (Memref.whole cc0_scratch3)

theorem bodyAt_eq (t : Fin cfg0.N) : bodyAt0 (F := F) t = Cert.Outer.body (B := bankAt t) (bank_whole (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (st0_14 t) (hstage0_14 ((cfg0.slots t 14).cast nbuf0_14)) (st0_15 t) (hstage0_15 ((cfg0.slots t 15).cast nbuf0_15)) (Memref.whole cc0_scratch0) (Memref.isWhole_whole _) (Memref.whole cc0_scratch1) (Memref.isWhole_whole _) (Memref.whole cc0_scratch2) (Memref.isWhole_whole _) (Memref.whole cc0_scratch3) (Memref.isWhole_whole _))
    (k0_cond1 (grid0.coords t)) (cur (grid0.coords t)) (prev (grid0.coords t)) := body_eq ..

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t))

/-- The contents a step starts from. -/
def startAt (c : Dev nD) (t : Fin cfg0.N) (X12 : (Arr.shape .oc).Idx → Elt F (Arr.elt .oc)) (X13 : (Arr.shape .os).Idx → Elt F (Arr.elt .os)) (X14 : (Arr.shape .zo).Idx → Elt F (Arr.elt .zo)) (X15 : (Arr.shape .pb).Idx → Elt F (Arr.elt .pb)) (σ : St F) : St F
  | .at' => iblk m c 0 t
  | .bp => iblk m c 1 t
  | .bs => iblk m c 2 t
  | .as' => iblk m c 3 t
  | .rc => iblk m c 4 t
  | .z => iblk m c 5 t
  | .wo => iblk m c 6 t
  | .wos => iblk m c 7 t
  | .bo => iblk m c 8 t
  | .lg => iblk m c 9 t
  | .lb => iblk m c 10 t
  | .wpb => iblk m c 11 t
  | .oc => X12
  | .os => X13
  | .zo => X14
  | .pb => X15
  | .o => σ .o
  | .am => σ .am
  | .q => σ .q
  | .sc => σ .sc

theorem slotBefore_zero (c : Dev nD) (t : Fin cfg0.N) (h : k0_cond1 (grid0.coords t) = 1#1) : slotBefore m c t = Slot.zero :=
  if_pos ((cond_iff t).1 h)

theorem slotBefore_in (c : Dev nD) (t : Fin cfg0.N) (h : k0_cond1 (grid0.coords t) ≠ 1#1) (σ : St F)
    (hσ : ∀ t' : Fin cfg0.N, t'.val + 1 = t.val → (slotAt m c t').In σ (cur (grid0.coords t'))) : (slotBefore m c t).In σ (prev (grid0.coords t)) := by
  have h0 : t.val ≠ 0 := fun e => h ((cond_iff t).2 e)
  have e := hσ ⟨t.val - 1, lt_of_le_of_lt (Nat.sub_le _ _) t.isLt⟩ (by show t.val - 1 + 1 = t.val; omega)
  have ep : cur (grid0.coords ⟨t.val - 1, lt_of_le_of_lt (Nat.sub_le _ _) t.isLt⟩) = prev (grid0.coords t) := by
    refine Fin.ext ?_
    rw [prev_val]
    refine (cur_val _).trans ?_
    show (t.val - 1) % 2 = 1 - t.val % 2
    omega
  rw [ep] at e
  unfold slotBefore
  rw [if_neg h0]
  exact e

theorem slots_ne (t : Fin cfg0.N) : cur (grid0.coords t) ≠ prev (grid0.coords t) := fun e => by
  have h := congrArg Fin.val e
  rw [cur_val, prev_val] at h
  omega

/-- Step `t`, from any contents of its results. -/
theorem step_run (c : Dev nD) (t : Fin cfg0.N) (X12 : (Arr.shape .oc).Idx → Elt F (Arr.elt .oc)) (X13 : (Arr.shape .os).Idx → Elt F (Arr.elt .os)) (X14 : (Arr.shape .zo).Idx → Elt F (Arr.elt .zo)) (X15 : (Arr.shape .pb).Idx → Elt F (Arr.elt .pb))
    (σ : St F) (hσ : ∀ t' : Fin cfg0.N, t'.val + 1 = t.val → (slotAt m c t').In σ (cur (grid0.coords t'))) :
    ∃ σ' : St F, Does ℕ (UR sig nD τ) ℕ (Ix := Unit) (defs₀ (F := F)) Variants.none c none .empty Set.univ (bankAt t) (startAt m c t X12 X13 X14 X15 σ) (bodyAt0 t) ⟨⟩ σ'
      ∧ Done (opsAt m c t) (slotBefore m c t) (cur (grid0.coords t)) σ' := by
  rw [bodyAt_eq]
  exact body_leads (nD := nD) (τ := τ) (sig := sig) (Λ := Λ₀) (Ix := Unit) (Name := ℕ) (U := UR sig nD τ) (Lvl := ℕ) (defs := defs₀ (F := F)) (𝒱 := Variants.none) (c₀ := c) (bd := none) (Γ := .empty) (E := Set.univ)
      (B := bankAt t) (bank_whole (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (st0_14 t) (hstage0_14 ((cfg0.slots t 14).cast nbuf0_14)) (st0_15 t) (hstage0_15 ((cfg0.slots t 15).cast nbuf0_15)) (Memref.whole cc0_scratch0) (Memref.isWhole_whole _) (Memref.whole cc0_scratch1) (Memref.isWhole_whole _) (Memref.whole cc0_scratch2) (Memref.isWhole_whole _) (Memref.whole cc0_scratch3) (Memref.isWhole_whole _))
      (opsAt m c t) (slotBefore m c t) (k0_cond1 (grid0.coords t)) (cur (grid0.coords t)) (prev (grid0.coords t)) (slots_ne t)
      (startAt m c t X12 X13 X14 X15 σ) (fun j hj => by cases j <;> first | rfl | exact absurd hj (by decide)) (slotBefore_zero m c t)
      (fun h => let h' := slotBefore_in m c t h σ hσ; ⟨h'.o, h'.am⟩)

set_option maxHeartbeats 1000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before_0, before_1, before_2, before_3, before_4, before_5, before_6, before_7, before_8, before_9, before_10, before_11]
  rw [show (dats m 0 c).Φ t.castSucc = Inv m c t.val from rfl, show (dats m 0 c).Φ t.succ = Inv m c (t.val + 1) from rfl,
    show (dats m 0 c).owesAt () t.succ = (dats m 0 c).owesAt () t.castSucc from rfl,
    after_0, after_1, after_2, after_3, after_4, after_5, after_6, after_7, after_8, after_9, after_10, after_11, after_12, after_13, after_14, after_15]
  unfold Inv
  iintro ⟨⟨%σ, %hσ, ⟨S0, S1, S2, S3⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  obtain ⟨σ', hdo, ⟨hops, e_oc, e_os, e_zo, e_pb, hin⟩⟩ :=
    step_run m c t ((dats m 0 c).before 12 t d12) ((dats m 0 c).before 13 t d13) ((dats m 0 c).before 14 t d14) ((dats m 0 c).before 15 t d15) σ hσ
  have e0 : σ' .at' = iblk m c 0 t := hops .at' rfl
  have e1 : σ' .bp = iblk m c 1 t := hops .bp rfl
  have e2 : σ' .bs = iblk m c 2 t := hops .bs rfl
  have e3 : σ' .as' = iblk m c 3 t := hops .as' rfl
  have e4 : σ' .rc = iblk m c 4 t := hops .rc rfl
  have e5 : σ' .z = iblk m c 5 t := hops .z rfl
  have e6 : σ' .wo = iblk m c 6 t := hops .wo rfl
  have e7 : σ' .wos = iblk m c 7 t := hops .wos rfl
  have e8 : σ' .bo = iblk m c 8 t := hops .bo rfl
  have e9 : σ' .lg = iblk m c 9 t := hops .lg rfl
  have e10 : σ' .lb = iblk m c 10 t := hops .lb rfl
  have e11 : σ' .wpb = iblk m c 11 t := hops .wpb rfl
  iapply (hdo _)
  rw [held_eq, held_eq, e0, e1, e2, e3, e4, e5, e6, e7, e8, e9, e10, e11, e_oc, e_os, e_zo, e_pb]
  isplitl [H0 H1 H2 H3 H4 H5 H6 H7 H8 H9 H10 H11 H12 H13 H14 H15 S0 S1 S2 S3]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [S0]; · iexact S0
    isplitl [S1]; · iexact S1
    isplitl [S2]; · iexact S2
    iexact S3
  iintro ⟨H0, H1, H2, H3, H4, H5, H6, H7, H8, H9, H10, H11, H12, H13, H14, H15, S0, S1, S2, S3⟩
  isplitl [S0 S1 S2 S3 Hr]
  · iexists σ'
    isplitr
    · ipureintro
      intro t' ht'
      have : t' = t := Fin.ext (by omega)
      subst this
      exact hin
    isplitr [Hr]
    · isplitl [S0]; · iexact S0
      isplitl [S1]; · iexact S1
      isplitl [S2]; · iexact S2
      iexact S3
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

theorem inv_enter (c : Dev nD) : Pipeline.ΦA spec0 c ⊢ (Inv m c 0 : sProp 𝕄) := by
  unfold Pipeline.ΦA Inv
  rw [scopedRest0_eq]
  iintro ⟨⟨⟨%f0, S0⟩, ⟨%f1, S1⟩, ⟨%f2, S2⟩, ⟨%f3, S3⟩⟩, Hr⟩
  iexists (fun
    | .o => f0 | .am => f1 | .q => f2 | .sc => f3
    | j => fun _ => Classical.arbitrary _ : St F)
  isplitr
  · ipureintro
    intro t ht
    omega
  rw [owns_whole, owns_whole, owns_whole, owns_whole]
  isplitr [Hr]
  · isplitl [S0]; · iexact S0
    isplitl [S1]; · iexact S1
    isplitl [S2]; · iexact S2
    iexact S3
  iexact Hr

theorem inv_leave (c : Dev nD) (n : Nat) : (Inv m c n : sProp 𝕄) ⊢ Pipeline.ΦA spec0 c := by
  unfold Pipeline.ΦA Inv
  simp only [owns_whole]
  rw [scopedRest0_eq]
  iintro ⟨%σ, %hσ, ⟨S0, S1, S2, S3⟩, Hr⟩
  isplitr [Hr]
  · isplitl [S0]; · iexists _; iexact S0
    isplitl [S1]; · iexists _; iexact S1
    isplitl [S2]; · iexists _; iexact S2
    iexists _; iexact S3
  iexact Hr

set_option backward.isDefEq.respectTransparency.types false in
set_option maxHeartbeats 800000 in
/-- The run: every array of the pipeline ends at what the proof data say, and every semaphore counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl) (howed := fun _ _ => rfl) (V₀ := V0 m) (opss := [hostOps1])
    (hsub := sfx_sub) (hfresh := sfx_fresh) (hkeep := sfx_keeps)
    (hmain := hmain m Variants.none) (hA := A_eq m) (hin := inv_enter m) (hout := fun c => inv_leave m c _)

end Cert.OpmIdeal.Body

end
-- ==== Proof.OpmSpec.lean ====
/-
  The mathematics of the outer product over the extended reals: products, the powers of two that scale a
  group of them, the codes, and the update of `z`.
-/
module

public import proofs.«01_k».proof.Proof.Scalars
public import Idealize.ShloMosaic.Lib.IdealHost

@[expose] public section

noncomputable section

namespace Cert.Outer

open Idealize.ShloMosaic
open Cert.Pwa (mag abs_mul abs_nonneg mag_mul)

abbrev fz : EReal := Ideal.ofBits .f32 0x00000000#32
abbrev fone : EReal := Ideal.ofBits .f32 0x3F800000#32
/-- One part in 448. -/
abbrev part448 : EReal := Ideal.ofBits .f32 0x3B124925#32
abbrev ln2 : EReal := Ideal.ofBits .f32 0x3F317218#32
abbrev c448 : EReal := Ideal.ofBits .f32 0x43E00000#32
abbrev cm448 : EReal := Ideal.ofBits .f32 0xC3E00000#32

theorem fz_eq : fz = 0 := by simp [fz, Ideal.ofBits, Ideal.ieee]
theorem fone_eq : fone = 1 := Ideal.ofBits_one_f32
theorem part448_pos : 0 < part448 := by
  simp [part448, Ideal.ofBits, Ideal.ieee, -EReal.coe_mul]

/-- The exponent of the power of two above a magnitude. -/
def expo (x : EReal) : EReal := Ideal.liftRound Int.floor (Ideal.div (Ideal.log x) ln2) + fone

/-- The exponent a group of largest magnitude `a` is scaled with, zero for zero. -/
def grade (a : EReal) : EReal := Scalar.select (Ideal.cmp .oeq a fz) fz (expo (a * part448))

/-- A group's scale. -/
def grp2 (a : EReal) : EReal := Ideal.exp2 (grade a)
/-- Its reciprocal. -/
def inv2 (a : EReal) : EReal := Ideal.exp2 (fz - grade a)
/-- A scaled value clipped. -/
def clip (x : EReal) : EReal := min c448 (max cm448 x)

theorem exp2_zero : Ideal.exp2 (0 : EReal) = 1 := by
  show ((Real.rpow 2 0 : ℝ) : EReal) = 1
  rw [show Real.rpow 2 0 = 1 from Real.rpow_zero 2, EReal.coe_one]

theorem select_zero (a : EReal) (h : a = 0) (x y : EReal) : Scalar.select (Ideal.cmp .oeq a fz) x y = x := by
  have : Ideal.cmp .oeq a fz = 1#1 := by rw [fz_eq]; simp [Ideal.cmp, h]
  rw [this]; rfl

theorem select_nonzero (a : EReal) (h : a ≠ 0) (x y : EReal) : Scalar.select (Ideal.cmp .oeq a fz) x y = y := by
  have : Ideal.cmp .oeq a fz = 0#1 := by rw [fz_eq]; simp [Ideal.cmp, h]
  rw [this]; rfl

theorem abs_eq_zero (f : EReal) : max f (-f) = 0 ↔ f = 0 := by
  constructor
  · intro h
    have h1 : f ≤ 0 := h ▸ le_max_left _ _
    have h2 : -f ≤ 0 := h ▸ le_max_right _ _
    exact le_antisymm h1 (EReal.neg_le_zero.1 h2)
  · rintro rfl; simp

theorem abs_of_nonneg {a : EReal} (h : 0 ≤ a) : max a (-a) = a := max_eq_left (le_trans (EReal.neg_le_zero.2 h) h)

theorem magnitude_zero (a f : EReal) : a * f * part448 = 0 ↔ a * max f (-f) = 0 := by
  rw [mul_eq_zero, mul_eq_zero, mul_eq_zero, abs_eq_zero]
  exact or_iff_left part448_pos.ne'

theorem magnitude_abs {a : EReal} (ha : 0 ≤ a) (f : EReal) : max (a * f * part448) (-(a * f * part448)) = a * max f (-f) * part448 := by
  rw [abs_mul, abs_mul, abs_of_nonneg ha, abs_of_nonneg part448_pos.le]

/-- The scale taken from a magnitude that may carry a sign. -/
theorem scale_signed {a : EReal} (ha : 0 ≤ a) (f : EReal) :
    Scalar.select (Ideal.cmp .oeq (a * f * part448) fz) fone (Ideal.exp2 (expo (max (a * f * part448) (-(a * f * part448))))) = grp2 (a * max f (-f)) := by
  unfold grp2 grade
  by_cases h : a * f * part448 = 0
  · rw [select_zero _ h, select_zero _ ((magnitude_zero a f).1 h), fz_eq, exp2_zero, fone_eq]
  · rw [select_nonzero _ h, select_nonzero _ (fun e => h ((magnitude_zero a f).2 e)), magnitude_abs ha]

theorem inverse_signed {a : EReal} (ha : 0 ≤ a) (f : EReal) :
    Scalar.select (Ideal.cmp .oeq (a * f * part448) fz) fone (Ideal.exp2 (fz - expo (max (a * f * part448) (-(a * f * part448))))) = inv2 (a * max f (-f)) := by
  unfold inv2 grade
  by_cases h : a * f * part448 = 0
  · rw [select_zero _ h, select_zero _ ((magnitude_zero a f).1 h), fz_eq, sub_zero, exp2_zero, fone_eq]
  · rw [select_nonzero _ h, select_nonzero _ (fun e => h ((magnitude_zero a f).2 e)), magnitude_abs ha]

theorem mag_nonneg {n : Nat} [NeZero n] (f : Fin n → EReal) : 0 ≤ mag f :=
  Finset.le_fold_max _ |>.2 (Or.inr ⟨0, Finset.mem_univ _, abs_nonneg _⟩)

/-! ## The outer product -/

/-- What the outer product is of. -/
structure Given where
  a : Fin 32 → Fin 512 → Fin 896 → EReal
  b : Fin 32 → Fin 896 → Fin 512 → EReal
  asc : Fin 32 → Fin 512 → EReal
  bsc : Fin 32 → Fin 512 → EReal
  rc : Fin 512 → Fin 512 → EReal
  z : Fin 512 → Fin 512 → Fin 128 → EReal
  wo : Fin 1024 → Fin 128 → EReal
  wos : Fin 128 → EReal
  bo : Fin 128 → EReal

variable (P : Given)

/-- The products, scaled on one side. -/
def Given.prd (i j : Fin 512) (c d : Fin 32) : EReal := (∑ s, P.a c i s * P.b d s j) * P.bsc d j
/-- The other side's factor. -/
def Given.fac (i j : Fin 512) (c : Fin 32) : EReal := P.asc c i * P.rc i j
/-- The largest magnitude of a group. -/
def Given.top (i j : Fin 512) (c : Fin 32) : EReal := mag (P.prd i j c) * max (P.fac i j c) (-(P.fac i j c))
/-- A group's scale. -/
def Given.scl (i j : Fin 512) (c : Fin 32) : EReal := grp2 (P.top i j c)
/-- Its codes. -/
def Given.cod (i j : Fin 512) (c d : Fin 32) : EReal := clip (P.prd i j c d * (P.fac i j c * inv2 (P.top i j c)))
/-- The group of channel `k`. -/
abbrev hi32 (k : Fin 1024) : Fin 32 := ⟨k.val / 32, by omega⟩
/-- Its place in the group. -/
abbrev lo32 (k : Fin 1024) : Fin 32 := ⟨k.val % 32, by omega⟩
/-- The updated `z`. -/
def Given.upd (i j : Fin 512) (e : Fin 128) : EReal :=
  P.z i j e + ((∑ k, P.cod i j (hi32 k) (lo32 k) * P.scl i j (hi32 k) * P.wo k e) * P.wos e + P.bo e)

end Cert.Outer
-- ==== Proof.OpmRead.lean ====
/-
  The tile functions of the outer product read element by element over the extended reals.
-/
module

public import proofs.«01_k».proof.Proof.OpmSpec
public import proofs.«01_k».proof.Proof.OpmDoes

@[expose] public section

noncomputable section

namespace Cert.Outer

open Idealize.ShloMosaic Idealize.SL.Sem
open Cert.Opm
open Cert.Opm.Facts₀ Cert.Opm.Facts Cert.Opm.K0.Facts₀ Cert.Opm.Shapes1.Facts₀ Cert.Opm.Shapes3.Facts₀
open Cert.Pwa (get mag minf_eq absf_eq)

variable [Cert.Opm.Facts]

theorem scaleOf_apply (y : FVec Ideal S16x128 .f32) (i : S16x128.Idx) :
    scaleOf y i = Scalar.select (Ideal.cmp .oeq (y i) fz) fone (Ideal.exp2 (expo (max (y i) (-(y i))))) := rfl

theorem inverseOf_apply (y : FVec Ideal S16x128 .f32) (i : S16x128.Idx) :
    inverseOf y i = Scalar.select (Ideal.cmp .oeq (y i) fz) fone (Ideal.exp2 (fz - expo (max (y i) (-(y i))))) := rfl

theorem magnitude_apply (a f : FVec Ideal S16x128 .f32) (i : S16x128.Idx) : magnitude a f i = a i * f i * part448 := rfl

theorem factor_apply (asc : FVec Ideal S16x32 .f32) (rc : FVec Ideal S16x128 .f32) (c : Fin 32) (i : Fin 16) (l : Fin 128) :
    factor asc rc c (ix2 i l) = asc (ix2 i c) * rc (ix2 i l) := by
  pointwise [factor]

theorem scRow_apply (asc : FVec Ideal S16x32 .f32) (rc a : FVec Ideal S16x128 .f32) (c : Fin 32) (i : Fin 16) (l : Fin 128) (h : 0 ≤ a (ix2 i l)) :
    scRow asc rc c a (ix2 i l) = grp2 (a (ix2 i l) * max (asc (ix2 i c) * rc (ix2 i l)) (-(asc (ix2 i c) * rc (ix2 i l)))) := by
  rw [scRow, scaleOf_apply, magnitude_apply, scale_signed h, factor_apply]

theorem qRow_apply (asc : FVec Ideal S16x32 .f32) (rc a : FVec Ideal S16x128 .f32) (c : Fin 32) (i : Fin 16) (l : Fin 128) (h : 0 ≤ a (ix2 i l)) :
    qRow asc rc c a (ix2 i l)
      = asc (ix2 i c) * rc (ix2 i l) * inv2 (a (ix2 i l) * max (asc (ix2 i c) * rc (ix2 i l)) (-(asc (ix2 i c) * rc (ix2 i l)))) := by
  show factor asc rc c (ix2 i l) * inverseOf (magnitude a (factor asc rc c)) (ix2 i l) = _
  rw [inverseOf_apply, magnitude_apply, inverse_signed h, factor_apply]

theorem products_left (l : FVec Ideal S32x16x896 .bf16) (x y : FVec Ideal S1x896x128 .bf16) (c : Fin 32) (i : Fin 16) (n : Fin 128) :
    products l x y (ix2 (⟨16 * c.val + i.val, by omega⟩ : Fin 512) (⟨n.val, by omega⟩ : Fin 256)) = ∑ s, l (ix3 c i s) * x (ix3 0 s n) := by
  have h1 : (16 * c.val + i.val) / 16 = c.val := by omega
  have h2 : (16 * c.val + i.val) % 16 = i.val := by omega
  pointwise [products, h1, h2]

theorem products_right (l : FVec Ideal S32x16x896 .bf16) (x y : FVec Ideal S1x896x128 .bf16) (c : Fin 32) (i : Fin 16) (n : Fin 128) :
    products l x y (ix2 (⟨16 * c.val + i.val, by omega⟩ : Fin 512) (⟨128 + n.val, by omega⟩ : Fin 256)) = ∑ s, l (ix3 c i s) * y (ix3 0 s n) := by
  have h1 : (16 * c.val + i.val) / 16 = c.val := by omega
  have h2 : (16 * c.val + i.val) % 16 = i.val := by omega
  pointwise [products, h1, h2]

theorem first_apply (p : FVec Ideal S512x256 .f32) (s : FVec Ideal S1x128 .f32) (r : Fin 512) (n : Fin 128) :
    first p s (ix2 r n) = p (ix2 r (⟨n.val, by omega⟩ : Fin 256)) * s (ix2 0 n) := by
  pointwise [first]

theorem second_apply (p : FVec Ideal S512x256 .f32) (s : FVec Ideal S1x128 .f32) (r : Fin 512) (n : Fin 128) :
    second p s (ix2 r n) = p (ix2 r (⟨128 + n.val, by omega⟩ : Fin 256)) * s (ix2 0 n) := by
  pointwise [second]

theorem larger_apply (x y : FVec Ideal S512x128 .f32) (i : S512x128.Idx) : larger x y i = max (max (x i) (-(x i))) (max (y i) (-(y i))) := rfl

theorem codeOf_apply (o : FVec Ideal S32x128 .f32) (q : FVec Ideal S1x128 .f32) (d : Fin 32) (l : Fin 128) :
    codeOf o q (ix2 d l) = clip (o (ix2 d l) * q (ix2 0 l)) := by
  show min c448 (max cm448 (o (ix2 d l) * broadcastTo S32x128 q broadcasts_S1x128_S32x128 (ix2 d l))) = _
  unfold clip
  congr 3
  pointwise []

theorem backOf_apply (o : FVec Ideal S32x128 .f32) (q s : FVec Ideal S1x128 .f32) (d : Fin 32) (l : Fin 128) :
    backOf o q s (ix2 d l) = clip (o (ix2 d l) * q (ix2 0 l)) * s (ix2 0 l) := by
  show codeOf o q (ix2 d l) * broadcastTo S32x128 (shapeCast S1x128 s shapeCasts_S1x128_S1x128) broadcasts_S1x128_S32x128 (ix2 d l) = _
  rw [codeOf_apply]
  congr 1
  pointwise []

/-- One of four. -/
def pick {A : Type} (a b c d : A) (k : Nat) : A := if k = 0 then a else if k = 1 then b else if k = 2 then c else d

theorem turned_apply (x : FVec Ideal S128x128 .fp8e4m3) (l m : Fin 128) :
    shapeCast S1x128x128 (transpose S128x128 [1, 0] x transposes_S128x128_p1_0_S128x128) shapeCasts_S128x128_S1x128x128 (ix3 0 l m) = x (ix2 m l) := by
  pointwise []

theorem fourCodes_apply (a b c d : FVec Ideal S32x128 .fp8e4m3) (l m : Fin 128) :
    fourCodes a b c d (ix3 0 l m) = pick a b c d (m.val / 32) (ix2 (⟨m.val % 32, by omega⟩ : Fin 32) l) := by
  refine (turned_apply _ l m).trans ?_
  refine (concatenate_ofFn_apply (s₁ := S32x128) (t := S128x128) 0 (fun n : Fin 4 => pick a b c d n.val)
    concatenates_S32x128_S32x128_S32x128_S32x128_S128x128_d0 rfl 32 rfl (ix2 m l) ⟨m.val / 32, by omega⟩ rfl
    (ix2 (⟨m.val % 32, by omega⟩ : Fin 32) l) rfl ?_)
  intro b hb
  match b with
  | ⟨0, _⟩ => exact absurd rfl hb
  | ⟨1, _⟩ => rfl

/-- The quarter `k` of four. -/
def Four.at (x : Four Ideal) (k : Nat) : FVec Ideal S32x128 .bf16 := pick x.a x.b x.c x.d k

theorem outputs_left (w : FVec Ideal S128x1024 .bf16) (x y : FVec Ideal S1024x128 .bf16) (e l : Fin 128) :
    left (outputs w x y) (ix2 e l) = ∑ k, w (ix2 e k) * x (ix2 k l) := by
  pointwise [left, outputs]

theorem outputs_right (w : FVec Ideal S128x1024 .bf16) (x y : FVec Ideal S1024x128 .bf16) (e l : Fin 128) :
    right (outputs w x y) (ix2 e l) = ∑ k, w (ix2 e k) * y (ix2 k l) := by
  pointwise [right, outputs]

theorem stored_apply (z : FVec Ideal S1x128x128 .bf16) (p ws b : FVec Ideal S128x128 .f32) (l e : Fin 128) :
    stored (updated z p ws b) (ix3 0 l e) = z (ix3 0 l e) + (p (ix2 e l) * ws (ix2 e l) + b (ix2 e l)) := by
  pointwise [stored, updated]

theorem stack_apply (x : Fin 8 → Four Ideal) (k : Fin 1024) (l : Fin 128) :
    stack (x 0) (x 1) (x 2) (x 3) (x 4) (x 5) (x 6) (x 7) (ix2 k l)
      = (x ⟨k.val / 128, by omega⟩).at (k.val / 32 % 4) (ix2 (lo32 k) l) := by
  have hk := k.isLt
  refine (concatenate_ofFn_apply (s₁ := S32x128) (t := S1024x128) 0 (fun n : Fin 32 => (x ⟨n.val / 4, by omega⟩).at (n.val % 4))
    concatenates_S32x128_S32x128_S32x128_S32x128_S32x128_S32x128_S32x128_S32x128_S32x128_S32x128_S32x128_S32x128_S32x128_S32x128_S32x128_S32x128_S32x128_S32x128_S32x128_S32x128_S32x128_S32x128_S32x128_S32x128_S32x128_S32x128_S32x128_S32x128_S32x128_S32x128_S32x128_S32x128_S1024x128_d0 rfl 32 rfl (ix2 k l) ⟨k.val / 32, by omega⟩ rfl
    (ix2 (lo32 k) l) rfl ?_).trans ?_
  · intro b hb
    match b with
    | ⟨0, _⟩ => exact absurd rfl hb
    | ⟨1, _⟩ => rfl
  · have h4 : k.val / 32 / 4 = k.val / 128 := by omega
    exact congrArg (fun n : Fin 8 => (x n).at (k.val / 32 % 4) (ix2 (lo32 k) l)) (Fin.ext h4)

end Cert.Outer
-- ==== Proof.OpmVal.lean ====
/-
  What a step of the outer product leaves over the extended reals, when its staged operands are blocks
  of the arguments.
-/
module

public import proofs.«01_k».proof.Proof.OpmRead
public import Idealize.ShloMosaic.Lib.Pipeline.ValueKit

@[expose] public section

noncomputable section

namespace Cert.Outer

open Idealize.ShloMosaic Idealize.SL.Sem
open Cert.Opm
open Cert.Opm.Facts₀ Cert.Opm.Facts Cert.Opm.K0.Facts₀ Cert.Opm.Shapes1.Facts₀ Cert.Opm.Shapes3.Facts₀
open Cert.Pwa (get mag)

variable [Cert.Opm.Facts]

theorem at2 {A B : Nat} (x : (⟨2, ![A, B]⟩ : Shape).Idx) (i : Fin A) (j : Fin B) (h0 : (x 0 : Nat) = i) (h1 : (x 1 : Nat) = j) : x = ix2 i j :=
  funext fun a => match a with
    | ⟨0, _⟩ => Fin.ext h0
    | ⟨1, _⟩ => Fin.ext h1

theorem at3 {A B C : Nat} (x : (⟨3, ![A, B, C]⟩ : Shape).Idx) (i : Fin A) (j : Fin B) (k : Fin C) (h0 : (x 0 : Nat) = i) (h1 : (x 1 : Nat) = j)
    (h2 : (x 2 : Nat) = k) : x = ix3 i j k :=
  funext fun a => match a with
    | ⟨0, _⟩ => Fin.ext h0
    | ⟨1, _⟩ => Fin.ext h1
    | ⟨2, _⟩ => Fin.ext h2

section Boxes

variable {A : Type}

theorem get_all2 {M N : Nat} (X : (⟨2, ![M, N]⟩ : Shape).Idx → A) (i : Fin M) (j : Fin N) : get X (all2 M N) (ix2 i j) = X (ix2 i j) :=
  congrArg X (at2 _ _ _ (show 0 + 1 * i.val = _ by omega) (show 0 + 1 * j.val = _ by omega))

theorem get_all3 {M N K : Nat} (X : (⟨3, ![M, N, K]⟩ : Shape).Idx → A) (i : Fin M) (j : Fin N) (k : Fin K) :
    get X (all3 M N K) (ix3 i j k) = X (ix3 i j k) :=
  congrArg X (at3 _ _ _ _ (show 0 + 1 * i.val = _ by omega) (show 0 + 1 * j.val = _ by omega) (show 0 + 1 * k.val = _ by omega))

theorem get_slab {M N K : Nat} (X : (⟨3, ![M, N, K]⟩ : Shape).Idx → A) (i : Fin M) (j : Fin N) (k : Fin K) :
    get X (slab N K i) (ix3 (0 : Fin 1) j k) = X (ix3 i j k) :=
  congrArg X (at3 _ _ _ _ (show i.val + 1 * 0 = _ by omega) (show 0 + 1 * j.val = _ by omega) (show 0 + 1 * k.val = _ by omega))

theorem get_row {M N : Nat} (X : (⟨2, ![M, N]⟩ : Shape).Idx → A) (i : Fin M) (j : Fin N) :
    get X (row N i) (ix2 (0 : Fin 1) j) = X (ix2 i j) :=
  congrArg X (at2 _ _ _ (show i.val + 1 * 0 = _ by omega) (show 0 + 1 * j.val = _ by omega))

theorem get_rowsOf (X : S512x128.Idx → A) (c : Fin 32) (i : Fin 16) (l : Fin 128) :
    get X (rowsOf c) (ix2 i l) = X (ix2 (⟨16 * c.val + i.val, by omega⟩ : Fin 512) l) :=
  congrArg X (at2 _ _ _ (show 16 * c.val + 1 * i.val = _ by dsimp only; omega) (show 0 + 1 * l.val = _ by omega))

end Boxes

variable (X : St Ideal) (s : Slot Ideal) (P : Given) (I : Fin 16 → Fin 512) (J : Fin 128 → Fin 512)

/-- The operands of the filling half are the block at `I`, `J`. -/
structure Fills : Prop where
  a : ∀ c i s, X .at' (ix3 c i s) = P.a c (I i) s
  b : ∀ d s l, X .bp (ix3 d s l) = P.b d s (J l)
  bsc : ∀ d l, X .bs (ix2 d l) = P.bsc d (J l)

/-- The operands of the other half are. -/
structure Ends : Prop where
  asc : ∀ i c, X .as' (ix2 i c) = P.asc c (I i)
  rc : ∀ i l, X .rc (ix2 i l) = P.rc (I i) (J l)
  z : ∀ i l e, X .z (ix3 i l e) = P.z (I i) (J l) e
  wo : ∀ e k, X .wo (ix2 e k) = P.wo k e
  wos : ∀ e l, X .wos (ix2 e l) = P.wos e
  bo : ∀ e l, X .bo (ix2 e l) = P.bo e

/-- The slot holds the products of the block at `I`, `J`. -/
structure Slot.Holds : Prop where
  o : ∀ i c d l, s.o i c (ix2 d l) = P.prd (I i) (J l) c d
  am : ∀ i c l, s.am (ix2 (⟨16 * c.val + i.val, by omega⟩ : Fin 512) l) = mag (P.prd (I i) (J l) c)

theorem even_or_odd (d : Fin 32) : ∃ e : Fin 16, d = even e ∨ d = odd e := by
  refine ⟨⟨d.val / 2, by omega⟩, ?_⟩
  rcases Nat.mod_two_eq_zero_or_one d.val with h | h
  · exact .inl (Fin.ext (by show d.val = 2 * (d.val / 2); omega))
  · exact .inr (Fin.ext (by show d.val = 2 * (d.val / 2) + 1; omega))

variable {X s P I J}

theorem column_apply (h : Fills X P I J) (c d : Fin 32) (i : Fin 16) (l : Fin 128) :
    column X d (ix2 (⟨16 * c.val + i.val, by omega⟩ : Fin 512) l) = P.prd (I i) (J l) c d := by
  have ha : ∀ c i s, theRows X (ix3 c i s) = P.a c (I i) s := fun c i s => (get_all3 (X .at') c i s).trans (h.a c i s)
  have hb : ∀ d s l, get (X .bp) (slab 896 128 d) (ix3 0 s l) = P.b d s (J l) := fun d s l => (get_slab (X .bp) d s l).trans (h.b d s l)
  have hs : ∀ d l, get (X .bs) (row 128 d) (ix2 0 l) = P.bsc d (J l) := fun d l => (get_row (X .bs) d l).trans (h.bsc d l)
  obtain ⟨e, rfl | rfl⟩ := even_or_odd d
  · rw [column_even]
    refine (first_apply _ _ _ _).trans (congrArg₂ (· * ·) ((products_left _ _ _ c i l).trans ?_) (hs _ l))
    exact Finset.sum_congr rfl fun s _ => congrArg₂ (· * ·) (ha c i s) (hb _ s l)
  · rw [column_odd]
    refine (second_apply _ _ _ _).trans (congrArg₂ (· * ·) ((products_right _ _ _ c i l).trans ?_) (hs _ l))
    exact Finset.sum_congr rfl fun s _ => congrArg₂ (· * ·) (ha c i s) (hb _ s l)

theorem largest_le (z : EReal) (i : S512x128.Idx) : ∀ (n : Nat) (h : n < 16),
    largest X n h i ≤ z ↔ ∀ d : Fin 32, d.val ≤ 2 * n + 1 → max (column X d i) (-(column X d i)) ≤ z
  | 0, h => by
    have e0 := column_even X 0
    have e1 := column_odd X 0
    show larger (evenAt X 0) (oddAt X 0) i ≤ z ↔ _
    rw [larger_apply, max_le_iff, ← e0, ← e1]
    constructor
    · rintro ⟨h0, h1⟩ d hd
      rcases (by omega : d.val = 0 ∨ d.val = 1) with q | q
      · rw [show d = even 0 from Fin.ext q]; exact h0
      · rw [show d = odd 0 from Fin.ext q]; exact h1
    · exact fun hh => ⟨hh _ (by decide), hh _ (by decide)⟩
  | n + 1, h => by
    have e0 := column_even X ⟨n + 1, h⟩
    have e1 := column_odd X ⟨n + 1, h⟩
    show max (largest X n (by omega) i) (larger (evenAt X ⟨n + 1, h⟩) (oddAt X ⟨n + 1, h⟩) i) ≤ z ↔ _
    rw [larger_apply, max_le_iff, max_le_iff, ← e0, ← e1, largest_le z i n (by omega)]
    constructor
    · rintro ⟨h0, h1, h2⟩ d hd
      rcases (by omega : d.val ≤ 2 * n + 1 ∨ d.val = 2 * (n + 1) ∨ d.val = 2 * (n + 1) + 1) with q | q | q
      · exact h0 d q
      · rw [show d = even ⟨n + 1, h⟩ from Fin.ext q]; exact h1
      · rw [show d = odd ⟨n + 1, h⟩ from Fin.ext q]; exact h2
    · exact fun hh => ⟨fun d hd => hh d (by omega), hh _ (by show 2 * (n + 1) ≤ _; omega), hh _ (by show 2 * (n + 1) + 1 ≤ _; omega)⟩

theorem largest_apply (h : Fills X P I J) (c : Fin 32) (i : Fin 16) (l : Fin 128) :
    largest X 15 (by omega) (ix2 (⟨16 * c.val + i.val, by omega⟩ : Fin 512) l) = mag (P.prd (I i) (J l) c) := by
  refine eq_of_forall_ge_iff fun z => (largest_le z _ 15 _).trans ?_
  rw [mag, Finset.fold_max_le]
  constructor
  · exact fun hh => ⟨bot_le, fun d _ => by rw [← column_apply h c d i l]; exact hh d (by omega)⟩
  · exact fun hh d _ => by rw [column_apply h c d i l]; exact hh.2 d (Finset.mem_univ _)

theorem filled_holds (h : Fills X P I J) : (Slot.filled X).Holds P I J :=
  ⟨fun i c d l => column_apply h c d i l, fun i c l => largest_apply h c i l⟩

section Results

variable (hs : s.Holds P I J) (h : Ends X P I J)
include hs h

theorem sc_apply (i : Fin 16) (c : Fin 32) (l : Fin 128) :
    scRow (theScales X) (theCounts X) c (get s.am (rowsOf c)) (ix2 i l) = P.scl (I i) (J l) c := by
  have ha : get s.am (rowsOf c) (ix2 i l) = mag (P.prd (I i) (J l) c) := (get_rowsOf _ c i l).trans (hs.am i c l)
  have h1 : theScales X (ix2 i c) = P.asc c (I i) := (get_all2 (X .as') i c).trans (h.asc i c)
  have h2 : theCounts X (ix2 i l) = P.rc (I i) (J l) := (get_all2 (X .rc) i l).trans (h.rc i l)
  rw [scRow_apply _ _ _ _ _ _ (ha ▸ mag_nonneg _), ha, h1, h2]
  rfl

theorem q_apply (i : Fin 16) (c : Fin 32) (l : Fin 128) :
    qRow (theScales X) (theCounts X) c (get s.am (rowsOf c)) (ix2 i l) = P.fac (I i) (J l) c * inv2 (P.top (I i) (J l) c) := by
  have ha : get s.am (rowsOf c) (ix2 i l) = mag (P.prd (I i) (J l) c) := (get_rowsOf _ c i l).trans (hs.am i c l)
  have h1 : theScales X (ix2 i c) = P.asc c (I i) := (get_all2 (X .as') i c).trans (h.asc i c)
  have h2 : theCounts X (ix2 i l) = P.rc (I i) (J l) := (get_all2 (X .rc) i l).trans (h.rc i l)
  rw [qRow_apply _ _ _ _ _ _ (ha ▸ mag_nonneg _), ha, h1, h2]
  rfl

theorem code_apply (i : Fin 16) (c d : Fin 32) (l : Fin 128) : codeAt X s i c (ix2 d l) = P.cod (I i) (J l) c d := by
  refine (codeOf_apply _ _ d l).trans (congrArg clip (congrArg₂ (· * ·) (hs.o i c d l) ?_))
  exact q_apply hs h i c l

theorem back_apply (i : Fin 16) (c d : Fin 32) (l : Fin 128) :
    backAt X s i c (ix2 d l) = P.cod (I i) (J l) c d * P.scl (I i) (J l) c := by
  refine (backOf_apply _ _ _ d l).trans (congrArg₂ (· * ·) (congrArg clip (congrArg₂ (· * ·) (hs.o i c d l) ?_)) ?_)
  · exact q_apply hs h i c l
  · exact sc_apply hs h i c l

theorem four_at (i : Fin 16) (g : Fin 8) (n : Nat) (hn : n < 4) : (fourAt X s i g).at n = backAt X s i ⟨4 * g.val + n, by omega⟩ :=
  match n, hn with
  | 0, _ => rfl
  | 1, _ => rfl
  | 2, _ => rfl
  | 3, _ => rfl

theorem stackAt_apply (i : Fin 16) (k : Fin 1024) (l : Fin 128) :
    stackAt X s i (ix2 k l) = P.cod (I i) (J l) (hi32 k) (lo32 k) * P.scl (I i) (J l) (hi32 k) := by
  refine (stack_apply (fun g => fourAt X s i g) k l).trans ?_
  refine (congrFun (four_at hs h i _ _ (by omega)) _).trans ?_
  refine (back_apply hs h i _ _ l).trans ?_
  have e : (⟨4 * (k.val / 128) + k.val / 32 % 4, by omega⟩ : Fin 32) = hi32 k := Fin.ext (by dsimp only; omega)
  rw [e]

theorem half_apply (i : Fin 16) (e l : Fin 128) :
    halfAt X s i (ix2 e l) = ∑ k, P.wo k e * (P.cod (I i) (J l) (hi32 k) (lo32 k) * P.scl (I i) (J l) (hi32 k)) := by
  have hw : ∀ e k, get (X .wo) (all2 128 1024) (ix2 e k) = P.wo k e := fun e k => (get_all2 (X .wo) e k).trans (h.wo e k)
  rcases Nat.mod_two_eq_zero_or_one i.val with q | q
  · obtain ⟨k, rfl⟩ : ∃ k, i = lo k := ⟨⟨i.val / 2, by omega⟩, Fin.ext (by show i.val = 2 * (i.val / 2); omega)⟩
    rw [halfAt_lo]
    exact (outputs_left _ _ _ e l).trans (Finset.sum_congr rfl fun k' _ => congrArg₂ (· * ·) (hw e k') (stackAt_apply hs h _ k' l))
  · obtain ⟨k, rfl⟩ : ∃ k, i = hi k := ⟨⟨i.val / 2, by omega⟩, Fin.ext (by show i.val = 2 * (i.val / 2) + 1; omega)⟩
    rw [halfAt_hi]
    exact (outputs_right _ _ _ e l).trans (Finset.sum_congr rfl fun k' _ => congrArg₂ (· * ·) (hw e k') (stackAt_apply hs h _ k' l))

theorem allCodes_apply (i : Fin 16) (l : Fin 128) (k : Fin 1024) :
    allCodes X s (ix3 i l k) = P.cod (I i) (J l) (hi32 k) (lo32 k) := by
  have hk := k.isLt
  refine (fourCodes_apply _ _ _ _ l (⟨k.val % 128, by omega⟩ : Fin 128)).trans ?_
  have e : ∀ n, n < 4 → pick (codeAt X s i (grp ⟨k.val / 128, by omega⟩ 0)) (codeAt X s i (grp ⟨k.val / 128, by omega⟩ 1))
      (codeAt X s i (grp ⟨k.val / 128, by omega⟩ 2)) (codeAt X s i (grp ⟨k.val / 128, by omega⟩ 3)) n
        = codeAt X s i ⟨4 * (k.val / 128) + n % 4, by omega⟩ := fun n hn =>
    match n, hn with
    | 0, _ => rfl
    | 1, _ => rfl
    | 2, _ => rfl
    | 3, _ => rfl
  refine (congrFun (e (k.val % 128 / 32) (by omega)) _).trans ((code_apply hs h i _ _ l).trans ?_)
  exact congrArg₂ (P.cod (I i) (J l)) (Fin.ext (by dsimp only; omega)) (Fin.ext (by dsimp only; omega))

theorem allScales_apply (i : Fin 16) (c : Fin 32) (l : Fin 128) : allScales X s (ix3 i c l) = P.scl (I i) (J l) c :=
  sc_apply hs h i c l

theorem allStored_apply (i : Fin 16) (l e : Fin 128) : allStored X s (ix3 i l e) = P.upd (I i) (J l) e := by
  refine (stored_apply (get (X .z) (slab 128 128 i)) (halfAt X s i) _ _ l e).trans ?_
  rw [half_apply hs h i e l]
  refine congrArg₂ (· + ·) ((get_slab (X .z) i l e).trans (h.z i l e)) (congrArg₂ (· + ·) (congrArg₂ (· * ·) ?_ ?_) ?_)
  · exact Finset.sum_congr rfl fun k _ => mul_comm _ _
  · exact (get_all2 (X .wos) e l).trans (h.wos e l)
  · exact (get_all2 (X .bo) e l).trans (h.bo e l)

end Results

end Cert.Outer
-- ==== Proof.OpmFinalKI.lean ====
/-
  The blocks a step of the outer product finds, read element by element as elements of its arguments.
-/
module

public import proofs.«01_k».proof.Proof.OpmVal
public import proofs.«01_k».proof.Proof.OpmRunKI
public import Idealize.ShloMosaic.Lib.Claim
public import Idealize.ShloMosaic.Lib.Pipeline.ValueKit

@[expose] public section

noncomputable section

namespace Cert.OpmIdeal.Body

open Idealize.ShloMosaic Idealize.ShloMosaic.TcCoe
open Idealize.SL.Sem
open Cert.OpmIdeal Cert.OpmIdeal.Gen Cert.Outer

variable (m : (ℓ : Loc nD τ sig) → Buf (Elt Ideal) ℓ) (c : Dev nD)

/-- What the outer product is of, from the arguments. -/
def givenOf : Given where
  a c' i s := m ((c : Thread nD τ).loc main_arg0) (ix3 c' i s)
  b d s j := m ((c : Thread nD τ).loc main_arg1) (ix3 d s j)
  asc c' i := m ((c : Thread nD τ).loc main_arg2) (ix2 c' i)
  bsc d j := m ((c : Thread nD τ).loc main_arg3) (ix2 d j)
  rc i j := m ((c : Thread nD τ).loc main_arg4) (ix2 i j)
  z i j e := m ((c : Thread nD τ).loc main_arg5) (ix3 i j e)
  wo k e := m ((c : Thread nD τ).loc main_arg6) (ix2 k e)
  wos e := m ((c : Thread nD τ).loc main_arg7) (ix1 e)
  bo e := m ((c : Thread nD τ).loc main_arg8) (ix1 e)

/-- The rows of the block filled at step `t`. -/
abbrev curI (t : Fin cfg0.N) (i : Fin 16) : Fin 512 := ⟨min t.val 127 % 32 * 16 + i.val, by omega⟩
/-- Its columns. -/
abbrev curJ (t : Fin cfg0.N) (l : Fin 128) : Fin 512 := ⟨min t.val 127 / 32 * 128 + l.val, by omega⟩
/-- The rows of the block before it. -/
abbrev prevI (t : Fin cfg0.N) (i : Fin 16) : Fin 512 := ⟨(t.val - 1) % 32 * 16 + i.val, by omega⟩
/-- Its columns. -/
abbrev prevJ (t : Fin cfg0.N) (l : Fin 128) : Fin 512 := ⟨(t.val - 1) / 32 * 128 + l.val, by have : t.val < 129 := t.isLt; omega⟩

theorem index_0 : ∀ t : Fin grid0.N, win0_0.index t = ![0, min t.val 127 % 32, 0] := by decide +kernel
theorem index_1 : ∀ t : Fin grid0.N, win0_1.index t = ![0, 0, min t.val 127 / 32] := by decide +kernel
theorem index_2 : ∀ t : Fin grid0.N, win0_2.index t = ![0, min t.val 127 / 32] := by decide +kernel
theorem index_3 : ∀ t : Fin grid0.N, win0_3.index t = ![(t.val - 1) % 32, 0] := by decide +kernel
theorem index_4 : ∀ t : Fin grid0.N, win0_4.index t = ![(t.val - 1) % 32, (t.val - 1) / 32] := by decide +kernel
theorem index_5 : ∀ t : Fin grid0.N, win0_5.index t = ![(t.val - 1) % 32, (t.val - 1) / 32, 0] := by decide +kernel
theorem index_6 : ∀ t : Fin grid0.N, win0_6.index t = ![0, 0] := by decide +kernel
theorem index_7 : ∀ t : Fin grid0.N, win0_7.index t = ![0, 0] := by decide +kernel
theorem index_8 : ∀ t : Fin grid0.N, win0_8.index t = ![0, 0] := by decide +kernel
theorem index_12 : ∀ t : Fin grid0.N, win0_12.index t = ![(t.val - 1) % 32, (t.val - 1) / 32, 0] := by decide +kernel
theorem index_13 : ∀ t : Fin grid0.N, win0_13.index t = ![(t.val - 1) % 32, 0, (t.val - 1) / 32] := by decide +kernel
theorem index_14 : ∀ t : Fin grid0.N, win0_14.index t = ![(t.val - 1) % 32, (t.val - 1) / 32, 0] := by decide +kernel
theorem flush_12 : ∀ t : Fin cfg0.N, (cfg0.win 12).flush t = true → 1 ≤ t.val :=
  (by decide +kernel : ∀ t : Fin grid0.N, win0_12.flush t = true → 1 ≤ t.val)
theorem flush_13 : ∀ t : Fin cfg0.N, (cfg0.win 13).flush t = true → 1 ≤ t.val :=
  (by decide +kernel : ∀ t : Fin grid0.N, win0_13.flush t = true → 1 ≤ t.val)
theorem flush_14 : ∀ t : Fin cfg0.N, (cfg0.win 14).flush t = true → 1 ≤ t.val :=
  (by decide +kernel : ∀ t : Fin grid0.N, win0_14.flush t = true → 1 ≤ t.val)

theorem iblk_0 (t : Fin cfg0.N) (g : Fin 32) (i : Fin 16) (s : Fin 896) : iblk m c 0 t (ix3 g i s) = (givenOf m c).a g (curI t i) s := by
  blk_simp [iblk]
  rw [Cert.Outer.at3 ((win0_0.blk t).view.emb (ix3 g i s)) g (curI t i) s (by blk_simp [index_0 t]) (by blk_simp [index_0 t]) (by blk_simp [index_0 t]), V_main_arg0]
  rfl

theorem iblk_1 (t : Fin cfg0.N) (d : Fin 32) (s : Fin 896) (l : Fin 128) : iblk m c 1 t (ix3 d s l) = (givenOf m c).b d s (curJ t l) := by
  blk_simp [iblk]
  rw [Cert.Outer.at3 ((win0_1.blk t).view.emb (ix3 d s l)) d s (curJ t l) (by blk_simp [index_1 t]) (by blk_simp [index_1 t]) (by blk_simp [index_1 t]), V_main_arg1]
  rfl

theorem iblk_2 (t : Fin cfg0.N) (d : Fin 32) (l : Fin 128) : iblk m c 2 t (ix2 d l) = (givenOf m c).bsc d (curJ t l) := by
  blk_simp [iblk]
  rw [Cert.Outer.at2 ((win0_2.blk t).view.emb (ix2 d l)) d (curJ t l) (by blk_simp [index_2 t]) (by blk_simp [index_2 t]), V_main_arg3]
  rfl

theorem iblk_3 (t : Fin cfg0.N) (i : Fin 16) (g : Fin 32) : iblk m c 3 t (ix2 i g) = (givenOf m c).asc g (prevI t i) := by
  blk_simp [iblk]
  rw [Cert.Outer.at2 ((win0_3.blk t).view.emb (ix2 i g)) (prevI t i) g (by blk_simp [index_3 t]) (by blk_simp [index_3 t])]
  simp only [V, V0, List.flatten_cons, List.flatten_nil, List.append_nil]
  entry_read
  pointwise [givenOf]

theorem iblk_4 (t : Fin cfg0.N) (i : Fin 16) (l : Fin 128) : iblk m c 4 t (ix2 i l) = (givenOf m c).rc (prevI t i) (prevJ t l) := by
  blk_simp [iblk]
  rw [Cert.Outer.at2 ((win0_4.blk t).view.emb (ix2 i l)) (prevI t i) (prevJ t l) (by blk_simp [index_4 t]) (by blk_simp [index_4 t]), V_main_arg4]
  rfl

theorem iblk_5 (t : Fin cfg0.N) (i : Fin 16) (l : Fin 128) (e : Fin 128) : iblk m c 5 t (ix3 i l e) = (givenOf m c).z (prevI t i) (prevJ t l) e := by
  blk_simp [iblk]
  rw [Cert.Outer.at3 ((win0_5.blk t).view.emb (ix3 i l e)) (prevI t i) (prevJ t l) e (by blk_simp [index_5 t]) (by blk_simp [index_5 t]) (by blk_simp [index_5 t]), V_main_arg5]
  rfl

theorem iblk_6 (t : Fin cfg0.N) (e : Fin 128) (k : Fin 1024) : iblk m c 6 t (ix2 e k) = (givenOf m c).wo k e := by
  blk_simp [iblk]
  rw [Cert.Outer.at2 ((win0_6.blk t).view.emb (ix2 e k)) e k (by blk_simp [index_6 t]) (by blk_simp [index_6 t])]
  simp only [V, V0, List.flatten_cons, List.flatten_nil, List.append_nil]
  entry_read
  pointwise [givenOf]

theorem iblk_7 (t : Fin cfg0.N) (e : Fin 128) (l : Fin 128) : iblk m c 7 t (ix2 e l) = (givenOf m c).wos e := by
  blk_simp [iblk]
  rw [Cert.Outer.at2 ((win0_7.blk t).view.emb (ix2 e l)) e l (by blk_simp [index_7 t]) (by blk_simp [index_7 t])]
  simp only [V, V0, List.flatten_cons, List.flatten_nil, List.append_nil]
  entry_read
  pointwise [givenOf]

theorem iblk_8 (t : Fin cfg0.N) (e : Fin 128) (l : Fin 128) : iblk m c 8 t (ix2 e l) = (givenOf m c).bo e := by
  blk_simp [iblk]
  rw [Cert.Outer.at2 ((win0_8.blk t).view.emb (ix2 e l)) e l (by blk_simp [index_8 t]) (by blk_simp [index_8 t])]
  simp only [V, V0, List.flatten_cons, List.flatten_nil, List.append_nil]
  entry_read
  pointwise [givenOf]

theorem fills (t : Fin cfg0.N) : Fills (opsAt m c t) (givenOf m c) (curI t) (curJ t) where
  a g i s := iblk_0 m c t g i s
  b d s l := iblk_1 m c t d s l
  bsc d l := iblk_2 m c t d l

theorem ends (t : Fin cfg0.N) : Ends (opsAt m c t) (givenOf m c) (prevI t) (prevJ t) where
  asc i g := iblk_3 m c t i g
  rc i l := iblk_4 m c t i l
  z i l e := iblk_5 m c t i l e
  wo e k := iblk_6 m c t e k
  wos e l := iblk_7 m c t e l
  bo e l := iblk_8 m c t e l

/-- The slot a step reads holds the block before it. -/
theorem slotBefore_holds (t : Fin cfg0.N) (h : 1 ≤ t.val) : (slotBefore m c t).Holds (givenOf m c) (prevI t) (prevJ t) := by
  have ht : t.val < 129 := t.isLt
  rw [slotBefore, if_neg (by omega), slotAt]
  have e : min (t.val - 1) 127 = t.val - 1 := by omega
  have hI : prevI t = curI ⟨t.val - 1, by omega⟩ := funext fun i => Fin.ext (by show _ = min (t.val - 1) 127 % 32 * 16 + i.val; rw [e])
  have hJ : prevJ t = curJ ⟨t.val - 1, by omega⟩ := funext fun i => Fin.ext (by show _ = min (t.val - 1) 127 / 32 * 128 + i.val; rw [e])
  rw [hI, hJ]
  exact filled_holds (fills m c _)

/-- The codes. -/
theorem final_12 : (dats m 0 c).arrAt 12 cfg0.N = fun x : S512x512x1024.Idx => (givenOf m c).cod (x 0) (x 1) (hi32 (x 2)) (lo32 (x 2)) := by
  refine (dats m 0 c).arrAt_eq_of_covers 12 _ (by decide +kernel) fun t hf y => ?_
  have ht := flush_12 t hf
  blk_simp
  rw [after_12]
  obtain ⟨i, l, k, rfl⟩ : ∃ (i : Fin 16) (l : Fin 128) (k : Fin 1024), y = ix3 i l k := ⟨y 0, y 1, y 2, at3 y (y 0) (y 1) (y 2) rfl rfl rfl⟩
  rw [Cert.Outer.at3 ((win0_12.blk t).view.emb (ix3 i l k)) (prevI t i) (prevJ t l) k (by blk_simp [index_12 t]) (by blk_simp [index_12 t]) (by blk_simp [index_12 t])]
  exact allCodes_apply (slotBefore_holds m c t ht) (ends m c t) i l k

/-- Their scales. -/
theorem final_13 : (dats m 0 c).arrAt 13 cfg0.N = fun x : S512x32x512.Idx => (givenOf m c).scl (x 0) (x 2) (x 1) := by
  refine (dats m 0 c).arrAt_eq_of_covers 13 _ (by decide +kernel) fun t hf y => ?_
  have ht := flush_13 t hf
  blk_simp
  rw [after_13]
  obtain ⟨i, g, l, rfl⟩ : ∃ (i : Fin 16) (g : Fin 32) (l : Fin 128), y = ix3 i g l := ⟨y 0, y 1, y 2, at3 y (y 0) (y 1) (y 2) rfl rfl rfl⟩
  rw [Cert.Outer.at3 ((win0_13.blk t).view.emb (ix3 i g l)) (prevI t i) g (prevJ t l) (by blk_simp [index_13 t]) (by blk_simp [index_13 t]) (by blk_simp [index_13 t])]
  exact allScales_apply (slotBefore_holds m c t ht) (ends m c t) i g l

/-- The updated `z`. -/
theorem final_14 : (dats m 0 c).arrAt 14 cfg0.N = fun x : S512x512x128.Idx => (givenOf m c).upd (x 0) (x 1) (x 2) := by
  refine (dats m 0 c).arrAt_eq_of_covers 14 _ (by decide +kernel) fun t hf y => ?_
  have ht := flush_14 t hf
  blk_simp
  rw [after_14]
  obtain ⟨i, l, e, rfl⟩ : ∃ (i : Fin 16) (l : Fin 128) (e : Fin 128), y = ix3 i l e := ⟨y 0, y 1, y 2, at3 y (y 0) (y 1) (y 2) rfl rfl rfl⟩
  rw [Cert.Outer.at3 ((win0_14.blk t).view.emb (ix3 i l e)) (prevI t i) (prevJ t l) e (by blk_simp [index_14 t]) (by blk_simp [index_14 t]) (by blk_simp [index_14 t])]
  exact allStored_apply (slotBefore_holds m c t ht) (ends m c t) i l e

/-- The buffers when the call returns. -/
abbrev leftAt : Valuation τ sig (Elt Ideal) :=
  Pipeline.withArrays (cfgs 0).spec c (V0 m c) fun w => (dats m 0 c).arrAt w (cfgs 0).N

theorem left_arr (w : Fin 16) : leftAt m c (Proc.devRef .tc (Pipeline.arrRef (cfgs 0).spec w)) = (dats m 0 c).arrAt w (cfgs 0).N :=
  Pipeline.Dat.withArrays_arrAt (dats m 0 c) (by decide +kernel) (V0 m c) (A_eq m c) w

theorem end_11 : Pipeline.afterTail₀ cfgs (dats m) 0 (V0 m) [hostOps1] c main_v11
    = fun x : S512x512x32.Idx => (givenOf m c).scl (x 0) (x 1) (x 2) := by
  unfold Pipeline.afterTail₀
  simp only [List.flatten_cons, List.flatten_nil, List.append_nil, StableHlo.after_cons, StableHlo.after_nil]
  after_results_steps
  refine (congrArg (transpose S512x512x32 [0, 2, 1] · transposes_S512x32x512_S512x512x32_0_2_1) ((left_arr m c 13).trans (final_13 m c))).trans ?_
  funext i
  obtain ⟨s, n, k, rfl⟩ : ∃ s n k, i = ix3 s n k := ⟨i 0, i 1, i 2, at3 i (i 0) (i 1) (i 2) rfl rfl rfl⟩
  pointwise []

end Cert.OpmIdeal.Body
-- ==== Proof.OpmRefRead.lean ====
/-
  The outer product's reference read element by element over the extended reals.
-/
module

public import proofs.«01_k».proof.Proof.OpmSpec
public import proofs.«01_k».proof.Proof.Gen.OpmReferenceIdeal.Skeleton

@[expose] public section

noncomputable section

namespace Cert.Outer.Ref

open Idealize.ShloMosaic Idealize.SL.Sem
open Cert.OpmReferenceIdeal Cert.OpmReferenceIdeal.Gen
open Cert.Pwa (mag mag_mul minf_eq absf_eq)

variable [Cert.OpmReferenceIdeal.Facts]

/-! ## Shared pieces -/

theorem mag_read (x : FVec Ideal S512x512x32x32 .f32) (i j : Fin 512) (c : Fin 32) :
    multiReduction (F := Ideal) .maximumf [3] S512x512x32 (absf x) 0xFF800000#32 reduces_S512x512x32x32_S512x512x32 (.inl rfl) rfl (ix3 i j c)
      = mag fun d => x (ix4 i j c d) := by
  pointwise [absf_eq, minf_eq, mag]

/-- A group's exponent from its largest magnitude. -/
theorem grade_read {S : Shape} (x : FVec Ideal S .f32) (i : S.Idx) :
    select (cmpf .oeq x (broadcast S (Scalar.ofBits (F := Ideal) .f32 0x00000000#32))) (broadcast S (Scalar.ofBits (F := Ideal) .f32 0x00000000#32))
      (addf (floor (divf (log (mulf x (broadcast S (Scalar.ofBits (F := Ideal) .f32 0x3B124925#32))))
        (broadcast S (Scalar.ofBits (F := Ideal) .f32 0x3F317218#32)))) (broadcast S (Scalar.ofBits (F := Ideal) .f32 0x3F800000#32))) i
      = grade (x i) := rfl

theorem inverse_read {S : Shape} (x : FVec Ideal S .f32) (i : S.Idx) :
    exp2 (subf (broadcast S (Scalar.ofBits (F := Ideal) .f32 0x00000000#32)) x) i = Ideal.exp2 (fz - x i) := rfl

theorem widened_read {S : Shape} (x : FVec Ideal S .fp8e4m3) (i : S.Idx) : extf .bf16 x bitsLt_fp8e4m3_bf16 i = x i := rfl

theorem narrowed_read {S : Shape} (x : FVec Ideal S .f32) (i : S.Idx) : truncf .bf16 x bitsLt_bf16_f32 i = x i := rfl

theorem spread_read {e : FTy} (x : FVec Ideal S512x512x32x32 e) (w : FVec Ideal S512x512x32 e) (i j : Fin 512) (c d : Fin 32) :
    mulf x (broadcastTo S512x512x32x32 (shapeCast S512x512x32x1 w shapeCasts_S512x512x32_S512x512x32x1) broadcasts_S512x512x32x1_S512x512x32x32) (ix4 i j c d)
      = x (ix4 i j c d) * w (ix3 i j c) := by
  pointwise []

theorem flat_read {e : FTy} (x : FVec Ideal S512x512x32x32 e) (i j : Fin 512) (k : Fin 1024) :
    shapeCast S512x512x1024 x shapeCasts_S512x512x32x32_S512x512x1024 (ix3 i j k) = x (ix4 i j (hi32 k) (lo32 k)) := by
  pointwise []

theorem output_read (x : FVec Ideal S512x512x1024 .bf16) (w : FVec Ideal S1024x128 .bf16) (ws b : FVec Ideal S128 .f32) (i j : Fin 512) (e : Fin 128) :
    addf (mulf (matmul dot_S512x512x1024_S1024x128_S512x512x128_2_0_01_1_n_n none x w (constant S512x512x128 .f32 0x00000000#32))
        (broadcastTo S512x512x128 (shapeCast S1x1x128 ws shapeCasts_S128_S1x1x128) broadcasts_S1x1x128_S512x512x128))
      (broadcastTo S512x512x128 (shapeCast S1x1x128 b shapeCasts_S128_S1x1x128) broadcasts_S1x1x128_S512x512x128) (ix3 i j e)
      = (∑ k, x (ix3 i j k) * w (ix2 k e)) * ws (ix1 e) + b (ix1 e) := by
  pointwise []

/-- The products of all pairs of positions. -/
theorem outer_read (a b : FVec Ideal S896x512x32 .bf16) (i j : Fin 512) (c d : Fin 32) :
    transpose S512x512x32x32 [2, 0, 3, 1] (matmul dot_S896x512x32_S896x512x32_S512x32x512x32_0_0_12_12_n_n none
      (shapeCast S896x512x32 b shapeCasts_S896x512x32_S896x512x32) (shapeCast S896x512x32 a shapeCasts_S896x512x32_S896x512x32)
      (constant S512x32x512x32 .f32 0x00000000#32)) transposes_S512x32x512x32_p2_0_3_1_S512x512x32x32 (ix4 i j c d)
      = ∑ s, b (ix3 s j d) * a (ix3 s i c) := by
  pointwise []

theorem rows_read (x : FVec Ideal S512x512x32x32 .f32) (w : FVec Ideal S512x32 .f32) (i j : Fin 512) (c d : Fin 32) :
    mulf x (broadcastTo S512x512x32x32 (shapeCast S512x1x32x1 (shapeCast S512x32 w shapeCasts_S512x32_S512x32) shapeCasts_S512x32_S512x1x32x1)
      broadcasts_S512x1x32x1_S512x512x32x32) (ix4 i j c d) = x (ix4 i j c d) * w (ix2 i c) := by
  pointwise []

theorem cols_read (x : FVec Ideal S512x512x32x32 .f32) (w : FVec Ideal S512x32 .f32) (i j : Fin 512) (c d : Fin 32) :
    mulf x (broadcastTo S512x512x32x32 (shapeCast S1x512x1x32 (shapeCast S512x32 w shapeCasts_S512x32_S512x32) shapeCasts_S512x32_S1x512x1x32)
      broadcasts_S1x512x1x32_S512x512x32x32) (ix4 i j c d) = x (ix4 i j c d) * w (ix2 j d) := by
  pointwise []

theorem counts_read (x : FVec Ideal S512x512x32x32 .f32) (w : FVec Ideal S512x512 .f32) (i j : Fin 512) (c d : Fin 32) :
    mulf x (broadcastTo S512x512x32x32 (shapeCast S512x512x1x1 w shapeCasts_S512x512_S512x512x1x1)
      broadcasts_S512x512x1x1_S512x512x32x32) (ix4 i j c d) = x (ix4 i j c d) * w (ix2 i j) := by
  pointwise []

/-! ## The reference's values -/

/-- The operands hold `P`. -/
structure Holds (P : Given) (a b : FVec Ideal S896x512x32 .bf16) (asc bsc : FVec Ideal S512x32 .f32) (rc : FVec Ideal S512x512 .f32)
    (z : FVec Ideal S512x512x128 .bf16) (wo : FVec Ideal S1024x128 .bf16) (wos bo : FVec Ideal S128 .f32) : Prop where
  a : ∀ s i c, a (ix3 s i c) = P.a c i s
  b : ∀ s j d, b (ix3 s j d) = P.b d s j
  asc : ∀ i c, asc (ix2 i c) = P.asc c i
  bsc : ∀ j d, bsc (ix2 j d) = P.bsc d j
  rc : ∀ i j, rc (ix2 i j) = P.rc i j
  z : ∀ i j e, z (ix3 i j e) = P.z i j e
  wo : ∀ k e, wo (ix2 k e) = P.wo k e
  wos : ∀ e, wos (ix1 e) = P.wos e
  bo : ∀ e, bo (ix1 e) = P.bo e

variable {P : Given} {a b : FVec Ideal S896x512x32 .bf16} {asc bsc : FVec Ideal S512x32 .f32} {rc : FVec Ideal S512x512 .f32}
  {z : FVec Ideal S512x512x128 .bf16} {wo : FVec Ideal S1024x128 .bf16} {wos bo : FVec Ideal S128 .f32} (H : Holds P a b asc bsc rc z wo wos bo)
include H

theorem product_given (i j : Fin 512) (c d : Fin 32) : k0_pay5 (F := Ideal) a b asc bsc rc (ix4 i j c d) = P.prd i j c d * P.fac i j c := by
  have e : ∑ s, b (ix3 s j d) * a (ix3 s i c) = ∑ s, P.a c i s * P.b d s j :=
    Finset.sum_congr rfl fun s _ => by rw [H.a, H.b, mul_comm]
  unfold k0_pay5
  rw [counts_read, cols_read, rows_read, outer_read, e, H.asc, H.bsc, H.rc]
  unfold Given.prd Given.fac
  rw [mul_right_comm _ (P.asc c i), mul_assoc]

theorem grade_given (i j : Fin 512) (c : Fin 32) : k0_pay6 (F := Ideal) a b asc bsc rc (ix3 i j c) = grade (P.top i j c) := by
  unfold k0_pay6
  rw [grade_read, mag_read]
  refine congrArg grade ?_
  rw [show (fun d => k0_pay5 (F := Ideal) a b asc bsc rc (ix4 i j c d)) = fun d => P.prd i j c d * P.fac i j c from
    funext fun d => product_given H i j c d, mag_mul]
  rfl

theorem scaled_given (i j : Fin 512) (c d : Fin 32) :
    k0_pay7 (F := Ideal) a b asc bsc rc (ix4 i j c d) = P.prd i j c d * (P.fac i j c * inv2 (P.top i j c)) := by
  unfold k0_pay7
  rw [spread_read, product_given H i j c d, mul_assoc, inverse_read, grade_given H i j c]
  rfl

theorem code_given (i j : Fin 512) (c d : Fin 32) :
    k0_pay1 (F := Ideal) (k0_pay7 a b asc bsc rc) (ix4 i j c d) = P.cod i j c d := by
  have e : ∀ x : FVec Ideal S512x512x32x32 .f32, k0_pay1 (F := Ideal) x (ix4 i j c d) = clip (x (ix4 i j c d)) := fun x => rfl
  rw [e, scaled_given H i j c d]
  rfl

theorem codes_given (i j : Fin 512) (k : Fin 1024) :
    k0_pay3 (F := Ideal) (k0_pay7 a b asc bsc rc) (ix3 i j k) = P.cod i j (hi32 k) (lo32 k) := by
  unfold k0_pay3
  rw [flat_read]
  exact code_given H i j _ _

theorem scale_given (i j : Fin 512) (c : Fin 32) : k0_pay2 (F := Ideal) (k0_pay6 a b asc bsc rc) (ix3 i j c) = P.scl i j c := by
  have e : ∀ x : FVec Ideal S512x512x32 .f32, k0_pay2 (F := Ideal) x (ix3 i j c) = Ideal.exp2 (x (ix3 i j c)) := fun x => rfl
  rw [e, grade_given H i j c]
  rfl

theorem update_given (i j : Fin 512) (e : Fin 128) :
    k0_pay4 (F := Ideal) (k0_pay6 a b asc bsc rc) (k0_pay7 a b asc bsc rc) wo wos z bo (ix3 i j e) = P.upd i j e := by
  have r : ∀ (x : FVec Ideal S512x512x128 .bf16) (y : FVec Ideal S512x512x128 .f32), truncf .bf16 (addf (extf .f32 x bitsLt_bf16_f32) y) bitsLt_bf16_f32 (ix3 i j e)
      = x (ix3 i j e) + y (ix3 i j e) := fun x y => rfl
  unfold k0_pay4
  rw [r, output_read, H.z, H.wos, H.bo]
  refine congrArg (fun y => P.z i j e + (y * P.wos e + P.bo e)) (Finset.sum_congr rfl fun k _ => ?_)
  rw [flat_read, spread_read, H.wo]
  refine congrArg (· * P.wo k e) (congrArg₂ (· * ·) ?_ ?_)
  · rw [widened_read]; exact code_given H i j _ _
  · rw [narrowed_read]; exact scale_given H i j _

end Cert.Outer.Ref
-- ==== Proof.OpmFinalRef.lean ====
/-
  The blocks the outer product's reference finds, read as elements of its arguments, and its result arrays after the run.
-/
module

public import proofs.«01_k».proof.Proof.OpmRefRead
public import proofs.«01_k».proof.Proof.FinalRef
public import proofs.«01_k».proof.Proof.Gen.OpmReferenceIdeal.Frame
public import Idealize.ShloMosaic.Lib.Claim
public import Idealize.ShloMosaic.Lib.Pipeline.ValueKit

@[expose] public section

noncomputable section

namespace Cert.OpmReferenceIdeal.Body

open Idealize.ShloMosaic Idealize.ShloMosaic.TcCoe
open Idealize.SL.Sem
open Cert.OpmReferenceIdeal Cert.OpmReferenceIdeal.Gen Cert.Outer Cert.Outer.Ref
open Cert.ReferenceIdeal.Body (eq_at1 eq_at2 eq_at3)

variable (m : (ℓ : Loc nD τ sig) → Buf (Elt Ideal) ℓ) (c : Dev nD)

/-- What the outer product is of, from the arguments. -/
def givenOf : Given where
  a c' i s := m ((c : Thread nD τ).loc main_arg0) (ix3 c' i s)
  b d s j := m ((c : Thread nD τ).loc main_arg1) (ix3 d s j)
  asc c' i := m ((c : Thread nD τ).loc main_arg2) (ix2 c' i)
  bsc d j := m ((c : Thread nD τ).loc main_arg3) (ix2 d j)
  rc i j := m ((c : Thread nD τ).loc main_arg4) (ix2 i j)
  z i j e := m ((c : Thread nD τ).loc main_arg5) (ix3 i j e)
  wo k e := m ((c : Thread nD τ).loc main_arg6) (ix2 k e)
  wos e := m ((c : Thread nD τ).loc main_arg7) (ix1 e)
  bo e := m ((c : Thread nD τ).loc main_arg8) (ix1 e)

theorem index_0 : ∀ t : Fin grid0.N, win0_0.index t = ![0, 0, 0] := by decide +kernel
theorem index_1 : ∀ t : Fin grid0.N, win0_1.index t = ![0, 0, 0] := by decide +kernel
theorem index_2 : ∀ t : Fin grid0.N, win0_2.index t = ![0, 0] := by decide +kernel
theorem index_3 : ∀ t : Fin grid0.N, win0_3.index t = ![0, 0] := by decide +kernel
theorem index_4 : ∀ t : Fin grid0.N, win0_4.index t = ![0, 0] := by decide +kernel
theorem index_5 : ∀ t : Fin grid0.N, win0_5.index t = ![0, 0, 0] := by decide +kernel
theorem index_6 : ∀ t : Fin grid0.N, win0_6.index t = ![0, 0] := by decide +kernel
theorem index_7 : ∀ t : Fin grid0.N, win0_7.index t = ![0] := by decide +kernel
theorem index_8 : ∀ t : Fin grid0.N, win0_8.index t = ![0] := by decide +kernel

theorem iblk_0 (t : Fin cfg0.N) (s : Fin 896) (i : Fin 512) (k : Fin 32) : iblk m c 0 t (ix3 s i k) = (givenOf m c).a k i s := by
  blk_simp [iblk]
  rw [eq_at3 ((win0_0.blk t).view.emb (ix3 s i k)) s i k (by blk_simp [index_0 t]) (by blk_simp [index_0 t]) (by blk_simp [index_0 t])]
  simp only [V]
  entry_read
  pointwise [givenOf]

theorem iblk_1 (t : Fin cfg0.N) (s : Fin 896) (j : Fin 512) (k : Fin 32) : iblk m c 1 t (ix3 s j k) = (givenOf m c).b k s j := by
  blk_simp [iblk]
  rw [eq_at3 ((win0_1.blk t).view.emb (ix3 s j k)) s j k (by blk_simp [index_1 t]) (by blk_simp [index_1 t]) (by blk_simp [index_1 t])]
  simp only [V]
  entry_read
  pointwise [givenOf]

theorem iblk_2 (t : Fin cfg0.N) (i : Fin 512) (k : Fin 32) : iblk m c 2 t (ix2 i k) = (givenOf m c).asc k i := by
  blk_simp [iblk]
  rw [eq_at2 ((win0_2.blk t).view.emb (ix2 i k)) i k (by blk_simp [index_2 t]) (by blk_simp [index_2 t])]
  simp only [V]
  entry_read
  pointwise [givenOf]

theorem iblk_3 (t : Fin cfg0.N) (j : Fin 512) (k : Fin 32) : iblk m c 3 t (ix2 j k) = (givenOf m c).bsc k j := by
  blk_simp [iblk]
  rw [eq_at2 ((win0_3.blk t).view.emb (ix2 j k)) j k (by blk_simp [index_3 t]) (by blk_simp [index_3 t])]
  simp only [V]
  entry_read
  pointwise [givenOf]

theorem iblk_4 (t : Fin cfg0.N) (i : Fin 512) (j : Fin 512) : iblk m c 4 t (ix2 i j) = (givenOf m c).rc i j := by
  blk_simp [iblk]
  rw [eq_at2 ((win0_4.blk t).view.emb (ix2 i j)) i j (by blk_simp [index_4 t]) (by blk_simp [index_4 t]), V_main_arg4]
  rfl

theorem iblk_5 (t : Fin cfg0.N) (i : Fin 512) (j : Fin 512) (e : Fin 128) : iblk m c 5 t (ix3 i j e) = (givenOf m c).z i j e := by
  blk_simp [iblk]
  rw [eq_at3 ((win0_5.blk t).view.emb (ix3 i j e)) i j e (by blk_simp [index_5 t]) (by blk_simp [index_5 t]) (by blk_simp [index_5 t]), V_main_arg5]
  rfl

theorem iblk_6 (t : Fin cfg0.N) (k : Fin 1024) (e : Fin 128) : iblk m c 6 t (ix2 k e) = (givenOf m c).wo k e := by
  blk_simp [iblk]
  rw [eq_at2 ((win0_6.blk t).view.emb (ix2 k e)) k e (by blk_simp [index_6 t]) (by blk_simp [index_6 t]), V_main_arg6]
  rfl

theorem iblk_7 (t : Fin cfg0.N) (e : Fin 128) : iblk m c 7 t (ix1 e) = (givenOf m c).wos e := by
  blk_simp [iblk]
  rw [eq_at1 ((win0_7.blk t).view.emb (ix1 e)) e (by blk_simp [index_7 t]), V_main_arg7]
  rfl

theorem iblk_8 (t : Fin cfg0.N) (e : Fin 128) : iblk m c 8 t (ix1 e) = (givenOf m c).bo e := by
  blk_simp [iblk]
  rw [eq_at1 ((win0_8.blk t).view.emb (ix1 e)) e (by blk_simp [index_8 t]), V_main_arg8]
  rfl

/-- The whole-array loads of the reference's operands hold them. -/
theorem holds (t : Fin cfg0.N) : Holds (givenOf m c) (iblk m c 0 t) (iblk m c 1 t) (iblk m c 2 t) (iblk m c 3 t) (iblk m c 4 t) (iblk m c 5 t) (iblk m c 6 t)
    (iblk m c 7 t) (iblk m c 8 t) where
  a := iblk_0 m c t
  b := iblk_1 m c t
  asc := iblk_2 m c t
  bsc := iblk_3 m c t
  rc := iblk_4 m c t
  z := iblk_5 m c t
  wo := iblk_6 m c t
  wos := iblk_7 m c t
  bo := iblk_8 m c t

section Payloads

variable (x0 : FVec Ideal S896x512x32 .bf16) (x1 : FVec Ideal S896x512x32 .bf16) (x2 : FVec Ideal S512x32 .f32) (x3 : FVec Ideal S512x32 .f32) (x4 : FVec Ideal S512x512 .f32) (x5 : FVec Ideal S512x512x128 .bf16) (x6 : FVec Ideal S1024x128 .bf16) (x7 : FVec Ideal S128 .f32) (x8 : FVec Ideal S128 .f32)

theorem pay8_eq : k0_pay8 (F := Ideal) x0 x1 x2 x3 x4 x5 x6 x7 x8 = k0_pay6 x0 x1 x2 x3 x4 := by
  simp (disch := decide) only [k0_pay8, View.ld_unit_lit]

theorem pay9_eq : k0_pay9 (F := Ideal) x0 x1 x2 x3 x4 x5 x6 x7 x8 = k0_pay7 x0 x1 x2 x3 x4 := by
  simp (disch := decide) only [k0_pay9, View.ld_unit_lit]

end Payloads

theorem final_9 : (dats m 0 c).arrAt 9 cfg0.N = fun x : S512x512x1024.Idx => (givenOf m c).cod (x 0) (x 1) (hi32 (x 2)) (lo32 (x 2)) := by
  refine (dats m 0 c).arrAt_eq_of_after_last 9 t0_0 (by decide +kernel) _ fun x => ?_
  obtain ⟨i, j, k, rfl⟩ : ∃ i j k, x = ix3 i j k := ⟨x 0, x 1, x 2, eq_at3 x (x 0) (x 1) (x 2) rfl rfl rfl⟩
  blk_simp
  rw [after0_9]
  frame_out
  rw [pay9_eq]
  exact codes_given (holds m c t0_0) i j k

theorem final_10 : (dats m 0 c).arrAt 10 cfg0.N = fun x : S512x512x32.Idx => (givenOf m c).scl (x 0) (x 1) (x 2) := by
  refine (dats m 0 c).arrAt_eq_of_after_last 10 t0_0 (by decide +kernel) _ fun x => ?_
  obtain ⟨i, j, k, rfl⟩ : ∃ i j k, x = ix3 i j k := ⟨x 0, x 1, x 2, eq_at3 x (x 0) (x 1) (x 2) rfl rfl rfl⟩
  blk_simp
  rw [after0_10]
  frame_out
  rw [pay8_eq]
  exact scale_given (holds m c t0_0) i j k

theorem final_11 : (dats m 0 c).arrAt 11 cfg0.N = fun x : S512x512x128.Idx => (givenOf m c).upd (x 0) (x 1) (x 2) := by
  refine (dats m 0 c).arrAt_eq_of_after_last 11 t0_0 (by decide +kernel) _ fun x => ?_
  obtain ⟨i, j, k, rfl⟩ : ∃ i j k, x = ix3 i j k := ⟨x 0, x 1, x 2, eq_at3 x (x 0) (x 1) (x 2) rfl rfl rfl⟩
  blk_simp
  rw [after0_11]
  frame_out
  rw [pay8_eq, pay9_eq]
  exact update_given (holds m c t0_0) i j k

end Cert.OpmReferenceIdeal.Body
-- ==== Proof.OpmAlgebraic.lean ====
/-
  The outer product and its reference end with the same results.
-/
module

public import proofs.«01_k».proof.Defs
public import proofs.«01_k».proof.Proof.OpmFinalKI
public import proofs.«01_k».proof.Proof.OpmFinalRef
public import Idealize.ShloMosaic.Lib.Claim

@[expose] public section

noncomputable section

namespace Cert.Outer

open Idealize.ShloMosaic Idealize.ShloMosaic.TcCoe
open Idealize.SL.Sem

/-- From memories that agree on the arguments both programs are of the same arrays, so what the kernel's three result buffers hold is what the
reference's hold. -/
theorem algebraic : Cert.algebraic_OpmIdeal_OpmReferenceIdeal := by
  intro m g m' g' _ hagree
  have hP : ∀ c, Cert.OpmReferenceIdeal.Body.givenOf m' c = Cert.OpmIdeal.Body.givenOf m c := fun c => by
    obtain ⟨h0, h1, h2, h3, h4, h5, h6, h7, h8, _⟩ := hagree c
    unfold Cert.OpmReferenceIdeal.Body.givenOf Cert.OpmIdeal.Body.givenOf
    rw [h0, h1, h2, h3, h4, h5, h6, h7, h8]
  refine ⟨_, _, _, θ_run_mono (θ_run_and (Cert.OpmIdeal.Gen.frame_of m g (Cert.OpmIdeal.Body.dats m) (Cert.OpmIdeal.Body.A_eq m)
      ((θ_run _ _ _).mono (fun _ h => h.1) (Cert.OpmIdeal.Body.run_main m g))) (Cert.OpmIdeal.Body.run_main m g)) fun r h c =>
      ⟨((h.2.1 c).1 12).trans (Cert.OpmIdeal.Body.final_12 m c),
       ((h.2.1 c).2 Cert.OpmIdeal.main_v11 (by decide)).trans (Cert.OpmIdeal.Body.end_11 m c),
       ((h.2.1 c).1 14).trans (Cert.OpmIdeal.Body.final_14 m c), h.1 c⟩,
    θ_run_mono (θ_run_and (Cert.OpmReferenceIdeal.Gen.frame m' g') (Cert.OpmReferenceIdeal.Gen.run_main m' g')) fun r h c =>
      ⟨((h.2 c).1 9).trans ((Cert.OpmReferenceIdeal.Body.final_9 m' c).trans ?_),
       ((h.2 c).1 10).trans ((Cert.OpmReferenceIdeal.Body.final_10 m' c).trans ?_),
       ((h.2 c).1 11).trans ((Cert.OpmReferenceIdeal.Body.final_11 m' c).trans ?_), h.1.1 c⟩⟩
  all_goals rw [hP c]

end Cert.Outer
-- ==== Proof.lean ====
module

public import proofs.«01_k».proof.Defs
public import proofs.«01_k».proof.Proof.Algebraic
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Opm.Frame
public import proofs.«01_k».proof.Proof.Gen.OpmIdeal.Frame
public import proofs.«01_k».proof.Proof.Gen.OpmReferenceIdeal.Frame
public import proofs.«01_k».proof.Proof.RunK
public import proofs.«01_k».proof.Proof.RunKI
public import proofs.«01_k».proof.Proof.OpmRunK
public import proofs.«01_k».proof.Proof.OpmRunKI
public import proofs.«01_k».proof.Proof.OpmAlgebraic
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The kernel runs, leaves its arguments as they were and every semaphore counter at zero. -/
theorem frame_Kernel : Cert.quiescent_Kernel := fun m g _ =>
  θ_run_and (Cert.Kernel.Gen.frame_of m g (Cert.Kernel.Body.dats m) (Cert.Kernel.Body.A_eq m)
      ((θ_run _ _ _).mono (fun _ h => h.1) (Cert.Kernel.Body.run_main m g)))
    ((θ_run _ _ _).mono (fun _ h => h.2) (Cert.Kernel.Body.run_main m g))

/-- The same of its idealization. -/
theorem frame_KernelIdeal : Cert.quiescent_KernelIdeal := fun m g _ =>
  θ_run_and (Cert.KernelIdeal.Gen.frame_of m g (Cert.KernelIdeal.Body.dats m) (Cert.KernelIdeal.Body.A_eq m)
      ((θ_run _ _ _).mono (fun _ h => h.1) (Cert.KernelIdeal.Body.run_main m g)))
    ((θ_run _ _ _).mono (fun _ h => h.2) (Cert.KernelIdeal.Body.run_main m g))

/-- The outer product likewise. -/
theorem frame_Opm : Cert.quiescent_Opm := fun m g _ =>
  θ_run_and (Cert.Opm.Gen.frame_of m g (Cert.Opm.Body.dats m) (Cert.Opm.Body.A_eq m)
      ((θ_run _ _ _).mono (fun _ h => h.1) (Cert.Opm.Body.run_main m g)))
    ((θ_run _ _ _).mono (fun _ h => h.2) (Cert.Opm.Body.run_main m g))

/-- The same of its idealization. -/
theorem frame_OpmIdeal : Cert.quiescent_OpmIdeal := fun m g _ =>
  θ_run_and (Cert.OpmIdeal.Gen.frame_of m g (Cert.OpmIdeal.Body.dats m) (Cert.OpmIdeal.Body.A_eq m)
      ((θ_run _ _ _).mono (fun _ h => h.1) (Cert.OpmIdeal.Body.run_main m g)))
    ((θ_run _ _ _).mono (fun _ h => h.2) (Cert.OpmIdeal.Body.run_main m g))

theorem claim : Cert.Claim := ⟨Cert.Kernel.Gen.facts, Cert.KernelIdeal.Gen.facts, Cert.ReferenceIdeal.Gen.facts,
  Cert.Opm.Gen.facts, Cert.OpmIdeal.Gen.facts, Cert.OpmReferenceIdeal.Gen.facts,
  frame_Kernel, frame_KernelIdeal, fun m g _ => Cert.ReferenceIdeal.Gen.frame m g,
  frame_Opm, frame_OpmIdeal, fun m g _ => Cert.OpmReferenceIdeal.Gen.frame m g,
  trivial, Cert.Pwa.algebraic, trivial, Cert.Outer.algebraic⟩

end Cert.Proof

end
